-- ==== Defs.lean ====
def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_scores [hPre_finite_scores : Cert.Pre_finite_scores.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_scores.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).1 = (fun _ => 1#1)
    ∧ (Cert.Pre_finite_scores.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_scores [hPre_finite_scores : Cert.Pre_finite_scores.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_scores.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).1 = (fun _ => 1#1)
    ∧ (Cert.Pre_finite_scores.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2 = (fun _ => 1#1)

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_operands [hPre_finite_operands : Cert.Pre_finite_operands.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).1 = (fun _ => 1#1)
    ∧ (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2.1 = (fun _ => 1#1)
    ∧ (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2.2.1 = (fun _ => 1#1)
    ∧ (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2.2.2.1 = (fun _ => 1#1)
    ∧ (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2.2.2.2.1 = (fun _ => 1#1)
    ∧ (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2.2.2.2.2.1 = (fun _ => 1#1)
    ∧ (Cert.Pre_finite_operands.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2.2.2.2.2.2 = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_operands [hPre_finite_operands : Cert.Pre_finite_operands.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).1 = (fun _ => 1#1)
    ∧ (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2.1 = (fun _ => 1#1)
    ∧ (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2.2.1 = (fun _ => 1#1)
    ∧ (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2.2.2.1 = (fun _ => 1#1)
    ∧ (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2.2.2.2.1 = (fun _ => 1#1)
    ∧ (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2.2.2.2.2.1 = (fun _ => 1#1)
    ∧ (Cert.Pre_finite_operands.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2.2.2.2.2.2 = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_LayerA (m : (ℓ : Loc Cert.LayerA.nD Cert.LayerA.τ Cert.LayerA.sig) → Buf (Elt Bits) ℓ) : Prop :=
  True

def Pre_LayerAIdeal (m : (ℓ : Loc Cert.LayerAIdeal.nD Cert.LayerAIdeal.τ Cert.LayerAIdeal.sig) → Buf (Elt Ideal) ℓ) : Prop :=
  True

def Pre_LayerAIdeal_finite_gains [hPre_finite_gains : Cert.Pre_finite_gains.Facts] (m : (ℓ : Loc Cert.LayerAIdeal.nD Cert.LayerAIdeal.τ Cert.LayerAIdeal.sig) → Buf (Elt Ideal) ℓ) : Prop :=
  ∀ c : Dev Cert.LayerAIdeal.nD,
    (Cert.Pre_finite_gains.fn (F := Ideal) (m ((c.tc : Thread Cert.LayerAIdeal.nD Cert.LayerAIdeal.τ).loc Cert.LayerAIdeal.main_arg0)) (m ((c.tc : Thread Cert.LayerAIdeal.nD Cert.LayerAIdeal.τ).loc Cert.LayerAIdeal.main_arg1)) (m ((c.tc : Thread Cert.LayerAIdeal.nD Cert.LayerAIdeal.τ).loc Cert.LayerAIdeal.main_arg2)) (m ((c.tc : Thread Cert.LayerAIdeal.nD Cert.LayerAIdeal.τ).loc Cert.LayerAIdeal.main_arg3)) (m ((c.tc : Thread Cert.LayerAIdeal.nD Cert.LayerAIdeal.τ).loc Cert.LayerAIdeal.main_arg4)) (m ((c.tc : Thread Cert.LayerAIdeal.nD Cert.LayerAIdeal.τ).loc Cert.LayerAIdeal.main_arg5))).1 = (fun _ => 1#1)
    ∧ (Cert.Pre_finite_gains.fn (F := Ideal) (m ((c.tc : Thread Cert.LayerAIdeal.nD Cert.LayerAIdeal.τ).loc Cert.LayerAIdeal.main_arg0)) (m ((c.tc : Thread Cert.LayerAIdeal.nD Cert.LayerAIdeal.τ).loc Cert.LayerAIdeal.main_arg1)) (m ((c.tc : Thread Cert.LayerAIdeal.nD Cert.LayerAIdeal.τ).loc Cert.LayerAIdeal.main_arg2)) (m ((c.tc : Thread Cert.LayerAIdeal.nD Cert.LayerAIdeal.τ).loc Cert.LayerAIdeal.main_arg3)) (m ((c.tc : Thread Cert.LayerAIdeal.nD Cert.LayerAIdeal.τ).loc Cert.LayerAIdeal.main_arg4)) (m ((c.tc : Thread Cert.LayerAIdeal.nD Cert.LayerAIdeal.τ).loc Cert.LayerAIdeal.main_arg5))).2 = (fun _ => 1#1)

def Pre_LayerARefIdeal (m : (ℓ : Loc Cert.LayerARefIdeal.nD Cert.LayerARefIdeal.τ Cert.LayerARefIdeal.sig) → Buf (Elt Ideal) ℓ) : Prop :=
  True

def Pre_LayerARefIdeal_finite_gains [hPre_finite_gains : Cert.Pre_finite_gains.Facts] (m : (ℓ : Loc Cert.LayerARefIdeal.nD Cert.LayerARefIdeal.τ Cert.LayerARefIdeal.sig) → Buf (Elt Ideal) ℓ) : Prop :=
  ∀ c : Dev Cert.LayerARefIdeal.nD,
    (Cert.Pre_finite_gains.fn (F := Ideal) (m ((c.tc : Thread Cert.LayerARefIdeal.nD Cert.LayerARefIdeal.τ).loc Cert.LayerARefIdeal.main_arg0)) (m ((c.tc : Thread Cert.LayerARefIdeal.nD Cert.LayerARefIdeal.τ).loc Cert.LayerARefIdeal.main_arg1)) (m ((c.tc : Thread Cert.LayerARefIdeal.nD Cert.LayerARefIdeal.τ).loc Cert.LayerARefIdeal.main_arg2)) (m ((c.tc : Thread Cert.LayerARefIdeal.nD Cert.LayerARefIdeal.τ).loc Cert.LayerARefIdeal.main_arg3)) (m ((c.tc : Thread Cert.LayerARefIdeal.nD Cert.LayerARefIdeal.τ).loc Cert.LayerARefIdeal.main_arg4)) (m ((c.tc : Thread Cert.LayerARefIdeal.nD Cert.LayerARefIdeal.τ).loc Cert.LayerARefIdeal.main_arg5))).1 = (fun _ => 1#1)
    ∧ (Cert.Pre_finite_gains.fn (F := Ideal) (m ((c.tc : Thread Cert.LayerARefIdeal.nD Cert.LayerARefIdeal.τ).loc Cert.LayerARefIdeal.main_arg0)) (m ((c.tc : Thread Cert.LayerARefIdeal.nD Cert.LayerARefIdeal.τ).loc Cert.LayerARefIdeal.main_arg1)) (m ((c.tc : Thread Cert.LayerARefIdeal.nD Cert.LayerARefIdeal.τ).loc Cert.LayerARefIdeal.main_arg2)) (m ((c.tc : Thread Cert.LayerARefIdeal.nD Cert.LayerARefIdeal.τ).loc Cert.LayerARefIdeal.main_arg3)) (m ((c.tc : Thread Cert.LayerARefIdeal.nD Cert.LayerARefIdeal.τ).loc Cert.LayerARefIdeal.main_arg4)) (m ((c.tc : Thread Cert.LayerARefIdeal.nD Cert.LayerARefIdeal.τ).loc Cert.LayerARefIdeal.main_arg5))).2 = (fun _ => 1#1)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnAIdeal_pre_finite_scores [hAttnAIdeal : Cert.AttnAIdeal.Facts] [hPre_finite_scores : Cert.Pre_finite_scores.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_scores m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnARefIdeal_pre_finite_scores [hAttnARefIdeal : Cert.AttnARefIdeal.Facts] [hPre_finite_scores : Cert.Pre_finite_scores.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_scores m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4)
      ∧ r.2.mem ((c.tc : Thread Cert.AttnB.nD Cert.AttnB.τ).loc Cert.AttnB.main_arg5) = m ((c.tc : Thread Cert.AttnB.nD Cert.AttnB.τ).loc Cert.AttnB.main_arg5)
      ∧ r.2.mem ((c.tc : Thread Cert.AttnB.nD Cert.AttnB.τ).loc Cert.AttnB.main_arg6) = m ((c.tc : Thread Cert.AttnB.nD Cert.AttnB.τ).loc Cert.AttnB.main_arg6)
      ∧ r.2.mem ((c.tc : Thread Cert.AttnB.nD Cert.AttnB.τ).loc Cert.AttnB.main_arg7) = m ((c.tc : Thread Cert.AttnB.nD Cert.AttnB.τ).loc Cert.AttnB.main_arg7))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
      ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
      ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ r.2.sem = fun _ => 0)

def quiescent_AttnBIdeal_pre_finite_operands [hAttnBIdeal : Cert.AttnBIdeal.Facts] [hPre_finite_operands : Cert.Pre_finite_operands.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_operands m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
      ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
      ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5)
      ∧ r.2.mem ((c.tc : Thread Cert.AttnBRefIdeal.nD Cert.AttnBRefIdeal.τ).loc Cert.AttnBRefIdeal.main_arg6) = m ((c.tc : Thread Cert.AttnBRefIdeal.nD Cert.AttnBRefIdeal.τ).loc Cert.AttnBRefIdeal.main_arg6)
      ∧ r.2.mem ((c.tc : Thread Cert.AttnBRefIdeal.nD Cert.AttnBRefIdeal.τ).loc Cert.AttnBRefIdeal.main_arg7) = m ((c.tc : Thread Cert.AttnBRefIdeal.nD Cert.AttnBRefIdeal.τ).loc Cert.AttnBRefIdeal.main_arg7))
      ∧ r.2.sem = fun _ => 0)

def quiescent_AttnBRefIdeal_pre_finite_operands [hAttnBRefIdeal : Cert.AttnBRefIdeal.Facts] [hPre_finite_operands : Cert.Pre_finite_operands.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_operands m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5)
      ∧ r.2.mem ((c.tc : Thread Cert.AttnBRefIdeal.nD Cert.AttnBRefIdeal.τ).loc Cert.AttnBRefIdeal.main_arg6) = m ((c.tc : Thread Cert.AttnBRefIdeal.nD Cert.AttnBRefIdeal.τ).loc Cert.AttnBRefIdeal.main_arg6)
      ∧ r.2.mem ((c.tc : Thread Cert.AttnBRefIdeal.nD Cert.AttnBRefIdeal.τ).loc Cert.AttnBRefIdeal.main_arg7) = m ((c.tc : Thread Cert.AttnBRefIdeal.nD Cert.AttnBRefIdeal.τ).loc Cert.AttnBRefIdeal.main_arg7))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3)
      ∧ r.2.mem ((c.tc : Thread Cert.ProjBRefIdeal.nD Cert.ProjBRefIdeal.τ).loc Cert.ProjBRefIdeal.main_arg4) = m ((c.tc : Thread Cert.ProjBRefIdeal.nD Cert.ProjBRefIdeal.τ).loc Cert.ProjBRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_LayerA [hLayerA : Cert.LayerA.Facts] : Prop :=
  ∀ (m : (ℓ : Loc Cert.LayerA.nD Cert.LayerA.τ Cert.LayerA.sig) → Buf (Elt Bits) ℓ) (g : Dev Cert.LayerA.nD → PrngReg), Pre_LayerA m →
    θ_run (Cert.LayerA.defs (F := Bits)) (onTc (τ := Cert.LayerA.τ) (Cert.LayerA.main (F := Bits))) ⟨m, fun _ => 0, g⟩ (fun r => (∀ c : Dev Cert.LayerA.nD,
      r.2.mem ((c.tc : Thread Cert.LayerA.nD Cert.LayerA.τ).loc Cert.LayerA.main_arg0) = m ((c.tc : Thread Cert.LayerA.nD Cert.LayerA.τ).loc Cert.LayerA.main_arg0)
      ∧ r.2.mem ((c.tc : Thread Cert.LayerA.nD Cert.LayerA.τ).loc Cert.LayerA.main_arg1) = m ((c.tc : Thread Cert.LayerA.nD Cert.LayerA.τ).loc Cert.LayerA.main_arg1)
      ∧ r.2.mem ((c.tc : Thread Cert.LayerA.nD Cert.LayerA.τ).loc Cert.LayerA.main_arg2) = m ((c.tc : Thread Cert.LayerA.nD Cert.LayerA.τ).loc Cert.LayerA.main_arg2)
      ∧ r.2.mem ((c.tc : Thread Cert.LayerA.nD Cert.LayerA.τ).loc Cert.LayerA.main_arg3) = m ((c.tc : Thread Cert.LayerA.nD Cert.LayerA.τ).loc Cert.LayerA.main_arg3)
      ∧ r.2.mem ((c.tc : Thread Cert.LayerA.nD Cert.LayerA.τ).loc Cert.LayerA.main_arg4) = m ((c.tc : Thread Cert.LayerA.nD Cert.LayerA.τ).loc Cert.LayerA.main_arg4)
      ∧ r.2.mem ((c.tc : Thread Cert.LayerA.nD Cert.LayerA.τ).loc Cert.LayerA.main_arg5) = m ((c.tc : Thread Cert.LayerA.nD Cert.LayerA.τ).loc Cert.LayerA.main_arg5))
      ∧ r.2.sem = fun _ => 0)

def quiescent_LayerAIdeal [hLayerAIdeal : Cert.LayerAIdeal.Facts] : Prop :=
  ∀ (m : (ℓ : Loc Cert.LayerAIdeal.nD Cert.LayerAIdeal.τ Cert.LayerAIdeal.sig) → Buf (Elt Ideal) ℓ) (g : Dev Cert.LayerAIdeal.nD → PrngReg), Pre_LayerAIdeal m →
    θ_run (Cert.LayerAIdeal.defs (F := Ideal)) (onTc (τ := Cert.LayerAIdeal.τ) (Cert.LayerAIdeal.main (F := Ideal))) ⟨m, fun _ => 0, g⟩ (fun r => (∀ c : Dev Cert.LayerAIdeal.nD,
      r.2.mem ((c.tc : Thread Cert.LayerAIdeal.nD Cert.LayerAIdeal.τ).loc Cert.LayerAIdeal.main_arg0) = m ((c.tc : Thread Cert.LayerAIdeal.nD Cert.LayerAIdeal.τ).loc Cert.LayerAIdeal.main_arg0)
      ∧ r.2.mem ((c.tc : Thread Cert.LayerAIdeal.nD Cert.LayerAIdeal.τ).loc Cert.LayerAIdeal.main_arg1) = m ((c.tc : Thread Cert.LayerAIdeal.nD Cert.LayerAIdeal.τ).loc Cert.LayerAIdeal.main_arg1)
      ∧ r.2.mem ((c.tc : Thread Cert.LayerAIdeal.nD Cert.LayerAIdeal.τ).loc Cert.LayerAIdeal.main_arg2) = m ((c.tc : Thread Cert.LayerAIdeal.nD Cert.LayerAIdeal.τ).loc Cert.LayerAIdeal.main_arg2)
      ∧ r.2.mem ((c.tc : Thread Cert.LayerAIdeal.nD Cert.LayerAIdeal.τ).loc Cert.LayerAIdeal.main_arg3) = m ((c.tc : Thread Cert.LayerAIdeal.nD Cert.LayerAIdeal.τ).loc Cert.LayerAIdeal.main_arg3)
      ∧ r.2.mem ((c.tc : Thread Cert.LayerAIdeal.nD Cert.LayerAIdeal.τ).loc Cert.LayerAIdeal.main_arg4) = m ((c.tc : Thread Cert.LayerAIdeal.nD Cert.LayerAIdeal.τ).loc Cert.LayerAIdeal.main_arg4)
      ∧ r.2.mem ((c.tc : Thread Cert.LayerAIdeal.nD Cert.LayerAIdeal.τ).loc Cert.LayerAIdeal.main_arg5) = m ((c.tc : Thread Cert.LayerAIdeal.nD Cert.LayerAIdeal.τ).loc Cert.LayerAIdeal.main_arg5))
      ∧ r.2.sem = fun _ => 0)

def quiescent_LayerAIdeal_pre_finite_gains [hLayerAIdeal : Cert.LayerAIdeal.Facts] [hPre_finite_gains : Cert.Pre_finite_gains.Facts] : Prop :=
  ∀ (m : (ℓ : Loc Cert.LayerAIdeal.nD Cert.LayerAIdeal.τ Cert.LayerAIdeal.sig) → Buf (Elt Ideal) ℓ) (g : Dev Cert.LayerAIdeal.nD → PrngReg), Pre_LayerAIdeal_finite_gains m →
    θ_run (Cert.LayerAIdeal.defs (F := Ideal)) (onTc (τ := Cert.LayerAIdeal.τ) (Cert.LayerAIdeal.main (F := Ideal))) ⟨m, fun _ => 0, g⟩ (fun r => (∀ c : Dev Cert.LayerAIdeal.nD,
      r.2.mem ((c.tc : Thread Cert.LayerAIdeal.nD Cert.LayerAIdeal.τ).loc Cert.LayerAIdeal.main_arg0) = m ((c.tc : Thread Cert.LayerAIdeal.nD Cert.LayerAIdeal.τ).loc Cert.LayerAIdeal.main_arg0)
      ∧ r.2.mem ((c.tc : Thread Cert.LayerAIdeal.nD Cert.LayerAIdeal.τ).loc Cert.LayerAIdeal.main_arg1) = m ((c.tc : Thread Cert.LayerAIdeal.nD Cert.LayerAIdeal.τ).loc Cert.LayerAIdeal.main_arg1)
      ∧ r.2.mem ((c.tc : Thread Cert.LayerAIdeal.nD Cert.LayerAIdeal.τ).loc Cert.LayerAIdeal.main_arg2) = m ((c.tc : Thread Cert.LayerAIdeal.nD Cert.LayerAIdeal.τ).loc Cert.LayerAIdeal.main_arg2)
      ∧ r.2.mem ((c.tc : Thread Cert.LayerAIdeal.nD Cert.LayerAIdeal.τ).loc Cert.LayerAIdeal.main_arg3) = m ((c.tc : Thread Cert.LayerAIdeal.nD Cert.LayerAIdeal.τ).loc Cert.LayerAIdeal.main_arg3)
      ∧ r.2.mem ((c.tc : Thread Cert.LayerAIdeal.nD Cert.LayerAIdeal.τ).loc Cert.LayerAIdeal.main_arg4) = m ((c.tc : Thread Cert.LayerAIdeal.nD Cert.LayerAIdeal.τ).loc Cert.LayerAIdeal.main_arg4)
      ∧ r.2.mem ((c.tc : Thread Cert.LayerAIdeal.nD Cert.LayerAIdeal.τ).loc Cert.LayerAIdeal.main_arg5) = m ((c.tc : Thread Cert.LayerAIdeal.nD Cert.LayerAIdeal.τ).loc Cert.LayerAIdeal.main_arg5))
      ∧ r.2.sem = fun _ => 0)

def quiescent_LayerARefIdeal [hLayerARefIdeal : Cert.LayerARefIdeal.Facts] : Prop :=
  ∀ (m : (ℓ : Loc Cert.LayerARefIdeal.nD Cert.LayerARefIdeal.τ Cert.LayerARefIdeal.sig) → Buf (Elt Ideal) ℓ) (g : Dev Cert.LayerARefIdeal.nD → PrngReg), Pre_LayerARefIdeal m →
    θ_run (Cert.LayerARefIdeal.defs (F := Ideal)) (onTc (τ := Cert.LayerARefIdeal.τ) (Cert.LayerARefIdeal.main (F := Ideal))) ⟨m, fun _ => 0, g⟩ (fun r => (∀ c : Dev Cert.LayerARefIdeal.nD,
      r.2.mem ((c.tc : Thread Cert.LayerARefIdeal.nD Cert.LayerARefIdeal.τ).loc Cert.LayerARefIdeal.main_arg0) = m ((c.tc : Thread Cert.LayerARefIdeal.nD Cert.LayerARefIdeal.τ).loc Cert.LayerARefIdeal.main_arg0)
      ∧ r.2.mem ((c.tc : Thread Cert.LayerARefIdeal.nD Cert.LayerARefIdeal.τ).loc Cert.LayerARefIdeal.main_arg1) = m ((c.tc : Thread Cert.LayerARefIdeal.nD Cert.LayerARefIdeal.τ).loc Cert.LayerARefIdeal.main_arg1)
      ∧ r.2.mem ((c.tc : Thread Cert.LayerARefIdeal.nD Cert.LayerARefIdeal.τ).loc Cert.LayerARefIdeal.main_arg2) = m ((c.tc : Thread Cert.LayerARefIdeal.nD Cert.LayerARefIdeal.τ).loc Cert.LayerARefIdeal.main_arg2)
      ∧ r.2.mem ((c.tc : Thread Cert.LayerARefIdeal.nD Cert.LayerARefIdeal.τ).loc Cert.LayerARefIdeal.main_arg3) = m ((c.tc : Thread Cert.LayerARefIdeal.nD Cert.LayerARefIdeal.τ).loc Cert.LayerARefIdeal.main_arg3)
      ∧ r.2.mem ((c.tc : Thread Cert.LayerARefIdeal.nD Cert.LayerARefIdeal.τ).loc Cert.LayerARefIdeal.main_arg4) = m ((c.tc : Thread Cert.LayerARefIdeal.nD Cert.LayerARefIdeal.τ).loc Cert.LayerARefIdeal.main_arg4)
      ∧ r.2.mem ((c.tc : Thread Cert.LayerARefIdeal.nD Cert.LayerARefIdeal.τ).loc Cert.LayerARefIdeal.main_arg5) = m ((c.tc : Thread Cert.LayerARefIdeal.nD Cert.LayerARefIdeal.τ).loc Cert.LayerARefIdeal.main_arg5))
      ∧ r.2.sem = fun _ => 0)

def quiescent_LayerARefIdeal_pre_finite_gains [hLayerARefIdeal : Cert.LayerARefIdeal.Facts] [hPre_finite_gains : Cert.Pre_finite_gains.Facts] : Prop :=
  ∀ (m : (ℓ : Loc Cert.LayerARefIdeal.nD Cert.LayerARefIdeal.τ Cert.LayerARefIdeal.sig) → Buf (Elt Ideal) ℓ) (g : Dev Cert.LayerARefIdeal.nD → PrngReg), Pre_LayerARefIdeal_finite_gains m →
    θ_run (Cert.LayerARefIdeal.defs (F := Ideal)) (onTc (τ := Cert.LayerARefIdeal.τ) (Cert.LayerARefIdeal.main (F := Ideal))) ⟨m, fun _ => 0, g⟩ (fun r => (∀ c : Dev Cert.LayerARefIdeal.nD,
      r.2.mem ((c.tc : Thread Cert.LayerARefIdeal.nD Cert.LayerARefIdeal.τ).loc Cert.LayerARefIdeal.main_arg0) = m ((c.tc : Thread Cert.LayerARefIdeal.nD Cert.LayerARefIdeal.τ).loc Cert.LayerARefIdeal.main_arg0)
      ∧ r.2.mem ((c.tc : Thread Cert.LayerARefIdeal.nD Cert.LayerARefIdeal.τ).loc Cert.LayerARefIdeal.main_arg1) = m ((c.tc : Thread Cert.LayerARefIdeal.nD Cert.LayerARefIdeal.τ).loc Cert.LayerARefIdeal.main_arg1)
      ∧ r.2.mem ((c.tc : Thread Cert.LayerARefIdeal.nD Cert.LayerARefIdeal.τ).loc Cert.LayerARefIdeal.main_arg2) = m ((c.tc : Thread Cert.LayerARefIdeal.nD Cert.LayerARefIdeal.τ).loc Cert.LayerARefIdeal.main_arg2)
      ∧ r.2.mem ((c.tc : Thread Cert.LayerARefIdeal.nD Cert.LayerARefIdeal.τ).loc Cert.LayerARefIdeal.main_arg3) = m ((c.tc : Thread Cert.LayerARefIdeal.nD Cert.LayerARefIdeal.τ).loc Cert.LayerARefIdeal.main_arg3)
      ∧ r.2.mem ((c.tc : Thread Cert.LayerARefIdeal.nD Cert.LayerARefIdeal.τ).loc Cert.LayerARefIdeal.main_arg4) = m ((c.tc : Thread Cert.LayerARefIdeal.nD Cert.LayerARefIdeal.τ).loc Cert.LayerARefIdeal.main_arg4)
      ∧ r.2.mem ((c.tc : Thread Cert.LayerARefIdeal.nD Cert.LayerARefIdeal.τ).loc Cert.LayerARefIdeal.main_arg5) = m ((c.tc : Thread Cert.LayerARefIdeal.nD Cert.LayerARefIdeal.τ).loc Cert.LayerARefIdeal.main_arg5))
      ∧ r.2.sem = fun _ => 0)

def preserves_AttnA_AttnAIdeal : Prop :=
  True

def algebraic_AttnAIdeal_AttnARefIdeal_pre_finite_scores [hAttnAIdeal : Cert.AttnAIdeal.Facts] [hAttnARefIdeal : Cert.AttnARefIdeal.Facts] [hPre_finite_scores : Cert.Pre_finite_scores.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_scores m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)) →
    ∃ (v0 : (c : Dev Cert.AttnAIdeal.nD) → Buf (Elt Ideal) ((c.tc : Thread Cert.AttnAIdeal.nD Cert.AttnAIdeal.τ).loc Cert.AttnAIdeal.main_v0)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v0) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v22) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2))

def preserves_AttnB_AttnBIdeal : Prop :=
  True

def algebraic_AttnBIdeal_AttnBRefIdeal_pre_finite_operands [hAttnBIdeal : Cert.AttnBIdeal.Facts] [hAttnBRefIdeal : Cert.AttnBRefIdeal.Facts] [hPre_finite_operands : Cert.Pre_finite_operands.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_operands m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)
      ∧ m' ((c.tc : Thread Cert.AttnBRefIdeal.nD Cert.AttnBRefIdeal.τ).loc Cert.AttnBRefIdeal.main_arg4) = m ((c.tc : Thread Cert.AttnBIdeal.nD Cert.AttnBIdeal.τ).loc Cert.AttnBIdeal.main_arg4)
      ∧ m' ((c.tc : Thread Cert.AttnBRefIdeal.nD Cert.AttnBRefIdeal.τ).loc Cert.AttnBRefIdeal.main_arg5) = m ((c.tc : Thread Cert.AttnBIdeal.nD Cert.AttnBIdeal.τ).loc Cert.AttnBIdeal.main_arg5)
      ∧ m' ((c.tc : Thread Cert.AttnBRefIdeal.nD Cert.AttnBRefIdeal.τ).loc Cert.AttnBRefIdeal.main_arg6) = m ((c.tc : Thread Cert.AttnBIdeal.nD Cert.AttnBIdeal.τ).loc Cert.AttnBIdeal.main_arg6)
      ∧ m' ((c.tc : Thread Cert.AttnBRefIdeal.nD Cert.AttnBRefIdeal.τ).loc Cert.AttnBRefIdeal.main_arg7) = m ((c.tc : Thread Cert.AttnBIdeal.nD Cert.AttnBIdeal.τ).loc Cert.AttnBIdeal.main_arg7)) →
    ∃ (v0 : (c : Dev Cert.AttnBIdeal.nD) → Buf (Elt Ideal) ((c.tc : Thread Cert.AttnBIdeal.nD Cert.AttnBIdeal.τ).loc Cert.AttnBIdeal.main_v5)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v5) = v0 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
          ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
          ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
          ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
          ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v52) = v0 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3)
          ∧ r.2.mem ((c.tc : Thread Cert.AttnBRefIdeal.nD Cert.AttnBRefIdeal.τ).loc Cert.AttnBRefIdeal.main_arg4) = m' ((c.tc : Thread Cert.AttnBRefIdeal.nD Cert.AttnBRefIdeal.τ).loc Cert.AttnBRefIdeal.main_arg4)
          ∧ r.2.mem ((c.tc : Thread Cert.AttnBRefIdeal.nD Cert.AttnBRefIdeal.τ).loc Cert.AttnBRefIdeal.main_arg5) = m' ((c.tc : Thread Cert.AttnBRefIdeal.nD Cert.AttnBRefIdeal.τ).loc Cert.AttnBRefIdeal.main_arg5)
          ∧ r.2.mem ((c.tc : Thread Cert.AttnBRefIdeal.nD Cert.AttnBRefIdeal.τ).loc Cert.AttnBRefIdeal.main_arg6) = m' ((c.tc : Thread Cert.AttnBRefIdeal.nD Cert.AttnBRefIdeal.τ).loc Cert.AttnBRefIdeal.main_arg6)
          ∧ r.2.mem ((c.tc : Thread Cert.AttnBRefIdeal.nD Cert.AttnBRefIdeal.τ).loc Cert.AttnBRefIdeal.main_arg7) = m' ((c.tc : Thread Cert.AttnBRefIdeal.nD Cert.AttnBRefIdeal.τ).loc Cert.AttnBRefIdeal.main_arg7))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)) →
    ∃ (v0 : (c : Dev Cert.ProjAIdeal.nD) → Buf (Elt Ideal) ((c.tc : Thread Cert.ProjAIdeal.nD Cert.ProjAIdeal.τ).loc Cert.ProjAIdeal.main_v133_0)) (v1 : (c : Dev Cert.ProjAIdeal.nD) → Buf (Elt Ideal) ((c.tc : Thread Cert.ProjAIdeal.nD Cert.ProjAIdeal.τ).loc Cert.ProjAIdeal.main_v133_1)) (v2 : (c : Dev Cert.ProjAIdeal.nD) → Buf (Elt Ideal) ((c.tc : Thread Cert.ProjAIdeal.nD Cert.ProjAIdeal.τ).loc Cert.ProjAIdeal.main_v133_2)) (v3 : (c : Dev Cert.ProjAIdeal.nD) → Buf (Elt Ideal) ((c.tc : Thread Cert.ProjAIdeal.nD Cert.ProjAIdeal.τ).loc Cert.ProjAIdeal.main_v133_3)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v133_0) = v0 c
          ∧ r.2.mem ((c.tc : Thread Cert.ProjAIdeal.nD Cert.ProjAIdeal.τ).loc Cert.ProjAIdeal.main_v133_1) = v1 c
          ∧ r.2.mem ((c.tc : Thread Cert.ProjAIdeal.nD Cert.ProjAIdeal.τ).loc Cert.ProjAIdeal.main_v133_2) = v2 c
          ∧ r.2.mem ((c.tc : Thread Cert.ProjAIdeal.nD Cert.ProjAIdeal.τ).loc Cert.ProjAIdeal.main_v133_3) = v3 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v196) = v0 c
          ∧ r.2.mem ((c.tc : Thread Cert.ProjARefIdeal.nD Cert.ProjARefIdeal.τ).loc Cert.ProjARefIdeal.main_v198) = v1 c
          ∧ r.2.mem ((c.tc : Thread Cert.ProjARefIdeal.nD Cert.ProjARefIdeal.τ).loc Cert.ProjARefIdeal.main_v200) = v2 c
          ∧ r.2.mem ((c.tc : Thread Cert.ProjARefIdeal.nD Cert.ProjARefIdeal.τ).loc Cert.ProjARefIdeal.main_v202) = v3 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)
      ∧ m' ((c.tc : Thread Cert.ProjBRefIdeal.nD Cert.ProjBRefIdeal.τ).loc Cert.ProjBRefIdeal.main_arg3) = m ((c.tc : Thread Cert.ProjBIdeal.nD Cert.ProjBIdeal.τ).loc Cert.ProjBIdeal.main_arg3)
      ∧ m' ((c.tc : Thread Cert.ProjBRefIdeal.nD Cert.ProjBRefIdeal.τ).loc Cert.ProjBRefIdeal.main_arg4) = m ((c.tc : Thread Cert.ProjBIdeal.nD Cert.ProjBIdeal.τ).loc Cert.ProjBIdeal.main_arg4)) →
    ∃ (v0 : (c : Dev Cert.ProjBIdeal.nD) → Buf (Elt Ideal) ((c.tc : Thread Cert.ProjBIdeal.nD Cert.ProjBIdeal.τ).loc Cert.ProjBIdeal.main_v69_0)) (v1 : (c : Dev Cert.ProjBIdeal.nD) → Buf (Elt Ideal) ((c.tc : Thread Cert.ProjBIdeal.nD Cert.ProjBIdeal.τ).loc Cert.ProjBIdeal.main_v69_1)) (v2 : (c : Dev Cert.ProjBIdeal.nD) → Buf (Elt Ideal) ((c.tc : Thread Cert.ProjBIdeal.nD Cert.ProjBIdeal.τ).loc Cert.ProjBIdeal.main_v69_2)) (v3 : (c : Dev Cert.ProjBIdeal.nD) → Buf (Elt Ideal) ((c.tc : Thread Cert.ProjBIdeal.nD Cert.ProjBIdeal.τ).loc Cert.ProjBIdeal.main_v69_3)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v69_0) = v0 c
          ∧ r.2.mem ((c.tc : Thread Cert.ProjBIdeal.nD Cert.ProjBIdeal.τ).loc Cert.ProjBIdeal.main_v69_1) = v1 c
          ∧ r.2.mem ((c.tc : Thread Cert.ProjBIdeal.nD Cert.ProjBIdeal.τ).loc Cert.ProjBIdeal.main_v69_2) = v2 c
          ∧ r.2.mem ((c.tc : Thread Cert.ProjBIdeal.nD Cert.ProjBIdeal.τ).loc Cert.ProjBIdeal.main_v69_3) = v3 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v118) = v0 c
          ∧ r.2.mem ((c.tc : Thread Cert.ProjBRefIdeal.nD Cert.ProjBRefIdeal.τ).loc Cert.ProjBRefIdeal.main_v120) = v1 c
          ∧ r.2.mem ((c.tc : Thread Cert.ProjBRefIdeal.nD Cert.ProjBRefIdeal.τ).loc Cert.ProjBRefIdeal.main_v122) = v2 c
          ∧ r.2.mem ((c.tc : Thread Cert.ProjBRefIdeal.nD Cert.ProjBRefIdeal.τ).loc Cert.ProjBRefIdeal.main_v124) = v3 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2)
          ∧ r.2.mem ((c.tc : Thread Cert.ProjBRefIdeal.nD Cert.ProjBRefIdeal.τ).loc Cert.ProjBRefIdeal.main_arg3) = m' ((c.tc : Thread Cert.ProjBRefIdeal.nD Cert.ProjBRefIdeal.τ).loc Cert.ProjBRefIdeal.main_arg3)
          ∧ r.2.mem ((c.tc : Thread Cert.ProjBRefIdeal.nD Cert.ProjBRefIdeal.τ).loc Cert.ProjBRefIdeal.main_arg4) = m' ((c.tc : Thread Cert.ProjBRefIdeal.nD Cert.ProjBRefIdeal.τ).loc Cert.ProjBRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_LayerA_LayerAIdeal : Prop :=
  True

def algebraic_LayerAIdeal_LayerARefIdeal_pre_finite_gains [hLayerAIdeal : Cert.LayerAIdeal.Facts] [hLayerARefIdeal : Cert.LayerARefIdeal.Facts] [hPre_finite_gains : Cert.Pre_finite_gains.Facts] : Prop :=
  ∀ (m : (ℓ : Loc Cert.LayerAIdeal.nD Cert.LayerAIdeal.τ Cert.LayerAIdeal.sig) → Buf (Elt Ideal) ℓ) (g : Dev Cert.LayerAIdeal.nD → PrngReg)
    (m' : (ℓ : Loc Cert.LayerARefIdeal.nD Cert.LayerARefIdeal.τ Cert.LayerARefIdeal.sig) → Buf (Elt Ideal) ℓ) (g' : Dev Cert.LayerARefIdeal.nD → PrngReg), Pre_LayerAIdeal_finite_gains m →
    (∀ c : Dev Cert.LayerAIdeal.nD,
      m' ((c.tc : Thread Cert.LayerARefIdeal.nD Cert.LayerARefIdeal.τ).loc Cert.LayerARefIdeal.main_arg0) = m ((c.tc : Thread Cert.LayerAIdeal.nD Cert.LayerAIdeal.τ).loc Cert.LayerAIdeal.main_arg0)
      ∧ m' ((c.tc : Thread Cert.LayerARefIdeal.nD Cert.LayerARefIdeal.τ).loc Cert.LayerARefIdeal.main_arg1) = m ((c.tc : Thread Cert.LayerAIdeal.nD Cert.LayerAIdeal.τ).loc Cert.LayerAIdeal.main_arg1)
      ∧ m' ((c.tc : Thread Cert.LayerARefIdeal.nD Cert.LayerARefIdeal.τ).loc Cert.LayerARefIdeal.main_arg2) = m ((c.tc : Thread Cert.LayerAIdeal.nD Cert.LayerAIdeal.τ).loc Cert.LayerAIdeal.main_arg2)
      ∧ m' ((c.tc : Thread Cert.LayerARefIdeal.nD Cert.LayerARefIdeal.τ).loc Cert.LayerARefIdeal.main_arg3) = m ((c.tc : Thread Cert.LayerAIdeal.nD Cert.LayerAIdeal.τ).loc Cert.LayerAIdeal.main_arg3)
      ∧ m' ((c.tc : Thread Cert.LayerARefIdeal.nD Cert.LayerARefIdeal.τ).loc Cert.LayerARefIdeal.main_arg4) = m ((c.tc : Thread Cert.LayerAIdeal.nD Cert.LayerAIdeal.τ).loc Cert.LayerAIdeal.main_arg4)
      ∧ m' ((c.tc : Thread Cert.LayerARefIdeal.nD Cert.LayerARefIdeal.τ).loc Cert.LayerARefIdeal.main_arg5) = m ((c.tc : Thread Cert.LayerAIdeal.nD Cert.LayerAIdeal.τ).loc Cert.LayerAIdeal.main_arg5)) →
    ∃ (v0 : (c : Dev Cert.LayerAIdeal.nD) → Buf (Elt Ideal) ((c.tc : Thread Cert.LayerAIdeal.nD Cert.LayerAIdeal.τ).loc Cert.LayerAIdeal.main_v139)),
      θ_run (Cert.LayerAIdeal.defs (F := Ideal)) (onTc (τ := Cert.LayerAIdeal.τ) (Cert.LayerAIdeal.main (F := Ideal))) ⟨m, fun _ => 0, g⟩ (fun r => ∀ c : Dev Cert.LayerAIdeal.nD,
          r.2.mem ((c.tc : Thread Cert.LayerAIdeal.nD Cert.LayerAIdeal.τ).loc Cert.LayerAIdeal.main_v139) = v0 c
          ∧ r.2.mem ((c.tc : Thread Cert.LayerAIdeal.nD Cert.LayerAIdeal.τ).loc Cert.LayerAIdeal.main_arg0) = m ((c.tc : Thread Cert.LayerAIdeal.nD Cert.LayerAIdeal.τ).loc Cert.LayerAIdeal.main_arg0)
          ∧ r.2.mem ((c.tc : Thread Cert.LayerAIdeal.nD Cert.LayerAIdeal.τ).loc Cert.LayerAIdeal.main_arg1) = m ((c.tc : Thread Cert.LayerAIdeal.nD Cert.LayerAIdeal.τ).loc Cert.LayerAIdeal.main_arg1)
          ∧ r.2.mem ((c.tc : Thread Cert.LayerAIdeal.nD Cert.LayerAIdeal.τ).loc Cert.LayerAIdeal.main_arg2) = m ((c.tc : Thread Cert.LayerAIdeal.nD Cert.LayerAIdeal.τ).loc Cert.LayerAIdeal.main_arg2)
          ∧ r.2.mem ((c.tc : Thread Cert.LayerAIdeal.nD Cert.LayerAIdeal.τ).loc Cert.LayerAIdeal.main_arg3) = m ((c.tc : Thread Cert.LayerAIdeal.nD Cert.LayerAIdeal.τ).loc Cert.LayerAIdeal.main_arg3)
          ∧ r.2.mem ((c.tc : Thread Cert.LayerAIdeal.nD Cert.LayerAIdeal.τ).loc Cert.LayerAIdeal.main_arg4) = m ((c.tc : Thread Cert.LayerAIdeal.nD Cert.LayerAIdeal.τ).loc Cert.LayerAIdeal.main_arg4)
          ∧ r.2.mem ((c.tc : Thread Cert.LayerAIdeal.nD Cert.LayerAIdeal.τ).loc Cert.LayerAIdeal.main_arg5) = m ((c.tc : Thread Cert.LayerAIdeal.nD Cert.LayerAIdeal.τ).loc Cert.LayerAIdeal.main_arg5))
      ∧ θ_run (Cert.LayerARefIdeal.defs (F := Ideal)) (onTc (τ := Cert.LayerARefIdeal.τ) (Cert.LayerARefIdeal.main (F := Ideal))) ⟨m', fun _ => 0, g'⟩ (fun r => ∀ c : Dev Cert.LayerARefIdeal.nD,
          r.2.mem ((c.tc : Thread Cert.LayerARefIdeal.nD Cert.LayerARefIdeal.τ).loc Cert.LayerARefIdeal.main_v236) = v0 c
          ∧ r.2.mem ((c.tc : Thread Cert.LayerARefIdeal.nD Cert.LayerARefIdeal.τ).loc Cert.LayerARefIdeal.main_arg0) = m' ((c.tc : Thread Cert.LayerARefIdeal.nD Cert.LayerARefIdeal.τ).loc Cert.LayerARefIdeal.main_arg0)
          ∧ r.2.mem ((c.tc : Thread Cert.LayerARefIdeal.nD Cert.LayerARefIdeal.τ).loc Cert.LayerARefIdeal.main_arg1) = m' ((c.tc : Thread Cert.LayerARefIdeal.nD Cert.LayerARefIdeal.τ).loc Cert.LayerARefIdeal.main_arg1)
          ∧ r.2.mem ((c.tc : Thread Cert.LayerARefIdeal.nD Cert.LayerARefIdeal.τ).loc Cert.LayerARefIdeal.main_arg2) = m' ((c.tc : Thread Cert.LayerARefIdeal.nD Cert.LayerARefIdeal.τ).loc Cert.LayerARefIdeal.main_arg2)
          ∧ r.2.mem ((c.tc : Thread Cert.LayerARefIdeal.nD Cert.LayerARefIdeal.τ).loc Cert.LayerARefIdeal.main_arg3) = m' ((c.tc : Thread Cert.LayerARefIdeal.nD Cert.LayerARefIdeal.τ).loc Cert.LayerARefIdeal.main_arg3)
          ∧ r.2.mem ((c.tc : Thread Cert.LayerARefIdeal.nD Cert.LayerARefIdeal.τ).loc Cert.LayerARefIdeal.main_arg4) = m' ((c.tc : Thread Cert.LayerARefIdeal.nD Cert.LayerARefIdeal.τ).loc Cert.LayerARefIdeal.main_arg4)
          ∧ r.2.mem ((c.tc : Thread Cert.LayerARefIdeal.nD Cert.LayerARefIdeal.τ).loc Cert.LayerARefIdeal.main_arg5) = m' ((c.tc : Thread Cert.LayerARefIdeal.nD Cert.LayerARefIdeal.τ).loc Cert.LayerARefIdeal.main_arg5))

def Claim : Prop :=
  ∃ (hAttnA : Cert.AttnA.Facts) (hAttnAIdeal : Cert.AttnAIdeal.Facts) (hAttnARefIdeal : Cert.AttnARefIdeal.Facts) (hAttnB : Cert.AttnB.Facts) (hAttnBIdeal : Cert.AttnBIdeal.Facts) (hAttnBRefIdeal : Cert.AttnBRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hOutProj : Cert.OutProj.Facts) (hOutProjIdeal : Cert.OutProjIdeal.Facts) (hOutProjRefIdeal : Cert.OutProjRefIdeal.Facts) (hLayerA : Cert.LayerA.Facts) (hLayerAIdeal : Cert.LayerAIdeal.Facts) (hLayerARefIdeal : Cert.LayerARefIdeal.Facts) (hPre_finite_scores : Cert.Pre_finite_scores.Facts) (hPre_finite_operands : Cert.Pre_finite_operands.Facts) (hPre_finite_gains : Cert.Pre_finite_gains.Facts),
    quiescent_AttnA (hAttnA := hAttnA)
    ∧ quiescent_AttnAIdeal (hAttnAIdeal := hAttnAIdeal)
    ∧ quiescent_AttnAIdeal_pre_finite_scores (hAttnAIdeal := hAttnAIdeal) (hPre_finite_scores := hPre_finite_scores)
    ∧ quiescent_AttnARefIdeal (hAttnARefIdeal := hAttnARefIdeal)
    ∧ quiescent_AttnARefIdeal_pre_finite_scores (hAttnARefIdeal := hAttnARefIdeal) (hPre_finite_scores := hPre_finite_scores)
    ∧ quiescent_AttnB (hAttnB := hAttnB)
    ∧ quiescent_AttnBIdeal (hAttnBIdeal := hAttnBIdeal)
    ∧ quiescent_AttnBIdeal_pre_finite_operands (hAttnBIdeal := hAttnBIdeal) (hPre_finite_operands := hPre_finite_operands)
    ∧ quiescent_AttnBRefIdeal (hAttnBRefIdeal := hAttnBRefIdeal)
    ∧ quiescent_AttnBRefIdeal_pre_finite_operands (hAttnBRefIdeal := hAttnBRefIdeal) (hPre_finite_operands := hPre_finite_operands)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_LayerA (hLayerA := hLayerA)
    ∧ quiescent_LayerAIdeal (hLayerAIdeal := hLayerAIdeal)
    ∧ quiescent_LayerAIdeal_pre_finite_gains (hLayerAIdeal := hLayerAIdeal) (hPre_finite_gains := hPre_finite_gains)
    ∧ quiescent_LayerARefIdeal (hLayerARefIdeal := hLayerARefIdeal)
    ∧ quiescent_LayerARefIdeal_pre_finite_gains (hLayerARefIdeal := hLayerARefIdeal) (hPre_finite_gains := hPre_finite_gains)
    ∧ preserves_AttnA_AttnAIdeal
    ∧ algebraic_AttnAIdeal_AttnARefIdeal_pre_finite_scores (hAttnAIdeal := hAttnAIdeal) (hAttnARefIdeal := hAttnARefIdeal) (hPre_finite_scores := hPre_finite_scores)
    ∧ preserves_AttnB_AttnBIdeal
    ∧ algebraic_AttnBIdeal_AttnBRefIdeal_pre_finite_operands (hAttnBIdeal := hAttnBIdeal) (hAttnBRefIdeal := hAttnBRefIdeal) (hPre_finite_operands := hPre_finite_operands)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_OutProj_OutProjIdeal
    ∧ algebraic_OutProjIdeal_OutProjRefIdeal (hOutProjIdeal := hOutProjIdeal) (hOutProjRefIdeal := hOutProjRefIdeal)
    ∧ preserves_LayerA_LayerAIdeal
    ∧ algebraic_LayerAIdeal_LayerARefIdeal_pre_finite_gains (hLayerAIdeal := hLayerAIdeal) (hLayerARefIdeal := hLayerARefIdeal) (hPre_finite_gains := hPre_finite_gains)
-- ==== Pre_finite_gains.lean ====
abbrev S32768x2048 : Shape := ⟨2, ![32768, 2048]⟩
abbrev S2048 : Shape := ⟨1, ![2048]⟩
abbrev S2048x5120 : Shape := ⟨2, ![2048, 5120]⟩
abbrev S128 : Shape := ⟨1, ![128]⟩
abbrev S2048x2048 : Shape := ⟨2, ![2048, 2048]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S32768x2048 .f32) (main_arg1 : FVec F S2048 .f32) (main_arg2 : FVec F S2048x5120 .bf16) (main_arg3 : FVec F S128 .f32) (main_arg4 : FVec F S128 .f32) (main_arg5 : FVec F S2048x2048 .bf16) : IVec S128 1 × IVec S128 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg4
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  (main_v2, main_v5)
-- ==== Pre_finite_operands.lean ====
abbrev S8x4096x2048 : Shape := ⟨3, ![8, 4096, 2048]⟩
abbrev S128 : Shape := ⟨1, ![128]⟩
abbrev S256 : Shape := ⟨1, ![256]⟩
abbrev S_ : Shape := ⟨0, ![]⟩

class Facts : Prop where
  bcast_S_S8x4096x2048 : S_.BroadcastsInDim S8x4096x2048 (![] : Fin 0 → Fin S8x4096x2048.rank)
  bcast_S_S128 : S_.BroadcastsInDim S128 (![] : Fin 0 → Fin S128.rank)

variable [Facts]

def fn_part1 {F : FTy → Type} [FloatOps F] (main_arg6 : FVec F S128 .f32) (main_v2 : IVec S8x4096x2048 1) (main_v5 : IVec S8x4096x2048 1) (main_v8 : IVec S8x4096x2048 1) (main_v11 : IVec S128 1) (main_v14 : IVec S128 1) (main_v17 : IVec S128 1) : IVec S8x4096x2048 1 × IVec S8x4096x2048 1 × IVec S8x4096x2048 1 × IVec S128 1 × IVec S128 1 × IVec S128 1 × IVec S128 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  (main_v2, main_v5, main_v8, main_v11, main_v14, main_v17, main_v20)

def fn {F : FTy → Type} [FloatOps F] (main_arg0 : FVec F S8x4096x2048 .bf16) (main_arg1 : FVec F S8x4096x2048 .bf16) (main_arg2 : FVec F S8x4096x2048 .bf16) (main_arg3 : FVec F S128 .f32) (main_arg4 : FVec F S128 .f32) (main_arg5 : FVec F S128 .f32) (main_arg6 : FVec F S128 .f32) (main_arg7 : FVec F S256 .f32) : IVec S8x4096x2048 1 × IVec S8x4096x2048 1 × IVec S8x4096x2048 1 × IVec S128 1 × IVec S128 1 × IVec S128 1 × IVec S128 1 :=
  let main_v0 : FVec F S8x4096x2048 .bf16 := Host.absf main_arg0
  let main_cst : FVec F S_ .bf16 := constant S_ .bf16 0x7F80#16
  let main_v1 : FVec F S8x4096x2048 .bf16 := broadcastInDim S8x4096x2048 ![] bcast_S_S8x4096x2048 main_cst
  let main_v2 : IVec S8x4096x2048 1 := cmpf .olt main_v0 main_v1
  let main_v3 : FVec F S8x4096x2048 .bf16 := Host.absf main_arg1
  let main_cst_0 : FVec F S_ .bf16 := constant S_ .bf16 0x7F80#16
  let main_v4 : FVec F S8x4096x2048 .bf16 := broadcastInDim S8x4096x2048 ![] bcast_S_S8x4096x2048 main_cst_0
  let main_v5 : IVec S8x4096x2048 1 := cmpf .olt main_v3 main_v4
  let main_v6 : FVec F S8x4096x2048 .bf16 := Host.absf main_arg2
  let main_cst_1 : FVec F S_ .bf16 := constant S_ .bf16 0x7F80#16
  let main_v7 : FVec F S8x4096x2048 .bf16 := broadcastInDim S8x4096x2048 ![] bcast_S_S8x4096x2048 main_cst_1
  let main_v8 : IVec S8x4096x2048 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_v2 main_v5 main_v8 main_v11 main_v14 main_v17
-- ==== Pre_finite_scores.lean ====
abbrev S8x4096x2048 : Shape := ⟨3, ![8, 4096, 2048]⟩
abbrev S8x4096x512 : Shape := ⟨3, ![8, 4096, 512]⟩
abbrev S_ : Shape := ⟨0, ![]⟩

class Facts : Prop where
  bcast_S_S8x4096x2048 : S_.BroadcastsInDim S8x4096x2048 (![] : Fin 0 → Fin S8x4096x2048.rank)
  bcast_S_S8x4096x512 : S_.BroadcastsInDim S8x4096x512 (![] : Fin 0 → Fin S8x4096x512.rank)

variable [Facts]

def fn {F : FTy → Type} [FloatOps F] (main_arg0 : FVec F S8x4096x2048 .bf16) (main_arg1 : FVec F S8x4096x512 .bf16) (main_arg2 : FVec F S8x4096x512 .bf16) : IVec S8x4096x2048 1 × IVec S8x4096x512 1 :=
  let main_v0 : FVec F S8x4096x2048 .bf16 := Host.absf main_arg0
  let main_cst : FVec F S_ .bf16 := constant S_ .bf16 0x7F80#16
  let main_v1 : FVec F S8x4096x2048 .bf16 := broadcastInDim S8x4096x2048 ![] bcast_S_S8x4096x2048 main_cst
  let main_v2 : IVec S8x4096x2048 1 := cmpf .olt main_v0 main_v1
  let main_v3 : FVec F S8x4096x512 .bf16 := Host.absf main_arg1
  let main_cst_0 : FVec F S_ .bf16 := constant S_ .bf16 0x7F80#16
  let main_v4 : FVec F S8x4096x512 .bf16 := broadcastInDim S8x4096x512 ![] bcast_S_S8x4096x512 main_cst_0
  let main_v5 : IVec S8x4096x512 1 := cmpf .olt main_v3 main_v4
  (main_v2, main_v5)
-- ==== AttnA.lean ====
abbrev S8x4096x2048 : Shape := ⟨3, ![8, 4096, 2048]⟩
abbrev S8x4096x512 : Shape := ⟨3, ![8, 4096, 512]⟩
abbrev S1x256x512 : Shape := ⟨3, ![1, 256, 512]⟩
abbrev S1x4096x128 : Shape := ⟨3, ![1, 4096, 128]⟩
abbrev S1024x128 : Shape := ⟨2, ![1024, 128]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 11
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x512, .bf16⟩
  | .hbm, ⟨2, _⟩ => ⟨S8x4096x512, .bf16⟩
  | .hbm, ⟨3, _⟩ => ⟨S8x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x512, .bf16⟩
  | .local _ .vmem, ⟨7, _⟩ => ⟨S1x256x512, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v32 : BitVec 32 := Scalar.muli arg10 c512_i32
  v32
def k0_off1 (k0_t1 : Fin k0_t1_loop.trips) : Fin 3 → Nat :=
  let c0_18 : Index := 0#32
  let c0_i32 : BitVec 32 := 0#32
  let c1_i32 : BitVec 32 := 1#32
  let arg10 : BitVec 32 := Scf.iv c0_i32 c1_i32 k0_t1
  let c512_i32 : BitVec 32 := 512#32
  let v32 : BitVec 32 := Scalar.muli arg10 c512_i32
  let v33 : BitVec 32 := v32
  let v34 : Index := Scalar.indexCast v33
  let c0_19 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnARefIdeal.lean ====
abbrev S8x4096x2048 : Shape := ⟨3, ![8, 4096, 2048]⟩
abbrev S8x4096x512 : Shape := ⟨3, ![8, 4096, 512]⟩
abbrev S8x4096x4x4x128 : Shape := ⟨5, ![8, 4096, 4, 4, 128]⟩
abbrev S8x4096x4x128 : Shape := ⟨4, ![8, 4096, 4, 128]⟩
abbrev S8x4x4096x4096x4 : Shape := ⟨5, ![8, 4, 4096, 4096, 4]⟩
abbrev S8x4x4x4096x4096 : Shape := ⟨5, ![8, 4, 4, 4096, 4096]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x512, .bf16⟩
  | .hbm, ⟨2, _⟩ => ⟨S8x4096x512, .bf16⟩
  | .hbm, ⟨3, _⟩ => ⟨S8x4096x2048, .f32⟩
  | .hbm, ⟨4, _⟩ => ⟨S8x4096x4x4x128, .f32⟩
  | .hbm, ⟨5, _⟩ => ⟨S8x4096x512, .f32⟩
  | .hbm, ⟨6, _⟩ => ⟨S8x4096x4x128, .f32⟩
  | .hbm, ⟨7, _⟩ => ⟨S8x4096x512, .f32⟩
  | .hbm, ⟨8, _⟩ => ⟨S8x4096x4x128, .f32⟩
  | .hbm, ⟨9, _⟩ => ⟨S8x4x4096x4096x4, .f32⟩
  | .hbm, ⟨10, _⟩ => ⟨S8x4x4x4096x4096, .f32⟩
  | .hbm, ⟨11, _⟩ => ⟨S_, .f32⟩
  | .hbm, ⟨12, _⟩ => ⟨S8x4x4x4096, .f32⟩
  | .hbm, ⟨13, _⟩ => ⟨S_, .f32⟩
  | .hbm, ⟨14, _⟩ => ⟨S8x4x4x4096, .f32⟩
  | .hbm, ⟨15, _⟩ => ⟨S8x4x4x4096, .f32⟩
  | .hbm, ⟨16, _⟩ => ⟨S8x4x4x4096x1, .f32⟩
  | .hbm, ⟨17, _⟩ => ⟨S8x4x4x4096x4096, .f32⟩
  | .hbm, ⟨18, _⟩ => ⟨S8x4x4x4096x4096, .f32⟩
  | .hbm, ⟨19, _⟩ => ⟨S8x4x4x4096x4096, .f32⟩
  | .hbm, ⟨20, _⟩ => ⟨S_, .f32⟩
  | .hbm, ⟨21, _⟩ => ⟨S8x4x4x4096, .f32⟩
  | .hbm, ⟨22, _⟩ => ⟨S8x4x4x4096x1, .f32⟩
  | .hbm, ⟨23, _⟩ => ⟨S8x4x4x4096x4096, .f32⟩
  | .hbm, ⟨24, _⟩ => ⟨S8x4x4x4096x4096, .f32⟩
  | .hbm, ⟨25, _⟩ => ⟨S8x4x128x4x4096, .f32⟩
  | .hbm, ⟨26, _⟩ => ⟨S8x4096x4x4x128, .f32⟩
  | .hbm, ⟨27, _⟩ => ⟨S8x4096x2048, .f32⟩
  | .hbm, ⟨28, _⟩ => ⟨S8x4096x2048, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== AttnB.lean ====
abbrev S8x4096x2048 : Shape := ⟨3, ![8, 4096, 2048]⟩
abbrev S128 : Shape := ⟨1, ![128]⟩
abbrev S256 : Shape := ⟨1, ![256]⟩
abbrev S1x128 : Shape := ⟨2, ![1, 128]⟩
abbrev S1x256 : Shape := ⟨2, ![1, 256]⟩
abbrev S1x512x256 : Shape := ⟨3, ![1, 512, 256]⟩
abbrev S1x4096x256 : Shape := ⟨3, ![1, 4096, 256]⟩
abbrev S1024x128 : Shape := ⟨2, ![1024, 128]⟩
abbrev S1024x256 : Shape := ⟨2, ![1024, 256]⟩
abbrev S512x256 : Shape := ⟨2, ![512, 256]⟩
abbrev S512x128 : Shape := ⟨2, ![512, 128]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x2048, .bf16⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x256, .f32⟩
  | .hbm, ⟨13, _⟩ => ⟨S8x4096x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S1x512x256, .bf16⟩
  | .local _ .vmem, ⟨12, _⟩ => ⟨S1x512x256, .bf16⟩
  | .local _ .vmem, ⟨13, _⟩ => ⟨S1024x128, .f32⟩
  | .local _ .vmem, ⟨14, _⟩ => ⟨S1024x128, .f32⟩
  | .local _ .vmem, ⟨15, _⟩ => ⟨S1024x256, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 8, 8], ![false, false, false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v65 : BitVec 32 := Scalar.muli arg15 c512_i32
  v65
def k0_off1 (k0_t1 : Fin k0_t1_loop.trips) : Fin 3 → Nat :=
  let c0_35 : Index := 0#32
  let c0_i32 : BitVec 32 := 0#32
  let c1_i32 : BitVec 32 := 1#32
  let arg15 : BitVec 32 := Scf.iv c0_i32 c1_i32 k0_t1
  let c512_i32 : BitVec 32 := 512#32
  let v65 : BitVec 32 := Scalar.muli arg15 c512_i32
  let v66 : BitVec 32 := v65
  let v67 : Index := Scalar.indexCast v66
  let c0_36 : Index := 0#32
  ![0, v67.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnBRefIdeal.lean ====
abbrev S8x4096x2048 : Shape := ⟨3, ![8, 4096, 2048]⟩
abbrev S128 : Shape := ⟨1, ![128]⟩
abbrev S256 : Shape := ⟨1, ![256]⟩
abbrev S8x4096x16x128 : Shape := ⟨4, ![8, 4096, 16, 128]⟩
abbrev S8x4096x8x256 : Shape := ⟨4, ![8, 4096, 8, 256]⟩
abbrev S_ : Shape := ⟨0, ![]⟩
abbrev S8x16x4096x4096 : Shape := ⟨4, ![8, 16, 4096, 4096]⟩
abbrev S8x16x4096 : Shape := ⟨3, ![8, 16, 4096]⟩
abbrev S8x16x4096x1 : Shape := ⟨4, ![8, 16, 4096, 1]⟩
abbrev S8x8x2x4096x4096 : Shape := ⟨5, ![8, 8, 2, 4096, 4096]⟩
abbrev S8x8x1x4096x4096 : Shape := ⟨5, ![8, 8, 1, 4096, 4096]⟩
abbrev S8x8x4096x4096 : Shape := ⟨4, ![8, 8, 4096, 4096]⟩
abbrev S8x8x256x4096 : Shape := ⟨4, ![8, 8, 256, 4096]⟩
abbrev S8x4096x8 : Shape := ⟨3, ![8, 4096, 8]⟩
abbrev S8x4096x8x1 : Shape := ⟨4, ![8, 4096, 8, 1]⟩
abbrev S1x1x1x256 : Shape := ⟨4, ![1, 1, 1, 256]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x2048, .bf16⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S8x4096x2048, .f32⟩
  | .hbm, ⟨9, _⟩ => ⟨S8x4096x16x128, .f32⟩
  | .hbm, ⟨10, _⟩ => ⟨S8x4096x2048, .f32⟩
  | .hbm, ⟨11, _⟩ => ⟨S8x4096x16x128, .f32⟩
  | .hbm, ⟨12, _⟩ => ⟨S8x4096x2048, .f32⟩
  | .hbm, ⟨13, _⟩ => ⟨S8x4096x8x256, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x16x4096x4096, .f32⟩
  | .hbm, ⟨26, _⟩ => ⟨S_, .f32⟩
  | .hbm, ⟨27, _⟩ => ⟨S8x16x4096, .f32⟩
  | .hbm, ⟨28, _⟩ => ⟨S_, .f32⟩
  | .hbm, ⟨29, _⟩ => ⟨S8x16x4096, .f32⟩
  | .hbm, ⟨30, _⟩ => ⟨S8x16x4096, .f32⟩
  | .hbm, ⟨31, _⟩ => ⟨S8x16x4096x1, .f32⟩
  | .hbm, ⟨32, _⟩ => ⟨S8x16x4096x4096, .f32⟩
  | .hbm, ⟨33, _⟩ => ⟨S8x16x4096x4096, .f32⟩
  | .hbm, ⟨34, _⟩ => ⟨S8x16x4096x4096, .f32⟩
  | .hbm, ⟨35, _⟩ => ⟨S_, .f32⟩
  | .hbm, ⟨36, _⟩ => ⟨S8x16x4096, .f32⟩
  | .hbm, ⟨37, _⟩ => ⟨S8x16x4096x1, .f32⟩
  | .hbm, ⟨38, _⟩ => ⟨S8x16x4096x4096, .f32⟩
  | .hbm, ⟨39, _⟩ => ⟨S8x16x4096x4096, .f32⟩
  | .hbm, ⟨40, _⟩ => ⟨S8x8x2x4096x4096, .f32⟩
  | .hbm, ⟨41, _⟩ => ⟨S8x8x1x4096x4096, .f32⟩
  | .hbm, ⟨42, _⟩ => ⟨S8x8x4096x4096, .f32⟩
  | .hbm, ⟨43, _⟩ => ⟨S8x8x1x4096x4096, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S8x8x256x4096, .f32⟩
  | .hbm, ⟨49, _⟩ => ⟨S8x4096x8x256, .f32⟩
  | .hbm, ⟨50, _⟩ => ⟨S8x4096x8x256, .f32⟩
  | .hbm, ⟨51, _⟩ => ⟨S_, .f32⟩
  | .hbm, ⟨52, _⟩ => ⟨S8x4096x8, .f32⟩
  | .hbm, ⟨53, _⟩ => ⟨S8x4096x8x1, .f32⟩
  | .hbm, ⟨54, _⟩ => ⟨S_, .f32⟩
  | .hbm, ⟨55, _⟩ => ⟨S8x4096x8x1, .f32⟩
  | .hbm, ⟨56, _⟩ => ⟨S8x4096x8x1, .f32⟩
  | .hbm, ⟨57, _⟩ => ⟨S_, .f32⟩
  | .hbm, ⟨58, _⟩ => ⟨S8x4096x8x1, .f32⟩
  | .hbm, ⟨59, _⟩ => ⟨S8x4096x8x1, .f32⟩
  | .hbm, ⟨60, _⟩ => ⟨S8x4096x8x1, .f32⟩
  | .hbm, ⟨61, _⟩ => ⟨S8x4096x8x256, .f32⟩
  | .hbm, ⟨62, _⟩ => ⟨S8x4096x8x256, .f32⟩
  | .hbm, ⟨63, _⟩ => ⟨S1x1x1x256, .f32⟩
  | .hbm, ⟨64, _⟩ => ⟨S8x4096x8x256, .f32⟩
  | .hbm, ⟨65, _⟩ => ⟨S8x4096x8x256, .f32⟩
  | .hbm, ⟨66, _⟩ => ⟨S_, .f32⟩
  | .hbm, ⟨67, _⟩ => ⟨S8x4096x8x256, .f32⟩
  | .hbm, ⟨68, _⟩ => ⟨S8x4096x8x256, .f32⟩
  | .hbm, ⟨69, _⟩ => ⟨S8x4096x2048, .f32⟩
  | .hbm, ⟨70, _⟩ => ⟨S8x4096x2048, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== ProjA.lean ====
abbrev S32768x2048 : Shape := ⟨2, ![32768, 2048]⟩
abbrev S2048 : Shape := ⟨1, ![2048]⟩
abbrev S2048x5120 : Shape := ⟨2, ![2048, 5120]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S96 : Shape := ⟨1, ![96]⟩
abbrev S1x4096x128 : Shape := ⟨3, ![1, 4096, 128]⟩
abbrev S3x4096x128 : Shape := ⟨3, ![3, 4096, 128]⟩
abbrev S1x2048 : Shape := ⟨2, ![1, 2048]⟩
abbrev S32768x512 : Shape := ⟨2, ![32768, 512]⟩
abbrev S1024x2048 : Shape := ⟨2, ![1024, 2048]⟩
abbrev S2048x512 : Shape := ⟨2, ![2048, 512]⟩
abbrev S3x1024x128 : Shape := ⟨3, ![3, 1024, 128]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 174
  | .vmem => 18
  | .smem => 0
  | _ => 0

abbrev hbmTy0_0 (i : Nat) : BufTy := match i % 128 with
  | 0 => ⟨S32768x2048, .f32⟩
  | 1 => ⟨S2048, .f32⟩
  | 2 => ⟨S2048x5120, .bf16⟩
  | 3 => ⟨S128, .f32⟩
  | 4 => ⟨S128, .f32⟩
  | 5 => ⟨S64, .f32⟩
  | 6 => ⟨S64x64, .f32⟩
  | 7 => ⟨S4096, .f32⟩
  | 8 => ⟨S64, .f32⟩
  | 9 => ⟨S1x64, .f32⟩
  | 10 => ⟨S64x64, .f32⟩
  | 11 => ⟨S4096, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4096x1, .f32⟩
  | 29 => ⟨S1x32, .f32⟩
  | 30 => ⟨S4096x32, .f32⟩
  | 31 => ⟨S4096x32, .f32⟩
  | 32 => ⟨S4096x32, .f32⟩
  | 33 => ⟨S4096x32, .f32⟩
  | 34 => ⟨S4096x32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S4096x1, .f32⟩
  | 52 => ⟨S1x32, .f32⟩
  | 53 => ⟨S4096x32, .f32⟩
  | 54 => ⟨S4096x32, .f32⟩
  | 55 => ⟨S4096x32, .f32⟩
  | 56 => ⟨S4096x32, .f32⟩
  | 57 => ⟨S4096x32, .f32⟩
  | 58 => ⟨S_, .f32⟩
  | 59 => ⟨S4096x32, .f32⟩
  | 60 => ⟨S4096x128, .f32⟩
  | 61 => ⟨S4096x32, .f32⟩
  | 62 => ⟨S4096x32, .f32⟩
  | 63 => ⟨S4096x128, .f32⟩
  | 64 => ⟨S4096x128, .f32⟩
  | 65 => ⟨S1x128, .f32⟩
  | 66 => ⟨S4096x128, .f32⟩
  | 67 => ⟨S4096x128, .f32⟩
  | 68 => ⟨S96, .f32⟩
  | 69 => ⟨S32, .f32⟩
  | 70 => ⟨S128, .f32⟩
  | 71 => ⟨S1x128, .f32⟩
  | 72 => ⟨S4096x128, .f32⟩
  | 73 => ⟨S4096x128, .f32⟩
  | 74 => ⟨S32, .f32⟩
  | 75 => ⟨S96, .f32⟩
  | 76 => ⟨S128, .f32⟩
  | 77 => ⟨S1x128, .f32⟩
  | 78 => ⟨S4096x128, .f32⟩
  | 79 => ⟨S4096x128, .f32⟩
  | 80 => ⟨S1x4096x128, .f32⟩
  | 81 => ⟨S1x4096x128, .f32⟩
  | 82 => ⟨S1x4096x128, .f32⟩
  | 83 => ⟨S3x4096x128, .f32⟩
  | 84 => ⟨S_, .f32⟩
  | 85 => ⟨S3x4096x128, .f32⟩
  | 86 => ⟨S3x4096x128, .f32⟩
  | 87 => ⟨S64, .f32⟩
  | 88 => ⟨S64x64, .f32⟩
  | 89 => ⟨S4096, .f32⟩
  | 90 => ⟨S64, .f32⟩
  | 91 => ⟨S1x64, .f32⟩
  | 92 => ⟨S64x64, .f32⟩
  | 93 => ⟨S4096, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S4096x1, .f32⟩
  | 111 => ⟨S1x32, .f32⟩
  | 112 => ⟨S4096x32, .f32⟩
  | 113 => ⟨S4096x32, .f32⟩
  | 114 => ⟨S4096x32, .f32⟩
  | 115 => ⟨S4096x32, .f32⟩
  | 116 => ⟨S4096x32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S32768x2048, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S4096x1, .f32⟩
  | 6 => ⟨S1x32, .f32⟩
  | 7 => ⟨S4096x32, .f32⟩
  | 8 => ⟨S4096x32, .f32⟩
  | 9 => ⟨S4096x32, .f32⟩
  | 10 => ⟨S4096x32, .f32⟩
  | 11 => ⟨S4096x32, .f32⟩
  | 12 => ⟨S_, .f32⟩
  | 13 => ⟨S4096x32, .f32⟩
  | 14 => ⟨S4096x128, .f32⟩
  | 15 => ⟨S4096x32, .f32⟩
  | 16 => ⟨S4096x32, .f32⟩
  | 17 => ⟨S4096x128, .f32⟩
  | 18 => ⟨S4096x128, .f32⟩
  | 19 => ⟨S1x128, .f32⟩
  | 20 => ⟨S4096x128, .f32⟩
  | 21 => ⟨S4096x128, .f32⟩
  | 22 => ⟨S96, .f32⟩
  | 23 => ⟨S32, .f32⟩
  | 24 => ⟨S128, .f32⟩
  | 25 => ⟨S1x128, .f32⟩
  | 26 => ⟨S4096x128, .f32⟩
  | 27 => ⟨S4096x128, .f32⟩
  | 28 => ⟨S32, .f32⟩
  | 29 => ⟨S96, .f32⟩
  | 30 => ⟨S128, .f32⟩
  | 31 => ⟨S1x128, .f32⟩
  | 32 => ⟨S4096x128, .f32⟩
  | 33 => ⟨S4096x128, .f32⟩
  | 34 => ⟨S1x4096x128, .f32⟩
  | 35 => ⟨S1x4096x128, .f32⟩
  | 36 => ⟨S1x4096x128, .f32⟩
  | 37 => ⟨S3x4096x128, .f32⟩
  | 38 => ⟨S_, .f32⟩
  | 39 => ⟨S3x4096x128, .f32⟩
  | 40 => ⟨S3x4096x128, .f32⟩
  | 41 => ⟨S1x2048, .f32⟩
  | 42 => ⟨S32768x2048, .bf16⟩
  | 43 => ⟨S32768x512, .bf16⟩
  | 44 => ⟨S32768x512, .bf16⟩
  | 45 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S3x1024x128, .f32⟩
  | .local _ .vmem, ⟨6, _⟩ => ⟨S3x1024x128, .f32⟩
  | .local _ .vmem, ⟨7, _⟩ => ⟨S3x1024x128, .f32⟩
  | .local _ .vmem, ⟨8, _⟩ => ⟨S3x1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_v0 : Ref sig .tc := ⟨.hbm, 68, rfl⟩
abbrev main_call0_v1 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call1_v0 : Ref sig .tc := ⟨.hbm, 74, rfl⟩
abbrev main_call1_v1 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_16 : Ref sig .tc := ⟨.hbm, 118, rfl⟩
abbrev main_v92 : Ref sig .tc := ⟨.hbm, 119, rfl⟩
abbrev main_v93 : Ref sig .tc := ⟨.hbm, 120, rfl⟩
abbrev main_cst_17 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_21 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_call2_v0 : Ref sig .tc := ⟨.hbm, 150, rfl⟩
abbrev main_call2_v1 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_call3_v0 : Ref sig .tc := ⟨.hbm, 156, rfl⟩
abbrev main_call3_v1 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_22 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133_0 : Ref sig .tc := ⟨.hbm, 170, rfl⟩
abbrev main_v133_1 : Ref sig .tc := ⟨.hbm, 171, rfl⟩
abbrev main_v133_2 : Ref sig .tc := ⟨.hbm, 172, rfl⟩
abbrev main_v133_3 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c4_i32_5 : BitVec 32 := 4#32
  let v9 : BitVec 1 := Scalar.cmpi .sge arg1 c4_i32_5
  let c5_i32 : BitVec 32 := 5#32
  let v10 : BitVec 1 := Scalar.cmpi .slt arg1 c5_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c5_i32_7 : BitVec 32 := 5#32
  let v14 : BitVec 1 := Scalar.cmpi .sge arg1 c5_i32_7
  let c6_i32 : BitVec 32 := 6#32
  let v15 : BitVec 1 := Scalar.cmpi .slt arg1 c6_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond5 (i : grid0.Coords) : BitVec 1 :=
  let arg1 : BitVec 32 := BitVec.ofNat 32 (i 1).val
  let c6_i32_9 : BitVec 32 := 6#32
  let v19 : BitVec 1 := Scalar.cmpi .sge arg1 c6_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjARefIdeal.lean ====
abbrev S32768x2048 : Shape := ⟨2, ![32768, 2048]⟩
abbrev S2048 : Shape := ⟨1, ![2048]⟩
abbrev S2048x5120 : Shape := ⟨2, ![2048, 5120]⟩
abbrev S128 : Shape := ⟨1, ![128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5120 : Shape := ⟨2, ![32768, 5120]⟩
abbrev S8x4096x5120 : Shape := ⟨3, ![8, 4096, 5120]⟩
abbrev S8x4096x2048 : Shape := ⟨3, ![8, 4096, 2048]⟩
abbrev S8x4096x512 : Shape := ⟨3, ![8, 4096, 512]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8x4096x16x64 : Shape := ⟨4, ![8, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x16x32 : Shape := ⟨4, ![8, 4096, 16, 32]⟩
abbrev S8x4096x4x64 : Shape := ⟨4, ![8, 4096, 4, 64]⟩
abbrev S8x4096x4x32 : Shape := ⟨4, ![8, 4096, 4, 32]⟩
abbrev S32768x512 : Shape := ⟨2, ![32768, 512]⟩

abbrev nBuf : Space → Nat
  | .hbm => 238
  | .vmem => 0
  | .smem => 0
  | _ => 0

abbrev hbmTy0_0 (i : Nat) : BufTy := match i % 128 with
  | 0 => ⟨S32768x2048, .f32⟩
  | 1 => ⟨S2048, .f32⟩
  | 2 => ⟨S2048x5120, .bf16⟩
  | 3 => ⟨S128, .f32⟩
  | 4 => ⟨S128, .f32⟩
  | 5 => ⟨S32768x2048, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x2048, .f32⟩
  | 17 => ⟨S32768x2048, .f32⟩
  | 18 => ⟨S1x2048, .f32⟩
  | 19 => ⟨S32768x2048, .f32⟩
  | 20 => ⟨S32768x2048, .f32⟩
  | 21 => ⟨S2048x5120, .f32⟩
  | 22 => ⟨S32768x5120, .f32⟩
  | 23 => ⟨S8x4096x5120, .f32⟩
  | 24 => ⟨S8x4096x2048, .f32⟩
  | 25 => ⟨S8x4096x512, .f32⟩
  | 26 => ⟨S8x4096x512, .f32⟩
  | 27 => ⟨S8x4096x2048, .f32⟩
  | 28 => ⟨S8x4096x16x128, .f32⟩
  | 29 => ⟨S8x4096x16x128, .f32⟩
  | 30 => ⟨S_, .f32⟩
  | 31 => ⟨S8x4096x16, .f32⟩
  | 32 => ⟨S8x4096x16x1, .f32⟩
  | 33 => ⟨S_, .f32⟩
  | 34 => ⟨S8x4096x16x1, .f32⟩
  | 35 => ⟨S8x4096x16x1, .f32⟩
  | 36 => ⟨S_, .f32⟩
  | 37 => ⟨S8x4096x16x1, .f32⟩
  | 38 => ⟨S8x4096x16x1, .f32⟩
  | 39 => ⟨S8x4096x16x1, .f32⟩
  | 40 => ⟨S8x4096x16x128, .f32⟩
  | 41 => ⟨S8x4096x16x128, .f32⟩
  | 42 => ⟨S1x1x1x128, .f32⟩
  | 43 => ⟨S8x4096x16x128, .f32⟩
  | 44 => ⟨S8x4096x16x128, .f32⟩
  | 45 => ⟨S8x4096x4x128, .f32⟩
  | 46 => ⟨S8x4096x4x128, .f32⟩
  | 47 => ⟨S_, .f32⟩
  | 48 => ⟨S8x4096x4, .f32⟩
  | 49 => ⟨S8x4096x4x1, .f32⟩
  | 50 => ⟨S_, .f32⟩
  | 51 => ⟨S8x4096x4x1, .f32⟩
  | 52 => ⟨S8x4096x4x1, .f32⟩
  | 53 => ⟨S_, .f32⟩
  | 54 => ⟨S8x4096x4x1, .f32⟩
  | 55 => ⟨S8x4096x4x1, .f32⟩
  | 56 => ⟨S8x4096x4x1, .f32⟩
  | 57 => ⟨S8x4096x4x128, .f32⟩
  | 58 => ⟨S8x4096x4x128, .f32⟩
  | 59 => ⟨S1x1x1x128, .f32⟩
  | 60 => ⟨S8x4096x4x128, .f32⟩
  | 61 => ⟨S8x4096x4x128, .f32⟩
  | 62 => ⟨S64, .f32⟩
  | 63 => ⟨S64x64, .f32⟩
  | 64 => ⟨S4096, .f32⟩
  | 65 => ⟨S64, .f32⟩
  | 66 => ⟨S1x64, .f32⟩
  | 67 => ⟨S64x64, .f32⟩
  | 68 => ⟨S4096, .f32⟩
  | 69 => ⟨S8x4096x16x64, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S4096x1, .f32⟩
  | 87 => ⟨S1x32, .f32⟩
  | 88 => ⟨S4096x32, .f32⟩
  | 89 => ⟨S4096x32, .f32⟩
  | 90 => ⟨S4096x32, .f32⟩
  | 91 => ⟨S4096x32, .f32⟩
  | 92 => ⟨S1x4096x1x32, .f32⟩
  | 93 => ⟨S4096x32, .f32⟩
  | 94 => ⟨S1x4096x1x32, .f32⟩
  | 95 => ⟨S8x4096x16x32, .f32⟩
  | 96 => ⟨S8x4096x16x32, .f32⟩
  | 97 => ⟨S8x4096x16x32, .f32⟩
  | 98 => ⟨S8x4096x16x32, .f32⟩
  | 99 => ⟨S8x4096x16x32, .f32⟩
  | 100 => ⟨S8x4096x16x32, .f32⟩
  | 101 => ⟨S8x4096x16x32, .f32⟩
  | 102 => ⟨S8x4096x16x32, .f32⟩
  | 103 => ⟨S8x4096x16x32, .f32⟩
  | 104 => ⟨S8x4096x16x32, .f32⟩
  | 105 => ⟨S8x4096x16x32, .f32⟩
  | 106 => ⟨S8x4096x16x32, .f32⟩
  | 107 => ⟨S8x4096x16x64, .f32⟩
  | 108 => ⟨S8x4096x16x64, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S4096x1, .f32⟩
  | 126 => ⟨S1x32, .f32⟩
  | 127 => ⟨S4096x32, .f32⟩
  | _ => ⟨S32768x2048, .f32⟩

abbrev hbmTy0_1 (i : Nat) : BufTy := match i % 128 with
  | 0 => ⟨S4096x32, .f32⟩
  | 1 => ⟨S4096x32, .f32⟩
  | 2 => ⟨S4096x32, .f32⟩
  | 3 => ⟨S1x4096x1x32, .f32⟩
  | 4 => ⟨S4096x32, .f32⟩
  | 5 => ⟨S1x4096x1x32, .f32⟩
  | 6 => ⟨S8x4096x16x32, .f32⟩
  | 7 => ⟨S8x4096x16x32, .f32⟩
  | 8 => ⟨S8x4096x16x32, .f32⟩
  | 9 => ⟨S8x4096x16x32, .f32⟩
  | 10 => ⟨S8x4096x16x32, .f32⟩
  | 11 => ⟨S8x4096x16x32, .f32⟩
  | 12 => ⟨S8x4096x16x32, .f32⟩
  | 13 => ⟨S8x4096x16x32, .f32⟩
  | 14 => ⟨S8x4096x16x32, .f32⟩
  | 15 => ⟨S8x4096x16x32, .f32⟩
  | 16 => ⟨S8x4096x16x32, .f32⟩
  | 17 => ⟨S8x4096x16x32, .f32⟩
  | 18 => ⟨S8x4096x16x64, .f32⟩
  | 19 => ⟨S8x4096x16x128, .f32⟩
  | 20 => ⟨S_, .f32⟩
  | 21 => ⟨S8x4096x16x128, .f32⟩
  | 22 => ⟨S8x4096x16x128, .f32⟩
  | 23 => ⟨S8x4096x4x64, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S4096x1, .f32⟩
  | 41 => ⟨S1x32, .f32⟩
  | 42 => ⟨S4096x32, .f32⟩
  | 43 => ⟨S4096x32, .f32⟩
  | 44 => ⟨S4096x32, .f32⟩
  | 45 => ⟨S4096x32, .f32⟩
  | 46 => ⟨S1x4096x1x32, .f32⟩
  | 47 => ⟨S4096x32, .f32⟩
  | 48 => ⟨S1x4096x1x32, .f32⟩
  | 49 => ⟨S8x4096x4x32, .f32⟩
  | 50 => ⟨S8x4096x4x32, .f32⟩
  | 51 => ⟨S8x4096x4x32, .f32⟩
  | 52 => ⟨S8x4096x4x32, .f32⟩
  | 53 => ⟨S8x4096x4x32, .f32⟩
  | 54 => ⟨S8x4096x4x32, .f32⟩
  | 55 => ⟨S8x4096x4x32, .f32⟩
  | 56 => ⟨S8x4096x4x32, .f32⟩
  | 57 => ⟨S8x4096x4x32, .f32⟩
  | 58 => ⟨S8x4096x4x32, .f32⟩
  | 59 => ⟨S8x4096x4x32, .f32⟩
  | 60 => ⟨S8x4096x4x32, .f32⟩
  | 61 => ⟨S8x4096x4x64, .f32⟩
  | 62 => ⟨S8x4096x4x64, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S4096x1, .f32⟩
  | 80 => ⟨S1x32, .f32⟩
  | 81 => ⟨S4096x32, .f32⟩
  | 82 => ⟨S4096x32, .f32⟩
  | 83 => ⟨S4096x32, .f32⟩
  | 84 => ⟨S4096x32, .f32⟩
  | 85 => ⟨S1x4096x1x32, .f32⟩
  | 86 => ⟨S4096x32, .f32⟩
  | 87 => ⟨S1x4096x1x32, .f32⟩
  | 88 => ⟨S8x4096x4x32, .f32⟩
  | 89 => ⟨S8x4096x4x32, .f32⟩
  | 90 => ⟨S8x4096x4x32, .f32⟩
  | 91 => ⟨S8x4096x4x32, .f32⟩
  | 92 => ⟨S8x4096x4x32, .f32⟩
  | 93 => ⟨S8x4096x4x32, .f32⟩
  | 94 => ⟨S8x4096x4x32, .f32⟩
  | 95 => ⟨S8x4096x4x32, .f32⟩
  | 96 => ⟨S8x4096x4x32, .f32⟩
  | 97 => ⟨S8x4096x4x32, .f32⟩
  | 98 => ⟨S8x4096x4x32, .f32⟩
  | 99 => ⟨S8x4096x4x32, .f32⟩
  | 100 => ⟨S8x4096x4x64, .f32⟩
  | 101 => ⟨S8x4096x4x128, .f32⟩
  | 102 => ⟨S32768x2048, .f32⟩
  | 103 => ⟨S32768x2048, .bf16⟩
  | 104 => ⟨S32768x512, .f32⟩
  | 105 => ⟨S32768x512, .bf16⟩
  | 106 => ⟨S32768x512, .f32⟩
  | 107 => ⟨S32768x512, .bf16⟩
  | 108 => ⟨S32768x2048, .f32⟩
  | 109 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_v91 : Ref sig .tc := ⟨.hbm, 111, rfl⟩
abbrev main_v92 : Ref sig .tc := ⟨.hbm, 112, rfl⟩
abbrev main_cst_14 : Ref sig .tc := ⟨.hbm, 113, rfl⟩
abbrev main_v93 : Ref sig .tc := ⟨.hbm, 114, rfl⟩
abbrev main_v94 : Ref sig .tc := ⟨.hbm, 115, rfl⟩
abbrev main_cst_15 : Ref sig .tc := ⟨.hbm, 116, rfl⟩
abbrev main_v95 : Ref sig .tc := ⟨.hbm, 117, rfl⟩
abbrev main_v96 : Ref sig .tc := ⟨.hbm, 118, rfl⟩
abbrev main_cst_16 : Ref sig .tc := ⟨.hbm, 119, rfl⟩
abbrev main_v97 : Ref sig .tc := ⟨.hbm, 120, rfl⟩
abbrev main_v98 : Ref sig .tc := ⟨.hbm, 121, rfl⟩
abbrev main_cst_17 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_18 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_19 : Ref sig .tc := ⟨.hbm, 153, rfl⟩
abbrev main_v128 : Ref sig .tc := ⟨.hbm, 154, rfl⟩
abbrev main_v129 : Ref sig .tc := ⟨.hbm, 155, rfl⟩
abbrev main_cst_20 : Ref sig .tc := ⟨.hbm, 156, rfl⟩
abbrev main_v130 : Ref sig .tc := ⟨.hbm, 157, rfl⟩
abbrev main_v131 : Ref sig .tc := ⟨.hbm, 158, rfl⟩
abbrev main_cst_21 : Ref sig .tc := ⟨.hbm, 159, rfl⟩
abbrev main_v132 : Ref sig .tc := ⟨.hbm, 160, rfl⟩
abbrev main_v133 : Ref sig .tc := ⟨.hbm, 161, rfl⟩
abbrev main_cst_22 : Ref sig .tc := ⟨.hbm, 162, rfl⟩
abbrev main_v134 : Ref sig .tc := ⟨.hbm, 163, rfl⟩
abbrev main_v135 : Ref sig .tc := ⟨.hbm, 164, rfl⟩
abbrev main_cst_23 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_24 : Ref sig .tc := ⟨.hbm, 192, rfl⟩
abbrev main_v162 : Ref sig .tc := ⟨.hbm, 193, rfl⟩
abbrev main_v163 : Ref sig .tc := ⟨.hbm, 194, rfl⟩
abbrev main_cst_25 : Ref sig .tc := ⟨.hbm, 195, rfl⟩
abbrev main_v164 : Ref sig .tc := ⟨.hbm, 196, rfl⟩
abbrev main_v165 : Ref sig .tc := ⟨.hbm, 197, rfl⟩
abbrev main_cst_26 : Ref sig .tc := ⟨.hbm, 198, rfl⟩
abbrev main_v166 : Ref sig .tc := ⟨.hbm, 199, rfl⟩
abbrev main_v167 : Ref sig .tc := ⟨.hbm, 200, rfl⟩
abbrev main_cst_27 : Ref sig .tc := ⟨.hbm, 201, rfl⟩
abbrev main_v168 : Ref sig .tc := ⟨.hbm, 202, rfl⟩
abbrev main_v169 : Ref sig .tc := ⟨.hbm, 203, rfl⟩
abbrev main_cst_28 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩

abbrev nD : Nat := 1
abbrev τ : Topo := Topo.v7x

variable {F : FTy → Type} [FloatOps F]
-- ==== ProjB.lean ====
abbrev S32768x2048 : Shape := ⟨2, ![32768, 2048]⟩
abbrev S2048 : Shape := ⟨1, ![2048]⟩
abbrev S2048x8192 : Shape := ⟨2, ![2048, 8192]⟩
abbrev S128 : Shape := ⟨1, ![128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x128 : Shape := ⟨2, ![1, 128]⟩
abbrev S1x4096x128 : Shape := ⟨3, ![1, 4096, 128]⟩
abbrev S2x4096x128 : Shape := ⟨3, ![2, 4096, 128]⟩
abbrev S1x2048 : Shape := ⟨2, ![1, 2048]⟩
abbrev S1024x2048 : Shape := ⟨2, ![1024, 2048]⟩
abbrev S2048x512 : Shape := ⟨2, ![2048, 512]⟩
abbrev S2x1024x128 : Shape := ⟨3, ![2, 1024, 128]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 94
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .bf16⟩
  | .hbm, ⟨3, _⟩ => ⟨S128, .f32⟩
  | .hbm, ⟨4, _⟩ => ⟨S128, .f32⟩
  | .hbm, ⟨5, _⟩ => ⟨S4096, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S4096x1, .f32⟩
  | .hbm, ⟨23, _⟩ => ⟨S1x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x128, .f32⟩
  | .hbm, ⟨30, _⟩ => ⟨S1x128, .f32⟩
  | .hbm, ⟨31, _⟩ => ⟨S4096x128, .f32⟩
  | .hbm, ⟨32, _⟩ => ⟨S4096x128, .f32⟩
  | .hbm, ⟨33, _⟩ => ⟨S4096x64, .f32⟩
  | .hbm, ⟨34, _⟩ => ⟨S4096x128, .f32⟩
  | .hbm, ⟨35, _⟩ => ⟨S64, .f32⟩
  | .hbm, ⟨36, _⟩ => ⟨S64, .f32⟩
  | .hbm, ⟨37, _⟩ => ⟨S128, .f32⟩
  | .hbm, ⟨38, _⟩ => ⟨S1x128, .f32⟩
  | .hbm, ⟨39, _⟩ => ⟨S4096x128, .f32⟩
  | .hbm, ⟨40, _⟩ => ⟨S4096x128, .f32⟩
  | .hbm, ⟨41, _⟩ => ⟨S1x4096x128, .f32⟩
  | .hbm, ⟨42, _⟩ => ⟨S1x4096x128, .f32⟩
  | .hbm, ⟨43, _⟩ => ⟨S2x4096x128, .f32⟩
  | .hbm, ⟨44, _⟩ => ⟨S_, .f32⟩
  | .hbm, ⟨45, _⟩ => ⟨S2x4096x128, .f32⟩
  | .hbm, ⟨46, _⟩ => ⟨S2x4096x128, .f32⟩
  | .hbm, ⟨47, _⟩ => ⟨S4096, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S4096x1, .f32⟩
  | .hbm, ⟨65, _⟩ => ⟨S1x64, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S4096x64, .f32⟩
  | .hbm, ⟨71, _⟩ => ⟨S4096x128, .f32⟩
  | .hbm, ⟨72, _⟩ => ⟨S1x128, .f32⟩
  | .hbm, ⟨73, _⟩ => ⟨S4096x128, .f32⟩
  | .hbm, ⟨74, _⟩ => ⟨S4096x128, .f32⟩
  | .hbm, ⟨75, _⟩ => ⟨S4096x64, .f32⟩
  | .hbm, ⟨76, _⟩ => ⟨S4096x128, .f32⟩
  | .hbm, ⟨77, _⟩ => ⟨S64, .f32⟩
  | .hbm, ⟨78, _⟩ => ⟨S64, .f32⟩
  | .hbm, ⟨79, _⟩ => ⟨S128, .f32⟩
  | .hbm, ⟨80, _⟩ => ⟨S1x128, .f32⟩
  | .hbm, ⟨81, _⟩ => ⟨S4096x128, .f32⟩
  | .hbm, ⟨82, _⟩ => ⟨S4096x128, .f32⟩
  | .hbm, ⟨83, _⟩ => ⟨S1x4096x128, .f32⟩
  | .hbm, ⟨84, _⟩ => ⟨S1x4096x128, .f32⟩
  | .hbm, ⟨85, _⟩ => ⟨S2x4096x128, .f32⟩
  | .hbm, ⟨86, _⟩ => ⟨S_, .f32⟩
  | .hbm, ⟨87, _⟩ => ⟨S2x4096x128, .f32⟩
  | .hbm, ⟨88, _⟩ => ⟨S2x4096x128, .f32⟩
  | .hbm, ⟨89, _⟩ => ⟨S1x2048, .f32⟩
  | .hbm, ⟨90, _⟩ => ⟨S32768x2048, .bf16⟩
  | .hbm, ⟨91, _⟩ => ⟨S32768x2048, .bf16⟩
  | .hbm, ⟨92, _⟩ => ⟨S32768x2048, .bf16⟩
  | .hbm, ⟨93, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2x1024x128, .f32⟩
  | .local _ .vmem, ⟨6, _⟩ => ⟨S2x1024x128, .f32⟩
  | .local _ .vmem, ⟨7, _⟩ => ⟨S2x1024x128, .f32⟩
  | .local _ .vmem, ⟨8, _⟩ => ⟨S2x1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call1_v0 : Ref sig .tc := ⟨.hbm, 77, rfl⟩
abbrev main_call1_v1 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69_0 : Ref sig .tc := ⟨.hbm, 90, rfl⟩
abbrev main_v69_1 : Ref sig .tc := ⟨.hbm, 91, rfl⟩
abbrev main_v69_2 : Ref sig .tc := ⟨.hbm, 92, rfl⟩
abbrev main_v69_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c4_i32_5 : BitVec 32 := 4#32
  let v9 : BitVec 1 := Scalar.cmpi .sge arg1 c4_i32_5
  let c8_i32 : BitVec 32 := 8#32
  let v10 : BitVec 1 := Scalar.cmpi .slt arg1 c8_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c8_i32_7 : BitVec 32 := 8#32
  let v14 : BitVec 1 := Scalar.cmpi .sge arg1 c8_i32_7
  let c12_i32 : BitVec 32 := 12#32
  let v15 : BitVec 1 := Scalar.cmpi .slt arg1 c12_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond5 (i : grid0.Coords) : BitVec 1 :=
  let arg1 : BitVec 32 := BitVec.ofNat 32 (i 1).val
  let c12_i32_9 : BitVec 32 := 12#32
  let v19 : BitVec 1 := Scalar.cmpi .sge arg1 c12_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjBRefIdeal.lean ====
abbrev S32768x2048 : Shape := ⟨2, ![32768, 2048]⟩
abbrev S2048 : Shape := ⟨1, ![2048]⟩
abbrev S2048x8192 : Shape := ⟨2, ![2048, 8192]⟩
abbrev S128 : Shape := ⟨1, ![128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8192 : Shape := ⟨2, ![32768, 8192]⟩
abbrev S8x4096x8192 : Shape := ⟨3, ![8, 4096, 8192]⟩
abbrev S8x4096x2048 : Shape := ⟨3, ![8, 4096, 2048]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x16x64 : Shape := ⟨4, ![8, 4096, 16, 64]⟩

abbrev nBuf : Space → Nat
  | .hbm => 150
  | .vmem => 0
  | .smem => 0
  | _ => 0

abbrev hbmTy0_0 (i : Nat) : BufTy := match i % 128 with
  | 0 => ⟨S32768x2048, .f32⟩
  | 1 => ⟨S2048, .f32⟩
  | 2 => ⟨S2048x8192, .bf16⟩
  | 3 => ⟨S128, .f32⟩
  | 4 => ⟨S128, .f32⟩
  | 5 => ⟨S32768x2048, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x2048, .f32⟩
  | 17 => ⟨S32768x2048, .f32⟩
  | 18 => ⟨S1x2048, .f32⟩
  | 19 => ⟨S32768x2048, .f32⟩
  | 20 => ⟨S32768x2048, .f32⟩
  | 21 => ⟨S2048x8192, .f32⟩
  | 22 => ⟨S32768x8192, .f32⟩
  | 23 => ⟨S8x4096x8192, .f32⟩
  | 24 => ⟨S8x4096x2048, .f32⟩
  | 25 => ⟨S8x4096x2048, .f32⟩
  | 26 => ⟨S8x4096x2048, .f32⟩
  | 27 => ⟨S8x4096x2048, .f32⟩
  | 28 => ⟨S8x4096x16x128, .f32⟩
  | 29 => ⟨S8x4096x16x128, .f32⟩
  | 30 => ⟨S_, .f32⟩
  | 31 => ⟨S8x4096x16, .f32⟩
  | 32 => ⟨S8x4096x16x1, .f32⟩
  | 33 => ⟨S_, .f32⟩
  | 34 => ⟨S8x4096x16x1, .f32⟩
  | 35 => ⟨S8x4096x16x1, .f32⟩
  | 36 => ⟨S_, .f32⟩
  | 37 => ⟨S8x4096x16x1, .f32⟩
  | 38 => ⟨S8x4096x16x1, .f32⟩
  | 39 => ⟨S8x4096x16x1, .f32⟩
  | 40 => ⟨S8x4096x16x128, .f32⟩
  | 41 => ⟨S8x4096x16x128, .f32⟩
  | 42 => ⟨S1x1x1x128, .f32⟩
  | 43 => ⟨S8x4096x16x128, .f32⟩
  | 44 => ⟨S8x4096x16x128, .f32⟩
  | 45 => ⟨S8x4096x16x128, .f32⟩
  | 46 => ⟨S8x4096x16x128, .f32⟩
  | 47 => ⟨S_, .f32⟩
  | 48 => ⟨S8x4096x16, .f32⟩
  | 49 => ⟨S8x4096x16x1, .f32⟩
  | 50 => ⟨S_, .f32⟩
  | 51 => ⟨S8x4096x16x1, .f32⟩
  | 52 => ⟨S8x4096x16x1, .f32⟩
  | 53 => ⟨S_, .f32⟩
  | 54 => ⟨S8x4096x16x1, .f32⟩
  | 55 => ⟨S8x4096x16x1, .f32⟩
  | 56 => ⟨S8x4096x16x1, .f32⟩
  | 57 => ⟨S8x4096x16x128, .f32⟩
  | 58 => ⟨S8x4096x16x128, .f32⟩
  | 59 => ⟨S1x1x1x128, .f32⟩
  | 60 => ⟨S8x4096x16x128, .f32⟩
  | 61 => ⟨S8x4096x16x128, .f32⟩
  | 62 => ⟨S4096, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S4096x1, .f32⟩
  | 80 => ⟨S1x64, .f32⟩
  | 81 => ⟨S4096x64, .f32⟩
  | 82 => ⟨S4096x64, .f32⟩
  | 83 => ⟨S4096x64, .f32⟩
  | 84 => ⟨S4096x64, .f32⟩
  | 85 => ⟨S1x4096x1x64, .f32⟩
  | 86 => ⟨S4096x64, .f32⟩
  | 87 => ⟨S1x4096x1x64, .f32⟩
  | 88 => ⟨S8x4096x16x64, .f32⟩
  | 89 => ⟨S8x4096x16x64, .f32⟩
  | 90 => ⟨S8x4096x16x64, .f32⟩
  | 91 => ⟨S8x4096x16x64, .f32⟩
  | 92 => ⟨S8x4096x16x64, .f32⟩
  | 93 => ⟨S8x4096x16x64, .f32⟩
  | 94 => ⟨S8x4096x16x64, .f32⟩
  | 95 => ⟨S8x4096x16x64, .f32⟩
  | 96 => ⟨S8x4096x16x64, .f32⟩
  | 97 => ⟨S8x4096x16x64, .f32⟩
  | 98 => ⟨S8x4096x16x64, .f32⟩
  | 99 => ⟨S8x4096x16x64, .f32⟩
  | 100 => ⟨S8x4096x16x128, .f32⟩
  | 101 => ⟨S_, .f32⟩
  | 102 => ⟨S8x4096x16x128, .f32⟩
  | 103 => ⟨S8x4096x16x128, .f32⟩
  | 104 => ⟨S64, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S4096x1, .f32⟩
  | 121 => ⟨S1x64, .f32⟩
  | 122 => ⟨S4096x64, .f32⟩
  | 123 => ⟨S4096x64, .f32⟩
  | 124 => ⟨S4096x64, .f32⟩
  | 125 => ⟨S4096x64, .f32⟩
  | 126 => ⟨S1x4096x1x64, .f32⟩
  | 127 => ⟨S4096x64, .f32⟩
  | _ => ⟨S32768x2048, .f32⟩

abbrev hbmTy0_1 (i : Nat) : BufTy := match i % 128 with
  | 0 => ⟨S1x4096x1x64, .f32⟩
  | 1 => ⟨S8x4096x16x64, .f32⟩
  | 2 => ⟨S8x4096x16x64, .f32⟩
  | 3 => ⟨S8x4096x16x64, .f32⟩
  | 4 => ⟨S8x4096x16x64, .f32⟩
  | 5 => ⟨S8x4096x16x64, .f32⟩
  | 6 => ⟨S8x4096x16x64, .f32⟩
  | 7 => ⟨S8x4096x16x64, .f32⟩
  | 8 => ⟨S8x4096x16x64, .f32⟩
  | 9 => ⟨S8x4096x16x64, .f32⟩
  | 10 => ⟨S8x4096x16x64, .f32⟩
  | 11 => ⟨S8x4096x16x64, .f32⟩
  | 12 => ⟨S8x4096x16x64, .f32⟩
  | 13 => ⟨S8x4096x16x128, .f32⟩
  | 14 => ⟨S32768x2048, .f32⟩
  | 15 => ⟨S32768x2048, .bf16⟩
  | 16 => ⟨S32768x2048, .f32⟩
  | 17 => ⟨S32768x2048, .bf16⟩
  | 18 => ⟨S32768x2048, .f32⟩
  | 19 => ⟨S32768x2048, .bf16⟩
  | 20 => ⟨S32768x2048, .f32⟩
  | 21 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_14 : Ref sig .tc := ⟨.hbm, 105, rfl⟩
abbrev main_v85 : Ref sig .tc := ⟨.hbm, 106, rfl⟩
abbrev main_v86 : Ref sig .tc := ⟨.hbm, 107, rfl⟩
abbrev main_cst_15 : Ref sig .tc := ⟨.hbm, 108, rfl⟩
abbrev main_v87 : Ref sig .tc := ⟨.hbm, 109, rfl⟩
abbrev main_v88 : Ref sig .tc := ⟨.hbm, 110, rfl⟩
abbrev main_cst_16 : Ref sig .tc := ⟨.hbm, 111, rfl⟩
abbrev main_v89 : Ref sig .tc := ⟨.hbm, 112, rfl⟩
abbrev main_v90 : Ref sig .tc := ⟨.hbm, 113, rfl⟩
abbrev main_cst_17 : Ref sig .tc := ⟨.hbm, 114, rfl⟩
abbrev main_v91 : Ref sig .tc := ⟨.hbm, 115, rfl⟩
abbrev main_v92 : Ref sig .tc := ⟨.hbm, 116, rfl⟩
abbrev main_cst_18 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩

abbrev nD : Nat := 1
abbrev τ : Topo := Topo.v7x

variable {F : FTy → Type} [FloatOps F]
-- ==== OutProj.lean ====
abbrev S32768x2048 : Shape := ⟨2, ![32768, 2048]⟩
abbrev S2048x2048 : Shape := ⟨2, ![2048, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048x2048, .bf16⟩
  | .hbm, ⟨3, _⟩ => ⟨S32768x2048, .f32⟩
  | .hbm, ⟨4, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S32768x2048 : Shape := ⟨2, ![32768, 2048]⟩
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048x2048, .bf16⟩
  | .hbm, ⟨3, _⟩ => ⟨S32768x2048, .f32⟩
  | .hbm, ⟨4, _⟩ => ⟨S32768x2048, .f32⟩
  | .hbm, ⟨5, _⟩ => ⟨S32768x2048, .f32⟩
  | .hbm, ⟨6, _⟩ => ⟨S2048x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== LayerA.lean ====
abbrev S32768x2048 : Shape := ⟨2, ![32768, 2048]⟩
abbrev S2048 : Shape := ⟨1, ![2048]⟩
abbrev S2048x5120 : Shape := ⟨2, ![2048, 5120]⟩
abbrev S128 : Shape := ⟨1, ![128]⟩
abbrev S2048x2048 : Shape := ⟨2, ![2048, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S96 : Shape := ⟨1, ![96]⟩
abbrev S1x4096x128 : Shape := ⟨3, ![1, 4096, 128]⟩
abbrev S3x4096x128 : Shape := ⟨3, ![3, 4096, 128]⟩
abbrev S1x2048 : Shape := ⟨2, ![1, 2048]⟩
abbrev S32768x512 : Shape := ⟨2, ![32768, 512]⟩
abbrev S1024x2048 : Shape := ⟨2, ![1024, 2048]⟩
abbrev S2048x512 : Shape := ⟨2, ![2048, 512]⟩
abbrev S3x1024x128 : Shape := ⟨3, ![3, 1024, 128]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S8x4096x2048 : Shape := ⟨3, ![8, 4096, 2048]⟩
abbrev S8x4096x512 : Shape := ⟨3, ![8, 4096, 512]⟩
abbrev S1x256x512 : Shape := ⟨3, ![1, 256, 512]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S512x2048 : Shape := ⟨2, ![512, 2048]⟩

abbrev nBuf : Space → Nat
  | .hbm => 181
  | .vmem => 38
  | .smem => 0
  | _ => 0

abbrev hbmTy0_0 (i : Nat) : BufTy := match i % 128 with
  | 0 => ⟨S32768x2048, .f32⟩
  | 1 => ⟨S2048, .f32⟩
  | 2 => ⟨S2048x5120, .bf16⟩
  | 3 => ⟨S128, .f32⟩
  | 4 => ⟨S128, .f32⟩
  | 5 => ⟨S2048x2048, .bf16⟩
  | 6 => ⟨S64, .f32⟩
  | 7 => ⟨S64x64, .f32⟩
  | 8 => ⟨S4096, .f32⟩
  | 9 => ⟨S64, .f32⟩
  | 10 => ⟨S1x64, .f32⟩
  | 11 => ⟨S64x64, .f32⟩
  | 12 => ⟨S4096, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096x1, .f32⟩
  | 30 => ⟨S1x32, .f32⟩
  | 31 => ⟨S4096x32, .f32⟩
  | 32 => ⟨S4096x32, .f32⟩
  | 33 => ⟨S4096x32, .f32⟩
  | 34 => ⟨S4096x32, .f32⟩
  | 35 => ⟨S4096x32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x32, .f32⟩
  | 58 => ⟨S4096x32, .f32⟩
  | 59 => ⟨S_, .f32⟩
  | 60 => ⟨S4096x32, .f32⟩
  | 61 => ⟨S4096x128, .f32⟩
  | 62 => ⟨S4096x32, .f32⟩
  | 63 => ⟨S4096x32, .f32⟩
  | 64 => ⟨S4096x128, .f32⟩
  | 65 => ⟨S4096x128, .f32⟩
  | 66 => ⟨S1x128, .f32⟩
  | 67 => ⟨S4096x128, .f32⟩
  | 68 => ⟨S4096x128, .f32⟩
  | 69 => ⟨S96, .f32⟩
  | 70 => ⟨S32, .f32⟩
  | 71 => ⟨S128, .f32⟩
  | 72 => ⟨S1x128, .f32⟩
  | 73 => ⟨S4096x128, .f32⟩
  | 74 => ⟨S4096x128, .f32⟩
  | 75 => ⟨S32, .f32⟩
  | 76 => ⟨S96, .f32⟩
  | 77 => ⟨S128, .f32⟩
  | 78 => ⟨S1x128, .f32⟩
  | 79 => ⟨S4096x128, .f32⟩
  | 80 => ⟨S4096x128, .f32⟩
  | 81 => ⟨S1x4096x128, .f32⟩
  | 82 => ⟨S1x4096x128, .f32⟩
  | 83 => ⟨S1x4096x128, .f32⟩
  | 84 => ⟨S3x4096x128, .f32⟩
  | 85 => ⟨S_, .f32⟩
  | 86 => ⟨S3x4096x128, .f32⟩
  | 87 => ⟨S3x4096x128, .f32⟩
  | 88 => ⟨S64, .f32⟩
  | 89 => ⟨S64x64, .f32⟩
  | 90 => ⟨S4096, .f32⟩
  | 91 => ⟨S64, .f32⟩
  | 92 => ⟨S1x64, .f32⟩
  | 93 => ⟨S64x64, .f32⟩
  | 94 => ⟨S4096, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S4096x1, .f32⟩
  | 112 => ⟨S1x32, .f32⟩
  | 113 => ⟨S4096x32, .f32⟩
  | 114 => ⟨S4096x32, .f32⟩
  | 115 => ⟨S4096x32, .f32⟩
  | 116 => ⟨S4096x32, .f32⟩
  | 117 => ⟨S4096x32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S32768x2048, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S4096x1, .f32⟩
  | 7 => ⟨S1x32, .f32⟩
  | 8 => ⟨S4096x32, .f32⟩
  | 9 => ⟨S4096x32, .f32⟩
  | 10 => ⟨S4096x32, .f32⟩
  | 11 => ⟨S4096x32, .f32⟩
  | 12 => ⟨S4096x32, .f32⟩
  | 13 => ⟨S_, .f32⟩
  | 14 => ⟨S4096x32, .f32⟩
  | 15 => ⟨S4096x128, .f32⟩
  | 16 => ⟨S4096x32, .f32⟩
  | 17 => ⟨S4096x32, .f32⟩
  | 18 => ⟨S4096x128, .f32⟩
  | 19 => ⟨S4096x128, .f32⟩
  | 20 => ⟨S1x128, .f32⟩
  | 21 => ⟨S4096x128, .f32⟩
  | 22 => ⟨S4096x128, .f32⟩
  | 23 => ⟨S96, .f32⟩
  | 24 => ⟨S32, .f32⟩
  | 25 => ⟨S128, .f32⟩
  | 26 => ⟨S1x128, .f32⟩
  | 27 => ⟨S4096x128, .f32⟩
  | 28 => ⟨S4096x128, .f32⟩
  | 29 => ⟨S32, .f32⟩
  | 30 => ⟨S96, .f32⟩
  | 31 => ⟨S128, .f32⟩
  | 32 => ⟨S1x128, .f32⟩
  | 33 => ⟨S4096x128, .f32⟩
  | 34 => ⟨S4096x128, .f32⟩
  | 35 => ⟨S1x4096x128, .f32⟩
  | 36 => ⟨S1x4096x128, .f32⟩
  | 37 => ⟨S1x4096x128, .f32⟩
  | 38 => ⟨S3x4096x128, .f32⟩
  | 39 => ⟨S_, .f32⟩
  | 40 => ⟨S3x4096x128, .f32⟩
  | 41 => ⟨S3x4096x128, .f32⟩
  | 42 => ⟨S1x2048, .f32⟩
  | 43 => ⟨S32768x2048, .bf16⟩
  | 44 => ⟨S32768x512, .bf16⟩
  | 45 => ⟨S32768x512, .bf16⟩
  | 46 => ⟨S32768x2048, .bf16⟩
  | 47 => ⟨S8x4096x2048, .bf16⟩
  | 48 => ⟨S8x4096x512, .bf16⟩
  | 49 => ⟨S8x4096x512, .bf16⟩
  | 50 => ⟨S8x4096x2048, .bf16⟩
  | 51 => ⟨S32768x2048, .bf16⟩
  | 52 => ⟨S32768x2048, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S3x1024x128, .f32⟩
  | .local _ .vmem, ⟨6, _⟩ => ⟨S3x1024x128, .f32⟩
  | .local _ .vmem, ⟨7, _⟩ => ⟨S3x1024x128, .f32⟩
  | .local _ .vmem, ⟨8, _⟩ => ⟨S3x1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | .local _ .vmem, ⟨18, _⟩ => ⟨S1x256x512, .bf16⟩
  | .local _ .vmem, ⟨19, _⟩ => ⟨S1x256x512, .bf16⟩
  | .local _ .vmem, ⟨20, _⟩ => ⟨S1x4096x128, .bf16⟩
  | .local _ .vmem, ⟨21, _⟩ => ⟨S1x4096x128, .bf16⟩
  | .local _ .vmem, ⟨22, _⟩ => ⟨S1x4096x128, .bf16⟩
  | .local _ .vmem, ⟨23, _⟩ => ⟨S1x4096x128, .bf16⟩
  | .local _ .vmem, ⟨24, _⟩ => ⟨S1x256x512, .bf16⟩
  | .local _ .vmem, ⟨25, _⟩ => ⟨S1x256x512, .bf16⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S512x2048, .bf16⟩
  | .local _ .vmem, ⟨30, _⟩ => ⟨S512x2048, .bf16⟩
  | .local _ .vmem, ⟨31, _⟩ => ⟨S512x2048, .bf16⟩
  | .local _ .vmem, ⟨32, _⟩ => ⟨S512x2048, .bf16⟩
  | .local _ .vmem, ⟨33, _⟩ => ⟨S2048x2048, .bf16⟩
  | .local _ .vmem, ⟨34, _⟩ => ⟨S512x2048, .f32⟩
  | .local _ .vmem, ⟨35, _⟩ => ⟨S512x2048, .f32⟩
  | .local _ .vmem, ⟨36, _⟩ => ⟨S512x2048, .f32⟩
  | .local _ .vmem, ⟨37, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_v0 : Ref sig .tc := ⟨.hbm, 69, rfl⟩
abbrev main_call0_v1 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call1_v0 : Ref sig .tc := ⟨.hbm, 75, rfl⟩
abbrev main_call1_v1 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_cst_17 : Ref sig .tc := ⟨.hbm, 122, rfl⟩
abbrev main_v94 : Ref sig .tc := ⟨.hbm, 123, rfl⟩
abbrev main_v95 : Ref sig .tc := ⟨.hbm, 124, rfl⟩
abbrev main_cst_18 : Ref sig .tc := ⟨.hbm, 125, rfl⟩
abbrev main_v96 : Ref sig .tc := ⟨.hbm, 126, rfl⟩
abbrev main_v97 : Ref sig .tc := ⟨.hbm, 127, rfl⟩
abbrev main_cst_19 : Ref sig .tc := ⟨.hbm, 128, rfl⟩
abbrev main_v98 : Ref sig .tc := ⟨.hbm, 129, rfl⟩
abbrev main_v99 : Ref sig .tc := ⟨.hbm, 130, rfl⟩
abbrev main_cst_20 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_21 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_call2_v0 : Ref sig .tc := ⟨.hbm, 151, rfl⟩
abbrev main_call2_v1 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_call3_v0 : Ref sig .tc := ⟨.hbm, 157, rfl⟩
abbrev main_call3_v1 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_22 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133_0 : Ref sig .tc := ⟨.hbm, 171, rfl⟩
abbrev main_v133_1 : Ref sig .tc := ⟨.hbm, 172, rfl⟩
abbrev main_v133_2 : Ref sig .tc := ⟨.hbm, 173, rfl⟩
abbrev main_v133_3 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c4_i32_5 : BitVec 32 := 4#32
  let v9 : BitVec 1 := Scalar.cmpi .sge arg1 c4_i32_5
  let c5_i32 : BitVec 32 := 5#32
  let v10 : BitVec 1 := Scalar.cmpi .slt arg1 c5_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c5_i32_7 : BitVec 32 := 5#32
  let v14 : BitVec 1 := Scalar.cmpi .sge arg1 c5_i32_7
  let c6_i32 : BitVec 32 := 6#32
  let v15 : BitVec 1 := Scalar.cmpi .slt arg1 c6_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond5 (i : grid0.Coords) : BitVec 1 :=
  let arg1 : BitVec 32 := BitVec.ofNat 32 (i 1).val
  let c6_i32_9 : BitVec 32 := 6#32
  let v19 : BitVec 1 := Scalar.cmpi .sge arg1 c6_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![8, 4, 16], ![false, false, false]⟩

@[reducible] def k1_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k1_mult1 (k1_t1 : Fin k1_t1_loop.trips) : BitVec 32 :=
  let c0_i32 : BitVec 32 := 0#32
  let c1_i32 : BitVec 32 := 1#32
  let arg10 : BitVec 32 := Scf.iv c0_i32 c1_i32 k1_t1
  let c512_i32 : BitVec 32 := 512#32
  let v32 : BitVec 32 := Scalar.muli arg10 c512_i32
  v32
def k1_off1 (k1_t1 : Fin k1_t1_loop.trips) : Fin 3 → Nat :=
  let c0_18 : Index := 0#32
  let c0_i32 : BitVec 32 := 0#32
  let c1_i32 : BitVec 32 := 1#32
  let arg10 : BitVec 32 := Scf.iv c0_i32 c1_i32 k1_t1
  let c512_i32 : BitVec 32 := 512#32
  let v32 : BitVec 32 := Scalar.muli arg10 c512_i32
  let v33 : BitVec 32 := v32
  let v34 : Index := Scalar.indexCast v33
  let c0_19 : Index := 0#32
  ![0, v34.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== LayerARefIdeal.lean ====
abbrev S32768x2048 : Shape := ⟨2, ![32768, 2048]⟩
abbrev S2048 : Shape := ⟨1, ![2048]⟩
abbrev S2048x5120 : Shape := ⟨2, ![2048, 5120]⟩
abbrev S128 : Shape := ⟨1, ![128]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5120 : Shape := ⟨2, ![32768, 5120]⟩
abbrev S8x4096x5120 : Shape := ⟨3, ![8, 4096, 5120]⟩
abbrev S8x4096x2048 : Shape := ⟨3, ![8, 4096, 2048]⟩
abbrev S8x4096x512 : Shape := ⟨3, ![8, 4096, 512]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8x4096x16x64 : Shape := ⟨4, ![8, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x16x32 : Shape := ⟨4, ![8, 4096, 16, 32]⟩
abbrev S8x4096x4x64 : Shape := ⟨4, ![8, 4096, 4, 64]⟩
abbrev S8x4096x4x32 : Shape := ⟨4, ![8, 4096, 4, 32]⟩
abbrev S32768x512 : Shape := ⟨2, ![32768, 512]⟩
abbrev S8x4096x4x4x128 : Shape := ⟨5, ![8, 4096, 4, 4, 128]⟩
abbrev S8x4x4096x4096x4 : Shape := ⟨5, ![8, 4, 4096, 4096, 4]⟩
abbrev S8x4x4x4096x4096 : Shape := ⟨5, ![8, 4, 4, 4096, 4096]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩

abbrev nBuf : Space → Nat
  | .hbm => 284
  | .vmem => 0
  | .smem => 0
  | _ => 0

abbrev hbmTy0_0 (i : Nat) : BufTy := match i % 128 with
  | 0 => ⟨S32768x2048, .f32⟩
  | 1 => ⟨S2048, .f32⟩
  | 2 => ⟨S2048x5120, .bf16⟩
  | 3 => ⟨S128, .f32⟩
  | 4 => ⟨S128, .f32⟩
  | 5 => ⟨S2048x2048, .bf16⟩
  | 6 => ⟨S32768x2048, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x2048, .f32⟩
  | 18 => ⟨S32768x2048, .f32⟩
  | 19 => ⟨S1x2048, .f32⟩
  | 20 => ⟨S32768x2048, .f32⟩
  | 21 => ⟨S32768x2048, .f32⟩
  | 22 => ⟨S2048x5120, .f32⟩
  | 23 => ⟨S32768x5120, .f32⟩
  | 24 => ⟨S8x4096x5120, .f32⟩
  | 25 => ⟨S8x4096x2048, .f32⟩
  | 26 => ⟨S8x4096x512, .f32⟩
  | 27 => ⟨S8x4096x512, .f32⟩
  | 28 => ⟨S8x4096x2048, .f32⟩
  | 29 => ⟨S8x4096x16x128, .f32⟩
  | 30 => ⟨S8x4096x16x128, .f32⟩
  | 31 => ⟨S_, .f32⟩
  | 32 => ⟨S8x4096x16, .f32⟩
  | 33 => ⟨S8x4096x16x1, .f32⟩
  | 34 => ⟨S_, .f32⟩
  | 35 => ⟨S8x4096x16x1, .f32⟩
  | 36 => ⟨S8x4096x16x1, .f32⟩
  | 37 => ⟨S_, .f32⟩
  | 38 => ⟨S8x4096x16x1, .f32⟩
  | 39 => ⟨S8x4096x16x1, .f32⟩
  | 40 => ⟨S8x4096x16x1, .f32⟩
  | 41 => ⟨S8x4096x16x128, .f32⟩
  | 42 => ⟨S8x4096x16x128, .f32⟩
  | 43 => ⟨S1x1x1x128, .f32⟩
  | 44 => ⟨S8x4096x16x128, .f32⟩
  | 45 => ⟨S8x4096x16x128, .f32⟩
  | 46 => ⟨S8x4096x4x128, .f32⟩
  | 47 => ⟨S8x4096x4x128, .f32⟩
  | 48 => ⟨S_, .f32⟩
  | 49 => ⟨S8x4096x4, .f32⟩
  | 50 => ⟨S8x4096x4x1, .f32⟩
  | 51 => ⟨S_, .f32⟩
  | 52 => ⟨S8x4096x4x1, .f32⟩
  | 53 => ⟨S8x4096x4x1, .f32⟩
  | 54 => ⟨S_, .f32⟩
  | 55 => ⟨S8x4096x4x1, .f32⟩
  | 56 => ⟨S8x4096x4x1, .f32⟩
  | 57 => ⟨S8x4096x4x1, .f32⟩
  | 58 => ⟨S8x4096x4x128, .f32⟩
  | 59 => ⟨S8x4096x4x128, .f32⟩
  | 60 => ⟨S1x1x1x128, .f32⟩
  | 61 => ⟨S8x4096x4x128, .f32⟩
  | 62 => ⟨S8x4096x4x128, .f32⟩
  | 63 => ⟨S64, .f32⟩
  | 64 => ⟨S64x64, .f32⟩
  | 65 => ⟨S4096, .f32⟩
  | 66 => ⟨S64, .f32⟩
  | 67 => ⟨S1x64, .f32⟩
  | 68 => ⟨S64x64, .f32⟩
  | 69 => ⟨S4096, .f32⟩
  | 70 => ⟨S8x4096x16x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S4096x1, .f32⟩
  | 88 => ⟨S1x32, .f32⟩
  | 89 => ⟨S4096x32, .f32⟩
  | 90 => ⟨S4096x32, .f32⟩
  | 91 => ⟨S4096x32, .f32⟩
  | 92 => ⟨S4096x32, .f32⟩
  | 93 => ⟨S1x4096x1x32, .f32⟩
  | 94 => ⟨S4096x32, .f32⟩
  | 95 => ⟨S1x4096x1x32, .f32⟩
  | 96 => ⟨S8x4096x16x32, .f32⟩
  | 97 => ⟨S8x4096x16x32, .f32⟩
  | 98 => ⟨S8x4096x16x32, .f32⟩
  | 99 => ⟨S8x4096x16x32, .f32⟩
  | 100 => ⟨S8x4096x16x32, .f32⟩
  | 101 => ⟨S8x4096x16x32, .f32⟩
  | 102 => ⟨S8x4096x16x32, .f32⟩
  | 103 => ⟨S8x4096x16x32, .f32⟩
  | 104 => ⟨S8x4096x16x32, .f32⟩
  | 105 => ⟨S8x4096x16x32, .f32⟩
  | 106 => ⟨S8x4096x16x32, .f32⟩
  | 107 => ⟨S8x4096x16x32, .f32⟩
  | 108 => ⟨S8x4096x16x64, .f32⟩
  | 109 => ⟨S8x4096x16x64, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S4096x1, .f32⟩
  | 127 => ⟨S1x32, .f32⟩
  | _ => ⟨S32768x2048, .f32⟩

abbrev hbmTy0_1 (i : Nat) : BufTy := match i % 128 with
  | 0 => ⟨S4096x32, .f32⟩
  | 1 => ⟨S4096x32, .f32⟩
  | 2 => ⟨S4096x32, .f32⟩
  | 3 => ⟨S4096x32, .f32⟩
  | 4 => ⟨S1x4096x1x32, .f32⟩
  | 5 => ⟨S4096x32, .f32⟩
  | 6 => ⟨S1x4096x1x32, .f32⟩
  | 7 => ⟨S8x4096x16x32, .f32⟩
  | 8 => ⟨S8x4096x16x32, .f32⟩
  | 9 => ⟨S8x4096x16x32, .f32⟩
  | 10 => ⟨S8x4096x16x32, .f32⟩
  | 11 => ⟨S8x4096x16x32, .f32⟩
  | 12 => ⟨S8x4096x16x32, .f32⟩
  | 13 => ⟨S8x4096x16x32, .f32⟩
  | 14 => ⟨S8x4096x16x32, .f32⟩
  | 15 => ⟨S8x4096x16x32, .f32⟩
  | 16 => ⟨S8x4096x16x32, .f32⟩
  | 17 => ⟨S8x4096x16x32, .f32⟩
  | 18 => ⟨S8x4096x16x32, .f32⟩
  | 19 => ⟨S8x4096x16x64, .f32⟩
  | 20 => ⟨S8x4096x16x128, .f32⟩
  | 21 => ⟨S_, .f32⟩
  | 22 => ⟨S8x4096x16x128, .f32⟩
  | 23 => ⟨S8x4096x16x128, .f32⟩
  | 24 => ⟨S8x4096x4x64, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S4096x1, .f32⟩
  | 42 => ⟨S1x32, .f32⟩
  | 43 => ⟨S4096x32, .f32⟩
  | 44 => ⟨S4096x32, .f32⟩
  | 45 => ⟨S4096x32, .f32⟩
  | 46 => ⟨S4096x32, .f32⟩
  | 47 => ⟨S1x4096x1x32, .f32⟩
  | 48 => ⟨S4096x32, .f32⟩
  | 49 => ⟨S1x4096x1x32, .f32⟩
  | 50 => ⟨S8x4096x4x32, .f32⟩
  | 51 => ⟨S8x4096x4x32, .f32⟩
  | 52 => ⟨S8x4096x4x32, .f32⟩
  | 53 => ⟨S8x4096x4x32, .f32⟩
  | 54 => ⟨S8x4096x4x32, .f32⟩
  | 55 => ⟨S8x4096x4x32, .f32⟩
  | 56 => ⟨S8x4096x4x32, .f32⟩
  | 57 => ⟨S8x4096x4x32, .f32⟩
  | 58 => ⟨S8x4096x4x32, .f32⟩
  | 59 => ⟨S8x4096x4x32, .f32⟩
  | 60 => ⟨S8x4096x4x32, .f32⟩
  | 61 => ⟨S8x4096x4x32, .f32⟩
  | 62 => ⟨S8x4096x4x64, .f32⟩
  | 63 => ⟨S8x4096x4x64, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4096x1, .f32⟩
  | 81 => ⟨S1x32, .f32⟩
  | 82 => ⟨S4096x32, .f32⟩
  | 83 => ⟨S4096x32, .f32⟩
  | 84 => ⟨S4096x32, .f32⟩
  | 85 => ⟨S4096x32, .f32⟩
  | 86 => ⟨S1x4096x1x32, .f32⟩
  | 87 => ⟨S4096x32, .f32⟩
  | 88 => ⟨S1x4096x1x32, .f32⟩
  | 89 => ⟨S8x4096x4x32, .f32⟩
  | 90 => ⟨S8x4096x4x32, .f32⟩
  | 91 => ⟨S8x4096x4x32, .f32⟩
  | 92 => ⟨S8x4096x4x32, .f32⟩
  | 93 => ⟨S8x4096x4x32, .f32⟩
  | 94 => ⟨S8x4096x4x32, .f32⟩
  | 95 => ⟨S8x4096x4x32, .f32⟩
  | 96 => ⟨S8x4096x4x32, .f32⟩
  | 97 => ⟨S8x4096x4x32, .f32⟩
  | 98 => ⟨S8x4096x4x32, .f32⟩
  | 99 => ⟨S8x4096x4x32, .f32⟩
  | 100 => ⟨S8x4096x4x32, .f32⟩
  | 101 => ⟨S8x4096x4x64, .f32⟩
  | 102 => ⟨S8x4096x4x128, .f32⟩
  | 103 => ⟨S32768x2048, .f32⟩
  | 104 => ⟨S32768x2048, .bf16⟩
  | 105 => ⟨S32768x512, .f32⟩
  | 106 => ⟨S32768x512, .bf16⟩
  | 107 => ⟨S32768x512, .f32⟩
  | 108 => ⟨S32768x512, .bf16⟩
  | 109 => ⟨S32768x2048, .f32⟩
  | 110 => ⟨S32768x2048, .bf16⟩
  | 111 => ⟨S8x4096x2048, .bf16⟩
  | 112 => ⟨S8x4096x512, .bf16⟩
  | 113 => ⟨S8x4096x512, .bf16⟩
  | 114 => ⟨S8x4096x2048, .f32⟩
  | 115 => ⟨S8x4096x4x4x128, .f32⟩
  | 116 => ⟨S8x4096x512, .f32⟩
  | 117 => ⟨S8x4096x4x128, .f32⟩
  | 118 => ⟨S8x4096x512, .f32⟩
  | 119 => ⟨S8x4096x4x128, .f32⟩
  | 120 => ⟨S8x4x4096x4096x4, .f32⟩
  | 121 => ⟨S8x4x4x4096x4096, .f32⟩
  | 122 => ⟨S_, .f32⟩
  | 123 => ⟨S8x4x4x4096, .f32⟩
  | 124 => ⟨S_, .f32⟩
  | 125 => ⟨S8x4x4x4096, .f32⟩
  | 126 => ⟨S8x4x4x4096, .f32⟩
  | 127 => ⟨S8x4x4x4096x1, .f32⟩
  | _ => ⟨S32768x2048, .f32⟩

abbrev hbmTy0_2 (i : Nat) : BufTy := match i % 128 with
  | 0 => ⟨S8x4x4x4096x4096, .f32⟩
  | 1 => ⟨S8x4x4x4096x4096, .f32⟩
  | 2 => ⟨S8x4x4x4096x4096, .f32⟩
  | 3 => ⟨S_, .f32⟩
  | 4 => ⟨S8x4x4x4096, .f32⟩
  | 5 => ⟨S8x4x4x4096x1, .f32⟩
  | 6 => ⟨S8x4x4x4096x4096, .f32⟩
  | 7 => ⟨S8x4x4x4096x4096, .f32⟩
  | 8 => ⟨S8x4x128x4x4096, .f32⟩
  | 9 => ⟨S8x4096x4x4x128, .f32⟩
  | 10 => ⟨S8x4096x2048, .f32⟩
  | 11 => ⟨S8x4096x2048, .bf16⟩
  | 12 => ⟨S32768x2048, .bf16⟩
  | 13 => ⟨S32768x2048, .f32⟩
  | 14 => ⟨S32768x2048, .f32⟩
  | 15 => ⟨S2048x2048, .f32⟩
  | 16 => ⟨S32768x2048, .f32⟩
  | 17 => ⟨S32768x2048, .f32⟩
  | 18 => ⟨S_, .f32⟩
  | 19 => ⟨S32768x2048, .f32⟩
  | 20 => ⟨S32768x2048, .f32⟩
  | 21 => ⟨S_, .f32⟩
  | 22 => ⟨S32768x2048, .f32⟩
  | 23 => ⟨S32768x2048, .f32⟩
  | 24 => ⟨S32768x2048, .f32⟩
  | 25 => ⟨S32768x2048, .f32⟩
  | 26 => ⟨S32768x2048, .f32⟩
  | 27 => ⟨S32768x2048, .f32⟩
  | _ => ⟨S32768x2048, .f32⟩

abbrev hbmTy (i : Nat) : BufTy := match i / 128 with
  | 0 => hbmTy0_0 i
  | 1 => hbmTy0_1 i
  | 2 => hbmTy0_2 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_13 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_18 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_19 : Ref sig .tc := ⟨.hbm, 154, rfl⟩
abbrev main_v128 : Ref sig .tc := ⟨.hbm, 155, rfl⟩
abbrev main_v129 : Ref sig .tc := ⟨.hbm, 156, rfl⟩
abbrev main_cst_20 : Ref sig .tc := ⟨.hbm, 157, rfl⟩
abbrev main_v130 : Ref sig .tc := ⟨.hbm, 158, rfl⟩
abbrev main_v131 : Ref sig .tc := ⟨.hbm, 159, rfl⟩
abbrev main_cst_21 : Ref sig .tc := ⟨.hbm, 160, rfl⟩
abbrev main_v132 : Ref sig .tc := ⟨.hbm, 161, rfl⟩
abbrev main_v133 : Ref sig .tc := ⟨.hbm, 162, rfl⟩
abbrev main_cst_22 : Ref sig .tc := ⟨.hbm, 163, rfl⟩
abbrev main_v134 : Ref sig .tc := ⟨.hbm, 164, rfl⟩
abbrev main_v135 : Ref sig .tc := ⟨.hbm, 165, rfl⟩
abbrev main_cst_23 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_24 : Ref sig .tc := ⟨.hbm, 193, rfl⟩
abbrev main_v162 : Ref sig .tc := ⟨.hbm, 194, rfl⟩
abbrev main_v163 : Ref sig .tc := ⟨.hbm, 195, rfl⟩
abbrev main_cst_25 : Ref sig .tc := ⟨.hbm, 196, rfl⟩
abbrev main_v164 : Ref sig .tc := ⟨.hbm, 197, rfl⟩
abbrev main_v165 : Ref sig .tc := ⟨.hbm, 198, rfl⟩
abbrev main_cst_26 : Ref sig .tc := ⟨.hbm, 199, rfl⟩
abbrev main_v166 : Ref sig .tc := ⟨.hbm, 200, rfl⟩
abbrev main_v167 : Ref sig .tc := ⟨.hbm, 201, rfl⟩
abbrev main_cst_27 : Ref sig .tc := ⟨.hbm, 202, rfl⟩
abbrev main_v168 : Ref sig .tc := ⟨.hbm, 203, rfl⟩
abbrev main_v169 : Ref sig .tc := ⟨.hbm, 204, rfl⟩
abbrev main_cst_28 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_cst_29 : Ref sig .tc := ⟨.hbm, 250, rfl⟩
abbrev main_v214 : Ref sig .tc := ⟨.hbm, 251, rfl⟩
abbrev main_cst_30 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_cst_31 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩

abbrev nD : Nat := 1
abbrev τ : Topo := Topo.v7x

variable {F : FTy → Type} [FloatOps F]
-- ==== Proof.AttnALoop.lean ====
/-
  The loop of the grouped-query attention kernel, at one grid point: what the three running buffers (row maximum, row sum, weighted sum of values)
  hold before each trip, as a recursion over the chunks of keys and values, and the output block as a function of the point's three input blocks.
-/
module

public import proofs.«01_k».proof.Proof.Gen.AttnAIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnAIdeal.Block

open Cert.AttnAIdeal Cert.AttnAIdeal.Gen Idealize.ShloMosaic Idealize.ShloMosaic.TcCoe Idealize.SL.Sem

variable {F : FTy → Type} [FloatOps F]

/-- Rows `512 k … 512 k + 511` of a block of keys or values. -/
def chunk (X : Vec F S1x4096x128 .bf16) (k : Fin k0_t1_loop.trips) : Vec F S1x512x128 .bf16 :=
  View.ld X (Rect.unit (s := S1x4096x128) (k0_off1 k) S1x512x128.size (k0_off1_inb k))

/-- The running maximum, sum and weighted sum before trip `k`. -/
def running (q : Vec F S1x256x512 .bf16) (K V : Vec F S1x4096x128 .bf16) : ℕ → Vec F S1024x128 .f32 × Vec F S1024x128 .f32 × Vec F S1024x128 .f32
  | 0 => (k0_pay9, k0_pay10, k0_pay11)
  | k + 1 =>
    if h : k < k0_t1_loop.trips then
      let s := running q K V k
      (k0_pay12 (k0_pay3 (k0_pay8 q) (chunk K ⟨k, h⟩) s.1), k0_pay6 (k0_pay8 q) (chunk K ⟨k, h⟩) s.1 s.2.1,
        k0_pay7 (k0_pay8 q) (chunk K ⟨k, h⟩) (chunk V ⟨k, h⟩) s.1 s.2.2)
    else running q K V k

theorem zero2 : (![0, 0] : Fin 2 → ℕ) = fun _ => 0 := by funext a; fin_cases a <;> rfl

/-- A whole-buffer store leaves its payload. -/
theorem read_store {sp : Space} (a : Memref sig .tc sp S1024x128 .f32) (f : BufTy.Contents (Elt F) a.view.ty)
    (w : Vec F S1024x128 .f32) (L : List (View.Piece (Elt F) S1024x128 .f32)) :
    View.read (Elt F) a.view (a.view.writes (Elt F) f
      (⟨Rect.unit (s := S1024x128) ![0, 0] S1024x128.size inb_S1024x128_S1024x128_0_0, w⟩ :: L)) = w := by
  funext y
  have e := View.read_writes_cons_emb a.view f (Rect.unit (s := S1024x128) ![0, 0] S1024x128.size inb_S1024x128_S1024x128_0_0) w L y
  have h : (Rect.unit (s := S1024x128) ![0, 0] S1024x128.size inb_S1024x128_S1024x128_0_0).emb y = y := by
    funext a; fin_cases a <;> exact Fin.ext (by simp)
  rw [h] at e; exact e

variable (c : Dev nD) (i : grid0.Coords) (arg3 : Memref sig .tc .vmem S1x256x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x512 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (x0 : Vec F S1x256x512 .bf16) (x1 x2 : Vec F S1x4096x128 .bf16)

/-- The stores of one trip, one to each running buffer, of what the trip computes from the chunk and the buffers as it finds them. -/
theorem trip_lists (v0 : Vec F S1x256x512 .bf16) (X4 : BufTy.Contents (Elt F) arg4.view.ty) (X5 : BufTy.Contents (Elt F) arg5.view.ty) (k : Fin k0_t1_loop.trips)
    (f7 : BufTy.Contents (Elt F) arg7.view.ty) (f8 : BufTy.Contents (Elt F) arg8.view.ty) (f9 : BufTy.Contents (Elt F) arg9.view.ty) :
    tripL_k0_t1 (F := F) Variants.none c none i arg3 harg3 arg4 harg4 arg5 harg5 arg6 harg6 arg7 harg7 arg8 harg8 arg9 harg9 v0 X4 X5 k f7 f8 f9
      = ([⟨Rect.unit (s := S1024x128) ![0, 0] S1024x128.size inb_S1024x128_S1024x128_0_0,
            k0_pay12 (k0_pay3 (k0_pay8 v0) (chunk (View.read (Elt F) arg4.view X4) k) (View.read (Elt F) arg7.view f7))⟩],
         [⟨Rect.unit (s := S1024x128) ![0, 0] S1024x128.size inb_S1024x128_S1024x128_0_0,
            k0_pay6 (k0_pay8 v0) (chunk (View.read (Elt F) arg4.view X4) k) (View.read (Elt F) arg7.view f7) (View.read (Elt F) arg8.view f8)⟩],
         [⟨Rect.unit (s := S1024x128) ![0, 0] S1024x128.size inb_S1024x128_S1024x128_0_0,
            k0_pay7 (k0_pay8 v0) (chunk (View.read (Elt F) arg4.view X4) k) (chunk (View.read (Elt F) arg5.view X5) k)
              (View.read (Elt F) arg7.view f7) (View.read (Elt F) arg9.view f9)⟩]) := by
  rw [← View.ld_unit_zero zero2 inb_S1024x128_S1024x128_0_0 (View.read (Elt F) arg7.view f7),
    ← View.ld_unit_zero zero2 inb_S1024x128_S1024x128_0_0 (View.read (Elt F) arg8.view f8),
    ← View.ld_unit_zero zero2 inb_S1024x128_S1024x128_0_0 (View.read (Elt F) arg9.view f9)]
  unfold tripL_k0_t1 trip_k0_t1
  rfl

/-- Before trip `k` the three buffers read the recursion's `k`-th state. -/
theorem read_trips (G7 : BufTy.Contents (Elt F) arg7.view.ty) (G8 : BufTy.Contents (Elt F) arg8.view.ty) (G9 : BufTy.Contents (Elt F) arg9.view.ty)
    (h7 : View.read (Elt F) arg7.view G7 = k0_pay9) (h8 : View.read (Elt F) arg8.view G8 = k0_pay10) (h9 : View.read (Elt F) arg9.view G9 = k0_pay11)
    (k : ℕ) (hk : k ≤ k0_t1_loop.trips) :
    let p := pb_k0_t1 (F := F) Variants.none c none i arg3 harg3 arg4 harg4 arg5 harg5 arg6 harg6 arg7 harg7 arg8 harg8 arg9 harg9 x0 (harg4.unread x1) (harg5.unread x2) G7 G8 G9 k
    View.read (Elt F) arg7.view (arg7.view.writes (Elt F) G7 p.1) = (running x0 x1 x2 k).1
      ∧ View.read (Elt F) arg8.view (arg8.view.writes (Elt F) G8 p.2.1) = (running x0 x1 x2 k).2.1
      ∧ View.read (Elt F) arg9.view (arg9.view.writes (Elt F) G9 p.2.2) = (running x0 x1 x2 k).2.2 := by
  induction k with
  | zero => exact ⟨h7, h8, h9⟩
  | succ k ih =>
    obtain ⟨e7, e8, e9⟩ := ih (Nat.le_of_succ_le hk)
    have hs := pb_k0_t1_succ (F := F) Variants.none c none i arg3 harg3 arg4 harg4 arg5 harg5 arg6 harg6 arg7 harg7 arg8 harg8 arg9 harg9 x0 (harg4.unread x1) (harg5.unread x2) G7 G8 G9 ⟨k, hk⟩
    rw [trip_lists, e7, e8, e9, harg4.read_unread, harg5.read_unread] at hs
    dsimp only at hs ⊢
    rw [hs, running, dif_pos (show k < k0_t1_loop.trips from hk)]
    exact ⟨read_store _ _ _ _, read_store _ _ _ _, read_store _ _ _ _⟩

/-- THE OUTPUT BLOCK of a grid point: the quotient of the last weighted sum by the last sum, the heads side by side. -/
theorem out_eq : out0_A_3 c i arg3 harg3 arg4 harg4 arg5 harg5 arg6 harg6 arg7 harg7 arg8 harg8 arg9 harg9 x0 x1 x2
    = k0_pay1 (k0_pay13 (running x0 x1 x2 8).2.2 (running x0 x1 x2 8).2.1) := by
  frame_out
  have h := read_trips c i arg3 harg3 arg4 harg4 arg5 harg5 arg6 harg6 arg7 harg7 arg8 harg8 arg9 harg9 x0 x1 x2 _ _ _
    (read_store arg7 arg7.view.junk k0_pay9 []) (read_store arg8 arg8.view.junk k0_pay10 []) (read_store arg9 arg9.view.junk k0_pay11 []) 8 (by decide)
  dsimp only at h
  rw [← h.2.1, ← h.2.2]
  unfold View.readCov
  simp only [View.writes_append, View.readAt_eq_ld]
  rw [View.ld_unit_zero zero2, View.ld_unit_zero zero2]
  rfl

end Cert.AttnAIdeal.Block
-- ==== Proof.Softmax.lean ====
/-
  SOFTMAX TAKEN CHUNK BY CHUNK, over the extended reals. A row of real scores is visited in chunks; a running maximum, a running sum of exponentials
  and a running weighted sum of values are kept, the last two rescaled whenever the maximum grows. After the last chunk the quotient of the two sums is
  the softmax-weighted sum of the values of the whole row.
-/
module

public import Idealize.ShloMosaic.PureOps.Ideal
public import Mathlib.Algebra.BigOperators.Fin

@[expose] public section

noncomputable section

namespace Cert.Softmax

open Idealize.ShloMosaic
open scoped BigOperators

/-- A finite extended real that is not negative distributes over a sum, from the left. -/
theorem mul_sum {ι : Type*} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals is one of them, and bounds them all. -/
theorem exists_max {ι : Type*} [Fintype ι] [Nonempty ι] (x : ι → ℝ) :
    ∃ r : ℝ, Finset.univ.fold max ⊥ (fun j => (x j : EReal)) = r ∧ (∀ j, x j ≤ r) ∧ ∃ j, x j = r := by
  obtain ⟨j₀, -, h⟩ := Finset.exists_max_image Finset.univ x ⟨Classical.arbitrary ι, Finset.mem_univ _⟩
  refine ⟨x j₀, le_antisymm ?_ ?_, fun j => h j (Finset.mem_univ j), j₀, rfl⟩
  · exact (Finset.fold_max_le _).2 ⟨bot_le, fun j hj => by exact_mod_cast h j hj⟩
  · exact (Finset.le_fold_max _).2 (.inr ⟨j₀, Finset.mem_univ _, le_rfl⟩)

/-- The exponential of a difference of reals. -/
theorem exp_sub (a b : ℝ) : Ideal.exp ((a : EReal) - (b : EReal)) = (Real.exp (a - b) : ℝ) := by
  rw [← EReal.coe_sub, Ideal.exp_coe]

variable {ι : Type*} [Fintype ι]

/-- The running maximum, sum of exponentials and weighted sum, after the first `k` chunks. -/
def run (s v : ℕ → ι → EReal) : ℕ → EReal × EReal × EReal
  | 0 => (⊥, 0, 0)
  | k + 1 =>
    let p := run s v k
    let m := max p.1 (Finset.univ.fold max ⊥ (s k))
    (m, Ideal.exp (p.1 - m) * p.2.1 + ∑ j, Ideal.exp (s k j - m), p.2.2 * Ideal.exp (p.1 - m) + ∑ j, Ideal.exp (s k j - m) * v k j)

/-- After at least one chunk of real scores the running maximum is the greatest score so far, and the two sums are taken against it. -/
theorem run_succ [Nonempty ι] (x : ℕ → ι → ℝ) (v : ℕ → ι → EReal) (k : ℕ) :
    ∃ r : ℝ, (run (fun k j => (x k j : EReal)) v (k + 1)).1 = r ∧ (∀ c < k + 1, ∀ j, x c j ≤ r) ∧ (∃ c < k + 1, ∃ j, x c j = r)
      ∧ (run (fun k j => (x k j : EReal)) v (k + 1)).2.1 = ∑ c ∈ Finset.range (k + 1), ∑ j, (Real.exp (x c j - r) : EReal)
      ∧ (run (fun k j => (x k j : EReal)) v (k + 1)).2.2 = ∑ c ∈ Finset.range (k + 1), ∑ j, (Real.exp (x c j - r) : EReal) * v c j := by
  induction k with
  | zero =>
    obtain ⟨r, hr, hle, j, hj⟩ := exists_max (x 0)
    refine ⟨r, ?_, ?_, ⟨0, by omega, j, hj⟩, ?_, ?_⟩
    · simp only [run, hr]; exact max_eq_right bot_le
    · intro c hc; obtain rfl : c = 0 := by omega
      exact hle
    · simp only [run, hr, max_eq_right bot_le, exp_sub, mul_zero, zero_add, Finset.sum_range_one]
    · simp only [run, hr, max_eq_right bot_le, exp_sub, zero_mul, zero_add, Finset.sum_range_one]
  | succ k ih =>
    obtain ⟨r, h1, hle, ⟨c₀, hc₀, j₀, hj₀⟩, h2, h3⟩ := ih
    obtain ⟨q, hq, hqle, jq, hjq⟩ := exists_max (x (k + 1))
    have hm : (run (fun k j => (x k j : EReal)) v (k + 1 + 1)).1 = ((max r q : ℝ) : EReal) := by
      rw [run]; simp only [h1, hq]; exact (EReal.coe_strictMono.monotone.map_max).symm
    have hmax : max (r : EReal) (q : EReal) = ((max r q : ℝ) : EReal) := (EReal.coe_strictMono.monotone.map_max).symm
    have he (y : ℝ) : (Real.exp (r - max r q) : EReal) * (Real.exp (y - r) : EReal) = (Real.exp (y - max r q) : EReal) := by
      rw [← EReal.coe_mul, ← Real.exp_add]; congr 2; ring
    refine ⟨max r q, hm, ?_, ?_, ?_, ?_⟩
    · intro c hc j
      rcases Nat.lt_succ_iff_lt_or_eq.1 hc with h | rfl
      · exact (hle c h j).trans (le_max_left _ _)
      · exact (hqle j).trans (le_max_right _ _)
    · rcases le_total r q with h | h
      · exact ⟨k + 1, by omega, jq, hjq.trans (max_eq_right h).symm⟩
      · exact ⟨c₀, by omega, j₀, hj₀.trans (max_eq_left h).symm⟩
    · rw [run]; simp only [h1, h2, hq, hmax, exp_sub]
      rw [Finset.sum_range_succ _ (k + 1), mul_sum _ _ (Real.exp_pos _).le]
      congr 1
      refine Finset.sum_congr rfl fun c _ => ?_
      rw [mul_sum _ _ (Real.exp_pos _).le]
      exact Finset.sum_congr rfl fun j _ => he _
    · rw [run]; simp only [h1, h3, hq, hmax, exp_sub]
      rw [Finset.sum_range_succ _ (k + 1), mul_comm, mul_sum _ _ (Real.exp_pos _).le]
      congr 1
      refine Finset.sum_congr rfl fun c _ => ?_
      rw [mul_sum _ _ (Real.exp_pos _).le]
      exact Finset.sum_congr rfl fun j _ => by rw [← mul_assoc, he]

/-- A sum over `n` chunks of `w` is the sum over the row. -/
theorem sum_chunks {n w N : ℕ} (hN : n * w = N) (f : Fin N → EReal) (g : ℕ → Fin w → EReal)
    (h : ∀ (c : Fin n) (j : Fin w) (hlt : w * c.val + j.val < N), g c j = f ⟨w * c.val + j.val, hlt⟩) :
    ∑ c ∈ Finset.range n, ∑ j, g c j = ∑ i, f i := by
  subst hN
  rw [Finset.sum_range, ← finProdFinEquiv.sum_comp, Fintype.sum_prod_type]
  refine Finset.sum_congr rfl fun c _ => Finset.sum_congr rfl fun j _ => ?_
  have hlt : w * c.val + j.val < n * w := by
    have := (finProdFinEquiv (c, j)).isLt; rw [finProdFinEquiv_apply_val] at this; dsimp only at this; omega
  rw [h c j hlt]
  congr 1
  exact Fin.ext (by rw [finProdFinEquiv_apply_val]; dsimp only; omega)

/-- The softmax weight of entry `i` of a row. -/
def weight {N : ℕ} (S : Fin N → EReal) (i : Fin N) : EReal :=
  Ideal.div (Ideal.exp (S i - Finset.univ.fold max ⊥ S)) (∑ i', Ideal.exp (S i' - Finset.univ.fold max ⊥ S))

/-- The softmax weights of a row of reals are reals. -/
theorem weight_real {N : ℕ} [NeZero N] (X : Fin N → ℝ) : ∃ p : Fin N → ℝ, (∀ i, 0 ≤ p i) ∧ ∀ i, weight (fun i => (X i : EReal)) i = p i := by
  haveI : Nonempty (Fin N) := ⟨0⟩
  obtain ⟨r, hr, -, -⟩ := exists_max X
  have hpos : 0 < ∑ i, Real.exp (X i - r) := Finset.sum_pos (fun _ _ => Real.exp_pos _) Finset.univ_nonempty
  refine ⟨fun i => Real.exp (X i - r) * (∑ i, Real.exp (X i - r))⁻¹, fun i => mul_nonneg (Real.exp_pos _).le (inv_nonneg.2 hpos.le), fun i => ?_⟩
  unfold weight
  simp only [hr, exp_sub]
  rw [← coe_sum, Ideal.div, if_neg (by exact_mod_cast hpos.ne'), ← EReal.coe_inv, ← EReal.coe_mul]

/-- THE LAW: after `n` chunks of `w` that make up the row, the quotient of the weighted sum by the sum is the softmax-weighted sum of the row's values. -/
theorem run_div {n w N : ℕ} (hn : 0 < n) [NeZero w] [NeZero N] (hN : n * w = N) (X : Fin N → ℝ) (V : Fin N → EReal) (s v : ℕ → Fin w → EReal)
    (hs : ∀ (c : ℕ) (j : Fin w), ∃ y : ℝ, s c j = y)
    (hsX : ∀ (c : Fin n) (j : Fin w) (hlt : w * c.val + j.val < N), s c j = X ⟨w * c.val + j.val, hlt⟩)
    (hvV : ∀ (c : Fin n) (j : Fin w) (hlt : w * c.val + j.val < N), v c j = V ⟨w * c.val + j.val, hlt⟩) :
    Ideal.div (run s v n).2.2 (run s v n).2.1 = ∑ i, weight (fun i => (X i : EReal)) i * V i := by
  haveI : Nonempty (Fin N) := ⟨0⟩
  haveI : Nonempty (Fin w) := ⟨0⟩
  choose x hx using hs
  obtain rfl : s = fun k j => (x k j : EReal) := funext fun k => funext fun j => hx k j
  have hxX (c : Fin n) (j : Fin w) (hlt : w * c.val + j.val < N) : x c j = X ⟨w * c.val + j.val, hlt⟩ := EReal.coe_eq_coe_iff.1 (hsX c j hlt)
  obtain ⟨k, rfl⟩ : ∃ k, n = k + 1 := ⟨n - 1, by omega⟩
  obtain ⟨r, -, hle, ⟨c₀, hc₀, j₀, hj₀⟩, h2, h3⟩ := run_succ x v k
  obtain ⟨q, hq, hqle, i₀, hi₀⟩ := exists_max X
  have hlt (c : ℕ) (hc : c < k + 1) (j : Fin w) : w * c + j.val < N := by
    have := (finProdFinEquiv ((⟨c, hc⟩ : Fin (k + 1)), j)).isLt; rw [finProdFinEquiv_apply_val] at this; dsimp only at this; omega
  obtain rfl : r = q := by
    refine le_antisymm ?_ ?_
    · rw [← hj₀, hxX ⟨c₀, hc₀⟩ j₀ (hlt c₀ hc₀ j₀)]; exact hqle _
    · rw [← hi₀]
      have hw : 0 < w := Nat.pos_of_ne_zero (NeZero.ne w)
      have hc : i₀.val / w < k + 1 := Nat.div_lt_of_lt_mul (by have := i₀.isLt; rw [mul_comm] at hN; omega)
      have e := hxX ⟨i₀.val / w, hc⟩ ⟨i₀.val % w, Nat.mod_lt _ hw⟩ (hlt _ hc ⟨_, _⟩)
      have ei : (⟨w * (i₀.val / w) + i₀.val % w, hlt _ hc ⟨i₀.val % w, Nat.mod_lt _ hw⟩⟩ : Fin N) = i₀ := Fin.ext (Nat.div_add_mod _ _)
      dsimp only at e; rw [ei] at e; rw [← e]; exact hle _ hc _
  have hpos : 0 < ∑ i, Real.exp (X i - r) := Finset.sum_pos (fun _ _ => Real.exp_pos _) Finset.univ_nonempty
  rw [h2, h3, sum_chunks hN (fun i => (Real.exp (X i - r) : EReal)) (fun c j => (Real.exp (x c j - r) : EReal)) (fun c j h => by simp only [hxX c j h]),
    sum_chunks hN (fun i => (Real.exp (X i - r) : EReal) * V i) (fun c j => (Real.exp (x c j - r) : EReal) * v c j)
      (fun c j h => by simp only [hxX c j h, hvV c j h])]
  unfold weight
  simp only [hq, exp_sub]
  rw [← coe_sum, Ideal.div, if_neg (by exact_mod_cast hpos.ne'), ← EReal.coe_inv, mul_comm, mul_sum _ _ (inv_nonneg.2 hpos.le)]
  refine Finset.sum_congr rfl fun i _ => ?_
  rw [Ideal.div, if_neg (by exact_mod_cast hpos.ne'), ← EReal.coe_inv, ← mul_assoc, mul_comm ((_ : ℝ) : EReal) ((Real.exp _ : ℝ) : EReal)]

end Cert.Softmax
-- ==== Proof.AttnARows.lean ====
/-
  The grouped-query attention kernel's running buffers, row by row, over the extended reals: each row of the stacked queries follows the chunked softmax
  of its scores, so the output block holds the softmax-weighted sums of the values.
-/
module

public import proofs.«01_k».proof.Proof.AttnALoop
public import proofs.«01_k».proof.Proof.Softmax

@[expose] public section

set_option maxRecDepth 16384

noncomputable section

namespace Cert.AttnAIdeal.Block

open Cert.AttnAIdeal Cert.AttnAIdeal.Gen Idealize.ShloMosaic Idealize.ShloMosaic.TcCoe Idealize.SL.Sem

theorem at2 {α : Type} {a b : ℕ} (X : (⟨2, ![a, b]⟩ : Shape).Idx → α) {i i' : Fin a} {j j' : Fin b} (hi : i.val = i'.val) (hj : j.val = j'.val) :
    X (ix2 i j) = X (ix2 i' j') := by rw [Fin.ext hi, Fin.ext hj]

theorem at3 {α : Type} {a b c : ℕ} (X : (⟨3, ![a, b, c]⟩ : Shape).Idx → α) {h h' : Fin a} {i i' : Fin b} {j j' : Fin c}
    (hh : h.val = h'.val) (hi : i.val = i'.val) (hj : j.val = j'.val) : X (ix3 h i j) = X (ix3 h' i' j') := by rw [Fin.ext hh, Fin.ext hi, Fin.ext hj]

/-- Row `r` of the stacked queries is head `r / 256` of token `r % 256`. -/
theorem stacked (q : Vec Ideal S1x256x512 .bf16) (r : Fin 1024) (d : Fin 128) :
    k0_pay8 q (ix2 r d) = q (ix3 0 ⟨r.val % 256, by omega⟩ ⟨128 * (r.val / 256) + d.val, by omega⟩) := by
  pointwise [k0_pay8]
  have := r.isLt
  split_ifs <;> exact at3 q rfl (by dsimp only; omega) (by dsimp only; omega)

theorem scores (Q : FVec Ideal S1024x128 .bf16) (K : Vec Ideal S1x512x128 .bf16) (r : Fin 1024) (j : Fin 512) :
    k0_pay2 Q K (ix2 r j) = ∑ x : Fin 128, Q (ix2 r x) * K (ix3 0 j x) := by
  pointwise [k0_pay2]

theorem neg_inf : Ideal.ofBits FTy.f32 0xFF800000#32 = (⊥ : EReal) := by
  simp [Ideal.ofBits, Ideal.ieee]

theorem newMax (Q : FVec Ideal S1024x128 .bf16) (K : Vec Ideal S1x512x128 .bf16) (M : Vec Ideal S1024x128 .f32) (r : Fin 1024) (d : Fin 128) :
    k0_pay3 Q K M (ix2 r d) = max (M (ix2 r d)) (Finset.univ.fold max ⊥ fun x : Fin 512 => k0_pay2 Q K (ix2 r x)) := by
  pointwise [k0_pay3]
  rw [neg_inf]

/-- The exponentials of a chunk; the running maximum is one number per row, here `μ`. -/
theorem exps (Q : FVec Ideal S1024x128 .bf16) (K : Vec Ideal S1x512x128 .bf16) (M : Vec Ideal S1024x128 .f32) (r : Fin 1024) (j : Fin 512) (μ : EReal)
    (hμ : ∀ d : Fin 128, k0_pay3 Q K M (ix2 r d) = μ) : k0_pay5 Q K M (ix2 r j) = Ideal.exp (k0_pay2 Q K (ix2 r j) - μ) := by
  pointwise [k0_pay5]
  simp only [hμ, dite_eq_ite, ite_self]

theorem newSum (Q : FVec Ideal S1024x128 .bf16) (K : Vec Ideal S1x512x128 .bf16) (M L : Vec Ideal S1024x128 .f32) (r : Fin 1024) (d : Fin 128) :
    k0_pay6 Q K M L (ix2 r d) = Ideal.exp (M (ix2 r d) - k0_pay3 Q K M (ix2 r d)) * L (ix2 r d) + ∑ x : Fin 512, k0_pay5 Q K M (ix2 r x) := by
  pointwise [k0_pay6, k0_pay4]

theorem newAcc (Q : FVec Ideal S1024x128 .bf16) (K V : Vec Ideal S1x512x128 .bf16) (M A : Vec Ideal S1024x128 .f32) (r : Fin 1024) (d : Fin 128) :
    k0_pay7 Q K V M A (ix2 r d)
      = A (ix2 r d) * Ideal.exp (M (ix2 r d) - k0_pay3 Q K M (ix2 r d)) + ∑ x : Fin 512, k0_pay5 Q K M (ix2 r x) * V (ix3 0 x d) := by
  pointwise [k0_pay7, k0_pay4]

theorem stored (M : FVec Ideal S1024x128 .f32) (r : Fin 1024) (d : Fin 128) : k0_pay12 M (ix2 r d) = M (ix2 r d) := by
  pointwise [k0_pay12]

theorem initial (r : Fin 1024) (d : Fin 128) :
    k0_pay9 (F := Ideal) (ix2 r d) = (⊥ : EReal) ∧ k0_pay10 (F := Ideal) (ix2 r d) = (0 : EReal) ∧ k0_pay11 (F := Ideal) (ix2 r d) = (0 : EReal) := by
  refine ⟨?_, ?_, ?_⟩
  · pointwise [k0_pay9]; exact neg_inf
  · pointwise [k0_pay10]
  · pointwise [k0_pay11]

/-- The output block's columns are the heads' quotients, head by head. -/
theorem quotient (A L : Vec Ideal S1024x128 .f32) (t : Fin 256) (e : Fin 512) :
    k0_pay1 (k0_pay13 A L) (ix3 0 t e)
      = Ideal.div (A (ix2 ⟨256 * (e.val / 128) + t.val, by omega⟩ ⟨e.val % 128, by omega⟩))
          (L (ix2 ⟨256 * (e.val / 128) + t.val, by omega⟩ ⟨e.val % 128, by omega⟩)) := by
  pointwise [k0_pay13, k0_pay1]
  have := e.isLt
  split_ifs <;> exact congrArg₂ Ideal.div (at2 A (by dsimp only; omega) (by dsimp only; omega)) (at2 L (by dsimp only; omega) (by dsimp only; omega))

theorem chunk_apply (X : Vec Ideal S1x4096x128 .bf16) (k : Fin k0_t1_loop.trips) (j : Fin 512) (d : Fin 128) (h : 512 * k.val + j.val < 4096) :
    chunk X k (ix3 0 j d) = X (ix3 0 ⟨512 * k.val + j.val, h⟩ d) := by
  pointwise [chunk]
  have e := k0_off1_eq k
  exact at3 X (congrFun e 0) (congrArg (· + j.val) (congrFun e 1)) ((congrArg (· + d.val) (congrFun e 2)).trans (Nat.zero_add _))

/-- The score of stacked row `r` against key `i`. -/
def score (q : Vec Ideal S1x256x512 .bf16) (K : Vec Ideal S1x4096x128 .bf16) (r : Fin 1024) (i : Fin 4096) : EReal :=
  ∑ x : Fin 128, q (ix3 0 ⟨r.val % 256, by omega⟩ ⟨128 * (r.val / 256) + x.val, by omega⟩) * K (ix3 0 i x)

/-- A row cut into chunks of 512, zero past its end. -/
def cut (S : Fin 4096 → EReal) (k : ℕ) (j : Fin 512) : EReal := if h : 512 * k + j.val < 4096 then S ⟨512 * k + j.val, h⟩ else 0

theorem running_rows (q : Vec Ideal S1x256x512 .bf16) (K V : Vec Ideal S1x4096x128 .bf16) (r : Fin 1024) (k : ℕ) (hk : k ≤ 8) (d : Fin 128) :
    (running q K V k).1 (ix2 r d) = (Softmax.run (cut (score q K r)) (cut fun i => V (ix3 0 i d)) k).1
      ∧ (running q K V k).2.1 (ix2 r d) = (Softmax.run (cut (score q K r)) (cut fun i => V (ix3 0 i d)) k).2.1
      ∧ (running q K V k).2.2 (ix2 r d) = (Softmax.run (cut (score q K r)) (cut fun i => V (ix3 0 i d)) k).2.2 := by
  induction k generalizing d with
  | zero => exact initial r d
  | succ k ih =>
    have hk' : k < k0_t1_loop.trips := lt_of_lt_of_le hk (by decide)
    have hlt (j : Fin 512) : 512 * k + j.val < 4096 := by omega
    have fst (d d' : Fin 128) (n : ℕ) : (Softmax.run (cut (score q K r)) (cut fun i => V (ix3 0 i d)) n).1
        = (Softmax.run (cut (score q K r)) (cut fun i => V (ix3 0 i d')) n).1 := by
      induction n with
      | zero => rfl
      | succ n ih => simp only [Softmax.run, ih]
    have hs (j : Fin 512) : k0_pay2 (k0_pay8 q) (chunk K ⟨k, hk'⟩) (ix2 r j) = cut (score q K r) k j := by
      rw [scores, cut, dif_pos (hlt j), score]
      exact Finset.sum_congr rfl fun x _ => by rw [stacked, chunk_apply K ⟨k, hk'⟩ j x (hlt j)]
    have hm (d' : Fin 128) : k0_pay3 (k0_pay8 q) (chunk K ⟨k, hk'⟩) (running q K V k).1 (ix2 r d')
        = (Softmax.run (cut (score q K r)) (cut fun i => V (ix3 0 i d)) (k + 1)).1 := by
      rw [newMax, (ih (by omega) d').1, fst d' d]
      simp only [hs, Softmax.run]
    have hv (j : Fin 512) : chunk V ⟨k, hk'⟩ (ix3 0 j d) = cut (fun i => V (ix3 0 i d)) k j := by
      rw [chunk_apply V ⟨k, hk'⟩ j d (hlt j), cut, dif_pos (hlt j)]
    obtain ⟨i1, i2, i3⟩ := ih (by omega) d
    rw [running, dif_pos hk']
    dsimp only
    refine ⟨by rw [stored, hm], ?_, ?_⟩
    · rw [newSum, hm, i1, i2]
      simp only [exps _ _ _ r _ _ hm, hs]
      rfl
    · rw [newAcc, hm, i1, i3]
      simp only [exps _ _ _ r _ _ hm, hs, hv]
      rfl

/-- THE OUTPUT BLOCK, where the block's scores are real: at token `t`, column `e` (head `e / 128` of the group), the softmax-weighted sum of the values. -/
theorem block_value (q : Vec Ideal S1x256x512 .bf16) (K V : Vec Ideal S1x4096x128 .bf16)
    (hq : ∀ t e, ∃ y : ℝ, q (ix3 0 t e) = y) (hK : ∀ i x, ∃ y : ℝ, K (ix3 0 i x) = y) (t : Fin 256) (e : Fin 512) :
    k0_pay1 (k0_pay13 (running q K V 8).2.2 (running q K V 8).2.1) (ix3 0 t e)
      = ∑ i : Fin 4096, Softmax.weight (fun i => ∑ x : Fin 128, q (ix3 0 t ⟨128 * (e.val / 128) + x.val, by omega⟩) * K (ix3 0 i x)) i
          * V (ix3 0 i ⟨e.val % 128, by omega⟩) := by
  have he := e.isLt
  choose Q hQ using hq
  choose J hJ using hK
  set r : Fin 1024 := ⟨256 * (e.val / 128) + t.val, by omega⟩ with hr
  have hS (i : Fin 4096) : score q K r i = ∑ x : Fin 128, q (ix3 0 t ⟨128 * (e.val / 128) + x.val, by omega⟩) * K (ix3 0 i x) := by
    rw [score]
    refine Finset.sum_congr rfl fun x _ => ?_
    rw [at3 q (h := 0) (h' := 0) (i := ⟨r.val % 256, by omega⟩) (i' := t) (j := ⟨128 * (r.val / 256) + x.val, by omega⟩)
      (j' := ⟨128 * (e.val / 128) + x.val, by omega⟩) rfl (by simp only [hr]; omega) (by simp only [hr]; omega)]
  have hX (i : Fin 4096) : score q K r i = ((∑ x : Fin 128, Q t ⟨128 * (e.val / 128) + x.val, by omega⟩ * J i x : ℝ) : EReal) := by
    rw [hS, Softmax.coe_sum]
    exact Finset.sum_congr rfl fun x _ => by rw [hQ, hJ, EReal.coe_mul]
  obtain ⟨-, e2, e3⟩ := running_rows q K V r 8 le_rfl ⟨e.val % 128, by omega⟩
  rw [quotient, ← hr, e2, e3]
  have h := Softmax.run_div (n := 8) (w := 512) (N := 4096) (by omega) (by norm_num) (fun i => ∑ x : Fin 128, Q t ⟨128 * (e.val / 128) + x.val, by omega⟩ * J i x)
    (fun i => V (ix3 0 i ⟨e.val % 128, by omega⟩)) (cut (score q K r)) (cut fun i => V (ix3 0 i ⟨e.val % 128, by omega⟩))
    (fun c j => by
      unfold cut; split_ifs
      · exact ⟨_, hX _⟩
      · exact ⟨0, rfl⟩)
    (fun c j hlt => by rw [cut, dif_pos hlt, hX]) (fun c j hlt => by rw [cut, dif_pos hlt])
  rw [h]
  simp only [← hX, hS]

end Cert.AttnAIdeal.Block
-- ==== Proof.AttnAValue.lean ====
/-
  The grouped-query attention over the extended reals: the kernel's whole output array and the reference's result as the same softmax-weighted sums.
-/
module

public import proofs.«01_k».proof.Proof.AttnARows
public import proofs.«01_k».proof.Proof.Gen.AttnAIdeal.Value
public import proofs.«01_k».proof.Proof.Gen.AttnARefIdeal.Run
public import Idealize.ShloMosaic.Lib.Pipeline.Covers

@[expose] public section

set_option maxRecDepth 16384

noncomputable section

namespace Cert.AttnAIdeal.Block

open Cert.AttnAIdeal Cert.AttnAIdeal.Gen Idealize.ShloMosaic Idealize.ShloMosaic.TcCoe Idealize.SL.Sem

/-- Grouped-query attention: column `j` belongs to head `j / 128`, which reads the keys and values of head `j / 512`. -/
def attention (Q : FVec Ideal S8x4096x2048 .bf16) (K V : FVec Ideal S8x4096x512 .bf16) (b : Fin 8) (s : Fin 4096) (j : Fin 2048) : EReal :=
  ∑ i : Fin 4096, Softmax.weight (fun i => ∑ x : Fin 128, Q (ix3 b s ⟨128 * (j.val / 128) + x.val, by omega⟩)
      * K (ix3 b i ⟨128 * (j.val / 512) + x.val, by omega⟩)) i
    * V (ix3 b i ⟨128 * (j.val / 512) + j.val % 128, by omega⟩)

variable (m : (ℓ : Loc nD τ sig) → Buf (Elt Ideal) ℓ) (c : Dev nD)

theorem bound0 (t : Fin cfg0.N) : (grid0.coords t 0).val < 8 := (grid0.coords t 0).isLt
theorem bound1 (t : Fin cfg0.N) : (grid0.coords t 1).val < 4 := (grid0.coords t 1).isLt
theorem bound2 (t : Fin cfg0.N) : (grid0.coords t 2).val < 16 := (grid0.coords t 2).isLt

/-- Where each window's block lies, from the grid's coordinates. -/
theorem map0 (i : grid0.Coords) : cc0_transform_0 i = ![(i 0).val, (i 2).val, (i 1).val] := by
  have h0 : (i 0).val < 8 := (i 0).isLt
  have h1 : (i 1).val < 4 := (i 1).isLt
  have h2 : (i 2).val < 16 := (i 2).isLt
  unfold cc0_transform_0
  funext a
  fin_cases a <;> simp [BitVec.toNat_ofNat] <;> omega

theorem map1 (i : grid0.Coords) : cc0_transform_1 i = ![(i 0).val, 0, (i 1).val] := by
  have h0 : (i 0).val < 8 := (i 0).isLt
  have h1 : (i 1).val < 4 := (i 1).isLt
  unfold cc0_transform_1
  funext a
  fin_cases a <;> simp [BitVec.toNat_ofNat] <;> omega

theorem place0 (t : Fin cfg0.N) : win0_0.index t = ![(grid0.coords t 0).val, (grid0.coords t 2).val, (grid0.coords t 1).val] := map0 _
theorem place1 (t : Fin cfg0.N) : win0_1.index t = ![(grid0.coords t 0).val, 0, (grid0.coords t 1).val] := map1 _
theorem place2 (t : Fin cfg0.N) : win0_2.index t = ![(grid0.coords t 0).val, 0, (grid0.coords t 1).val] := map1 _
theorem place3 (t : Fin cfg0.N) : win0_3.index t = ![(grid0.coords t 0).val, (grid0.coords t 2).val, (grid0.coords t 1).val] := map0 _

theorem queries (t : Fin cfg0.N) (i : Fin 256) (e : Fin 512) :
    iblk m c 0 t (ix3 (0 : Fin 1) i e) = m ((c : Thread nD τ).loc main_arg0)
      (ix3 (⟨(grid0.coords t 0).val, bound0 t⟩ : Fin 8) (⟨256 * (grid0.coords t 2).val + i.val, by have := bound2 t; omega⟩ : Fin 4096)
        (⟨512 * (grid0.coords t 1).val + e.val, by have := bound1 t; omega⟩ : Fin 2048)) := by
  blk_ext [iblk, V, place0 t]

theorem keys (t : Fin cfg0.N) (i : Fin 4096) (e : Fin 128) :
    iblk m c 1 t (ix3 (0 : Fin 1) i e) = m ((c : Thread nD τ).loc main_arg1)
      (ix3 (⟨(grid0.coords t 0).val, bound0 t⟩ : Fin 8) i (⟨128 * (grid0.coords t 1).val + e.val, by have := bound1 t; omega⟩ : Fin 512)) := by
  blk_ext [iblk, V, place1 t]

theorem values (t : Fin cfg0.N) (i : Fin 4096) (e : Fin 128) :
    iblk m c 2 t (ix3 (0 : Fin 1) i e) = m ((c : Thread nD τ).loc main_arg2)
      (ix3 (⟨(grid0.coords t 0).val, bound0 t⟩ : Fin 8) i (⟨128 * (grid0.coords t 1).val + e.val, by have := bound1 t; omega⟩ : Fin 512)) := by
  blk_ext [iblk, V, place2 t]

/-- Every block of the output array is some point's. -/
theorem covers : (cfg0.win 3).Covers := by
  refine Pipeline.Window.covers_of_indexMap_surj _ rfl (fun a => by fin_cases a <;> decide) fun β => ?_
  have b0 : (β (0 : Fin 3)).val < 8 := lt_of_lt_of_eq (β (0 : Fin 3)).isLt (by decide +kernel)
  have b1 : (β (1 : Fin 3)).val < 16 := lt_of_lt_of_eq (β (1 : Fin 3)).isLt (by decide +kernel)
  have b2 : (β (2 : Fin 3)).val < 4 := lt_of_lt_of_eq (β (2 : Fin 3)).isLt (by decide +kernel)
  let i : grid0.Coords := Fin.cons ⟨_, b0⟩ (Fin.cons ⟨_, b2⟩ (Fin.cons ⟨_, b1⟩ finZeroElim))
  refine ⟨i, fun a => ?_⟩
  show cc0_transform_0 i a = _
  rw [map0]
  fin_cases a <;> rfl

/-- THE KERNEL'S OUTPUT ARRAY, for real queries and keys. -/
theorem array (hq : ∀ i, ∃ y : ℝ, m ((c : Thread nD τ).loc main_arg0) i = (y : EReal)) (hK : ∀ i, ∃ y : ℝ, m ((c : Thread nD τ).loc main_arg1) i = (y : EReal)) :
    (dats m 0 c).arrAt 3 cfg0.N = fun j => attention (m ((c : Thread nD τ).loc main_arg0)) (m ((c : Thread nD τ).loc main_arg1))
      (m ((c : Thread nD τ).loc main_arg2)) (j 0) (j 1) (j 2) := by
  refine (dats m 0 c).arrAt_eq_of_covers 3 _ covers fun t hf y => ?_
  blk_simp
  rw [after0_3]
  show out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) y = _
  rw [out_eq]
  have h0 := bound0 t; have h1 := bound1 t; have h2 := bound2 t
  obtain ⟨z, i, e, rfl⟩ : ∃ (z : Fin 1) (i : Fin 256) (e : Fin 512), y = ix3 z i e := ⟨y 0, y 1, y 2, by funext a; fin_cases a <;> rfl⟩
  obtain rfl : z = 0 := Subsingleton.elim _ _
  rw [block_value _ _ _ (fun i e => by rw [queries]; exact hq _) (fun i e => by rw [keys]; exact hK _)]
  have he := e.isLt
  simp only [queries, keys, values, attention]
  refine Finset.sum_congr rfl fun k _ => ?_
  congr 1
  · congr 1
    funext k'
    refine Finset.sum_congr rfl fun x _ => ?_
    congr 1 <;> blk_ext [place3 t]
  · blk_ext [place3 t]

end Cert.AttnAIdeal.Block

end
-- ==== Proof.RowMax.lean ====
/-
  A reduction by maximum along the last axis, over the extended reals: at an index it is the maximum along the row.
-/
module

public import Idealize.ShloMosaic.Lib.ValueIdx
public import Idealize.ShloMosaic.Lib.Pointwise

@[expose] public section

noncomputable section

namespace Cert.RowMax

open Idealize.ShloMosaic

variable {n0 n1 n2 n3 n4 : ℕ} {φ : FTy} {u : Shape}

/-- Of a rank-5 array, along its last axis. -/
theorem last5 (x : FVec Ideal ⟨5, ![n0, n1, n2, n3, n4]⟩ φ) (init : FVec Ideal u φ)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce (FloatOps.maximumf (F := Ideal)) x init h hu (ix4 a b c d)
      = Finset.univ.fold (max : EReal → EReal → EReal) (init (Shape.Idx.first hu)) fun k : Fin n4 => x (ix5 a b c d k) := by
  show Host.reduce (max : EReal → EReal → EReal) x init h hu (ix4 a b c d) = _
  rw [Host.reduce_eq_fold, h.fold_fiber_r5_a4]
  rfl

/-- Of a rank-4 array, along its last axis. -/
theorem last4 (x : FVec Ideal ⟨4, ![n0, n1, n2, n3]⟩ φ) (init : FVec Ideal u φ)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal)) x init h hu (ix3 a b c)
      = Finset.univ.fold (max : EReal → EReal → EReal) (init (Shape.Idx.first hu)) fun k : Fin n3 => x (ix4 a b c k) := by
  show Host.reduce (max : EReal → EReal → EReal) x init h hu (ix3 a b c) = _
  rw [Host.reduce_eq_fold, h.fold_fiber_r4_a3]
  rfl

end Cert.RowMax

end
-- ==== Proof.AttnARef.lean ====
/-
  The grouped-query attention over the extended reals: the reference's result.
-/
module

public import proofs.«01_k».proof.Proof.AttnAValue
public import proofs.«01_k».proof.Proof.RowMax

@[expose] public section

set_option maxRecDepth 16384

noncomputable section

namespace Cert.AttnARefIdeal.Block

open Cert.AttnARefIdeal Cert.AttnARefIdeal.Gen Idealize.ShloMosaic Idealize.ShloMosaic.TcCoe Idealize.SL.Sem

/-- The reference's scores: batch, key/value head, head of the group, query token, key token. -/
def scores (Q : FVec Ideal S8x4096x2048 .bf16) (K : FVec Ideal S8x4096x512 .bf16) : FVec Ideal S8x4x4x4096x4096 .f32 :=
  transpose S8x4x4x4096x4096 [0, 1, 4, 3, 2] (Host.dotGeneral dot_S8x4096x4x128_S8x4096x4x4x128_S8x4x4096x4096x4_3_4_1_13_02_02 none
    (shapeCast S8x4096x4x128 (extf .f32 K bitsLt_bf16_f32) shapeCasts_S8x4096x512_S8x4096x4x128)
    (shapeCast S8x4096x4x4x128 (extf .f32 Q bitsLt_bf16_f32) shapeCasts_S8x4096x2048_S8x4096x4x4x128)) transposes_S8x4x4096x4096x4_S8x4x4x4096x4096_0_1_4_3_2

/-- The maximum of each row of scores. -/
def maxima (S : FVec Ideal S8x4x4x4096x4096 .f32) : FVec Ideal S8x4x4x4096 .f32 :=
  Host.reduce FloatOps.maximumf S (constant S_ .f32 0xFF800000#32) reducesTo_S8x4x4x4096x4096_S8x4x4x4096_d4 h_S_

/-- The exponentials of the scores less their row's maximum. -/
def exps (S : FVec Ideal S8x4x4x4096x4096 .f32) (M : FVec Ideal S8x4x4x4096 .f32) : FVec Ideal S8x4x4x4096x4096 .f32 :=
  Host.exp (subf S (broadcastInDim S8x4x4x4096x4096 ![0, 1, 2, 3, 4] bcast_S8x4x4x4096x1_S8x4x4x4096x4096_0_1_2_3_4 (broadcastInDim S8x4x4x4096x1 ![0, 1, 2, 3] bcast_S8x4x4x4096_S8x4x4x4096x1_0_1_2_3
    (maximumf (broadcastInDim S8x4x4x4096 ![] bcast_S_S8x4x4x4096 (constant S_ .f32 0xFF800000#32)) M))))

/-- Each row of exponentials over its sum. -/
def quotients (E : FVec Ideal S8x4x4x4096x4096 .f32) : FVec Ideal S8x4x4x4096x4096 .f32 :=
  Host.divf E (broadcastInDim S8x4x4x4096x4096 ![0, 1, 2, 3, 4] bcast_S8x4x4x4096x1_S8x4x4x4096x4096_0_1_2_3_4 (broadcastInDim S8x4x4x4096x1 ![0, 1, 2, 3] bcast_S8x4x4x4096_S8x4x4x4096x1_0_1_2_3
    (Host.reduceAdd E (constant S_ .f32 0x00000000#32) reducesTo_S8x4x4x4096x4096_S8x4x4x4096_d4 h_S_)))

/-- The weighted sums of the values, heads side by side. -/
def mix (W : FVec Ideal S8x4x4x4096x4096 .f32) (V : FVec Ideal S8x4096x512 .bf16) : FVec Ideal S8x4096x2048 .bf16 :=
  truncf .bf16 (shapeCast S8x4096x2048 (transpose S8x4096x4x4x128 [0, 4, 1, 3, 2] (Host.dotGeneral dot_S8x4096x4x128_S8x4x4x4096x4096_S8x4x128x4x4096_1_4_3_23_02_01 none
    (shapeCast S8x4096x4x128 (extf .f32 V bitsLt_bf16_f32) shapeCasts_S8x4096x512_S8x4096x4x128) W) transposes_S8x4x128x4x4096_S8x4096x4x4x128_0_4_1_3_2) shapeCasts_S8x4096x4x4x128_S8x4096x2048) bitsLt_bf16_f32

theorem scores_apply (Q : FVec Ideal S8x4096x2048 .bf16) (K : FVec Ideal S8x4096x512 .bf16) (b : Fin 8) (h g : Fin 4) (s i : Fin 4096) :
    scores Q K (ix5 b h g s i) = ∑ x : Fin 128, K (ix3 b i ⟨h.val * 128 + x.val, by omega⟩) * Q (ix3 b s ⟨h.val * 512 + g.val * 128 + x.val, by omega⟩) := by
  pointwise [scores]

theorem maxima_apply (S : FVec Ideal S8x4x4x4096x4096 .f32) (b : Fin 8) (h g : Fin 4) (s : Fin 4096) :
    maxima S (ix4 b h g s) = Finset.univ.fold max ⊥ fun i => S (ix5 b h g s i) := by
  rw [← Cert.AttnAIdeal.Block.neg_inf]
  exact RowMax.last5 S _ _ _ b h g s

theorem exps_apply (S : FVec Ideal S8x4x4x4096x4096 .f32) (M : FVec Ideal S8x4x4x4096 .f32) (b : Fin 8) (h g : Fin 4) (s i : Fin 4096) :
    exps S M (ix5 b h g s i) = Ideal.exp (S (ix5 b h g s i) - M (ix4 b h g s)) := by
  pointwise [exps]
  rw [Cert.AttnAIdeal.Block.neg_inf, bot_sup_eq]

theorem quotients_apply (E : FVec Ideal S8x4x4x4096x4096 .f32) (b : Fin 8) (h g : Fin 4) (s i : Fin 4096) :
    quotients E (ix5 b h g s i) = Ideal.div (E (ix5 b h g s i)) (∑ i, E (ix5 b h g s i)) := by
  pointwise [quotients]

theorem mix_apply (W : FVec Ideal S8x4x4x4096x4096 .f32) (V : FVec Ideal S8x4096x512 .bf16) (b : Fin 8) (s : Fin 4096) (j : Fin 2048) :
    mix W V (ix3 b s j) = ∑ i : Fin 4096, V (ix3 b i ⟨j.val / 512 * 128 + j.val % 128, by omega⟩)
      * W (ix5 b ⟨j.val / 512, by omega⟩ ⟨j.val / 128 % 4, by omega⟩ s i) := by
  pointwise [mix]

/-- The reference's stages together are the grouped-query attention. -/
theorem value (Q : FVec Ideal S8x4096x2048 .bf16) (K V : FVec Ideal S8x4096x512 .bf16) :
    mix (quotients (exps (scores Q K) (maxima (scores Q K)))) V = fun j => Cert.AttnAIdeal.Block.attention Q K V (j 0) (j 1) (j 2) := by
  funext j
  obtain ⟨b, s, e, rfl⟩ : ∃ (b : Fin 8) (s : Fin 4096) (e : Fin 2048), j = ix3 b s e := ⟨j 0, j 1, j 2, by funext a; fin_cases a <;> rfl⟩
  show _ = Cert.AttnAIdeal.Block.attention Q K V b s e
  rw [mix_apply, Cert.AttnAIdeal.Block.attention]
  have he := e.isLt
  have hS (k : Fin 4096) : scores Q K (ix5 b ⟨e.val / 512, by omega⟩ ⟨e.val / 128 % 4, by omega⟩ s k)
      = ∑ x : Fin 128, Q (ix3 b s ⟨128 * (e.val / 128) + x.val, by omega⟩) * K (ix3 b k ⟨128 * (e.val / 512) + x.val, by omega⟩) := by
    rw [scores_apply]
    refine Finset.sum_congr rfl fun x _ => ?_
    rw [mul_comm]
    exact congrArg₂ (fun x y : EReal => x * y) (Cert.AttnAIdeal.Block.at3 Q rfl rfl (by dsimp only; omega)) (Cert.AttnAIdeal.Block.at3 K rfl rfl (by dsimp only; omega))
  refine Finset.sum_congr rfl fun i _ => ?_
  rw [mul_comm, quotients_apply]
  simp only [exps_apply, maxima_apply, hS, Softmax.weight]
  exact congrArg _ (Cert.AttnAIdeal.Block.at3 V rfl rfl (by dsimp only; omega))

variable (m : (ℓ : Loc nD τ sig) → Buf (Elt Ideal) ℓ) (ρ : Dev nD → PrngReg)

/-- THE REFERENCE'S RESULT is the grouped-query attention of its arguments. -/
theorem run : θ_run defs (onTc (τ := τ) (main (F := Ideal))) ⟨m, fun _ => 0, ρ⟩ fun r => ∀ c : Dev nD,
      r.2.mem ((c.tc : Thread nD τ).loc main_v22) = (fun j : S8x4096x2048.Idx => Cert.AttnAIdeal.Block.attention (m ((c.tc : Thread nD τ).loc main_arg0)) (m ((c.tc : Thread nD τ).loc main_arg1)) (m ((c.tc : Thread nD τ).loc main_arg2)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value _ _ _), (h c).2⟩) (Value.run m ρ)

end Cert.AttnARefIdeal.Block

end
-- ==== Proof.Finite.lean ====
/-
  The precondition on queries and keys read back: every entry is a real number.
-/
module

public import proofs.«01_k».proof.Pre_finite_scores
public import Idealize.ShloMosaic.Lib.ValueIdx
public import Idealize.ShloMosaic.Lib.Pointwise

@[expose] public section

noncomputable section

namespace Cert.Finite

open Idealize.ShloMosaic

theorem scoresFacts : Cert.Pre_finite_scores.Facts where
  bcast_S_S8x4096x2048 := by decide
  bcast_S_S8x4096x512 := by decide

/-- A number whose absolute value is below infinity is real. -/
theorem real_of_abs {x : EReal} (h : max x (-x) < ⊤) : ∃ y : ℝ, x = y := by
  induction x using EReal.rec with
  | bot => simp at h
  | coe y => exact ⟨y, rfl⟩
  | top => simp at h

theorem inf16 : Ideal.ofBits FTy.bf16 0x7F80#16 = (⊤ : EReal) := by simp [Ideal.ofBits, Ideal.ieee]
theorem inf32 : Ideal.ofBits FTy.f32 0x7F800000#32 = (⊤ : EReal) := by simp [Ideal.ofBits, Ideal.ieee]

/-- The printed test of an array against infinity: where it holds everywhere, the array is real. -/
theorem real_of_test {s u : Shape} {φ : FTy} (x : FVec Ideal s φ) {d : Fin u.rank → Fin s.rank} (hb : u.BroadcastsInDim s d) (b : BitVec φ.bits) (hinf : Ideal.ofBits φ b = (⊤ : EReal))
    (h : cmpf .olt (Host.absf x) (broadcastInDim s d hb (constant (F := Ideal) u φ b)) = fun _ => 1#1) (i : s.Idx) : ∃ y : ℝ, x i = (y : EReal) := by
  have e := congrFun h i
  refine real_of_abs ?_
  pointwise at e
  rw [hinf] at e
  replace e : BitVec.ofBool (decide (max (x i) (-x i) < (⊤ : EReal))) = 1#1 := e
  by_contra hn
  rw [decide_eq_false hn] at e
  exact absurd e (by decide)

theorem scores [Cert.Pre_finite_scores.Facts] (q : FVec Ideal Cert.Pre_finite_scores.S8x4096x2048 .bf16) (k v : FVec Ideal Cert.Pre_finite_scores.S8x4096x512 .bf16)
    (h : (Cert.Pre_finite_scores.fn q k v).1 = (fun _ => 1#1) ∧ (Cert.Pre_finite_scores.fn q k v).2 = fun _ => 1#1) :
    (∀ i, ∃ y : ℝ, q i = (y : EReal)) ∧ ∀ i, ∃ y : ℝ, k i = (y : EReal) :=
  ⟨real_of_test q _ _ inf16 h.1, real_of_test k _ _ inf16 h.2⟩

end Cert.Finite

end
-- ==== Proof.AttnA.lean ====
/-
  The grouped-query attention's claims: the frames of its three programs and the kernel's equality with its reference.
-/
module

public import proofs.«01_k».proof.Defs
public import proofs.«01_k».proof.Proof.AttnARef
public import proofs.«01_k».proof.Proof.Finite
public import proofs.«01_k».proof.Proof.Gen.AttnA.Frame
public import Idealize.ShloMosaic.Lib.Quiescent

@[expose] public section

noncomputable section

namespace Cert.AttnAProof

open Idealize.ShloMosaic Idealize.SL.Sem

/-- The kernel runs, keeps its arguments and leaves every semaphore at zero. -/
theorem kernel_frame : Cert.quiescent_AttnA (hAttnA := Cert.AttnA.Gen.facts) := fun m ρ _ => Cert.AttnA.Gen.frame m ρ

/-- So does its reading over the extended reals. -/
theorem ideal_frame : Cert.quiescent_AttnAIdeal (hAttnAIdeal := Cert.AttnAIdeal.Gen.facts) := fun m ρ _ => Cert.AttnAIdeal.Gen.frame m ρ

theorem ideal_frame_pre : Cert.quiescent_AttnAIdeal_pre_finite_scores (hAttnAIdeal := Cert.AttnAIdeal.Gen.facts) (hPre_finite_scores := Cert.Finite.scoresFacts) :=
  fun m ρ _ => Cert.AttnAIdeal.Gen.frame m ρ

/-- So does the reference. -/
theorem reference_frame : Cert.quiescent_AttnARefIdeal (hAttnARefIdeal := Cert.AttnARefIdeal.Gen.facts) :=
  fun m ρ _ => (θ_run _ _ _).mono (fun r h => ⟨fun c => (h c).2, sem_eq_zero_of_no_sems (by decide) r.2⟩) (Cert.AttnARefIdeal.Value.run m ρ)

theorem reference_frame_pre : Cert.quiescent_AttnARefIdeal_pre_finite_scores (hAttnARefIdeal := Cert.AttnARefIdeal.Gen.facts) (hPre_finite_scores := Cert.Finite.scoresFacts) :=
  fun m ρ _ => (θ_run _ _ _).mono (fun r h => ⟨fun c => (h c).2, sem_eq_zero_of_no_sems (by decide) r.2⟩) (Cert.AttnARefIdeal.Value.run m ρ)

/-- Over the extended reals, for real queries and keys, the kernel and the reference give the same array. -/
theorem algebraic : Cert.algebraic_AttnAIdeal_AttnARefIdeal_pre_finite_scores (hAttnAIdeal := Cert.AttnAIdeal.Gen.facts)
    (hAttnARefIdeal := Cert.AttnARefIdeal.Gen.facts) (hPre_finite_scores := Cert.Finite.scoresFacts) := by
  intro m ρ m' ρ' hpre hag
  letI := Cert.Finite.scoresFacts
  have hfin (c) := Cert.Finite.scores _ _ _ (hpre c)
  refine ⟨_, (θ_run _ _ _).mono (fun r h c => ⟨(h c).1.trans (Cert.AttnAIdeal.Block.array m c (hfin c).1 (hfin c).2), (h c).2⟩)
    (Cert.AttnAIdeal.Value.run_blocks m ρ), (θ_run _ _ _).mono (fun r h c => ⟨(h c).1.trans ?_, (h c).2⟩) (Cert.AttnARefIdeal.Block.run m' ρ')⟩
  rw [(hag c).1, (hag c).2.1, (hag c).2.2]
  rfl

end Cert.AttnAProof

end
-- ==== Proof.OutProj.lean ====
/-
  The output projection: the kernel's array and the reference's result as the same residual plus gated product, and the claims.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.Covers
public import Idealize.ShloMosaic.Lib.Pointwise
public import Idealize.ShloMosaic.Lib.Quiescent

@[expose] public section

set_option maxRecDepth 16384

noncomputable section

namespace Cert.OutProjIdeal.Block

open Cert.OutProjIdeal Cert.OutProjIdeal.Gen Idealize.ShloMosaic Idealize.ShloMosaic.TcCoe Idealize.SL.Sem

/-- The gate `z · 1 / (1 + exp (-z))`. -/
def silu (z : EReal) : EReal := z * Ideal.div 1 (1 + Ideal.exp (-z))

/-- The residual plus the gated product. -/
def projected (O Z : FVec Ideal S32768x2048 .bf16) (W : FVec Ideal S2048x2048 .bf16) (X : FVec Ideal S32768x2048 .f32) (t : Fin 32768) (j : Fin 2048) : EReal :=
  X (ix2 t j) + ∑ k : Fin 2048, O (ix2 t k) * silu (Z (ix2 t k)) * W (ix2 k j)

theorem body (o z : Vec Ideal S512x2048 .bf16) (w : Vec Ideal S2048x2048 .bf16) (x : Vec Ideal S512x2048 .f32) (t : Fin 512) (j : Fin 2048) :
    out0_4 o z w x (ix2 t j) = x (ix2 t j) + ∑ k : Fin 2048, o (ix2 t k) * silu (z (ix2 t k)) * w (ix2 k j) := by
  frame_out
  pointwise [k0_pay1]
  rfl

variable (m : (ℓ : Loc nD τ sig) → Buf (Elt Ideal) ℓ) (c : Dev nD)

theorem places : ∀ t : Fin cfg0.N, win0_0.index t = ![t.val, 0] ∧ win0_1.index t = ![t.val, 0] ∧ win0_2.index t = ![0, 0] ∧ win0_3.index t = ![t.val, 0] ∧ win0_4.index t = ![t.val, 0] := by
  decide +kernel

/-- THE KERNEL'S OUTPUT ARRAY. -/
theorem array : (dats m 0 c).arrAt 4 cfg0.N = fun j => projected (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 4 _ (by decide +kernel) fun t hf y => ?_
  blk_simp
  rw [after0_4]
  obtain ⟨i, e, rfl⟩ : ∃ (i : Fin 512) (e : Fin 2048), y = ix2 i e := ⟨y 0, y 1, by funext a; fin_cases a <;> rfl⟩
  obtain ⟨p0, p1, p2, p3, p4⟩ := places t
  refine (body _ _ _ _ i e).trans ?_
  unfold projected
  congr 1
  · blk_ext [iblk, V, p3, p4]
  · refine Finset.sum_congr rfl fun k _ => ?_
    congr 1
    · congr 1
      · blk_ext [iblk, V, p0, p4]
      · congr 1
        blk_ext [iblk, V, p1, p4]
    · blk_ext [iblk, V, p2, p4]

end Cert.OutProjIdeal.Block

namespace Cert.OutProjRefIdeal.Block

open Cert.OutProjRefIdeal Cert.OutProjRefIdeal.Gen Idealize.ShloMosaic Idealize.ShloMosaic.TcCoe Idealize.SL.Sem

/-- THE REFERENCE'S RESULT at an index. -/
theorem value (O Z : FVec Ideal S32768x2048 .bf16) (W : FVec Ideal S2048x2048 .bf16) (X : FVec Ideal S32768x2048 .f32) :
    addf X (Host.dotGeneral dot_S32768x2048_S2048x2048_S32768x2048_1_0_0_1_n_n none
      (mulf (extf .f32 O bitsLt_bf16_f32) (mulf (extf .f32 Z bitsLt_bf16_f32) (Host.divf (broadcastInDim S32768x2048 ![] bcast_S_S32768x2048 (constant S_ .f32 0x3F800000#32))
        (addf (broadcastInDim S32768x2048 ![] bcast_S_S32768x2048 (constant S_ .f32 0x3F800000#32)) (Host.exp (Host.negf (extf .f32 Z bitsLt_bf16_f32)))))))
      (extf .f32 W bitsLt_bf16_f32))
      = fun j => Cert.OutProjIdeal.Block.projected O Z W X (j 0) (j 1) := by
  funext j
  obtain ⟨t, e, rfl⟩ : ∃ (t : Fin 32768) (e : Fin 2048), j = ix2 t e := ⟨j 0, j 1, by funext a; fin_cases a <;> rfl⟩
  show _ = Cert.OutProjIdeal.Block.projected O Z W X t e
  unfold Cert.OutProjIdeal.Block.projected Cert.OutProjIdeal.Block.silu
  pointwise

end Cert.OutProjRefIdeal.Block

namespace Cert.OutProjProof

open Idealize.ShloMosaic Idealize.SL.Sem

/-- The kernel runs, keeps its arguments and leaves every semaphore at zero. -/
theorem kernel_frame : Cert.quiescent_OutProj (hOutProj := Cert.OutProj.Gen.facts) := fun m ρ _ => Cert.OutProj.Gen.frame m ρ

/-- So does its reading over the extended reals. -/
theorem ideal_frame : Cert.quiescent_OutProjIdeal (hOutProjIdeal := Cert.OutProjIdeal.Gen.facts) := fun m ρ _ => Cert.OutProjIdeal.Gen.frame m ρ

/-- So does the reference. -/
theorem reference_frame : Cert.quiescent_OutProjRefIdeal (hOutProjRefIdeal := Cert.OutProjRefIdeal.Gen.facts) :=
  fun m ρ _ => (θ_run _ _ _).mono (fun r h => ⟨fun c => (h c).2, sem_eq_zero_of_no_sems (by decide) r.2⟩) (Cert.OutProjRefIdeal.Value.run m ρ)

/-- Over the extended reals the kernel and the reference give the same array. -/
theorem algebraic : Cert.algebraic_OutProjIdeal_OutProjRefIdeal (hOutProjIdeal := Cert.OutProjIdeal.Gen.facts) (hOutProjRefIdeal := Cert.OutProjRefIdeal.Gen.facts) := by
  intro m ρ m' ρ' _ hag
  refine ⟨_, (θ_run _ _ _).mono (fun r h c => ⟨(h c).1.trans (Cert.OutProjIdeal.Block.array m c), (h c).2⟩)
    (Cert.OutProjIdeal.Value.run_blocks m ρ), (θ_run _ _ _).mono (fun r h c => ⟨(h c).1.trans ((Cert.OutProjRefIdeal.Block.value _ _ _ _).trans ?_), (h c).2⟩) (Cert.OutProjRefIdeal.Value.run m' ρ')⟩
  rw [(hag c).1, (hag c).2.1, (hag c).2.2.1, (hag c).2.2.2]
  rfl

end Cert.OutProjProof

end
-- ==== Proof.AttnBLoop.lean ====
/-
  The loop of the differential attention kernel, at one grid point: what the three running buffers (row maximum, row sum, weighted sum of values) hold
  before each trip, as a recursion over the chunks of keys and values, and the output block as a function of the point's eight input blocks.  The first
  512 rows of the buffers belong to the first softmax map, the last 512 to the second.
-/
module

public import proofs.«01_k».proof.Proof.Gen.AttnBIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnBIdeal.Block

open Cert.AttnBIdeal Cert.AttnBIdeal.Gen Idealize.ShloMosaic Idealize.ShloMosaic.TcCoe Idealize.SL.Sem

variable {F : FTy → Type} [FloatOps F]

/-- Rows `512 k … 512 k + 511` of a block of keys or values. -/
def chunk (X : Vec F S1x4096x256 .bf16) (k : Fin k0_t1_loop.trips) : Vec F S1x512x256 .bf16 :=
  View.ld X (Rect.unit (s := S1x4096x256) (k0_off1 k) S1x512x256.size (k0_off1_inb k))

/-- The running maximum, sum and weighted sum before trip `k`. -/
def running (q : Vec F S1x512x256 .bf16) (K V : Vec F S1x4096x256 .bf16) : ℕ → Vec F S1024x128 .f32 × Vec F S1024x128 .f32 × Vec F S1024x256 .f32
  | 0 => (k0_pay11, k0_pay12, k0_pay13)
  | k + 1 =>
    if h : k < k0_t1_loop.trips then
      let s := running q K V k
      (k0_pay15 (k0_pay3 (k0_pay9 q) (k0_pay10 q) (chunk K ⟨k, h⟩) s.1), k0_pay6 (k0_pay9 q) (k0_pay10 q) (chunk K ⟨k, h⟩) s.1 s.2.1,
        k0_pay14 (k0_pay7 (k0_pay9 q) (k0_pay10 q) (chunk K ⟨k, h⟩) (chunk V ⟨k, h⟩) s.1 s.2.2))
    else running q K V k

theorem zero2 : (![0, 0] : Fin 2 → ℕ) = fun _ => 0 := by funext a; fin_cases a <;> rfl

/-- A store over the whole of a buffer leaves its payload. -/
theorem read_store {sp : Space} {n d : ℕ} (a : Memref sig .tc sp ⟨2, ![n, d]⟩ .f32) (f : BufTy.Contents (Elt F) a.view.ty)
    (hin : ∀ x, (![0, 0] : Fin 2 → ℕ) x + (![n, d] : Fin 2 → ℕ) x ≤ (⟨2, ![n, d]⟩ : Shape).size x)
    (w : Vec F ⟨2, ![n, d]⟩ .f32) (L : List (View.Piece (Elt F) ⟨2, ![n, d]⟩ .f32)) :
    View.read (Elt F) a.view (a.view.writes (Elt F) f (⟨Rect.unit (s := ⟨2, ![n, d]⟩) ![0, 0] ![n, d] hin, w⟩ :: L)) = w := by
  funext y
  have e := View.read_writes_cons_emb a.view f (Rect.unit (s := ⟨2, ![n, d]⟩) ![0, 0] ![n, d] hin) w L y
  have h : (Rect.unit (s := ⟨2, ![n, d]⟩) ![0, 0] ![n, d] hin).emb y = y := by
    funext a; fin_cases a <;> exact Fin.ext (by simp)
  rw [h] at e; exact e

variable (c : Dev nD) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S1x512x256 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x256 .f32) (harg14 : arg14.IsWhole)
  (x0 : Vec F S1x512x256 .bf16) (x1 x2 : Vec F S1x4096x256 .bf16) (x3 x4 x5 x6 : Vec F S1x128 .f32) (x7 : Vec F S1x256 .f32)

/-- The stores of one trip, one to each running buffer, of what the trip computes from the chunk and the buffers as it finds them. -/
theorem trip_lists (v0 : Vec F S1x512x256 .bf16) (X4 : BufTy.Contents (Elt F) arg4.view.ty) (X5 : BufTy.Contents (Elt F) arg5.view.ty) (k : Fin k0_t1_loop.trips)
    (f12 : BufTy.Contents (Elt F) arg12.view.ty) (f13 : BufTy.Contents (Elt F) arg13.view.ty) (f14 : BufTy.Contents (Elt F) arg14.view.ty) :
    tripL_k0_t1 (F := F) Variants.none c none i arg3 harg3 arg4 harg4 arg5 harg5 arg6 harg6 arg7 harg7 arg8 harg8 arg9 harg9 arg10 harg10 arg11 harg11 arg12 harg12 arg13 harg13 arg14 harg14 v0 X4 X5 k f12 f13 f14
      = ([⟨Rect.unit (s := S1024x128) ![0, 0] S1024x128.size inb_S1024x128_S1024x128_0_0, k0_pay15 (k0_pay3 (k0_pay9 v0) (k0_pay10 v0) (chunk (View.read (Elt F) arg4.view X4) k) (View.read (Elt F) arg12.view f12))⟩],
         [⟨Rect.unit (s := S1024x128) ![0, 0] S1024x128.size inb_S1024x128_S1024x128_0_0, k0_pay6 (k0_pay9 v0) (k0_pay10 v0) (chunk (View.read (Elt F) arg4.view X4) k) (View.read (Elt F) arg12.view f12) (View.read (Elt F) arg13.view f13)⟩],
         [⟨Rect.unit (s := S1024x256) ![0, 0] S1024x256.size inb_S1024x256_S1024x256_0_0, k0_pay14 (k0_pay7 (k0_pay9 v0) (k0_pay10 v0) (chunk (View.read (Elt F) arg4.view X4) k) (chunk (View.read (Elt F) arg5.view X5) k)
              (View.read (Elt F) arg12.view f12) (View.read (Elt F) arg14.view f14))⟩]) := by
  rw [← View.ld_unit_zero zero2 inb_S1024x128_S1024x128_0_0 (View.read (Elt F) arg12.view f12),
    ← View.ld_unit_zero zero2 inb_S1024x128_S1024x128_0_0 (View.read (Elt F) arg13.view f13),
    ← View.ld_unit_zero zero2 inb_S1024x256_S1024x256_0_0 (View.read (Elt F) arg14.view f14)]
  unfold tripL_k0_t1 trip_k0_t1
  rfl

/-- Before trip `k` the three buffers read the recursion's `k`-th state. -/
theorem read_trips (G12 : BufTy.Contents (Elt F) arg12.view.ty) (G13 : BufTy.Contents (Elt F) arg13.view.ty) (G14 : BufTy.Contents (Elt F) arg14.view.ty)
    (h12 : View.read (Elt F) arg12.view G12 = k0_pay11) (h13 : View.read (Elt F) arg13.view G13 = k0_pay12) (h14 : View.read (Elt F) arg14.view G14 = k0_pay13)
    (k : ℕ) (hk : k ≤ k0_t1_loop.trips) :
    let p := pb_k0_t1 (F := F) Variants.none c none i arg3 harg3 arg4 harg4 arg5 harg5 arg6 harg6 arg7 harg7 arg8 harg8 arg9 harg9 arg10 harg10 arg11 harg11 arg12 harg12 arg13 harg13 arg14 harg14 x0 (harg4.unread x1) (harg5.unread x2) G12 G13 G14 k
    View.read (Elt F) arg12.view (arg12.view.writes (Elt F) G12 p.1) = (running x0 x1 x2 k).1
      ∧ View.read (Elt F) arg13.view (arg13.view.writes (Elt F) G13 p.2.1) = (running x0 x1 x2 k).2.1
      ∧ View.read (Elt F) arg14.view (arg14.view.writes (Elt F) G14 p.2.2) = (running x0 x1 x2 k).2.2 := by
  induction k with
  | zero => exact ⟨h12, h13, h14⟩
  | succ k ih =>
    obtain ⟨e12, e13, e14⟩ := ih (Nat.le_of_succ_le hk)
    have hs := pb_k0_t1_succ (F := F) Variants.none c none i arg3 harg3 arg4 harg4 arg5 harg5 arg6 harg6 arg7 harg7 arg8 harg8 arg9 harg9 arg10 harg10 arg11 harg11 arg12 harg12 arg13 harg13 arg14 harg14 x0 (harg4.unread x1) (harg5.unread x2) G12 G13 G14 ⟨k, hk⟩
    rw [trip_lists, e12, e13, e14, harg4.read_unread, harg5.read_unread] at hs
    dsimp only at hs ⊢
    rw [hs, running, dif_pos (show k < k0_t1_loop.trips from hk)]
    exact ⟨read_store _ _ _ _ _, read_store _ _ _ _ _, read_store _ _ _ _ _⟩

/-- THE OUTPUT BLOCK of a grid point: the difference of the two maps' quotients, normalized, from the last state of the running buffers. -/
theorem out_eq : out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7
    = k0_pay1 (k0_pay16 x3 x4) (k0_pay17 x5) x6 (running x0 x1 x2 8).2.2 (running x0 x1 x2 8).2.1 x7 := by
  frame_out
  have h := read_trips c i arg3 harg3 arg4 harg4 arg5 harg5 arg6 harg6 arg7 harg7 arg8 harg8 arg9 harg9 arg10 harg10 arg11 harg11 arg12 harg12 arg13 harg13 arg14 harg14 x0 x1 x2 _ _ _
    (read_store arg12 arg12.view.junk inb_S1024x128_S1024x128_0_0 k0_pay11 []) (read_store arg13 arg13.view.junk inb_S1024x128_S1024x128_0_0 k0_pay12 [])
    (read_store arg14 arg14.view.junk inb_S1024x256_S1024x256_0_0 k0_pay13 []) 8 (by decide)
  dsimp only at h
  rw [← h.2.1, ← h.2.2]
  unfold View.readCov
  simp only [View.writes_append, View.readAt_eq_ld]
  rw [View.ld_unit_zero zero2, View.ld_unit_zero zero2]
  rfl

end Cert.AttnBIdeal.Block
-- ==== Proof.AttnBRows.lean ====
/-
  The differential attention kernel's running buffers, row by row, over the extended reals: each row follows the chunked softmax of its map's scores, so
  the output block holds the normalized difference of the two maps' softmax-weighted sums of the values.
-/
module

public import proofs.«01_k».proof.Proof.AttnBLoop
public import proofs.«01_k».proof.Proof.Softmax

@[expose] public section

set_option maxRecDepth 16384

noncomputable section

namespace Cert.AttnBIdeal.Block

open Cert.AttnBIdeal Cert.AttnBIdeal.Gen Idealize.ShloMosaic Idealize.ShloMosaic.TcCoe Idealize.SL.Sem

theorem at2 {α : Type} {a b : ℕ} (X : (⟨2, ![a, b]⟩ : Shape).Idx → α) {i i' : Fin a} {j j' : Fin b} (hi : i.val = i'.val) (hj : j.val = j'.val) :
    X (ix2 i j) = X (ix2 i' j') := by rw [Fin.ext hi, Fin.ext hj]

theorem at3 {α : Type} {a b c : ℕ} (X : (⟨3, ![a, b, c]⟩ : Shape).Idx → α) {h h' : Fin a} {i i' : Fin b} {j j' : Fin c}
    (hh : h.val = h'.val) (hi : i.val = i'.val) (hj : j.val = j'.val) : X (ix3 h i j) = X (ix3 h' i' j') := by rw [Fin.ext hh, Fin.ext hi, Fin.ext hj]

/-- The score of row `r` against key `i`: the rows past 512 are the second map's, on the second half of the columns. -/
def score {n : ℕ} (q : Vec Ideal S1x512x256 .bf16) (K : FVec Ideal ⟨3, ![1, n, 256]⟩ .bf16) (r : Fin 1024) (i : Fin n) : EReal :=
  ∑ x : Fin 128, q (ix3 0 ⟨r.val % 512, by omega⟩ ⟨128 * (r.val / 512) + x.val, by omega⟩) * K (ix3 0 i ⟨128 * (r.val / 512) + x.val, by omega⟩)

theorem first (q : Vec Ideal S1x512x256 .bf16) (K : Vec Ideal S1x512x256 .bf16) (r : Fin 1024) (j : Fin 512) :
    k0_pay2 (k0_pay9 q) (k0_pay10 q) K (ix2 r j) = score q K r j := by
  pointwise [k0_pay2, k0_pay8, k0_pay9, k0_pay10]
  have := r.isLt
  unfold score
  split_ifs <;> exact Finset.sum_congr rfl fun x _ => congrArg₂ (fun x y : EReal => x * y)
    (at3 q rfl (by dsimp only; omega) (by dsimp only; omega)) (at3 K rfl (by dsimp only) (by dsimp only; omega))

theorem neg_inf : Ideal.ofBits FTy.f32 0xFF800000#32 = (⊥ : EReal) := by
  simp [Ideal.ofBits, Ideal.ieee]

variable (q1 q2 : FVec Ideal S512x128 .bf16) (K V : Vec Ideal S1x512x256 .bf16) (M L : Vec Ideal S1024x128 .f32) (A : Vec Ideal S1024x256 .f32) (r : Fin 1024)

theorem newMax (d : Fin 128) :
    k0_pay3 q1 q2 K M (ix2 r d) = max (M (ix2 r d)) (Finset.univ.fold max ⊥ fun x : Fin 512 => k0_pay2 q1 q2 K (ix2 r x)) := by
  pointwise [k0_pay3]
  rw [neg_inf]

/-- The exponentials of a chunk; the running maximum is one number per row, here `μ`. -/
theorem exps (j : Fin 512) (μ : EReal) (hμ : ∀ d : Fin 128, k0_pay3 q1 q2 K M (ix2 r d) = μ) :
    k0_pay5 q1 q2 K M (ix2 r j) = Ideal.exp (k0_pay2 q1 q2 K (ix2 r j) - μ) := by
  pointwise [k0_pay5]
  simp only [hμ, dite_eq_ite, ite_self]

theorem newSum (d : Fin 128) :
    k0_pay6 q1 q2 K M L (ix2 r d) = Ideal.exp (M (ix2 r d) - k0_pay3 q1 q2 K M (ix2 r d)) * L (ix2 r d) + ∑ x : Fin 512, k0_pay5 q1 q2 K M (ix2 r x) := by
  pointwise [k0_pay6, k0_pay4]

/-- The weighted sum of a chunk; the old maximum and the new are one number per row each, here `μ₀` and `μ`. -/
theorem newAcc (d : Fin 256) (μ₀ μ : EReal) (hμ₀ : ∀ d : Fin 128, M (ix2 r d) = μ₀) (hμ : ∀ d : Fin 128, k0_pay3 q1 q2 K M (ix2 r d) = μ) :
    k0_pay14 (k0_pay7 q1 q2 K V M A) (ix2 r d) = A (ix2 r d) * Ideal.exp (μ₀ - μ) + ∑ x : Fin 512, k0_pay5 q1 q2 K M (ix2 r x) * V (ix3 0 x d) := by
  pointwise [k0_pay14, k0_pay7, k0_pay4]
  simp only [hμ₀, hμ, dite_eq_ite, ite_self]

theorem stored (N : FVec Ideal S1024x128 .f32) (d : Fin 128) : k0_pay15 N (ix2 r d) = N (ix2 r d) := by
  pointwise [k0_pay15]

theorem initial (d : Fin 128) (e : Fin 256) :
    k0_pay11 (F := Ideal) (ix2 r d) = (⊥ : EReal) ∧ k0_pay12 (F := Ideal) (ix2 r d) = (0 : EReal) ∧ k0_pay13 (F := Ideal) (ix2 r e) = (0 : EReal) := by
  refine ⟨?_, ?_, ?_⟩
  · pointwise [k0_pay11]; exact neg_inf
  · pointwise [k0_pay12]
  · pointwise [k0_pay13]

theorem chunk_apply (X : Vec Ideal S1x4096x256 .bf16) (k : Fin k0_t1_loop.trips) (j : Fin 512) (d : Fin 256) (h : 512 * k.val + j.val < 4096) :
    chunk X k (ix3 0 j d) = X (ix3 0 ⟨512 * k.val + j.val, h⟩ d) := by
  pointwise [chunk]
  have e := k0_off1_eq k
  exact at3 X (congrFun e 0) (congrArg (· + j.val) (congrFun e 1)) ((congrArg (· + d.val) (congrFun e 2)).trans (Nat.zero_add _))

/-- A row cut into chunks of 512, zero past its end. -/
def cut (S : Fin 4096 → EReal) (k : ℕ) (j : Fin 512) : EReal := if h : 512 * k + j.val < 4096 then S ⟨512 * k + j.val, h⟩ else 0

/-- Before trip `k` each row of the buffers holds the chunked softmax of the row's scores, weighting any one column of the values. -/
theorem running_rows (q : Vec Ideal S1x512x256 .bf16) (K V : Vec Ideal S1x4096x256 .bf16) (k : ℕ) (hk : k ≤ 8) (d : Fin 128) (e : Fin 256) :
    (running q K V k).1 (ix2 r d) = (Softmax.run (cut (score q K r)) (cut fun i => V (ix3 0 i e)) k).1
      ∧ (running q K V k).2.1 (ix2 r d) = (Softmax.run (cut (score q K r)) (cut fun i => V (ix3 0 i e)) k).2.1
      ∧ (running q K V k).2.2 (ix2 r e) = (Softmax.run (cut (score q K r)) (cut fun i => V (ix3 0 i e)) k).2.2 := by
  induction k generalizing d with
  | zero => exact initial r d e
  | succ k ih =>
    have hk' : k < k0_t1_loop.trips := lt_of_lt_of_le hk (by decide)
    have hlt (j : Fin 512) : 512 * k + j.val < 4096 := by omega
    have hs (j : Fin 512) : k0_pay2 (k0_pay9 q) (k0_pay10 q) (chunk K ⟨k, hk'⟩) (ix2 r j) = cut (score q K r) k j := by
      rw [first, cut, dif_pos (hlt j), score, score]
      exact Finset.sum_congr rfl fun x _ => by rw [chunk_apply K ⟨k, hk'⟩ j _ (hlt j)]
    have hm (d' : Fin 128) : k0_pay3 (k0_pay9 q) (k0_pay10 q) (chunk K ⟨k, hk'⟩) (running q K V k).1 (ix2 r d')
        = (Softmax.run (cut (score q K r)) (cut fun i => V (ix3 0 i e)) (k + 1)).1 := by
      rw [newMax, (ih (by omega) d').1]
      simp only [hs, Softmax.run]
    have hv (j : Fin 512) : chunk V ⟨k, hk'⟩ (ix3 0 j e) = cut (fun i => V (ix3 0 i e)) k j := by
      rw [chunk_apply V ⟨k, hk'⟩ j e (hlt j), cut, dif_pos (hlt j)]
    obtain ⟨i1, i2, i3⟩ := ih (by omega) d
    rw [running, dif_pos hk']
    dsimp only
    refine ⟨by rw [stored, hm], ?_, ?_⟩
    · rw [newSum, hm, i1, i2]
      simp only [exps _ _ _ _ r _ _ hm, hs]
      rfl
    · rw [newAcc _ _ _ _ _ _ r e _ _ (fun d' => (ih (by omega) d').1) hm, i3]
      simp only [exps _ _ _ _ r _ _ hm, hs, hv]
      rfl

/-- The factor of the second map, from the four vectors it is made of. -/
def factor (a b c d : Fin 128 → EReal) : EReal :=
  Ideal.exp (∑ x, a x * b x) - Ideal.exp (∑ x, c x * d x) + Ideal.ofBits .f32 0x3EB60549#32

/-- A row over the root of its mean square, times the gain and the last constant. -/
def normed (o g : Fin 256 → EReal) (e : Fin 256) : EReal :=
  o e * Ideal.rsqrt (Ideal.div (∑ x, o x * o x) (Ideal.ofBits .f32 0x43800000#32) + Ideal.ofBits .f32 0x358637BD#32) * g e * Ideal.ofBits .f32 0x3F24FD5C#32

/-- The kernel's factor, as one number. -/
def factorCell (v24 : FVec Ideal S1x1 .f32) (v26 : FVec Ideal S1x128 .f32) (v27 : Vec Ideal S1x128 .f32) : FVec Ideal S1x1 .f32 :=
  addf (subf v24 (exp (shapeCast S1x1 (multiReduction .add [1] S1 (mulf v26 (shapeCast S1x128 v27 shapeCasts_S1x128_S1x128)) 0x00000000#32 reduces_S1x128_S1 (.inl rfl) rfl)
    shapeCasts_S1_S1x1))) (broadcast S1x1 (Scalar.ofBits .f32 0x3EB60549#32))

/-- Each row's weighted sum over its sum of exponentials. -/
def quotients (A : Vec Ideal S1024x256 .f32) (L : Vec Ideal S1024x128 .f32) : FVec Ideal S1024x256 .f32 :=
  divf A (concatenate S1024x256 1 [⟨S1024x128, L⟩, ⟨S1024x128, L⟩] concatenates_S1024x128_S1024x128_S1024x256_d1)

/-- The first map's rows less the factor times the second map's. -/
def difference (f : FVec Ideal S1x1 .f32) (O : FVec Ideal S1024x256 .f32) : FVec Ideal S512x256 .f32 :=
  subf (extractStridedSlice S512x256 ![0, 0] O slices_S1024x256_o0_0_S512x256)
    (mulf (broadcastTo S512x256 f broadcasts_S1x1_S512x256) (extractStridedSlice S512x256 ![512, 0] O slices_S1024x256_o512_0_S512x256))

/-- The normalization of the rows. -/
def normalized (o : FVec Ideal S512x256 .f32) (g : Vec Ideal S1x256 .f32) : FVec Ideal S1x512x256 .bf16 :=
  shapeCast S1x512x256 (truncf .bf16 (mulf (mulf (mulf o (broadcastTo S512x256 (rsqrt (addf (divf (shapeCast S512x1
    (multiReduction .add [1] S512 (mulf o o) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256))
    (broadcastTo S512x256 (shapeCast S1x256 g shapeCasts_S1x256_S1x256) broadcasts_S1x256_S512x256))
    (broadcast S512x256 (Scalar.ofBits .f32 0x3F24FD5C#32))) bitsLt_bf16_f32) shapeCasts_S512x256_S1x512x256

theorem stages (v24 : FVec Ideal S1x1 .f32) (v26 : FVec Ideal S1x128 .f32) (v27 : Vec Ideal S1x128 .f32) (v36 : Vec Ideal S1024x256 .f32)
    (v37 : Vec Ideal S1024x128 .f32) (v55 : Vec Ideal S1x256 .f32) :
    k0_pay1 v24 v26 v27 v36 v37 v55 = normalized (difference (factorCell v24 v26 v27) (quotients v36 v37)) v55 := rfl

theorem factorCell_apply (a b c d : Vec Ideal S1x128 .f32) :
    factorCell (k0_pay16 a b) (k0_pay17 c) d (ix2 0 0) = factor (fun x => a (ix2 0 x)) (fun x => b (ix2 0 x)) (fun x => c (ix2 0 x)) (fun x => d (ix2 0 x)) := by
  pointwise [factorCell, k0_pay16, k0_pay17]
  rfl

theorem quotients_apply (B : Vec Ideal S1024x128 .f32) (e : Fin 256) (μ : EReal) (hμ : ∀ d : Fin 128, B (ix2 r d) = μ) :
    quotients A B (ix2 r e) = Ideal.div (A (ix2 r e)) μ := by
  pointwise [quotients]
  simp only [hμ, dite_eq_ite, ite_self]

theorem difference_apply (f : FVec Ideal S1x1 .f32) (O : FVec Ideal S1024x256 .f32) (t : Fin 512) (e : Fin 256) :
    difference f O (ix2 t e) = O (ix2 ⟨t.val, by omega⟩ e) - f (ix2 0 0) * O (ix2 ⟨512 + t.val, by omega⟩ e) := by
  pointwise [difference]

theorem normalized_apply (o : FVec Ideal S512x256 .f32) (g : Vec Ideal S1x256 .f32) (t : Fin 512) (e : Fin 256) :
    normalized o g (ix3 0 t e) = normed (fun x => o (ix2 t x)) (fun x => g (ix2 0 x)) e := by
  pointwise [normalized]
  rfl

/-- A row of the quotients, where the scores are real: the softmax-weighted sum of the values. -/
theorem row_value (q : Vec Ideal S1x512x256 .bf16) (K V : Vec Ideal S1x4096x256 .bf16)
    (hq : ∀ t e, ∃ y : ℝ, q (ix3 0 t e) = y) (hK : ∀ i x, ∃ y : ℝ, K (ix3 0 i x) = y) (e : Fin 256) :
    quotients (running q K V 8).2.2 (running q K V 8).2.1 (ix2 r e) = ∑ i : Fin 4096, Softmax.weight (score q K r) i * V (ix3 0 i e) := by
  choose Q hQ using hq
  choose J hJ using hK
  obtain ⟨X, hX⟩ : ∃ X : Fin 4096 → ℝ, ∀ i, score q K r i = X i :=
    ⟨fun i => ∑ x : Fin 128, Q ⟨r.val % 512, by omega⟩ ⟨128 * (r.val / 512) + x.val, by omega⟩ * J i ⟨128 * (r.val / 512) + x.val, by omega⟩, fun i => by
      rw [score, Softmax.coe_sum]
      exact Finset.sum_congr rfl fun x _ => by rw [hQ, hJ, EReal.coe_mul]⟩
  rw [quotients_apply _ r _ e _ fun d => (running_rows r q K V 8 le_rfl d e).2.1, (running_rows r q K V 8 le_rfl 0 e).2.2]
  have h := Softmax.run_div (n := 8) (w := 512) (N := 4096) (by omega) (by norm_num) X
    (fun i => V (ix3 0 i e)) (cut (score q K r)) (cut fun i => V (ix3 0 i e))
    (fun c j => by
      unfold cut; split_ifs
      · exact ⟨_, hX _⟩
      · exact ⟨0, rfl⟩)
    (fun c j hlt => by rw [cut, dif_pos hlt, hX]) (fun c j hlt => by rw [cut, dif_pos hlt])
  rw [h]
  exact Finset.sum_congr rfl fun i _ => congrArg (fun S => Softmax.weight S i * V (ix3 0 i e)) (funext fun i => (hX i).symm)

/-- THE OUTPUT BLOCK, where the block's queries and keys are real: at token `t` the normalized row of the differences of the two weighted sums. -/
theorem block_value (q : Vec Ideal S1x512x256 .bf16) (K V : Vec Ideal S1x4096x256 .bf16) (a b c d : Vec Ideal S1x128 .f32) (g : Vec Ideal S1x256 .f32)
    (hq : ∀ t e, ∃ y : ℝ, q (ix3 0 t e) = y) (hK : ∀ i x, ∃ y : ℝ, K (ix3 0 i x) = y) (t : Fin 512) (e : Fin 256) :
    k0_pay1 (k0_pay16 a b) (k0_pay17 c) d (running q K V 8).2.2 (running q K V 8).2.1 g (ix3 0 t e)
      = normed (fun e => (∑ i : Fin 4096, Softmax.weight (score q K ⟨t.val, by omega⟩) i * V (ix3 0 i e))
          - factor (fun x => a (ix2 0 x)) (fun x => b (ix2 0 x)) (fun x => c (ix2 0 x)) (fun x => d (ix2 0 x))
            * ∑ i : Fin 4096, Softmax.weight (score q K ⟨512 + t.val, by omega⟩) i * V (ix3 0 i e)) (fun x => g (ix2 0 x)) e := by
  rw [stages, normalized_apply]
  simp only [difference_apply, row_value _ q K V hq hK, factorCell_apply]

end Cert.AttnBIdeal.Block
-- ==== Proof.AttnBValue.lean ====
/-
  The differential attention over the extended reals: the kernel's whole output array.
-/
module

public import proofs.«01_k».proof.Proof.AttnBRows
public import proofs.«01_k».proof.Proof.Gen.AttnBIdeal.Value
public import Idealize.ShloMosaic.Lib.Pipeline.Covers

@[expose] public section

set_option maxRecDepth 16384

noncomputable section

namespace Cert.AttnBIdeal.Block

open Cert.AttnBIdeal Cert.AttnBIdeal.Gen Idealize.ShloMosaic Idealize.ShloMosaic.TcCoe Idealize.SL.Sem

/-- The score of query token `s` against key token `i`, in one of the sixteen half-heads `p` (head `p / 2`, map `p % 2`). -/
def headScore (Q K : FVec Ideal S8x4096x2048 .bf16) (b : Fin 8) (s : Fin 4096) (p : Fin 16) (i : Fin 4096) : EReal :=
  ∑ x : Fin 128, Q (ix3 b s ⟨128 * p.val + x.val, by omega⟩) * K (ix3 b i ⟨128 * p.val + x.val, by omega⟩)

/-- The weighted sum of head `h`'s values, column `e`, by half-head `p`'s softmax. -/
def headMix (Q K V : FVec Ideal S8x4096x2048 .bf16) (b : Fin 8) (s : Fin 4096) (p : Fin 16) (h : Fin 8) (e : Fin 256) : EReal :=
  ∑ i : Fin 4096, Softmax.weight (headScore Q K b s p) i * V (ix3 b i ⟨256 * h.val + e.val, by omega⟩)

/-- Differential attention at column `256 h + e`: the first map's mix less the factor times the second's, normalized over the head's columns. -/
def attention (Q K V : FVec Ideal S8x4096x2048 .bf16) (w x y z : FVec Ideal S128 .f32) (g : FVec Ideal S256 .f32) (b : Fin 8) (s : Fin 4096) (h : Fin 8)
    (e : Fin 256) : EReal :=
  normed (fun e => headMix Q K V b s ⟨2 * h.val, by omega⟩ h e
    - factor (fun i => w (ix1 i)) (fun i => x (ix1 i)) (fun i => y (ix1 i)) (fun i => z (ix1 i)) * headMix Q K V b s ⟨2 * h.val + 1, by omega⟩ h e)
    (fun e => g (ix1 e)) e

variable (m : (ℓ : Loc nD τ sig) → Buf (Elt Ideal) ℓ) (c : Dev nD)

theorem bound0 (t : Fin cfg0.N) : (grid0.coords t 0).val < 8 := (grid0.coords t 0).isLt
theorem bound1 (t : Fin cfg0.N) : (grid0.coords t 1).val < 8 := (grid0.coords t 1).isLt
theorem bound2 (t : Fin cfg0.N) : (grid0.coords t 2).val < 8 := (grid0.coords t 2).isLt

/-- Where each window's block lies, from the grid's coordinates. -/
theorem map0 (i : grid0.Coords) : cc0_transform_0 i = ![(i 0).val, (i 2).val, (i 1).val] := by
  have h0 : (i 0).val < 8 := (i 0).isLt
  have h1 : (i 1).val < 8 := (i 1).isLt
  have h2 : (i 2).val < 8 := (i 2).isLt
  unfold cc0_transform_0
  funext a
  fin_cases a <;> simp [BitVec.toNat_ofNat] <;> omega

theorem map1 (i : grid0.Coords) : cc0_transform_1 i = ![(i 0).val, 0, (i 1).val] := by
  have h0 : (i 0).val < 8 := (i 0).isLt
  have h1 : (i 1).val < 8 := (i 1).isLt
  unfold cc0_transform_1
  funext a
  fin_cases a <;> simp [BitVec.toNat_ofNat] <;> omega

theorem place0 (t : Fin cfg0.N) : win0_0.index t = ![(grid0.coords t 0).val, (grid0.coords t 2).val, (grid0.coords t 1).val] := map0 _
theorem place1 (t : Fin cfg0.N) : win0_1.index t = ![(grid0.coords t 0).val, 0, (grid0.coords t 1).val] := map1 _
theorem place2 (t : Fin cfg0.N) : win0_2.index t = ![(grid0.coords t 0).val, 0, (grid0.coords t 1).val] := map1 _
theorem place3 (t : Fin cfg0.N) : win0_3.index t = ![0, 0] := by show cc0_transform_3 (grid0.coords t) = _; unfold cc0_transform_3; funext a; fin_cases a <;> rfl
theorem place4 (t : Fin cfg0.N) : win0_4.index t = ![0, 0] := place3 t
theorem place5 (t : Fin cfg0.N) : win0_5.index t = ![0, 0] := place3 t
theorem place6 (t : Fin cfg0.N) : win0_6.index t = ![0, 0] := place3 t
theorem place7 (t : Fin cfg0.N) : win0_7.index t = ![0, 0] := place3 t
theorem place8 (t : Fin cfg0.N) : win0_8.index t = ![(grid0.coords t 0).val, (grid0.coords t 2).val, (grid0.coords t 1).val] := map0 _

theorem queries (t : Fin cfg0.N) (i : Fin 512) (e : Fin 256) :
    iblk m c 0 t (ix3 (0 : Fin 1) i e) = m ((c : Thread nD τ).loc main_arg0)
      (ix3 (⟨(grid0.coords t 0).val, bound0 t⟩ : Fin 8) (⟨512 * (grid0.coords t 2).val + i.val, by have := bound2 t; omega⟩ : Fin 4096)
        (⟨256 * (grid0.coords t 1).val + e.val, by have := bound1 t; omega⟩ : Fin 2048)) := by
  blk_ext [iblk, V, place0 t]

theorem keys (t : Fin cfg0.N) (i : Fin 4096) (e : Fin 256) :
    iblk m c 1 t (ix3 (0 : Fin 1) i e) = m ((c : Thread nD τ).loc main_arg1)
      (ix3 (⟨(grid0.coords t 0).val, bound0 t⟩ : Fin 8) i (⟨256 * (grid0.coords t 1).val + e.val, by have := bound1 t; omega⟩ : Fin 2048)) := by
  blk_ext [iblk, V, place1 t]

theorem values (t : Fin cfg0.N) (i : Fin 4096) (e : Fin 256) :
    iblk m c 2 t (ix3 (0 : Fin 1) i e) = m ((c : Thread nD τ).loc main_arg2)
      (ix3 (⟨(grid0.coords t 0).val, bound0 t⟩ : Fin 8) i (⟨256 * (grid0.coords t 1).val + e.val, by have := bound1 t; omega⟩ : Fin 2048)) := by
  blk_ext [iblk, V, place2 t]

theorem row128 (X : FVec Ideal S128 .f32) (x : Fin 128) : shapeCast S1x128 X shapeCasts_S128_S1x128 (ix2 (0 : Fin 1) x) = X (ix1 x) := by
  pointwise []

theorem row256 (X : FVec Ideal S256 .f32) (x : Fin 256) : shapeCast S1x256 X shapeCasts_S256_S1x256 (ix2 (0 : Fin 1) x) = X (ix1 x) := by
  pointwise []

theorem held0 : V m c main_v0 = shapeCast S1x128 (m ((c : Thread nD τ).loc main_arg3)) shapeCasts_S128_S1x128 := by
  unfold V; after_results_simp <;> rfl
theorem held1 : V m c main_v1 = shapeCast S1x128 (m ((c : Thread nD τ).loc main_arg4)) shapeCasts_S128_S1x128 := by
  unfold V; after_results_simp <;> rfl
theorem held2 : V m c main_v2 = shapeCast S1x128 (m ((c : Thread nD τ).loc main_arg5)) shapeCasts_S128_S1x128 := by
  unfold V; after_results_simp <;> rfl
theorem held3 : V m c main_v3 = shapeCast S1x128 (m ((c : Thread nD τ).loc main_arg6)) shapeCasts_S128_S1x128 := by
  unfold V; after_results_simp <;> rfl
theorem held4 : V m c main_v4 = shapeCast S1x256 (m ((c : Thread nD τ).loc main_arg7)) shapeCasts_S256_S1x256 := by
  unfold V; after_results_simp <;> rfl

theorem small3 (t : Fin cfg0.N) (x : Fin 128) : iblk m c 3 t (ix2 (0 : Fin 1) x) = m ((c : Thread nD τ).loc main_arg3) (ix1 x) := by
  refine Eq.trans ?_ (row128 (m ((c : Thread nD τ).loc main_arg3)) x)
  rw [← held0]
  blk_ext [iblk, place3 t]
theorem small4 (t : Fin cfg0.N) (x : Fin 128) : iblk m c 4 t (ix2 (0 : Fin 1) x) = m ((c : Thread nD τ).loc main_arg4) (ix1 x) := by
  refine Eq.trans ?_ (row128 (m ((c : Thread nD τ).loc main_arg4)) x)
  rw [← held1]
  blk_ext [iblk, place4 t]
theorem small5 (t : Fin cfg0.N) (x : Fin 128) : iblk m c 5 t (ix2 (0 : Fin 1) x) = m ((c : Thread nD τ).loc main_arg5) (ix1 x) := by
  refine Eq.trans ?_ (row128 (m ((c : Thread nD τ).loc main_arg5)) x)
  rw [← held2]
  blk_ext [iblk, place5 t]
theorem small6 (t : Fin cfg0.N) (x : Fin 128) : iblk m c 6 t (ix2 (0 : Fin 1) x) = m ((c : Thread nD τ).loc main_arg6) (ix1 x) := by
  refine Eq.trans ?_ (row128 (m ((c : Thread nD τ).loc main_arg6)) x)
  rw [← held3]
  blk_ext [iblk, place6 t]
theorem small7 (t : Fin cfg0.N) (x : Fin 256) : iblk m c 7 t (ix2 (0 : Fin 1) x) = m ((c : Thread nD τ).loc main_arg7) (ix1 x) := by
  refine Eq.trans ?_ (row256 (m ((c : Thread nD τ).loc main_arg7)) x)
  rw [← held4]
  blk_ext [iblk, place7 t]

/-- Every block of the output array is some point's. -/
theorem covers : (cfg0.win 8).Covers := by
  refine Pipeline.Window.covers_of_indexMap_surj _ rfl (fun a => by fin_cases a <;> decide) fun β => ?_
  have b0 : (β (0 : Fin 3)).val < 8 := lt_of_lt_of_eq (β (0 : Fin 3)).isLt (by decide +kernel)
  have b1 : (β (1 : Fin 3)).val < 8 := lt_of_lt_of_eq (β (1 : Fin 3)).isLt (by decide +kernel)
  have b2 : (β (2 : Fin 3)).val < 8 := lt_of_lt_of_eq (β (2 : Fin 3)).isLt (by decide +kernel)
  let i : grid0.Coords := Fin.cons ⟨_, b0⟩ (Fin.cons ⟨_, b2⟩ (Fin.cons ⟨_, b1⟩ finZeroElim))
  refine ⟨i, fun a => ?_⟩
  show cc0_transform_0 i a = _
  rw [map0]
  fin_cases a <;> rfl

/-- The scores of a block's row are the whole arrays' scores of its half-head. -/
theorem block_score (t : Fin cfg0.N) (r : Fin 1024) (s : Fin 4096) (p : Fin 16) (hs : s.val = 512 * (grid0.coords t 2).val + r.val % 512)
    (hp : p.val = 2 * (grid0.coords t 1).val + r.val / 512) :
    score (iblk m c 0 t) (iblk m c 1 t) r = headScore (m ((c : Thread nD τ).loc main_arg0)) (m ((c : Thread nD τ).loc main_arg1))
      ⟨(grid0.coords t 0).val, bound0 t⟩ s p := by
  funext i
  unfold score headScore
  refine Finset.sum_congr rfl fun x _ => ?_
  rw [queries, keys]
  exact congrArg₂ (fun x y : EReal => x * y) (at3 (m ((c : Thread nD τ).loc main_arg0)) rfl (by dsimp only; omega) (by dsimp only; omega))
    (at3 (m ((c : Thread nD τ).loc main_arg1)) rfl rfl (by dsimp only; omega))

/-- THE KERNEL'S OUTPUT ARRAY, for real queries and keys. -/
theorem array (hq : ∀ i, ∃ y : ℝ, m ((c : Thread nD τ).loc main_arg0) i = (y : EReal)) (hK : ∀ i, ∃ y : ℝ, m ((c : Thread nD τ).loc main_arg1) i = (y : EReal)) :
    (dats m 0 c).arrAt 8 cfg0.N = fun j => attention (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (j 0) (j 1)
      ⟨(j 2).val / 256, by have : (j 2).val < 2048 := (j 2).isLt; omega⟩ ⟨(j 2).val % 256, by omega⟩ := by
  refine (dats m 0 c).arrAt_eq_of_covers 8 _ covers fun t hf y => ?_
  blk_simp
  rw [after0_8]
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
  rw [out_eq]
  have h0 := bound0 t; have h1 := bound1 t; have h2 := bound2 t
  obtain ⟨z, i, e, rfl⟩ : ∃ (z : Fin 1) (i : Fin 512) (e : Fin 256), y = ix3 z i e := ⟨y 0, y 1, y 2, by funext a; fin_cases a <;> rfl⟩
  obtain rfl : z = 0 := Subsingleton.elim _ _
  have he := e.isLt
  have hi := i.isLt
  rw [block_value _ _ _ _ _ _ _ _ (fun i e => by rw [queries]; exact hq _) (fun i e => by rw [keys]; exact hK _)]
  rw [block_score m c t ⟨i.val, by omega⟩ ⟨512 * (grid0.coords t 2).val + i.val, by omega⟩ ⟨2 * (grid0.coords t 1).val, by omega⟩
      (by dsimp only; omega) (by dsimp only; omega),
    block_score m c t ⟨512 + i.val, by omega⟩ ⟨512 * (grid0.coords t 2).val + i.val, by omega⟩ ⟨2 * (grid0.coords t 1).val + 1, by omega⟩
      (by dsimp only; omega) (by dsimp only; omega)]
  simp only [values, small3, small4, small5, small6, small7]
  have p2 : win0_8.index t 2 = (grid0.coords t 1).val := congrFun (place8 t) 2
  refine Eq.trans (b := attention (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) ⟨(grid0.coords t 0).val, h0⟩ ⟨512 * (grid0.coords t 2).val + i.val, by omega⟩
      ⟨(grid0.coords t 1).val, h1⟩ e) rfl ?_
  have p0 : win0_8.index t 0 = (grid0.coords t 0).val := congrFun (place8 t) 0
  have p1 : win0_8.index t 1 = (grid0.coords t 2).val := congrFun (place8 t) 1
  congr 1 <;> refine Fin.ext ?_
  · show (grid0.coords t 0).val = win0_8.index t 0 * 1 + 1 * 0
    rw [p0]; omega
  · show 512 * (grid0.coords t 2).val + i.val = win0_8.index t 1 * 512 + 1 * i.val
    rw [p1]; omega
  · show (grid0.coords t 1).val = (win0_8.index t 2 * 256 + e.val) / 256
    rw [p2]; omega
  · show e.val = (win0_8.index t 2 * 256 + e.val) % 256
    rw [p2]; omega

end Cert.AttnBIdeal.Block

end
-- ==== Proof.AttnBRef.lean ====
/-
  The differential attention over the extended reals: the reference's result.
-/
module

public import proofs.«01_k».proof.Proof.AttnBValue
public import proofs.«01_k».proof.Proof.Gen.AttnBRefIdeal.Run
public import proofs.«01_k».proof.Proof.RowMax

@[expose] public section

set_option maxRecDepth 16384

noncomputable section

namespace Cert.AttnBRefIdeal.Block

open Cert.AttnBRefIdeal Cert.AttnBRefIdeal.Gen Idealize.ShloMosaic Idealize.ShloMosaic.TcCoe Idealize.SL.Sem
open Cert.AttnBIdeal.Block (headScore headMix factor normed attention at3)

/-- The reference's scores: batch, half-head, query token, key token. -/
def scores (Q K : FVec Ideal S8x4096x2048 .bf16) : FVec Ideal S8x16x4096x4096 .f32 :=
  Host.dotGeneral dot_S8x4096x16x128_S8x4096x16x128_S8x16x4096x4096_3_3_1_1_02_02 none
    (shapeCast _ (extf .f32 Q bitsLt_bf16_f32) shapeCasts_S8x4096x2048_S8x4096x16x128)
    (shapeCast _ (extf .f32 K bitsLt_bf16_f32) shapeCasts_S8x4096x2048_S8x4096x16x128)

/-- The maximum of each row of scores. -/
def maxima (S : FVec Ideal S8x16x4096x4096 .f32) : FVec Ideal S8x16x4096 .f32 :=
  Host.reduce FloatOps.maximumf S (constant S_ .f32 0xFF800000#32) reducesTo_S8x16x4096x4096_S8x16x4096_d3 h_S_

/-- The exponentials of the scores less their row's maximum. -/
def exps (S : FVec Ideal S8x16x4096x4096 .f32) (M : FVec Ideal S8x16x4096 .f32) : FVec Ideal S8x16x4096x4096 .f32 :=
  Host.exp (subf S (broadcastInDim S8x16x4096x4096 ![0, 1, 2, 3] bcast_S8x16x4096x1_S8x16x4096x4096_0_1_2_3
    (broadcastInDim S8x16x4096x1 ![0, 1, 2] bcast_S8x16x4096_S8x16x4096x1_0_1_2
      (maximumf (broadcastInDim S8x16x4096 ![] bcast_S_S8x16x4096 (constant S_ .f32 0xFF800000#32)) M))))

/-- Each row of exponentials over its sum. -/
def quotients (E : FVec Ideal S8x16x4096x4096 .f32) : FVec Ideal S8x16x4096x4096 .f32 :=
  Host.divf E (broadcastInDim S8x16x4096x4096 ![0, 1, 2, 3] bcast_S8x16x4096x1_S8x16x4096x4096_0_1_2_3
    (broadcastInDim S8x16x4096x1 ![0, 1, 2] bcast_S8x16x4096_S8x16x4096x1_0_1_2
      (Host.reduceAdd E (constant S_ .f32 0x00000000#32) reducesTo_S8x16x4096x4096_S8x16x4096_d3 h_S_)))

/-- The factor of the second map. -/
def factorCell (w x y z : FVec Ideal S128 .f32) : FVec Ideal S_ .f32 :=
  addf (subf (Host.exp (Host.reduceAdd (mulf w x) (constant S_ .f32 0x00000000#32) reducesTo_S128_S_d0 h_S_))
    (Host.exp (Host.reduceAdd (mulf y z) (constant S_ .f32 0x00000000#32) reducesTo_S128_S_d0 h_S_))) (constant S_ .f32 0x3EB60549#32)

/-- The first map less the factor times the second, per head. -/
def difference (W : FVec Ideal S8x16x4096x4096 .f32) (f : FVec Ideal S_ .f32) : FVec Ideal S8x8x4096x4096 .f32 :=
  subf (shapeCast _ (extractStridedSlice S8x8x1x4096x4096 ![0, 0, 0, 0, 0] (shapeCast _ W shapeCasts_S8x16x4096x4096_S8x8x2x4096x4096)
      slices_S8x8x2x4096x4096_S8x8x1x4096x4096_0_0_0_0_0) shapeCasts_S8x8x1x4096x4096_S8x8x4096x4096)
    (mulf (broadcastInDim S8x8x4096x4096 ![] bcast_S_S8x8x4096x4096 f)
      (shapeCast _ (extractStridedSlice S8x8x1x4096x4096 ![0, 0, 1, 0, 0] (shapeCast _ W shapeCasts_S8x16x4096x4096_S8x8x2x4096x4096)
        slices_S8x8x2x4096x4096_S8x8x1x4096x4096_0_0_1_0_0) shapeCasts_S8x8x1x4096x4096_S8x8x4096x4096))

/-- The weighted sums of the values. -/
def mix (D : FVec Ideal S8x8x4096x4096 .f32) (V : FVec Ideal S8x4096x2048 .bf16) : FVec Ideal S8x4096x8x256 .f32 :=
  transpose S8x4096x8x256 [0, 3, 1, 2] (Host.dotGeneral dot_S8x4096x8x256_S8x8x4096x4096_S8x8x256x4096_1_3_3_2_02_01 none
    (shapeCast _ (extf .f32 V bitsLt_bf16_f32) shapeCasts_S8x4096x2048_S8x4096x8x256) D) transposes_S8x8x256x4096_S8x4096x8x256_0_3_1_2

/-- The normalization of each head's columns. -/
def normalized (o : FVec Ideal S8x4096x8x256 .f32) (g : FVec Ideal S256 .f32) : FVec Ideal S8x4096x2048 .bf16 :=
  truncf .bf16 (shapeCast _ (mulf (mulf (mulf o (broadcastInDim S8x4096x8x256 ![0, 1, 2, 3] bcast_S8x4096x8x1_S8x4096x8x256_0_1_2_3
    (Host.rsqrt (addf (Host.divf (broadcastInDim S8x4096x8x1 ![0, 1, 2] bcast_S8x4096x8_S8x4096x8x1_0_1_2
      (Host.reduceAdd (mulf o o) (constant S_ .f32 0x00000000#32) reducesTo_S8x4096x8x256_S8x4096x8_d3 h_S_))
        (broadcastInDim S8x4096x8x1 ![] bcast_S_S8x4096x8x1 (constant S_ .f32 0x43800000#32)))
        (broadcastInDim S8x4096x8x1 ![] bcast_S_S8x4096x8x1 (constant S_ .f32 0x358637BD#32))))))
    (broadcastInDim S8x4096x8x256 ![0, 1, 2, 3] bcast_S1x1x1x256_S8x4096x8x256_0_1_2_3 (broadcastInDim S1x1x1x256 ![3] bcast_S256_S1x1x1x256_3 g)))
    (broadcastInDim S8x4096x8x256 ![] bcast_S_S8x4096x8x256 (constant S_ .f32 0x3F24FD5C#32))) shapeCasts_S8x4096x8x256_S8x4096x2048) bitsLt_bf16_f32

variable (Q K V : FVec Ideal S8x4096x2048 .bf16) (S W E : FVec Ideal S8x16x4096x4096 .f32) (b : Fin 8) (h : Fin 8) (p : Fin 16) (s i : Fin 4096)

theorem scores_apply : scores Q K (ix4 b p s i) = headScore Q K b s p i := by
  pointwise [scores]
  exact Finset.sum_congr rfl fun x _ => congrArg₂ (fun x y : EReal => x * y) (at3 Q rfl rfl (by dsimp only; omega)) (at3 K rfl rfl (by dsimp only; omega))

theorem maxima_apply : maxima S (ix3 b p s) = Finset.univ.fold max ⊥ fun i => S (ix4 b p s i) := by
  rw [← Cert.AttnBIdeal.Block.neg_inf]
  exact RowMax.last4 S _ _ _ b p s

theorem exps_apply (M : FVec Ideal S8x16x4096 .f32) : exps S M (ix4 b p s i) = Ideal.exp (S (ix4 b p s i) - M (ix3 b p s)) := by
  pointwise [exps]
  rw [Cert.AttnBIdeal.Block.neg_inf, bot_sup_eq]

theorem quotients_apply : quotients E (ix4 b p s i) = Ideal.div (E (ix4 b p s i)) (∑ i, E (ix4 b p s i)) := by
  pointwise [quotients]

theorem factorCell_apply (w x y z : FVec Ideal S128 .f32) :
    factorCell w x y z ix0 = factor (fun i => w (ix1 i)) (fun i => x (ix1 i)) (fun i => y (ix1 i)) (fun i => z (ix1 i)) := by
  pointwise [factorCell]
  rfl

theorem difference_apply (f : FVec Ideal S_ .f32) : difference W f (ix4 b h s i)
    = W (ix4 b ⟨2 * h.val, by omega⟩ s i) - f ix0 * W (ix4 b ⟨2 * h.val + 1, by omega⟩ s i) := by
  pointwise [difference]
  simp only [mul_comm h.val 2]

theorem mix_apply (D : FVec Ideal S8x8x4096x4096 .f32) (e : Fin 256) :
    mix D V (ix4 b s h e) = ∑ i : Fin 4096, V (ix3 b i ⟨256 * h.val + e.val, by omega⟩) * D (ix4 b h s i) := by
  pointwise [mix]
  simp only [mul_comm h.val 256]

theorem normalized_apply (o : FVec Ideal S8x4096x8x256 .f32) (g : FVec Ideal S256 .f32) (j : Fin 2048) :
    normalized o g (ix3 b s j) = normed (fun e => o (ix4 b s ⟨j.val / 256, by omega⟩ e)) (fun e => g (ix1 e)) ⟨j.val % 256, by omega⟩ := by
  pointwise [normalized]
  rfl

/-- A sum weighted by a difference of weights is the difference of the two weighted sums, among reals. -/
theorem split {N : ℕ} (v a c : Fin N → ℝ) (f : ℝ) :
    ∑ i, (v i : EReal) * ((a i : EReal) - (f : EReal) * (c i : EReal)) = ∑ i, (a i : EReal) * (v i : EReal) - (f : EReal) * ∑ i, (c i : EReal) * (v i : EReal) := by
  simp only [← EReal.coe_mul, ← EReal.coe_sub, ← Softmax.coe_sum]
  rw [Finset.mul_sum, ← Finset.sum_sub_distrib]
  exact congrArg _ (Finset.sum_congr rfl fun i _ => by ring)

theorem offset_real : ∃ y : ℝ, Ideal.ofBits .f32 0x3EB60549#32 = (y : EReal) := by
  simp only [Ideal.ofBits, Ideal.ieee]
  exact ⟨_, rfl⟩

theorem exp_dot_real {w x : Fin 128 → EReal} (hw : ∀ i, ∃ y : ℝ, w i = (y : EReal)) (hx : ∀ i, ∃ y : ℝ, x i = (y : EReal)) :
    ∃ y : ℝ, Ideal.exp (∑ i, w i * x i) = (y : EReal) := by
  choose A hA using hw
  choose B hB using hx
  simp only [hA, hB, ← EReal.coe_mul, ← Softmax.coe_sum, Ideal.exp_coe]
  exact ⟨_, rfl⟩

/-- The factor of real vectors is real. -/
theorem factor_real {w x y z : Fin 128 → EReal} (hw : ∀ i, ∃ r : ℝ, w i = (r : EReal)) (hx : ∀ i, ∃ r : ℝ, x i = (r : EReal))
    (hy : ∀ i, ∃ r : ℝ, y i = (r : EReal)) (hz : ∀ i, ∃ r : ℝ, z i = (r : EReal)) : ∃ r : ℝ, factor w x y z = (r : EReal) := by
  obtain ⟨a, ha⟩ := exp_dot_real hw hx
  obtain ⟨d, hd⟩ := exp_dot_real hy hz
  obtain ⟨c, hc⟩ := offset_real
  exact ⟨a - d + c, by rw [factor, ha, hd, hc, EReal.coe_add, EReal.coe_sub]⟩

/-- The weights of a row of real scores are real. -/
theorem weights_real (hQ : ∀ i, ∃ y : ℝ, Q i = (y : EReal)) (hK : ∀ i, ∃ y : ℝ, K i = (y : EReal)) :
    ∃ a : Fin 4096 → ℝ, ∀ i, Softmax.weight (headScore Q K b s p) i = (a i : EReal) := by
  choose A hA using hQ
  choose B hB using hK
  have e : headScore Q K b s p = fun i => ((∑ x : Fin 128, A (ix3 b s ⟨128 * p.val + x.val, by omega⟩) * B (ix3 b i ⟨128 * p.val + x.val, by omega⟩) : ℝ) : EReal) := by
    funext i
    simp only [headScore, Softmax.coe_sum, EReal.coe_mul, hA, hB]
  obtain ⟨a, -, ha⟩ := Softmax.weight_real fun i => ∑ x : Fin 128, A (ix3 b s ⟨128 * p.val + x.val, by omega⟩) * B (ix3 b i ⟨128 * p.val + x.val, by omega⟩)
  exact ⟨a, fun i => by rw [e, ha]⟩

/-- The reference's stages together are the differential attention, where queries, keys, values and the factor's vectors are real. -/
theorem value (w x y z : FVec Ideal S128 .f32) (g : FVec Ideal S256 .f32)
    (hQ : ∀ i, ∃ r : ℝ, Q i = (r : EReal)) (hK : ∀ i, ∃ r : ℝ, K i = (r : EReal)) (hV : ∀ i, ∃ r : ℝ, V i = (r : EReal))
    (hw : ∀ i, ∃ r : ℝ, w i = (r : EReal)) (hx : ∀ i, ∃ r : ℝ, x i = (r : EReal)) (hy : ∀ i, ∃ r : ℝ, y i = (r : EReal)) (hz : ∀ i, ∃ r : ℝ, z i = (r : EReal)) :
    normalized (mix (difference (quotients (exps (scores Q K) (maxima (scores Q K)))) (factorCell w x y z)) V) g
      = fun j => attention Q K V w x y z g (j 0) (j 1) ⟨(j 2).val / 256, by have : (j 2).val < 2048 := (j 2).isLt; omega⟩ ⟨(j 2).val % 256, by omega⟩ := by
  funext j
  obtain ⟨b, s, c, rfl⟩ : ∃ (b : Fin 8) (s : Fin 4096) (c : Fin 2048), j = ix3 b s c := ⟨j 0, j 1, j 2, by funext a; fin_cases a <;> rfl⟩
  have hc := c.isLt
  show _ = attention Q K V w x y z g b s ⟨c.val / 256, by omega⟩ ⟨c.val % 256, by omega⟩
  rw [normalized_apply, attention]
  refine congrArg (fun o => normed o (fun e => g (ix1 e)) (⟨c.val % 256, by omega⟩ : Fin 256)) (funext fun e => ?_)
  rw [mix_apply]
  have hq (p : Fin 16) (i : Fin 4096) : quotients (exps (scores Q K) (maxima (scores Q K))) (ix4 b p s i) = Softmax.weight (headScore Q K b s p) i := by
    rw [quotients_apply]
    simp only [exps_apply, maxima_apply, scores_apply, Softmax.weight]
  simp only [difference_apply, hq, factorCell_apply]
  obtain ⟨f, hf⟩ := factor_real (w := fun i => w (ix1 i)) (x := fun i => x (ix1 i)) (y := fun i => y (ix1 i)) (z := fun i => z (ix1 i))
    (fun i => hw _) (fun i => hx _) (fun i => hy _) (fun i => hz _)
  obtain ⟨a₁, h₁⟩ := weights_real Q K b ⟨2 * (c.val / 256), by omega⟩ s hQ hK
  obtain ⟨a₂, h₂⟩ := weights_real Q K b ⟨2 * (c.val / 256) + 1, by omega⟩ s hQ hK
  choose v hv using hV
  simp only [headMix, hf, h₁, h₂, hv]
  exact split _ _ _ _

variable (m : (ℓ : Loc nD τ sig) → Buf (Elt Ideal) ℓ) (ρ : Dev nD → PrngReg)

/-- What the reference computes is its stages. -/
theorem result (c : Dev nD) : Value.res_main_v52 m c
    = normalized (mix (difference (quotients (exps (scores (m ((c.tc : Thread nD τ).loc main_arg0)) (m ((c.tc : Thread nD τ).loc main_arg1)))
        (maxima (scores (m ((c.tc : Thread nD τ).loc main_arg0)) (m ((c.tc : Thread nD τ).loc main_arg1))))))
        (factorCell (m ((c.tc : Thread nD τ).loc main_arg3)) (m ((c.tc : Thread nD τ).loc main_arg4)) (m ((c.tc : Thread nD τ).loc main_arg5)) (m ((c.tc : Thread nD τ).loc main_arg6))))
        (m ((c.tc : Thread nD τ).loc main_arg2))) (m ((c.tc : Thread nD τ).loc main_arg7)) := by
  unfold Value.res_main_v52
  rfl

end Cert.AttnBRefIdeal.Block

end
-- ==== Proof.FiniteAll.lean ====
/-
  The differential attention's precondition read back: every entry of the operands that it names is a real number.
-/
module

public import proofs.«01_k».proof.Pre_finite_operands
public import proofs.«01_k».proof.Proof.Finite

@[expose] public section

noncomputable section

namespace Cert.Finite

open Idealize.ShloMosaic

theorem operandsFacts : Cert.Pre_finite_operands.Facts where
  bcast_S_S8x4096x2048 := by decide
  bcast_S_S128 := by decide

theorem operands [Cert.Pre_finite_operands.Facts] (q k v : FVec Ideal Cert.Pre_finite_operands.S8x4096x2048 .bf16)
    (a b c d : FVec Ideal Cert.Pre_finite_operands.S128 .f32) (g : FVec Ideal Cert.Pre_finite_operands.S256 .f32)
    (h : (Cert.Pre_finite_operands.fn q k v a b c d g).1 = (fun _ => 1#1) ∧ (Cert.Pre_finite_operands.fn q k v a b c d g).2.1 = (fun _ => 1#1)
      ∧ (Cert.Pre_finite_operands.fn q k v a b c d g).2.2.1 = (fun _ => 1#1) ∧ (Cert.Pre_finite_operands.fn q k v a b c d g).2.2.2.1 = (fun _ => 1#1)
      ∧ (Cert.Pre_finite_operands.fn q k v a b c d g).2.2.2.2.1 = (fun _ => 1#1) ∧ (Cert.Pre_finite_operands.fn q k v a b c d g).2.2.2.2.2.1 = (fun _ => 1#1)
      ∧ (Cert.Pre_finite_operands.fn q k v a b c d g).2.2.2.2.2.2 = fun _ => 1#1) :
    (∀ i, ∃ y : ℝ, q i = (y : EReal)) ∧ (∀ i, ∃ y : ℝ, k i = (y : EReal)) ∧ (∀ i, ∃ y : ℝ, v i = (y : EReal)) ∧ (∀ i, ∃ y : ℝ, a i = (y : EReal))
      ∧ (∀ i, ∃ y : ℝ, b i = (y : EReal)) ∧ (∀ i, ∃ y : ℝ, c i = (y : EReal)) ∧ ∀ i, ∃ y : ℝ, d i = (y : EReal) :=
  ⟨real_of_test q _ _ inf16 h.1, real_of_test k _ _ inf16 h.2.1, real_of_test v _ _ inf16 h.2.2.1, real_of_test a _ _ inf32 h.2.2.2.1,
    real_of_test b _ _ inf32 h.2.2.2.2.1, real_of_test c _ _ inf32 h.2.2.2.2.2.1, real_of_test d _ _ inf32 h.2.2.2.2.2.2⟩

end Cert.Finite

end
-- ==== Proof.AttnB.lean ====
/-
  The differential attention's claims: the frames of its three programs and the kernel's equality with its reference.
-/
module

public import proofs.«01_k».proof.Defs
public import proofs.«01_k».proof.Proof.AttnBRef
public import proofs.«01_k».proof.Proof.FiniteAll
public import proofs.«01_k».proof.Proof.Gen.AttnB.Frame
public import Idealize.ShloMosaic.Lib.Quiescent

@[expose] public section

noncomputable section

namespace Cert.AttnBProof

open Idealize.ShloMosaic Idealize.SL.Sem

/-- The kernel runs, keeps its arguments and leaves every semaphore at zero. -/
theorem kernel_frame : Cert.quiescent_AttnB (hAttnB := Cert.AttnB.Gen.facts) := fun m ρ _ => Cert.AttnB.Gen.frame m ρ

/-- So does its reading over the extended reals. -/
theorem ideal_frame : Cert.quiescent_AttnBIdeal (hAttnBIdeal := Cert.AttnBIdeal.Gen.facts) := fun m ρ _ => Cert.AttnBIdeal.Gen.frame m ρ

theorem ideal_frame_pre : Cert.quiescent_AttnBIdeal_pre_finite_operands (hAttnBIdeal := Cert.AttnBIdeal.Gen.facts) (hPre_finite_operands := Cert.Finite.operandsFacts) :=
  fun m ρ _ => Cert.AttnBIdeal.Gen.frame m ρ

/-- So does the reference. -/
theorem reference_frame : Cert.quiescent_AttnBRefIdeal (hAttnBRefIdeal := Cert.AttnBRefIdeal.Gen.facts) :=
  fun m ρ _ => (θ_run _ _ _).mono (fun r h => ⟨fun c => (h c).2, sem_eq_zero_of_no_sems (by decide) r.2⟩) (Cert.AttnBRefIdeal.Value.run m ρ)

theorem reference_frame_pre : Cert.quiescent_AttnBRefIdeal_pre_finite_operands (hAttnBRefIdeal := Cert.AttnBRefIdeal.Gen.facts) (hPre_finite_operands := Cert.Finite.operandsFacts) :=
  fun m ρ _ => (θ_run _ _ _).mono (fun r h => ⟨fun c => (h c).2, sem_eq_zero_of_no_sems (by decide) r.2⟩) (Cert.AttnBRefIdeal.Value.run m ρ)

/-- Over the extended reals, for real queries, keys, values and lambda vectors, the kernel and the reference give the same array. -/
theorem algebraic : Cert.algebraic_AttnBIdeal_AttnBRefIdeal_pre_finite_operands (hAttnBIdeal := Cert.AttnBIdeal.Gen.facts)
    (hAttnBRefIdeal := Cert.AttnBRefIdeal.Gen.facts) (hPre_finite_operands := Cert.Finite.operandsFacts) := by
  intro m ρ m' ρ' hpre hag
  letI := Cert.Finite.operandsFacts
  have hfin (c) := Cert.Finite.operands _ _ _ _ _ _ _ _ (hpre c)
  refine ⟨_, (θ_run _ _ _).mono (fun r h c => ⟨(h c).1.trans (Cert.AttnBIdeal.Block.array m c (hfin c).1 (hfin c).2.1), (h c).2⟩)
    (Cert.AttnBIdeal.Value.run_blocks m ρ), (θ_run _ _ _).mono (fun r h c => ⟨(h c).1.trans ?_, (h c).2⟩) (Cert.AttnBRefIdeal.Value.run m' ρ')⟩
  obtain ⟨e0, e1, e2, e3, e4, e5, e6, e7⟩ := hag c
  obtain ⟨f0, f1, f2, f3, f4, f5, f6⟩ := hfin c
  rw [Cert.AttnBRefIdeal.Block.result, e0, e1, e2, e3, e4, e5, e6, e7]
  exact Cert.AttnBRefIdeal.Block.value _ _ _ _ _ _ _ _ f0 f1 f2 f3 f4 f5 f6

end Cert.AttnBProof

end
-- ==== Proof.WholeBlock.lean ====
/-
  Loads and stores of a whole block: what a memref reads after a whole store, and what a whole load returns.
-/
module

public import Idealize.ShloMosaic.Lib.Pipeline.ValueKit
public import Idealize.ShloMosaic.Lib.VecWindow

@[expose] public section

noncomputable section

namespace Cert.WholeBlock

open Idealize.ShloMosaic

variable {sig : RefSig} {κ : Kind} {sp : Space} {S : Shape} {e : EltTy} {Val : EltTy → Type}

theorem zero2 : (![0, 0] : Fin 2 → ℕ) = fun _ => 0 := by funext a; fin_cases a <;> rfl

/-- A load of the whole block reads the contents. -/
theorem loaded (v : View sig κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- After a store of the whole block the view reads what was stored. -/
theorem stored [∀ e, Nonempty (Val e)] (v : View sig κ sp S e) {off : Fin S.rank → ℕ} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [← loaded v h inb]; exact View.readAt_writes_full v f inb inb w L

end Cert.WholeBlock

end
-- ==== Proof.ProjBRuns.lean ====
/-
  The in-projection of the second half: what the kernel's body leaves at each kind of grid point.

  The grid's inner axis walks sixteen column blocks of the weights: four of queries, four of keys, four of values, four
  of gates. The first point of a row of the grid also normalizes the row's tokens into the scratch buffer.
-/
module

public import proofs.«01_k».proof.Proof.Gen.ProjBIdeal.Skeleton
public import proofs.«01_k».proof.Proof.Gen.ProjBIdeal.Frame
public import proofs.«01_k».proof.Proof.WholeBlock

@[expose] public section

set_option maxRecDepth 16384

noncomputable section

namespace Cert.ProjBIdeal.Body

open Cert.ProjBIdeal Cert.ProjBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeBlock (zero2)

variable {F : FTy → Type} [FloatOps F]

local notation "𝕄" => MT nD τ sig Unit (Elt F) ℕ (UR sig nD τ) ℕ

/-- The point is the first of its row of the grid. -/
abbrev starts (i : grid0.Coords) : Prop := (Scalar.cmpi .ne (Scalar.extui (Scalar.cmpi .eq (BitVec.ofNat 32 (i 1).val) 0#32)) 0#32) = 1#1

/-- The table's first plane, as the body loads it. -/
def plane0 (tab : Vec F S2x1024x128 .f32) : Vec F S1x1024x128 .f32 :=
  View.ld tab (Rect.unit (s := S2x1024x128) ![0, 0, 0] S1x1024x128.size inb_S2x1024x128_S1x1024x128_0_0_0)

/-- The table's second plane. -/
def plane1 (tab : Vec F S2x1024x128 .f32) : Vec F S1x1024x128 .f32 :=
  View.ld tab (Rect.unit (s := S2x1024x128) ![1, 0, 0] S1x1024x128.size inb_S2x1024x128_S1x1024x128_1_0_0)

/-- Four heads' columns, each normalized and rotated through the table. -/
def roped (y : FVec F S1024x512 .f32) (tab : Vec F S2x1024x128 .f32) : FVec F S1024x512 .bf16 :=
  k0_pay9 y (k0_pay5 y (plane0 tab) (plane1 tab)) (k0_pay6 y (plane0 tab) (plane1 tab)) (k0_pay7 y) (k0_pay8 y)
    (plane0 tab) (plane1 tab) (plane0 tab) (plane1 tab)

/-- A load of the tokens' block. -/
theorem tokens (a : Memref sig .tc .vmem S1024x2048 .f32) (ha : a.IsWhole) (x : Vec F S1024x2048 .f32) :
    View.readAt (Elt F) a.view (Rect.unit ![0, 0] ![1024, 2048] inb_S1024x2048_S1024x2048_0_0).toLoadRect (ha.unread x) = x :=
  (Cert.WholeBlock.loaded a.view zero2 _ _).trans (ha.read_unread x)

/-- A load of the norm's gain. -/
theorem gain (a : Memref sig .tc .vmem S1x2048 .f32) (ha : a.IsWhole) (g : Vec F S1x2048 .f32) :
    View.readAt (Elt F) a.view (Rect.unit ![0, 0] ![1, 2048] inb_S1x2048_S1x2048_0_0).toLoadRect (ha.unread g) = g :=
  (Cert.WholeBlock.loaded a.view zero2 _ _).trans (ha.read_unread g)

/-- A load of the weights' block. -/
theorem weights (a : Memref sig .tc .vmem S2048x512 .bf16) (ha : a.IsWhole) (w : Vec F S2048x512 .bf16) :
    View.readAt (Elt F) a.view (Rect.unit ![0, 0] ![2048, 512] inb_S2048x512_S2048x512_0_0).toLoadRect (ha.unread w) = w :=
  (Cert.WholeBlock.loaded a.view zero2 _ _).trans (ha.read_unread w)

/-- A load of the scratch buffer. -/
theorem scratch (a : Memref sig .tc .vmem S1024x2048 .bf16) (ha : a.IsWhole) (h : Vec F S1024x2048 .bf16) :
    View.readAt (Elt F) a.view (Rect.unit ![0, 0] ![1024, 2048] inb_S1024x2048_S1024x2048_0_0).toLoadRect (ha.unread h) = h :=
  (Cert.WholeBlock.loaded a.view zero2 _ _).trans (ha.read_unread h)

/-- A load of the scratch buffer after a store of all of it. -/
theorem reloaded (a : Memref sig .tc .vmem S1024x2048 .bf16) (h : Vec F S1024x2048 .bf16) :
    a.view.readCov [(⟨Rect.unit ![0, 0] ![1024, 2048] inb_S1024x2048_S1024x2048_0_0, h⟩ : View.Piece (Elt F) S1024x2048 .bf16)]
      (Rect.unit ![0, 0] ![1024, 2048] inb_S1024x2048_S1024x2048_0_0).toLoadRect = h :=
  View.readCov_full a.view _ _ h []

/-- A load of a table's first plane. -/
theorem loads_plane0 (a : Memref sig .tc .vmem S2x1024x128 .f32) (ha : a.IsWhole) (tab : Vec F S2x1024x128 .f32) :
    View.readAt (Elt F) a.view (Rect.unit ![0, 0, 0] ![1, 1024, 128] inb_S2x1024x128_S1x1024x128_0_0_0).toLoadRect (ha.unread tab) = plane0 tab := by
  rw [View.readAt_eq_ld, ha.read_unread]; rfl

/-- A load of its second plane. -/
theorem loads_plane1 (a : Memref sig .tc .vmem S2x1024x128 .f32) (ha : a.IsWhole) (tab : Vec F S2x1024x128 .f32) :
    View.readAt (Elt F) a.view (Rect.unit ![1, 0, 0] ![1, 1024, 128] inb_S2x1024x128_S1x1024x128_1_0_0).toLoadRect (ha.unread tab) = plane1 tab := by
  rw [View.readAt_eq_ld, ha.read_unread]; rfl

/-- The block's rotated heads, in the payloads the keys' branch spells. -/
theorem keys_payload (tab : Vec F S2x1024x128 .f32) (y : FVec F S1024x512 .f32) :
    k0_pay14 y (k0_pay10 y (plane0 tab) (plane1 tab)) (k0_pay11 y (plane0 tab) (plane1 tab)) (k0_pay12 y) (k0_pay13 y)
      (plane0 tab) (plane1 tab) (plane0 tab) (plane1 tab) = roped y tab := rfl

set_option maxHeartbeats 2000000 in
/-- A POINT OF VALUES stores the product of the normalized rows and the weights' block. -/
theorem run_values (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2x1024x128 .f32) (harg5 : arg5.IsWhole) (arg6 : Memref sig .tc .vmem S2x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (h : Vec F S1024x2048 .bf16) (E : Set ℕ) (K : PUnit → sProp 𝕄)
    (hc0 : ¬starts i) (hc1 : ¬k0_cond2 i = 1#1) (hc2 : ¬k0_cond3 i = 1#1) (hc3 : k0_cond4 i = 1#1) (hc4 : ¬k0_cond5 i = 1#1) :
    iprop(owns (c : Thread nD τ) arg4 fullShare w ∗ owns (c : Thread nD τ) arg11 fullShare h ∗ (∃ d, owns (c : Thread nD τ) arg9 fullShare d)
        ∗ (iprop(owns (c : Thread nD τ) arg4 fullShare w ∗ owns (c : Thread nD τ) arg11 fullShare h ∗ owns (c : Thread nD τ) arg9 fullShare (k0_pay3 h w)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f4, %hf4, H4⟩, ⟨%f11, %hf11, H11⟩, ⟨%d9, %f9, -, H9⟩, Hk⟩
  obtain rfl := harg4.eq_unread hf4; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H11]
  · iexists _; isplitr; · ipureintro; exact harg11.read_unread _
    iexact H11
  iexists _; isplitr; swap; · iexact H9
  ipureintro
  refine (Cert.WholeBlock.stored arg9.view zero2 _ _ _ _).trans ?_
  exact congrArg₂ k0_pay3 (scratch arg11 harg11 h) (weights arg4 harg4 w)

set_option maxHeartbeats 2000000 in
/-- A POINT OF GATES stores the same product into the gates' block. -/
theorem run_gates (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2x1024x128 .f32) (harg5 : arg5.IsWhole) (arg6 : Memref sig .tc .vmem S2x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (h : Vec F S1024x2048 .bf16) (E : Set ℕ) (K : PUnit → sProp 𝕄)
    (hc0 : ¬starts i) (hc1 : ¬k0_cond2 i = 1#1) (hc2 : ¬k0_cond3 i = 1#1) (hc3 : ¬k0_cond4 i = 1#1) (hc4 : k0_cond5 i = 1#1) :
    iprop(owns (c : Thread nD τ) arg4 fullShare w ∗ owns (c : Thread nD τ) arg11 fullShare h ∗ (∃ d, owns (c : Thread nD τ) arg10 fullShare d)
        ∗ (iprop(owns (c : Thread nD τ) arg4 fullShare w ∗ owns (c : Thread nD τ) arg11 fullShare h ∗ owns (c : Thread nD τ) arg10 fullShare (k0_pay3 h w)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f4, %hf4, H4⟩, ⟨%f11, %hf11, H11⟩, ⟨%d10, %f10, -, H10⟩, Hk⟩
  obtain rfl := harg4.eq_unread hf4; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H11]
  · iexists _; isplitr; · ipureintro; exact harg11.read_unread _
    iexact H11
  iexists _; isplitr; swap; · iexact H10
  ipureintro
  refine (Cert.WholeBlock.stored arg10.view zero2 _ _ _ _).trans ?_
  exact congrArg₂ k0_pay3 (scratch arg11 harg11 h) (weights arg4 harg4 w)

set_option maxHeartbeats 2000000 in
/-- A POINT OF KEYS stores the rotated heads of the product. -/
theorem run_keys (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2x1024x128 .f32) (harg5 : arg5.IsWhole) (arg6 : Memref sig .tc .vmem S2x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (tab : Vec F S2x1024x128 .f32) (h : Vec F S1024x2048 .bf16) (E : Set ℕ) (K : PUnit → sProp 𝕄)
    (hc0 : ¬starts i) (hc1 : ¬k0_cond2 i = 1#1) (hc2 : k0_cond3 i = 1#1) (hc3 : ¬k0_cond4 i = 1#1) (hc4 : ¬k0_cond5 i = 1#1) :
    iprop(owns (c : Thread nD τ) arg4 fullShare w ∗ owns (c : Thread nD τ) arg6 fullShare tab ∗ owns (c : Thread nD τ) arg11 fullShare h ∗ (∃ d, owns (c : Thread nD τ) arg8 fullShare d)
        ∗ (iprop(owns (c : Thread nD τ) arg4 fullShare w ∗ owns (c : Thread nD τ) arg6 fullShare tab ∗ owns (c : Thread nD τ) arg11 fullShare h ∗ owns (c : Thread nD τ) arg8 fullShare (roped (k0_pay2 h w) tab)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f4, %hf4, H4⟩, ⟨%f6, %hf6, H6⟩, ⟨%f11, %hf11, H11⟩, ⟨%d8, %f8, -, H8⟩, Hk⟩
  obtain rfl := harg4.eq_unread hf4; obtain rfl := harg6.eq_unread hf6; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H6]
  · iexists _; isplitr; · ipureintro; exact harg6.read_unread _
    iexact H6
  isplitl [H11]
  · iexists _; isplitr; · ipureintro; exact harg11.read_unread _
    iexact H11
  iexists _; isplitr; swap; · iexact H8
  ipureintro
  refine (Cert.WholeBlock.stored arg8.view zero2 _ _ _ _).trans ?_
  delta run_keys.sl.r_4 run_keys.sl.r run_keys.sl.r_1 run_keys.sl.r_2 run_keys.sl.r_3
  simp only [weights, scratch, loads_plane0, loads_plane1]
  rfl

set_option maxHeartbeats 2000000 in
/-- A POINT OF QUERIES, other than a row's first, stores the rotated heads of the product. -/
theorem run_queries (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2x1024x128 .f32) (harg5 : arg5.IsWhole) (arg6 : Memref sig .tc .vmem S2x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (tab : Vec F S2x1024x128 .f32) (h : Vec F S1024x2048 .bf16) (E : Set ℕ) (K : PUnit → sProp 𝕄)
    (hc0 : ¬starts i) (hc1 : k0_cond2 i = 1#1) (hc2 : ¬k0_cond3 i = 1#1) (hc3 : ¬k0_cond4 i = 1#1) (hc4 : ¬k0_cond5 i = 1#1) :
    iprop(owns (c : Thread nD τ) arg4 fullShare w ∗ owns (c : Thread nD τ) arg5 fullShare tab ∗ owns (c : Thread nD τ) arg11 fullShare h ∗ (∃ d, owns (c : Thread nD τ) arg7 fullShare d)
        ∗ (iprop(owns (c : Thread nD τ) arg4 fullShare w ∗ owns (c : Thread nD τ) arg5 fullShare tab ∗ owns (c : Thread nD τ) arg11 fullShare h ∗ owns (c : Thread nD τ) arg7 fullShare (roped (k0_pay2 h w) tab)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f4, %hf4, H4⟩, ⟨%f5, %hf5, H5⟩, ⟨%f11, %hf11, H11⟩, ⟨%d7, %f7, -, H7⟩, Hk⟩
  obtain rfl := harg4.eq_unread hf4; obtain rfl := harg5.eq_unread hf5; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H5]
  · iexists _; isplitr; · ipureintro; exact harg5.read_unread _
    iexact H5
  isplitl [H11]
  · iexists _; isplitr; · ipureintro; exact harg11.read_unread _
    iexact H11
  iexists _; isplitr; swap; · iexact H7
  ipureintro
  refine (Cert.WholeBlock.stored arg7.view zero2 _ _ _ _).trans ?_
  delta run_queries.sl.r_4 run_queries.sl.r run_queries.sl.r_1 run_queries.sl.r_2 run_queries.sl.r_3
  simp only [weights, scratch, loads_plane0, loads_plane1]
  rfl

set_option maxHeartbeats 2000000 in
/-- A ROW'S FIRST POINT normalizes the row's tokens into the scratch buffer and stores the first queries. -/
theorem run_first (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2x1024x128 .f32) (harg5 : arg5.IsWhole) (arg6 : Memref sig .tc .vmem S2x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (x : Vec F S1024x2048 .f32) (g : Vec F S1x2048 .f32) (w : Vec F S2048x512 .bf16) (tab : Vec F S2x1024x128 .f32) (E : Set ℕ) (K : PUnit → sProp 𝕄)
    (hc0 : starts i) (hc1 : k0_cond2 i = 1#1) (hc2 : ¬k0_cond3 i = 1#1) (hc3 : ¬k0_cond4 i = 1#1) (hc4 : ¬k0_cond5 i = 1#1) :
    iprop(owns (c : Thread nD τ) arg2 fullShare x ∗ owns (c : Thread nD τ) arg3 fullShare g ∗ owns (c : Thread nD τ) arg4 fullShare w ∗ owns (c : Thread nD τ) arg5 fullShare tab ∗ (∃ d, owns (c : Thread nD τ) arg11 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w ∗ owns (c : Thread nD τ) arg5 fullShare tab ∗ owns (c : Thread nD τ) arg11 fullShare (k0_pay1 x g) ∗ owns (c : Thread nD τ) arg7 fullShare (roped (k0_pay2 (k0_pay1 x g) w) tab)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%d11, %f11, -, H11⟩, ⟨%d7, %f7, -, H7⟩, Hk⟩
  obtain rfl := harg2.eq_unread hf2; obtain rfl := harg3.eq_unread hf3; obtain rfl := harg4.eq_unread hf4; obtain rfl := harg5.eq_unread hf5
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr; swap; · iexact H11
    ipureintro
    delta run_first.sl.H11_1
    refine (Cert.WholeBlock.stored arg11.view zero2 _ _ _ _).trans ?_
    exact congrArg₂ k0_pay1 (tokens arg2 harg2 x) (gain arg3 harg3 g)
  iexists _; isplitr; swap; · iexact H7
  ipureintro
  refine (Cert.WholeBlock.stored arg7.view zero2 _ _ _ _).trans ?_
  delta run_first.sl.r_4 run_first.sl.r run_first.sl.r_1 run_first.sl.r_2 run_first.sl.r_3 run_first.sl.v3
  delta run_first.sl.H11_1
  simp only [weights, tokens, gain, reloaded, loads_plane0, loads_plane1]
  rfl

end Cert.ProjBIdeal.Body

end
-- ==== Proof.Carried.lean ====
/-
  An output window the kernel's body leaves alone at some grid points: what its staging buffer keeps.
-/
module

public import Idealize.ShloMosaic.Lib.Pipeline.TableIdle
public import Idealize.ShloMosaic.Lib.Tactic

@[expose] public section

noncomputable section

namespace Cert.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {nD : ℕ} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (dat : Dat τ Val Ix Name U Lvl cfg c)

/-- AN IDLE POINT KEEPS ITS BUFFER: where the body leaves the window alone, what the buffer held is what the proof data says
    it holds afterwards — provided the data carries the contents through idle points, and no idle point writes back a buffer
    nothing has been stored into. -/
theorem kept (w : Fin cfg.W) (hw : (cfg.win w).isOut = true) (hclip : ∀ (i : cfg.grid.Coords) a, (cfg.win w).clip i a = none)
    (hcarry : ∀ (t : Fin cfg.N) (_ : t.val ≠ 0), cfg.idle w (cfg.grid.coords t) = true → cfg.fresh w t.val = false →
      dat.after w t = dat.after w ⟨t.val - 1, by omega⟩)
    (t : Fin cfg.N) (hi : cfg.idle w (cfg.grid.coords t) = true) (hf : (cfg.win w).flush t = true → cfg.fresh w t.val = false) :
    (iprop(∃ d, owns (c : Thread nD τ) ((cfg.win w).stage (cfg.slots t w)) fullShare (dat.before w t d)))
      ⊢ dat.leavesExact w t := by
  cases hfl : (cfg.win w).flush t
  · rw [dat.leavesExact_idle w t hi hfl]
  · have hfr := hf hfl
    have h0 : t.val ≠ 0 := fun h => by rw [h, cfg.fresh_zero] at hfr; exact Bool.noConfusion hfr
    unfold Dat.leavesExact
    rw [hi, hfl]
    iintro ⟨%d, H⟩
    rw [dat.before_out_traj w hw hclip hcarry t.val t rfl d, hfr, if_neg Bool.false_ne_true, hcarry t h0 hi hfr]
    iexact H

/-- Where the body stores into the window, its buffer holds what the proof data says. -/
theorem live (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

end Cert.Carried

end
-- ==== Proof.ProjBFrame.lean ====
/-
  The in-projection of the second half: the kernel's run over its grid, with what each of its four output windows and its
  scratch buffer hold at every grid point.
-/
module

public import proofs.«01_k».proof.Proof.ProjBRuns
public import proofs.«01_k».proof.Proof.Carried
public import Idealize.ShloMosaic.Lib.Claim

@[expose] public section

set_option maxRecDepth 16384

noncomputable section

namespace Cert.ProjBIdeal.Body

open Cert.ProjBIdeal Cert.ProjBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a grid point takes -/

theorem starts_iff : ∀ t : Fin cfg0.N, starts (grid0.coords t) ↔ t.val % 16 = 0 :=
  (by decide +kernel : ∀ t : Fin grid0.N, starts (grid0.coords t) ↔ t.val % 16 = 0)

theorem queries_iff : ∀ t : Fin cfg0.N, k0_cond2 (grid0.coords t) = 1#1 ↔ t.val % 16 ≤ 3 :=
  (by decide +kernel : ∀ t : Fin grid0.N, k0_cond2 (grid0.coords t) = 1#1 ↔ t.val % 16 ≤ 3)

theorem keys_iff : ∀ t : Fin cfg0.N, k0_cond3 (grid0.coords t) = 1#1 ↔ (4 ≤ t.val % 16 ∧ t.val % 16 ≤ 7) :=
  (by decide +kernel : ∀ t : Fin grid0.N, k0_cond3 (grid0.coords t) = 1#1 ↔ (4 ≤ t.val % 16 ∧ t.val % 16 ≤ 7))

theorem values_iff : ∀ t : Fin cfg0.N, k0_cond4 (grid0.coords t) = 1#1 ↔ (8 ≤ t.val % 16 ∧ t.val % 16 ≤ 11) :=
  (by decide +kernel : ∀ t : Fin grid0.N, k0_cond4 (grid0.coords t) = 1#1 ↔ (8 ≤ t.val % 16 ∧ t.val % 16 ≤ 11))

theorem gates_iff : ∀ t : Fin cfg0.N, k0_cond5 (grid0.coords t) = 1#1 ↔ 12 ≤ t.val % 16 :=
  (by decide +kernel : ∀ t : Fin grid0.N, k0_cond5 (grid0.coords t) = 1#1 ↔ 12 ≤ t.val % 16)

/-! ## Where each output window is left alone, and where its buffer has been stored into since the last write-back -/

theorem idle5 : ∀ t : Fin cfg0.N, cfg0.idle 5 (grid0.coords t) = decide (4 ≤ t.val % 16) :=
  (by decide +kernel : ∀ t : Fin grid0.N, cfg0.idle 5 (grid0.coords t) = decide (4 ≤ t.val % 16))

theorem idle6 : ∀ t : Fin cfg0.N, cfg0.idle 6 (grid0.coords t) = decide (t.val % 16 < 4 ∨ 8 ≤ t.val % 16) :=
  (by decide +kernel : ∀ t : Fin grid0.N, cfg0.idle 6 (grid0.coords t) = decide (t.val % 16 < 4 ∨ 8 ≤ t.val % 16))

theorem idle7 : ∀ t : Fin cfg0.N, cfg0.idle 7 (grid0.coords t) = decide (t.val % 16 < 8 ∨ 12 ≤ t.val % 16) :=
  (by decide +kernel : ∀ t : Fin grid0.N, cfg0.idle 7 (grid0.coords t) = decide (t.val % 16 < 8 ∨ 12 ≤ t.val % 16))

theorem idle8 : ∀ t : Fin cfg0.N, cfg0.idle 8 (grid0.coords t) = decide (t.val % 16 < 12) :=
  (by decide +kernel : ∀ t : Fin grid0.N, cfg0.idle 8 (grid0.coords t) = decide (t.val % 16 < 12))

theorem fresh5 (t : Fin cfg0.N) : cfg0.fresh 5 t.val = decide (t.val % 16 ≤ 3) :=
  Cfg.fresh_tab cfg0 5 (fun n => decide (n % 16 ≤ 3)) rfl
    (by decide +kernel : ∀ t : Fin cfg0.N, decide ((t.val + 1) % 16 ≤ 3) = ((cfg0.win 5).flush t || (cfg0.idle 5 (cfg0.grid.coords t) && decide (t.val % 16 ≤ 3))))
    t.val t.isLt.le

theorem fresh6 (t : Fin cfg0.N) : cfg0.fresh 6 t.val = decide (t.val % 16 ≤ 7) :=
  Cfg.fresh_tab cfg0 6 (fun n => decide (n % 16 ≤ 7)) rfl
    (by decide +kernel : ∀ t : Fin cfg0.N, decide ((t.val + 1) % 16 ≤ 7) = ((cfg0.win 6).flush t || (cfg0.idle 6 (cfg0.grid.coords t) && decide (t.val % 16 ≤ 7))))
    t.val t.isLt.le

theorem fresh7 (t : Fin cfg0.N) : cfg0.fresh 7 t.val = decide (t.val % 16 ≤ 11) :=
  Cfg.fresh_tab cfg0 7 (fun n => decide (n % 16 ≤ 11)) rfl
    (by decide +kernel : ∀ t : Fin cfg0.N, decide ((t.val + 1) % 16 ≤ 11) = ((cfg0.win 7).flush t || (cfg0.idle 7 (cfg0.grid.coords t) && decide (t.val % 16 ≤ 11))))
    t.val t.isLt.le

theorem fresh8 (t : Fin cfg0.N) : cfg0.fresh 8 t.val = true :=
  Cfg.fresh_tab cfg0 8 (fun _ => true) rfl
    (by decide +kernel : ∀ t : Fin cfg0.N, true = ((cfg0.win 8).flush t || (cfg0.idle 8 (cfg0.grid.coords t) && true)))
    t.val t.isLt.le

/-- An idle point that writes a window back is a row's last. -/
theorem flush5 : ∀ t : Fin cfg0.N, (cfg0.win 5).flush t = true → t.val % 16 ≤ 2 ∨ t.val % 16 = 15 :=
  (by decide +kernel : ∀ t : Fin grid0.N, (cfg0.win 5).flush t = true → t.val % 16 ≤ 2 ∨ t.val % 16 = 15)

theorem flush6 : ∀ t : Fin cfg0.N, (cfg0.win 6).flush t = true → (4 ≤ t.val % 16 ∧ t.val % 16 ≤ 6) ∨ t.val % 16 = 15 :=
  (by decide +kernel : ∀ t : Fin grid0.N, (cfg0.win 6).flush t = true → (4 ≤ t.val % 16 ∧ t.val % 16 ≤ 6) ∨ t.val % 16 = 15)

theorem flush7 : ∀ t : Fin cfg0.N, (cfg0.win 7).flush t = true → (8 ≤ t.val % 16 ∧ t.val % 16 ≤ 10) ∨ t.val % 16 = 15 :=
  (by decide +kernel : ∀ t : Fin grid0.N, (cfg0.win 7).flush t = true → (8 ≤ t.val % 16 ∧ t.val % 16 ≤ 10) ∨ t.val % 16 = 15)

theorem flush8 : ∀ t : Fin cfg0.N, (cfg0.win 8).flush t = true → 12 ≤ t.val % 16 :=
  (by decide +kernel : ∀ t : Fin grid0.N, (cfg0.win 8).flush t = true → 12 ≤ t.val % 16)

/-! ## The pipeline's proof data -/

/-- The first point of the row of the grid a point lies in. -/
def rowStart (n : ℕ) : Fin cfg0.N := ⟨(n / 16 * 16) % 512, lt_of_lt_of_eq (Nat.mod_lt _ (by decide)) N_0.symm⟩

/-- The point of a point's row whose column block is the nearest between two bounds. -/
def column (lo hi : ℕ) (h : lo ≤ hi) (hh : hi < 16) (t : Fin cfg0.N) : Fin cfg0.N :=
  ⟨t.val / 16 * 16 + max lo (min hi (t.val % 16)), by
    have ht : t.val < 512 := lt_of_lt_of_eq t.isLt N_0
    exact lt_of_lt_of_eq (by omega : _ < 512) N_0.symm⟩

/-- The normalized tokens of a point's row. -/
def normed (c : Dev nD) (n : ℕ) : Vec F S1024x2048 .bf16 := k0_pay1 (iblk m c 0 (rowStart n)) (iblk m c 1 (rowStart n))

/-- The queries' block a point stores. -/
def qblock (c : Dev nD) (t : Fin cfg0.N) : Vec F S1024x512 .bf16 := roped (k0_pay2 (normed m c t.val) (iblk m c 2 t)) (iblk m c 3 t)

/-- The keys' block a point stores. -/
def kblock (c : Dev nD) (t : Fin cfg0.N) : Vec F S1024x512 .bf16 := roped (k0_pay2 (normed m c t.val) (iblk m c 2 t)) (iblk m c 4 t)

/-- The values' block, or the gates', a point stores. -/
def vblock (c : Dev nD) (t : Fin cfg0.N) : Vec F S1024x512 .bf16 := k0_pay3 (normed m c t.val) (iblk m c 2 t)

/-- Between points: the scratch buffer, which away from a row's start holds the row's normalized tokens, and the generator's
    register. -/
def between (c : Dev nD) (n : ℕ) : sProp 𝕄 :=
  iprop((∃ d : Vec F S1024x2048 .bf16, ⌜n % 16 ≠ 0 → d = normed m c n⌝ ∗ owns (c : Thread nD τ) (Memref.whole cc0_scratch0) fullShare d) ∗ (∃ r, prngReg c r))

/-- The proof data: the arrays as the region finds them; after each point an input's buffer at its block, and each output's
    at the block its row's nearest point of the kind stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qblock m c (column 0 3 (by decide) (by decide) t)
    | ⟨6, _⟩ => kblock m c (column 4 7 (by decide) (by decide) t)
    | ⟨7, _⟩ => vblock m c (column 8 11 (by decide) (by decide) t)
    | ⟨8, _⟩ => vblock m c (column 12 15 (by decide) (by decide) t)
  Φ k := between m c k.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qblock m c (column 0 3 (by decide) (by decide) t) := by dsimp only [dats]
theorem after0_6 (c : Dev nD) (t : Fin cfg0.N) : (dats m 0 c).after 6 t = kblock m c (column 4 7 (by decide) (by decide) t) := by dsimp only [dats]
theorem after0_7 (c : Dev nD) (t : Fin cfg0.N) : (dats m 0 c).after 7 t = vblock m c (column 8 11 (by decide) (by decide) t) := by dsimp only [dats]
theorem after0_8 (c : Dev nD) (t : Fin cfg0.N) : (dats m 0 c).after 8 t = vblock m c (column 12 15 (by decide) (by decide) t) := by dsimp only [dats]

/-- The nearest column block does not move where a point lies beyond the bounds, as the point before it does or ends them. -/
theorem column_pred (lo hi : ℕ) (h : lo ≤ hi) (hh : hi < 16) (t : Fin cfg0.N) (ht : t.val ≠ 0) (hb : hi < t.val % 16) :
    column lo hi h hh t = column lo hi h hh ⟨t.val - 1, by omega⟩ := by
  refine Fin.ext ?_
  show t.val / 16 * 16 + max lo (min hi (t.val % 16)) = (t.val - 1) / 16 * 16 + max lo (min hi ((t.val - 1) % 16))
  omega

/-- Between the bounds it is the point itself. -/
theorem column_self (lo hi : ℕ) (h : lo ≤ hi) (hh : hi < 16) (t : Fin cfg0.N) (h1 : lo ≤ t.val % 16) (h2 : t.val % 16 ≤ hi) :
    column lo hi h hh t = t := by
  refine Fin.ext ?_
  show t.val / 16 * 16 + max lo (min hi (t.val % 16)) = t.val
  omega

section Windows

variable (c : Dev nD) (t : Fin cfg0.N)

/-- Where the body leaves the queries' window alone, its buffer keeps what it held. -/
theorem kept5 (h : 4 ≤ t.val % 16) :
    (iprop(∃ d, owns (c : Thread nD τ) ((cfg0.win 5).stage (cfg0.slots t 5)) fullShare ((dats m 0 c).before 5 t d))) ⊢ (dats m 0 c).leavesExact 5 t :=
  Cert.Carried.kept (dats m 0 c) 5 rfl (fun _ _ => rfl)
    (fun s hs hi _ => by
      rw [idle5, decide_eq_true_eq] at hi
      rw [after0_5, after0_5, column_pred 0 3 _ _ s hs (by omega)])
    t ((idle5 t).trans (decide_eq_true h)) fun _ => (fresh5 t).trans (decide_eq_false (by omega))

/-- The same of the keys' window. -/
theorem kept6 (h : t.val % 16 < 4 ∨ 8 ≤ t.val % 16) :
    (iprop(∃ d, owns (c : Thread nD τ) ((cfg0.win 6).stage (cfg0.slots t 6)) fullShare ((dats m 0 c).before 6 t d))) ⊢ (dats m 0 c).leavesExact 6 t :=
  Cert.Carried.kept (dats m 0 c) 6 rfl (fun _ _ => rfl)
    (fun s hs _ hf => by
      rw [fresh6, decide_eq_false_iff_not] at hf
      rw [after0_6, after0_6, column_pred 4 7 _ _ s hs (by omega)])
    t ((idle6 t).trans (decide_eq_true h)) fun hf => (fresh6 t).trans (decide_eq_false (by have := flush6 t hf; omega))

/-- The same of the values' window. -/
theorem kept7 (h : t.val % 16 < 8 ∨ 12 ≤ t.val % 16) :
    (iprop(∃ d, owns (c : Thread nD τ) ((cfg0.win 7).stage (cfg0.slots t 7)) fullShare ((dats m 0 c).before 7 t d))) ⊢ (dats m 0 c).leavesExact 7 t :=
  Cert.Carried.kept (dats m 0 c) 7 rfl (fun _ _ => rfl)
    (fun s hs _ hf => by
      rw [fresh7, decide_eq_false_iff_not] at hf
      rw [after0_7, after0_7, column_pred 8 11 _ _ s hs (by omega)])
    t ((idle7 t).trans (decide_eq_true h)) fun hf => (fresh7 t).trans (decide_eq_false (by have := flush7 t hf; omega))

/-- The same of the gates' window. -/
theorem kept8 (h : t.val % 16 < 12) :
    (iprop(∃ d, owns (c : Thread nD τ) ((cfg0.win 8).stage (cfg0.slots t 8)) fullShare ((dats m 0 c).before 8 t d))) ⊢ (dats m 0 c).leavesExact 8 t :=
  Cert.Carried.kept (dats m 0 c) 8 rfl (fun _ _ => rfl)
    (fun s _ _ hf => by rw [fresh8] at hf; exact Bool.noConfusion hf)
    t ((idle8 t).trans (decide_eq_true h)) fun hf => absurd (flush8 t hf) (by omega)

/-- Where it stores the queries, the buffer holds the point's block. -/
theorem live5 (h : t.val % 16 ≤ 3) :
    (dats m 0 c).leavesExact 5 t = owns (c : Thread nD τ) ((cfg0.win 5).stage (cfg0.slots t 5)) fullShare (qblock m c t) := by
  rw [Cert.Carried.live (dats m 0 c) 5 t ((idle5 t).trans (decide_eq_false (by omega))), after0_5, column_self 0 3 _ _ t (by omega) (by omega)]

/-- Where it stores the keys. -/
theorem live6 (h : 4 ≤ t.val % 16 ∧ t.val % 16 ≤ 7) :
    (dats m 0 c).leavesExact 6 t = owns (c : Thread nD τ) ((cfg0.win 6).stage (cfg0.slots t 6)) fullShare (kblock m c t) := by
  rw [Cert.Carried.live (dats m 0 c) 6 t ((idle6 t).trans (decide_eq_false (by omega))), after0_6, column_self 4 7 _ _ t (by omega) (by omega)]

/-- Where it stores the values. -/
theorem live7 (h : 8 ≤ t.val % 16 ∧ t.val % 16 ≤ 11) :
    (dats m 0 c).leavesExact 7 t = owns (c : Thread nD τ) ((cfg0.win 7).stage (cfg0.slots t 7)) fullShare (vblock m c t) := by
  rw [Cert.Carried.live (dats m 0 c) 7 t ((idle7 t).trans (decide_eq_false (by omega))), after0_7, column_self 8 11 _ _ t (by omega) (by omega)]

/-- Where it stores the gates. -/
theorem live8 (h : 12 ≤ t.val % 16) :
    (dats m 0 c).leavesExact 8 t = owns (c : Thread nD τ) ((cfg0.win 8).stage (cfg0.slots t 8)) fullShare (vblock m c t) := by
  rw [Cert.Carried.live (dats m 0 c) 8 t ((idle8 t).trans (decide_eq_false (by omega))), after0_8, column_self 12 15 _ _ t (by omega) (by omega)]

end Windows

/-! ## The body at a grid point -/

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body leaves each input's buffer at its block. -/
theorem leaves0 (c : Dev nD) (t : Fin cfg0.N) : (dats m 0 c).leavesExact 0 t = owns (c : Thread nD τ) ((cfg0.win 0).stage (cfg0.slots t 0)) fullShare (iblk m c 0 t) :=
  (Cert.Carried.live (dats m 0 c) 0 t rfl).trans (by rw [after0_0])
theorem leaves1 (c : Dev nD) (t : Fin cfg0.N) : (dats m 0 c).leavesExact 1 t = owns (c : Thread nD τ) ((cfg0.win 1).stage (cfg0.slots t 1)) fullShare (iblk m c 1 t) :=
  (Cert.Carried.live (dats m 0 c) 1 t rfl).trans (by rw [after0_1])
theorem leaves2 (c : Dev nD) (t : Fin cfg0.N) : (dats m 0 c).leavesExact 2 t = owns (c : Thread nD τ) ((cfg0.win 2).stage (cfg0.slots t 2)) fullShare (iblk m c 2 t) :=
  (Cert.Carried.live (dats m 0 c) 2 t rfl).trans (by rw [after0_2])
theorem leaves3 (c : Dev nD) (t : Fin cfg0.N) : (dats m 0 c).leavesExact 3 t = owns (c : Thread nD τ) ((cfg0.win 3).stage (cfg0.slots t 3)) fullShare (iblk m c 3 t) :=
  (Cert.Carried.live (dats m 0 c) 3 t rfl).trans (by rw [after0_3])
theorem leaves4 (c : Dev nD) (t : Fin cfg0.N) : (dats m 0 c).leavesExact 4 t = owns (c : Thread nD τ) ((cfg0.win 4).stage (cfg0.slots t 4)) fullShare (iblk m c 4 t) :=
  (Cert.Carried.live (dats m 0 c) 4 t rfl).trans (by rw [after0_4])

/-- The row's tokens do not move within the row. -/
theorem normed_succ (c : Dev nD) (n : ℕ) (h : (n + 1) % 16 ≠ 0) : normed m c (n + 1) = normed m c n := by
  have e : rowStart (n + 1) = rowStart n :=
    Fin.ext (show (n + 1) / 16 * 16 % 512 = n / 16 * 16 % 512 by rw [show (n + 1) / 16 = n / 16 by omega])
  unfold normed; rw [e]

/-- At a row's start they are the point's own. -/
theorem normed_start (c : Dev nD) (t : Fin cfg0.N) (h : t.val % 16 = 0) : normed m c t.val = k0_pay1 (iblk m c 0 t) (iblk m c 1 t) := by
  have ht : t.val < 512 := lt_of_lt_of_eq t.isLt N_0
  have e : rowStart t.val = t := Fin.ext (by show t.val / 16 * 16 % 512 = t.val; omega)
  unfold normed; rw [e]

/-- What the body is called with at a point, the windows one by one, -/
def bodyPre (c : Dev nD) (t : Fin cfg0.N) : sProp 𝕄 :=
  iprop(between m c t.val ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))

/-- and what it returns. -/
def bodyPost (c : Dev nD) (t : Fin cfg0.N) : sProp 𝕄 :=
  iprop(between m c (t.val + 1) ∗ (dats m 0 c).owesAt () t.castSucc
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 1000000 in
/-- THE BODY AT A ROW'S FIRST POINT. -/
theorem body_first (c : Dev nD) (t : Fin cfg0.N) (ht : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live5 m c t (by omega), qblock, normed_start m c t ht]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  iapply (run_first c (grid0.coords t) _ _ _ _ _ _ _ _ _ _ _ _ _ _ _ _ _ _ _ _ (iblk m c 0 t) (iblk m c 1 t) (iblk m c 2 t) (iblk m c 3 t) Set.univ _ ((starts_iff t).mpr (by omega)) ((queries_iff t).mpr (by omega)) (fun h => absurd ((keys_iff t).mp h) (by omega)) (fun h => absurd ((values_iff t).mp h) (by omega)) (fun h => absurd ((gates_iff t).mp h) (by omega)))
  isplitl [H0]; · iexact H0
  isplitl [H1]; · iexact H1
  isplitl [H2]; · iexact H2
  isplitl [H3]; · iexact H3
  isplitl [HS]; · iexists _; iexact HS
  isplitl [H5]; · icases H5 with ⟨%d5, H5⟩; iexists _; iexact H5
  iintro ⟨H0, H1, H2, H3, HS, H5⟩
  isplitl [HS Hg]
  · isplitl [HS]
    · iexists _; isplitr; swap; · iexact HS
      ipureintro; intro h
      exact (normed_start m c t ht).symm.trans (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · iapply (kept6 m c t (by omega)); iexact H6
  isplitl [H7]
  · iapply (kept7 m c t (by omega)); iexact H7
  iapply (kept8 m c t (by omega)); iexact H8

set_option maxHeartbeats 1000000 in
/-- THE BODY AT ANOTHER POINT OF QUERIES. -/
theorem body_queries (c : Dev nD) (t : Fin cfg0.N) (h0 : t.val % 16 ≠ 0) (ht : t.val % 16 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live5 m c t ht, qblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_queries c (grid0.coords t) _ _ _ _ _ _ _ _ _ _ _ _ _ _ _ _ _ _ _ _ (iblk m c 2 t) (iblk m c 3 t) (normed m c t.val) Set.univ _ (fun h => absurd ((starts_iff t).mp h) (by omega)) ((queries_iff t).mpr (by omega)) (fun h => absurd ((keys_iff t).mp h) (by omega)) (fun h => absurd ((values_iff t).mp h) (by omega)) (fun h => absurd ((gates_iff t).mp h) (by omega)))
  isplitl [H2]; · iexact H2
  isplitl [H3]; · iexact H3
  isplitl [HS]; · iexact HS
  isplitl [H5]; · icases H5 with ⟨%d5, H5⟩; iexists _; iexact H5
  iintro ⟨H2, H3, HS, H5⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · iapply (kept6 m c t (by omega)); iexact H6
  isplitl [H7]
  · iapply (kept7 m c t (by omega)); iexact H7
  iapply (kept8 m c t (by omega)); iexact H8

set_option maxHeartbeats 1000000 in
/-- THE BODY AT A POINT OF KEYS. -/
theorem body_keys (c : Dev nD) (t : Fin cfg0.N) (ht : 4 ≤ t.val % 16 ∧ t.val % 16 ≤ 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live6 m c t ht, kblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_keys c (grid0.coords t) _ _ _ _ _ _ _ _ _ _ _ _ _ _ _ _ _ _ _ _ (iblk m c 2 t) (iblk m c 4 t) (normed m c t.val) Set.univ _ (fun h => absurd ((starts_iff t).mp h) (by omega)) (fun h => absurd ((queries_iff t).mp h) (by omega)) ((keys_iff t).mpr (by omega)) (fun h => absurd ((values_iff t).mp h) (by omega)) (fun h => absurd ((gates_iff t).mp h) (by omega)))
  isplitl [H2]; · iexact H2
  isplitl [H4]; · iexact H4
  isplitl [HS]; · iexact HS
  isplitl [H6]; · icases H6 with ⟨%d6, H6⟩; iexists _; iexact H6
  iintro ⟨H2, H4, HS, H6⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 m c t (by omega)); iexact H5
  isplitl [H6]
  · iexact H6
  isplitl [H7]
  · iapply (kept7 m c t (by omega)); iexact H7
  iapply (kept8 m c t (by omega)); iexact H8

set_option maxHeartbeats 1000000 in
/-- THE BODY AT A POINT OF VALUES. -/
theorem body_values (c : Dev nD) (t : Fin cfg0.N) (ht : 8 ≤ t.val % 16 ∧ t.val % 16 ≤ 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live7 m c t ht, vblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_values c (grid0.coords t) _ _ _ _ _ _ _ _ _ _ _ _ _ _ _ _ _ _ _ _ (iblk m c 2 t) (normed m c t.val) Set.univ _ (fun h => absurd ((starts_iff t).mp h) (by omega)) (fun h => absurd ((queries_iff t).mp h) (by omega)) (fun h => absurd ((keys_iff t).mp h) (by omega)) ((values_iff t).mpr (by omega)) (fun h => absurd ((gates_iff t).mp h) (by omega)))
  isplitl [H2]; · iexact H2
  isplitl [HS]; · iexact HS
  isplitl [H7]; · icases H7 with ⟨%d7, H7⟩; iexists _; iexact H7
  iintro ⟨H2, HS, H7⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 m c t (by omega)); iexact H5
  isplitl [H6]
  · iapply (kept6 m c t (by omega)); iexact H6
  isplitl [H7]
  · iexact H7
  iapply (kept8 m c t (by omega)); iexact H8

set_option maxHeartbeats 1000000 in
/-- THE BODY AT A POINT OF GATES. -/
theorem body_gates (c : Dev nD) (t : Fin cfg0.N) (ht : 12 ≤ t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live8 m c t ht, vblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_gates c (grid0.coords t) _ _ _ _ _ _ _ _ _ _ _ _ _ _ _ _ _ _ _ _ (iblk m c 2 t) (normed m c t.val) Set.univ _ (fun h => absurd ((starts_iff t).mp h) (by omega)) (fun h => absurd ((queries_iff t).mp h) (by omega)) (fun h => absurd ((keys_iff t).mp h) (by omega)) (fun h => absurd ((values_iff t).mp h) (by omega)) ((gates_iff t).mpr (by omega)))
  isplitl [H2]; · iexact H2
  isplitl [HS]; · iexact HS
  isplitl [H8]; · icases H8 with ⟨%d8, H8⟩; iexists _; iexact H8
  iintro ⟨H2, HS, H8⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 m c t (by omega)); iexact H5
  isplitl [H6]
  · iapply (kept6 m c t (by omega)); iexact H6
  isplitl [H7]
  · iapply (kept7 m c t (by omega)); iexact H7
  iexact H8

/-- THE BODY AT ANY POINT. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact body_first m c t h0
  by_cases h1 : t.val % 16 ≤ 3
  · exact body_queries m c t h0 h1
  by_cases h2 : t.val % 16 ≤ 7
  · exact body_keys m c t ⟨by omega, h2⟩
  by_cases h3 : t.val % 16 ≤ 11
  · exact body_values m c t ⟨by omega, h3⟩
  · exact body_gates m c t (by omega)

theorem defs₀_row (t : Fin cfg0.N) : defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What a core holds beside its windows, the scratch buffer at some contents. -/
theorem rest_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- Before the first point nothing is known of the scratch buffer, -/
theorem enters (c : Dev nD) : (Pipeline.ΦA spec0 c : sProp 𝕄) ⊢ (dats m 0 c).Φ 0 := by
  rw [rest_eq, show (dats m 0 c).Φ 0 = between m c 0 from rfl]
  unfold between
  iintro ⟨⟨%d, HS⟩, Hg⟩
  isplitl [HS]
  · iexists d; isplitr; swap; · iexact HS
    ipureintro; intro h; exact absurd rfl h
  iexact Hg

/-- and after the last it is forgotten. -/
theorem leaves (c : Dev nD) : (dats m 0 c).Φ (Fin.last cfg0.N) ⊢ (Pipeline.ΦA spec0 c : sProp 𝕄) := by
  rw [rest_eq, show (dats m 0 c).Φ (Fin.last cfg0.N) = between m c (Fin.last cfg0.N).val from rfl]
  unfold between
  iintro ⟨⟨%d, -, HS⟩, Hg⟩
  isplitl [HS]
  · iexists d; iexact HS
  iexact Hg

set_option backward.isDefEq.respectTransparency.types false in
/-- THE RUN: every fair execution ends with the arrays as the proof data says and every semaphore counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- Its first half. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- THE FRAME: the arguments end as they started, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjBIdeal.Body

end
-- ==== Proof.Same.lean ====
/-
  Two printings of one program: a run of the one is a run of the other.
-/
module

public import Idealize.ShloMosaic.Lib.Claim

@[expose] public section

noncomputable section

namespace Cert.Same

open Idealize.ShloMosaic Idealize.SL.Sem

/-- Equal body tables and equal main programs run alike. -/
theorem run {nD : ℕ} {τ : Topo} {sig : RefSig} {Val : EltTy → Type} {Λ : Labels} {D D' : Defs nD τ sig Val Λ}
    {M M' : Dev nD → Prog (TpuEff nD τ sig Val Λ .tc) PUnit} (hD : D = D') (hM : M = M') (s) (Q)
    (h : θ_run D' (onTc (τ := τ) M') s Q) : θ_run D (onTc (τ := τ) M) s Q := by subst hD hM; exact h

/-- Chains of equal pieces are equal. -/
theorem chain {α β γ : Type*} (f : List α → γ) (g : β → α) (r : α) {a a' b b' c c' d d' e e' : β}
    (ha : a = a') (hb : b = b') (hc : c = c') (hd : d = d') (he : e = e') :
    f [g a, g b, g c, g d, g e, r] = f [g a', g b', g c', g d', g e', r] := by subst ha hb hc hd he; rfl

/-- Chains of nine equal pieces are equal. -/
theorem chain_nine {α β γ : Type*} (f : List α → γ) (g : β → α) (r : α) {a a' b b' c c' d d' e e' i i' j j' k k' l l' : β}
    (ha : a = a') (hb : b = b') (hc : c = c') (hd : d = d') (he : e = e') (hi : i = i') (hj : j = j') (hk : k = k') (hl : l = l') :
    f [g a, g b, g c, g d, g e, g i, g j, g k, g l, r] = f [g a', g b', g c', g d', g e', g i', g j', g k', g l', r] := by
  subst ha hb hc hd he hi hj hk hl; rfl

end Cert.Same

end
-- ==== Proof.ProjBSame.lean ====
/-
  The in-projection of the second half, as compiled: it is the program its reading over the extended reals is printed from,
  so it runs as that does.
-/
module

public import proofs.«01_k».proof.Defs
public import proofs.«01_k».proof.Proof.Gen.ProjB.Launch
public import proofs.«01_k».proof.Proof.ProjBFrame
public import proofs.«01_k».proof.Proof.Same

@[expose] public section

noncomputable section
namespace Cert.ProjBProof
open Idealize.ShloMosaic Idealize.SL.Sem
variable {F : FTy → Type} [FloatOps F]

/-- The two printings have the same host operations, -/
theorem ops0 : Cert.ProjB.Gen.hostOps0 (F := F) = Cert.ProjBIdeal.Gen.hostOps0 (F := F) := rfl
theorem ops1 : Cert.ProjB.Gen.hostOps0_1 (F := F) = Cert.ProjBIdeal.Gen.hostOps0_1 (F := F) := rfl
theorem ops2 : Cert.ProjB.Gen.hostOps0_2 (F := F) = Cert.ProjBIdeal.Gen.hostOps0_2 (F := F) := rfl
theorem ops3 : Cert.ProjB.Gen.hostOps0_3 (F := F) = Cert.ProjBIdeal.Gen.hostOps0_3 (F := F) := rfl
theorem ops4 : Cert.ProjB.Gen.hostOps0_4 (F := F) = Cert.ProjBIdeal.Gen.hostOps0_4 (F := F) := rfl
set_option maxHeartbeats 1000000 in
/-- the same kernel body, -/
theorem bodies : Cert.ProjB.defs₀ (F := F) = Cert.ProjBIdeal.defs₀ (F := F) := by
  unfold Cert.ProjB.defs₀ Cert.ProjBIdeal.defs₀
  refine congrArg Defs.onTc ?_
  funext l x
  match l, x with
  | 0, (t, s) => rfl

/-- the same body table -/
theorem tables : Cert.ProjB.defs (F := F) = Cert.ProjBIdeal.defs (F := F) := by
  unfold Cert.ProjB.defs Cert.ProjBIdeal.defs
  exact congrArg (Pipeline.defs Cert.ProjB.pcfgs) bodies

set_option maxHeartbeats 1000000 in
/-- and the same main program. -/
theorem mains : Cert.ProjB.main (F := F) = Cert.ProjBIdeal.main (F := F) := by
  funext c
  refine (Cert.ProjB.Gen.main_chain c).trans (Eq.trans ?_ (Cert.ProjBIdeal.Gen.main_chain c).symm)
  exact Cert.Same.chain Pipeline.chain StableHlo.seq _ ops0 ops1 ops2 ops3 ops4

set_option maxHeartbeats 1000000 in
/-- The kernel runs, keeps its arguments and leaves every semaphore at zero. -/
theorem kernel_frame : Cert.quiescent_ProjB := fun m ρ _ => Cert.Same.run tables mains _ _ (Cert.ProjBIdeal.Body.frame (F := Bits) m ρ)

end Cert.ProjBProof
end
-- ==== Proof.Rope.lean ====
/-
  A head normalized by its root mean square and rotated by one angle per pair of lanes, over the extended reals: the form
  with the gain and the scale folded in the tables against the plain form, for one pair of halves and for two pairs of
  quarters.
-/
module

public import Idealize.ShloMosaic.Lib.Pipeline.ValueKit
public import Idealize.ShloMosaic.Lib.Pointwise

@[expose] public section

noncomputable section

namespace Cert.Rope

open Idealize.ShloMosaic

/-- One over the root of the mean square, `N` the word of the number of entries. -/
def invRms {d : Nat} (N : BitVec 32) (y : Fin d → EReal) : EReal :=
  Ideal.rsqrt (Ideal.div (∑ e, y e * y e) (Ideal.ofBits .f32 N) + Ideal.ofBits .f32 0x358637BD#32)

/-- A token's vector normalized, times the gain. -/
def token (x g : Fin 2048 → EReal) (k : Fin 2048) : EReal := x k * invRms 0x45000000#32 x * g k

/-- The normalized token against one column of the weights. -/
def column (x g w : Fin 2048 → EReal) : EReal := ∑ k, token x g k * w k

/-- The angle of lane `f` at position `p`, `N` the word of the number of lanes rotated together. -/
def angle (N : BitVec 32) (p : Nat) (f : Nat) : EReal :=
  FloatOps.sitofp (F := Ideal) .f32 (BitVec.ofNat 32 p) * Ideal.div 1 (Ideal.pow (Ideal.ofBits .f32 0x461C4000#32)
    (Ideal.div (Ideal.ofBits .f32 0x40000000#32 * FloatOps.sitofp (F := Ideal) .f32 (BitVec.ofNat 32 f)) (Ideal.ofBits .f32 N)))

/-- One head among a row's columns: the 128 from `o` on. -/
def head {N : Nat} (Y : Fin N → EReal) (o : Nat) (h : o + 128 ≤ N) (e : Fin 128) : EReal := Y ⟨o + e.val, by omega⟩

/-- A head normalized, times the gain. -/
def unit (y g : Fin 128 → EReal) (e : Fin 128) : EReal := y e * invRms 0x43000000#32 y * g e

/-- A token's columns of the product, from all tokens `X`, their gain and the weights. -/
def row {N : Nat} (X : Fin 32768 → Fin 2048 → EReal) (g : Fin 2048 → EReal) (W : Fin 2048 → Fin N → EReal) (t : Fin 32768) (j : Fin N) : EReal :=
  column (X t) g fun r => W r j

theorem square_nonneg (x : EReal) : 0 ≤ x * x := by
  rcases le_total 0 x with h | h
  · exact mul_nonneg h h
  · have := mul_nonneg (EReal.neg_nonneg.2 h) (EReal.neg_nonneg.2 h)
    rwa [neg_mul_neg] at this

/-- A word with sign bit zero, neither subnormal nor with the last exponent, is a positive real. -/
theorem word_pos (w : BitVec 32) (h0 : (BitVec.extractLsb' 23 8 w).toNat ≠ 2 ^ 8 - 1) (h1 : (BitVec.extractLsb' 23 8 w).toNat ≠ 0)
    (h2 : ¬ (BitVec.extractLsb' (8 + 23) 1 w == 1#1) = true) : ∃ k : ℝ, 0 < k ∧ Ideal.ofBits .f32 w = (k : EReal) := by
  simp only [Ideal.ofBits, Ideal.ieee]
  rw [if_neg h0, if_neg h1, if_neg h2]
  exact ⟨_, by positivity, rfl⟩

theorem rsqrt_bounds {z : EReal} (hz : 0 < z) : 0 ≤ Ideal.rsqrt z ∧ Ideal.rsqrt z ≠ ⊤ := by
  induction z with
  | bot => exact absurd hz (by simp)
  | top => exact ⟨le_rfl, EReal.zero_ne_top⟩
  | coe r =>
    have hr : 0 < r := EReal.coe_pos.1 hz
    have : Ideal.rsqrt (r : EReal) = ((Real.sqrt r)⁻¹ : ℝ) := by
      show (if r < 0 then ⊥ else if r = 0 then ⊤ else _) = _
      rw [if_neg hr.le.not_gt, if_neg hr.ne']
    rw [this]
    exact ⟨EReal.coe_nonneg.2 (by positivity), EReal.coe_ne_top _⟩

theorem div_nonneg {x y : EReal} (hx : 0 ≤ x) (hy : 0 < y) : 0 ≤ Ideal.div x y := by
  unfold Ideal.div
  rw [if_neg hy.ne']
  exact mul_nonneg hx (EReal.inv_nonneg_of_nonneg hy.le)

/-- A head's inverse root mean square is nonnegative and finite. -/
theorem invRms_bounds (y : Fin 128 → EReal) : 0 ≤ invRms 0x43000000#32 y ∧ invRms 0x43000000#32 y ≠ ⊤ := by
  obtain ⟨a, ha, hA⟩ := word_pos 0x43000000#32 (by decide) (by decide) (by decide)
  obtain ⟨b, hb, hB⟩ := word_pos 0x358637BD#32 (by decide) (by decide) (by decide)
  unfold invRms
  rw [hA, hB]
  exact rsqrt_bounds ((EReal.coe_pos.2 hb).trans_le (le_add_of_nonneg_left (div_nonneg (Finset.sum_nonneg fun e _ => square_nonneg (y e)) (EReal.coe_pos.2 ha))))

/-- The queries' scale is nonnegative and finite. -/
theorem scale_bounds : 0 ≤ Ideal.ofBits .f32 0x3DB504F3#32 ∧ Ideal.ofBits .f32 0x3DB504F3#32 ≠ ⊤ := by
  obtain ⟨a, ha, hA⟩ := word_pos 0x3DB504F3#32 (by decide) (by decide) (by decide)
  rw [hA]
  exact ⟨EReal.coe_nonneg.2 ha.le, EReal.coe_ne_top a⟩

theorem one_bounds : (0 : EReal) ≤ 1 ∧ (1 : EReal) ≠ ⊤ := ⟨zero_le_one, EReal.coe_ne_top 1⟩

/-- Difference of two rotated parts: with the gains, the sign and the scale in the tables, and in the plain order. -/
theorem turn_sub (a b c s g g' k r : EReal) (hk : 0 ≤ k ∧ k ≠ ⊤) (hr : 0 ≤ r ∧ r ≠ ⊤) :
    (a * (c * g * k) + b * (-s * g' * k)) * r = (a * r * g * c - b * r * g' * s) * k := by
  rw [sub_eq_add_neg, EReal.right_distrib_of_nonneg_of_ne_top hr.1 hr.2, EReal.right_distrib_of_nonneg_of_ne_top hk.1 hk.2]
  simp only [neg_mul, mul_neg]
  congr 1
  · ac_rfl
  · congr 1; ac_rfl

/-- Sum of two rotated parts, likewise. -/
theorem turn_add (a b c s g g' k r : EReal) (hk : 0 ≤ k ∧ k ≠ ⊤) (hr : 0 ≤ r ∧ r ≠ ⊤) :
    (a * (c * g * k) + b * (s * g' * k)) * r = (a * r * g * c + b * r * g' * s) * k := by
  rw [EReal.right_distrib_of_nonneg_of_ne_top hr.1 hr.2, EReal.right_distrib_of_nonneg_of_ne_top hk.1 hk.2]
  congr 1 <;> ac_rfl

/-! ## One pair of halves -/

/-- The kernel's head: two products with the tables, the second of the head turned by half, then the normalization. -/
def folded (y t0 t1 : Fin 128 → EReal) (e : Fin 128) : EReal :=
  (y e * t0 e + y ⟨(e.val + 128 - 64) % 128, Nat.mod_lt _ (by decide)⟩ * t1 e) * invRms 0x43000000#32 y

/-- The plain head: normalized, then each pair of lanes half a head apart rotated. -/
def plain (y g : Fin 128 → EReal) (c s : Fin 64 → EReal) (e : Fin 128) : EReal :=
  if h : e.val < 64 then unit y g e * c ⟨e.val, h⟩ - unit y g ⟨64 + e.val, by omega⟩ * s ⟨e.val, h⟩
  else unit y g ⟨64 + (e.val - 64), by omega⟩ * c ⟨e.val - 64, by omega⟩ + unit y g ⟨e.val - 64, by omega⟩ * s ⟨e.val - 64, by omega⟩

/-- Column `j` of the heads that begin at column `o` of a token's row: the head it lies in, normalized and rotated by the position in
    the prompt. -/
def roped {N : Nat} (Y : Fin 32768 → Fin N → EReal) (G : Fin 128 → EReal) (o : Nat) (ho : o + 2048 ≤ N) (t : Fin 32768) (j : Fin 2048) : EReal :=
  plain (head (Y t) (o + j.val / 128 * 128) (by omega)) G (fun f => Ideal.cos (angle 0x43000000#32 (t.val % 4096) f.val))
    (fun f => Ideal.sin (angle 0x43000000#32 (t.val % 4096) f.val)) ⟨j.val % 128, Nat.mod_lt _ (by decide)⟩

/-- The first table: cosines with the gain and the scale. -/
def cosTable (g : Fin 128 → EReal) (c : Fin 64 → EReal) (k : EReal) (e : Fin 128) : EReal :=
  (if h : e.val < 64 then c ⟨e.val, h⟩ else c ⟨e.val - 64, by omega⟩) * g e * k

/-- The second: signed sines with the turned gain and the scale. -/
def sinTable (g : Fin 128 → EReal) (s : Fin 64 → EReal) (k : EReal) (e : Fin 128) : EReal :=
  (if h : e.val < 64 then -s ⟨e.val, h⟩ else s ⟨e.val - 64, by omega⟩)
    * (if h : e.val < 64 then g ⟨64 + e.val, by omega⟩ else g ⟨e.val - 64, by omega⟩) * k

/-- THE TWO FORMS AGREE: the folded head is the plain head times the scale. -/
theorem folded_eq (y g : Fin 128 → EReal) (c s : Fin 64 → EReal) (k : EReal) (hk : 0 ≤ k ∧ k ≠ ⊤) (e : Fin 128) :
    folded y (cosTable g c k) (sinTable g s k) e = plain y g c s e * k := by
  unfold folded plain cosTable sinTable unit
  split
  · have e2 : (⟨(e.val + 128 - 64) % 128, Nat.mod_lt _ (by decide)⟩ : Fin 128) = ⟨64 + e.val, by omega⟩ := Fin.ext (by show (e.val + 128 - 64) % 128 = 64 + e.val; omega)
    rw [e2]
    exact turn_sub _ _ _ _ _ _ _ _ hk (invRms_bounds y)
  · have e2 : (⟨(e.val + 128 - 64) % 128, Nat.mod_lt _ (by decide)⟩ : Fin 128) = ⟨e.val - 64, by omega⟩ := Fin.ext (by show (e.val + 128 - 64) % 128 = e.val - 64; omega)
    have e3 : (⟨64 + (e.val - 64), by omega⟩ : Fin 128) = e := Fin.ext (by show 64 + (e.val - 64) = _; omega)
    rw [e2, e3]
    exact turn_add _ _ _ _ _ _ _ _ hk (invRms_bounds y)

/-! ## Two pairs of quarters -/

/-- The kernel's head for two angles: three products with the tables, two of them of the head turned by a quarter either way. -/
def folded2 (y t0 t1 t2 : Fin 128 → EReal) (e : Fin 128) : EReal :=
  (y e * t0 e + y ⟨(e.val + 128 - 96) % 128, Nat.mod_lt _ (by decide)⟩ * t1 e + y ⟨(e.val + 128 - 32) % 128, Nat.mod_lt _ (by decide)⟩ * t2 e)
    * invRms 0x43000000#32 y

/-- Half a head, each pair of lanes a quarter head apart rotated. -/
def half (u : Fin 64 → EReal) (c s : Fin 32 → EReal) (i : Fin 64) : EReal :=
  if h : i.val < 32 then u ⟨i.val, by omega⟩ * c ⟨i.val, h⟩ - u ⟨32 + i.val, by omega⟩ * s ⟨i.val, h⟩
  else u ⟨32 + (i.val - 32), by omega⟩ * c ⟨i.val - 32, by omega⟩ + u ⟨i.val - 32, by omega⟩ * s ⟨i.val - 32, by omega⟩

/-- The plain head for two angles: normalized, then its first half rotated by the one and its second by the other. -/
def plain2 (y g : Fin 128 → EReal) (c s c' s' : Fin 32 → EReal) (e : Fin 128) : EReal :=
  if h : e.val < 64 then half (fun i => unit y g ⟨i.val, by omega⟩) c s ⟨e.val, h⟩
  else half (fun i => unit y g ⟨64 + i.val, by omega⟩) c' s' ⟨e.val - 64, by omega⟩

/-- Column `j` of the heads that begin at column `o` of a token's row: the head it lies in, normalized and rotated by the row and the
    column of the position in a prompt of 64 rows of 64. -/
def roped2 {N : Nat} (Y : Fin 32768 → Fin N → EReal) (G : Fin 128 → EReal) (o W : Nat) (ho : o + W ≤ N) (hW : 128 ∣ W) (t : Fin 32768) (j : Fin W) : EReal :=
  plain2 (head (Y t) (o + j.val / 128 * 128) (by omega)) G
    (fun f => Ideal.cos (angle 0x42800000#32 (t.val % 4096 / 64) f.val)) (fun f => Ideal.sin (angle 0x42800000#32 (t.val % 4096 / 64) f.val))
    (fun f => Ideal.cos (angle 0x42800000#32 (t.val % 4096 % 64) f.val)) (fun f => Ideal.sin (angle 0x42800000#32 (t.val % 4096 % 64) f.val))
    ⟨j.val % 128, Nat.mod_lt _ (by decide)⟩

/-- Four quarters side by side. -/
def quarters (a b c d : Fin 32 → EReal) (e : Fin 128) : EReal :=
  if h : e.val < 32 then a ⟨e.val, h⟩ else if h' : e.val - 32 < 32 then b ⟨e.val - 32, h'⟩
  else if h'' : e.val - 32 - 32 < 32 then c ⟨e.val - 32 - 32, h''⟩ else d ⟨e.val - 32 - 32 - 32, by omega⟩

/-- The first table: cosines with the gain and the scale. -/
def cosTable2 (g : Fin 128 → EReal) (c c' : Fin 32 → EReal) (k : EReal) (e : Fin 128) : EReal := quarters c c c' c' e * g e * k

/-- The second: negated sines for the first quarter of each half, with the turned gain and the scale. -/
def loTable (g : Fin 128 → EReal) (s s' : Fin 32 → EReal) (k : EReal) (e : Fin 128) : EReal :=
  quarters (fun f => -s f) (fun _ => 0) (fun f => -s' f) (fun _ => 0) e * (if h : e.val < 96 then g ⟨32 + e.val, by omega⟩ else g ⟨e.val - 96, by omega⟩) * k

/-- The third: sines for the second quarter of each half, with the gain turned the other way and the scale. -/
def hiTable (g : Fin 128 → EReal) (s s' : Fin 32 → EReal) (k : EReal) (e : Fin 128) : EReal :=
  quarters (fun _ => 0) s (fun _ => 0) s' e * (if h : e.val < 32 then g ⟨96 + e.val, by omega⟩ else g ⟨e.val - 32, by omega⟩) * k

/-- A lane of a first quarter, the third table zero. -/
theorem turn_first (a b z c s g g' q k r : EReal) (hk : 0 ≤ k ∧ k ≠ ⊤) (hr : 0 ≤ r ∧ r ≠ ⊤) :
    (a * (c * g * k) + b * (-s * g' * k) + z * (0 * q * k)) * r = (a * r * g * c - b * r * g' * s) * k := by
  rw [zero_mul, zero_mul, mul_zero, add_zero, turn_sub _ _ _ _ _ _ _ _ hk hr]

/-- A lane of a second quarter, the second table zero. -/
theorem turn_second (a b z c s g g' q k r : EReal) (hk : 0 ≤ k ∧ k ≠ ⊤) (hr : 0 ≤ r ∧ r ≠ ⊤) :
    (a * (c * g * k) + z * (0 * q * k) + b * (s * g' * k)) * r = (a * r * g * c + b * r * g' * s) * k := by
  rw [zero_mul, zero_mul, mul_zero, add_zero, turn_add _ _ _ _ _ _ _ _ hk hr]

/-- THE TWO FORMS AGREE for two angles: the folded head is the plain head times the scale. -/
theorem folded2_eq (y g : Fin 128 → EReal) (c s c' s' : Fin 32 → EReal) (k : EReal) (hk : 0 ≤ k ∧ k ≠ ⊤) (e : Fin 128) :
    folded2 y (cosTable2 g c c' k) (loTable g s s' k) (hiTable g s s' k) e = plain2 y g c s c' s' e * k := by
  have at_ : ∀ {a b : ℕ} (ha : a < 128) (hb : b < 128), a = b → (⟨a, ha⟩ : Fin 128) = ⟨b, hb⟩ := fun _ _ h => Fin.ext h
  obtain ⟨e, he⟩ := e
  unfold folded2 plain2 half cosTable2 loTable hiTable quarters unit
  by_cases h1 : e < 32
  · have h2 : e < 64 := by omega
    have h3 : e < 96 := by omega
    simp only [h1, h2, h3, dif_pos]
    rw [at_ (Nat.mod_lt _ (by decide)) (by omega) (show (e + 128 - 96) % 128 = 32 + e by omega)]
    exact turn_first _ _ _ _ _ _ _ _ _ _ hk (invRms_bounds y)
  · by_cases h2 : e < 64
    · have h3 : e - 32 < 32 := by omega
      simp only [h1, h2, h3, dif_pos, dif_neg, not_false_eq_true]
      rw [at_ (Nat.mod_lt _ (by decide)) (by omega) (show (e + 128 - 32) % 128 = e - 32 by omega),
        at_ (a := 32 + (e - 32)) (by omega) he (by omega)]
      exact turn_second _ _ _ _ _ _ _ _ _ _ hk (invRms_bounds y)
    · by_cases h4 : e < 96
      · have h3 : ¬ e - 32 < 32 := by omega
        have h5 : e - 32 - 32 < 32 := by omega
        have h6 : e - 64 < 32 := by omega
        simp only [h1, h2, h3, h4, h5, h6, dif_pos, dif_neg, not_false_eq_true]
        rw [at_ (Nat.mod_lt _ (by decide)) (by omega) (show (e + 128 - 96) % 128 = 32 + e by omega),
          at_ (a := 64 + (e - 64)) (by omega) he (by omega), at_ (a := 64 + (32 + (e - 64))) (b := 32 + e) (by omega) (by omega) (by omega)]
        exact turn_first _ _ _ _ _ _ _ _ _ _ hk (invRms_bounds y)
      · have h3 : ¬ e - 32 < 32 := by omega
        have h5 : ¬ e - 32 - 32 < 32 := by omega
        have h6 : ¬ e - 64 < 32 := by omega
        simp only [h1, h2, h3, h4, h5, h6, dif_neg, not_false_eq_true]
        rw [at_ (Nat.mod_lt _ (by decide)) (by omega) (show (e + 128 - 32) % 128 = e - 32 by omega),
          at_ (a := 64 + (32 + (e - 64 - 32))) (by omega) he (by omega), at_ (a := 64 + (e - 64 - 32)) (b := e - 32) (by omega) (by omega) (by omega)]
        exact turn_second _ _ _ _ _ _ _ _ _ _ hk (invRms_bounds y)

end Cert.Rope
end
-- ==== Proof.ProjBValue.lean ====
/-
  What the input projection of the second kind leaves in its four arrays, at an index: the queries and keys as heads normalized and
  rotated through the tables, the values and gates as columns of the product.
-/
module

public import proofs.«01_k».proof.Proof.ProjBFrame
public import proofs.«01_k».proof.Proof.Rope
public import Idealize.ShloMosaic.Lib.Pipeline.ValueKit
public import Idealize.ShloMosaic.Lib.Pipeline.Covers
public import Idealize.ShloMosaic.Lib.Pointwise

@[expose] public section

set_option maxRecDepth 16384

noncomputable section

namespace Cert.ProjBIdeal.Body

open Cert.ProjBIdeal Cert.ProjBIdeal.Gen Idealize.ShloMosaic Idealize.ShloMosaic.TcCoe Idealize.SL.Sem

/-! ## A block's columns -/

/-- One head's columns normalized and rotated, as the kernel writes it. -/
def turned (y : FVec Ideal S1024x128 .f32) (t0 t1 : Vec Ideal S1x1024x128 .f32) : FVec Ideal S1024x128 .f32 :=
  mulf (addf (mulf y (shapeCast S1024x128 t0 shapeCasts_S1x1024x128_S1024x128))
      (mulf (dynamicRotate 1 64#32 none y rotates_S1024x128_d1) (shapeCast S1024x128 t1 shapeCasts_S1x1024x128_S1024x128)))
    (broadcastTo S1024x128 (rsqrt (addf (divf (shapeCast S1024x1 (multiReduction .add [1] S1024 (mulf y y) 0x00000000#32 reduces_S1024x128_S1024 (.inl rfl) rfl)
      shapeCasts_S1024_S1024x1) (broadcast S1024x1 (Scalar.ofBits .f32 0x43000000#32))) (broadcast S1024x1 (Scalar.ofBits .f32 0x358637BD#32)))) broadcasts_S1024x1_S1024x128)

theorem turned_apply (y : FVec Ideal S1024x128 .f32) (t0 t1 : Vec Ideal S1x1024x128 .f32) (i : Fin 1024) (e : Fin 128) :
    turned y t0 t1 (ix2 i e) = Rope.folded (fun e => y (ix2 i e)) (fun e => t0 (ix3 0 i e)) (fun e => t1 (ix3 0 i e)) e := by
  unfold Rope.folded Rope.invRms
  pointwise [turned]

theorem plane0_apply (tab : Vec Ideal S2x1024x128 .f32) (i : Fin 1024) (e : Fin 128) : plane0 tab (ix3 0 i e) = tab (ix3 0 i e) := by
  pointwise [plane0]

theorem plane1_apply (tab : Vec Ideal S2x1024x128 .f32) (i : Fin 1024) (e : Fin 128) : plane1 tab (ix3 0 i e) = tab (ix3 1 i e) := by
  pointwise [plane1]

/-- The rotated block is four heads side by side. -/
theorem roped_eq (y : FVec Ideal S1024x512 .f32) (tab : Vec Ideal S2x1024x128 .f32) :
    roped y tab = truncf .bf16 (concatenate S1024x512 1 [
      ⟨S1024x128, turned (extractStridedSlice S1024x128 ![0, 0] y slices_S1024x512_o0_0_S1024x128) (plane0 tab) (plane1 tab)⟩,
      ⟨S1024x128, turned (extractStridedSlice S1024x128 ![0, 128] y slices_S1024x512_o0_128_S1024x128) (plane0 tab) (plane1 tab)⟩,
      ⟨S1024x128, turned (extractStridedSlice S1024x128 ![0, 256] y slices_S1024x512_o0_256_S1024x128) (plane0 tab) (plane1 tab)⟩,
      ⟨S1024x128, turned (extractStridedSlice S1024x128 ![0, 384] y slices_S1024x512_o0_384_S1024x128) (plane0 tab) (plane1 tab)⟩]
      concatenates_S1024x128_S1024x128_S1024x128_S1024x128_S1024x512_d1) bitsLt_bf16_f32 := rfl

/-- A column of the rotated block: its head through the table. -/
theorem roped_apply (y : FVec Ideal S1024x512 .f32) (tab : Vec Ideal S2x1024x128 .f32) (i : Fin 1024) (j : Fin 512) :
    roped y tab (ix2 i j) = Rope.folded (Rope.head (fun j => y (ix2 i j)) (j.val / 128 * 128) (by omega)) (fun e => tab (ix3 0 i e))
      (fun e => tab (ix3 1 i e)) ⟨j.val % 128, Nat.mod_lt _ (by decide)⟩ := by
  have cut : ∀ (k : ℕ) (x : Fin 128 → Fin 512) (_ : ∀ e, (x e).val = 128 * k + e.val) (l : ℕ) (hl : l < 128), j.val = 128 * k + l →
      Rope.folded (fun e => y (ix2 i (x e))) (fun e => tab (ix3 0 i e)) (fun e => tab (ix3 1 i e)) ⟨l, hl⟩
        = Rope.folded (Rope.head (fun j => y (ix2 i j)) (j.val / 128 * 128) (by omega)) (fun e => tab (ix3 0 i e))
          (fun e => tab (ix3 1 i e)) ⟨j.val % 128, Nat.mod_lt _ (by decide)⟩ := by
    intro k x hx l hl hj
    have e1 : (⟨l, hl⟩ : Fin 128) = ⟨j.val % 128, Nat.mod_lt _ (by decide)⟩ := Fin.ext (by show l = j.val % 128; omega)
    have e2 : (fun e : Fin 128 => y (ix2 i (x e))) = Rope.head (fun j => y (ix2 i j)) (j.val / 128 * 128) (by omega) := by
      funext e
      unfold Rope.head
      exact congrArg (fun z => y (ix2 i z)) (Fin.ext (by rw [hx]; show 128 * k + e.val = j.val / 128 * 128 + e.val; omega))
    rw [e1, e2]
  rw [roped_eq]
  pointwise
  split
  · rw [turned_apply]; simp only [plane0_apply, plane1_apply]; pointwise; exact cut 0 _ (fun e => by show e.val = 128 * 0 + e.val; omega) j.val (by omega) (by omega)
  · split
    · rw [turned_apply]; simp only [plane0_apply, plane1_apply]; pointwise; exact cut 1 _ (fun e => by rfl) (j.val - 128) (by omega) (by omega)
    · split
      · rw [turned_apply]; simp only [plane0_apply, plane1_apply]; pointwise; exact cut 2 _ (fun e => by rfl) (j.val - 128 - 128) (by omega) (by omega)
      · rw [turned_apply]; simp only [plane0_apply, plane1_apply]; pointwise; exact cut 3 _ (fun e => by rfl) (j.val - 128 - 128 - 128) (by omega) (by omega)

/-- The normalized tokens. -/
theorem tokens_apply (x : Vec Ideal S1024x2048 .f32) (g : Vec Ideal S1x2048 .f32) (i : Fin 1024) (k : Fin 2048) :
    k0_pay1 x g (ix2 i k) = Rope.token (fun r => x (ix2 i r)) (fun r => g (ix2 0 r)) k := by
  unfold Rope.token Rope.invRms
  pointwise [k0_pay1]

/-- A column of the product. -/
theorem product_apply (x : Vec Ideal S1024x2048 .f32) (g : Vec Ideal S1x2048 .f32) (w : Vec Ideal S2048x512 .bf16) (i : Fin 1024) (j : Fin 512) :
    k0_pay2 (k0_pay1 x g) w (ix2 i j) = Rope.column (fun r => x (ix2 i r)) (fun r => g (ix2 0 r)) (fun r => w (ix2 r j)) := by
  unfold Rope.column
  pointwise [k0_pay2]
  exact Finset.sum_congr rfl fun k _ => congrArg (· * _) (tokens_apply x g i k)

theorem narrowed_apply (h : Vec Ideal S1024x2048 .bf16) (w : Vec Ideal S2048x512 .bf16) (i : Fin 1024) (j : Fin 512) :
    k0_pay3 h w (ix2 i j) = k0_pay2 h w (ix2 i j) := by
  pointwise [k0_pay3]

/-! ## The tables -/

/-- The angles: the position times the inverse frequency of the lane. -/
def angles : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32))
              (mulf (broadcastInDim S64 ![] bcast_S_S64 (constant S_ .f32 0x40000000#32)) (sitofp .f32 (iotaInDim S64 32 0))))
            (broadcastInDim S64 ![] bcast_S_S64 (constant S_ .f32 0x43000000#32)))))))

/-- The gain turned by half a head. -/
def turnedGain (g : FVec Ideal S128 .f32) : FVec Ideal S128 .f32 :=
  concatenate S128 0 [⟨S64, extractStridedSlice S64 ![64] g slices_S128_S64_64⟩, ⟨S64, extractStridedSlice S64 ![0] g slices_S128_S64_0⟩] concatenates_S64_S64_S128_d0

/-- The kernel's table: cosines and signed sines with the gain and the scale inside. -/
def table (A : FVec Ideal S4096x64 .f32) (g g' : FVec Ideal S128 .f32) (s : BitVec 32) : FVec Ideal S2x4096x128 .f32 :=
  mulf (concatenate S2x4096x128 0 [
      ⟨S1x4096x128, broadcastInDim S1x4096x128 ![1, 2] bcast_S4096x128_S1x4096x128_1_2
        (mulf (concatenate S4096x128 1 [⟨S4096x64, Host.cos A⟩, ⟨S4096x64, Host.cos A⟩] concatenates_S4096x64_S4096x64_S4096x128_d1)
          (broadcastInDim S4096x128 ![0, 1] bcast_S1x128_S4096x128_0_1 (broadcastInDim S1x128 ![1] bcast_S128_S1x128_1 g)))⟩,
      ⟨S1x4096x128, broadcastInDim S1x4096x128 ![1, 2] bcast_S4096x128_S1x4096x128_1_2
        (mulf (concatenate S4096x128 1 [⟨S4096x64, Host.negf (Host.sin A)⟩, ⟨S4096x64, Host.sin A⟩] concatenates_S4096x64_S4096x64_S4096x128_d1)
          (broadcastInDim S4096x128 ![0, 1] bcast_S1x128_S4096x128_0_1 (broadcastInDim S1x128 ![1] bcast_S128_S1x128_1 g')))⟩] concatenates_S1x4096x128_S1x4096x128_S2x4096x128_d0)
    (broadcastInDim S2x4096x128 ![] bcast_S_S2x4096x128 (constant S_ .f32 s))

theorem angles_apply (p : Fin 4096) (f : Fin 64) : angles (ix2 p f) = Rope.angle 0x43000000#32 p.val f.val := by
  unfold Rope.angle
  pointwise [angles]

theorem turnedGain_apply (g : FVec Ideal S128 .f32) (e : Fin 128) :
    turnedGain g (ix1 e) = if h : e.val < 64 then g (ix1 ⟨64 + e.val, by omega⟩) else g (ix1 ⟨e.val - 64, by omega⟩) := by
  pointwise [turnedGain]

theorem table0_apply (g : FVec Ideal S128 .f32) (s : BitVec 32) (p : Fin 4096) (e : Fin 128) : table angles g (turnedGain g) s (ix3 0 p e)
    = Rope.cosTable (fun e => g (ix1 e)) (fun f => Ideal.cos (Rope.angle 0x43000000#32 p.val f.val)) (Ideal.ofBits .f32 s) e := by
  unfold Rope.cosTable
  pointwise [table]
  simp only [angles_apply]

theorem table1_apply (g : FVec Ideal S128 .f32) (s : BitVec 32) (p : Fin 4096) (e : Fin 128) : table angles g (turnedGain g) s (ix3 1 p e)
    = Rope.sinTable (fun e => g (ix1 e)) (fun f => Ideal.sin (Rope.angle 0x43000000#32 p.val f.val)) (Ideal.ofBits .f32 s) e := by
  unfold Rope.sinTable
  pointwise [table]
  simp only [angles_apply, turnedGain_apply]

variable (m : (ℓ : Loc nD τ sig) → Buf (Elt Ideal) ℓ) (c : Dev nD)

/-- What the launch finds as the queries' table. -/
theorem heldQ : (V m c main_v33 : FVec Ideal S2x4096x128 .f32) = table angles (m ((c : Thread nD τ).loc main_arg3)) (turnedGain (m ((c : Thread nD τ).loc main_arg3))) 0x3DB504F3#32 := by
  unfold V
  simp only [hostOps0, hostOps0_1, hostOps0_2, hostOps0_3, hostOps0_4, List.flatten_cons, List.flatten_nil, List.append_nil, List.cons_append, List.nil_append]
  after_results_simp <;> rfl

/-- As the keys'. -/
theorem heldK : (V m c main_v67 : FVec Ideal S2x4096x128 .f32) = table angles (m ((c : Thread nD τ).loc main_arg4)) (turnedGain (m ((c : Thread nD τ).loc main_arg4))) 0x3F800000#32 := by
  unfold V
  simp only [hostOps0, hostOps0_1, hostOps0_2, hostOps0_3, hostOps0_4, List.flatten_cons, List.flatten_nil, List.append_nil, List.cons_append, List.nil_append]
  after_results_simp <;> rfl

/-- As the tokens' gain. -/
theorem heldG : (V m c main_v68 : FVec Ideal S1x2048 .f32) = shapeCast S1x2048 (m ((c : Thread nD τ).loc main_arg1) : FVec Ideal S2048 .f32) shapeCasts_S2048_S1x2048 := by
  unfold V
  simp only [hostOps0, hostOps0_1, hostOps0_2, hostOps0_3, hostOps0_4, List.flatten_cons, List.flatten_nil, List.append_nil, List.cons_append, List.nil_append]
  after_results_simp <;> rfl

/-! ## The blocks -/

theorem places : ∀ t : Fin cfg0.N, win0_0.index t = ![t.val / 16, 0] ∧ win0_1.index t = ![0, 0] ∧ win0_2.index t = ![0, t.val % 16]
    ∧ win0_3.index t = ![0, t.val / 16 % 4, 0] ∧ win0_4.index t = ![0, t.val / 16 % 4, 0] := by
  decide +kernel

theorem lt_points (t : Fin cfg0.N) : t.val < 512 := lt_of_lt_of_eq t.isLt N_0

theorem row_block (t : Fin cfg0.N) (i : Fin 1024) (r : Fin 2048) : iblk m c 0 (rowStart t.val) (ix2 i r)
    = m ((c : Thread nD τ).loc main_arg0) (ix2 (⟨t.val / 16 * 1024 + i.val, by have := lt_points t; omega⟩ : Fin 32768) r) := by
  have p : win0_0.index (rowStart t.val) = ![t.val / 16, 0] := by
    rw [(places _).1]
    have : (rowStart t.val).val / 16 = t.val / 16 := by have := lt_points t; show t.val / 16 * 16 % 512 / 16 = _; omega
    rw [this]
  blk_ext [iblk, V, p]

theorem gain_row (X : FVec Ideal S2048 .f32) (r : Fin 2048) : shapeCast S1x2048 X shapeCasts_S2048_S1x2048 (ix2 (0 : Fin 1) r) = X (ix1 r) := by
  pointwise []

theorem gain_block (t : Fin cfg0.N) (r : Fin 2048) : iblk m c 1 t (ix2 (0 : Fin 1) r) = m ((c : Thread nD τ).loc main_arg1) (ix1 r) := by
  refine Eq.trans ?_ (gain_row (m ((c : Thread nD τ).loc main_arg1)) r)
  rw [← heldG]
  have p := (places t).2.1
  blk_ext [iblk, p]

theorem weight_block (t : Fin cfg0.N) (r : Fin 2048) (j : Fin 512) : iblk m c 2 t (ix2 r j)
    = m ((c : Thread nD τ).loc main_arg2) (ix2 r (⟨t.val % 16 * 512 + j.val, by omega⟩ : Fin 8192)) := by
  have p := (places t).2.2.1
  blk_ext [iblk, V, p]

theorem query_table (t : Fin cfg0.N) (a : Fin 2) (i : Fin 1024) (e : Fin 128) : iblk m c 3 t (ix3 a i e)
    = table angles (m ((c : Thread nD τ).loc main_arg3)) (turnedGain (m ((c : Thread nD τ).loc main_arg3))) 0x3DB504F3#32
      (ix3 a (⟨t.val / 16 % 4 * 1024 + i.val, by omega⟩ : Fin 4096) e) := by
  rw [← heldQ]
  have p := (places t).2.2.2.1
  blk_ext [iblk, p]

theorem key_table (t : Fin cfg0.N) (a : Fin 2) (i : Fin 1024) (e : Fin 128) : iblk m c 4 t (ix3 a i e)
    = table angles (m ((c : Thread nD τ).loc main_arg4)) (turnedGain (m ((c : Thread nD τ).loc main_arg4))) 0x3F800000#32
      (ix3 a (⟨t.val / 16 % 4 * 1024 + i.val, by omega⟩ : Fin 4096) e) := by
  rw [← heldK]
  have p := (places t).2.2.2.2
  blk_ext [iblk, p]

/-- The tokens' columns from the arguments. -/
def rows (x : FVec Ideal S32768x2048 .f32) (g : FVec Ideal S2048 .f32) (w : FVec Ideal S2048x8192 .bf16) : Fin 32768 → Fin 8192 → EReal :=
  Rope.row (fun t r => x (ix2 t r)) (fun r => g (ix1 r)) (fun r j => w (ix2 r j))

/-- The product a point forms: its tokens' columns from its column block on. -/
theorem point_columns (t : Fin cfg0.N) (i : Fin 1024) (j : Fin 512) : k0_pay2 (normed m c t.val) (iblk m c 2 t) (ix2 i j)
    = rows (m ((c : Thread nD τ).loc main_arg0)) (m ((c : Thread nD τ).loc main_arg1)) (m ((c : Thread nD τ).loc main_arg2))
      ⟨t.val / 16 * 1024 + i.val, by have := lt_points t; omega⟩ ⟨t.val % 16 * 512 + j.val, by omega⟩ := by
  unfold normed rows Rope.row
  rw [product_apply]
  simp only [row_block, gain_block, weight_block]

/-- A block's head through a table block is the plain head of the tokens' columns, times the table's scale. -/
theorem head_block (Y : Fin 32768 → Fin 8192 → EReal) (G : FVec Ideal S128 .f32) (s : BitVec 32) (hs : 0 ≤ Ideal.ofBits .f32 s ∧ Ideal.ofBits .f32 s ≠ ⊤)
    (y : FVec Ideal S1024x512 .f32) (tab : Vec Ideal S2x1024x128 .f32) (a q : ℕ) (o : ℕ) (ho : o + 2048 ≤ 8192) (ha : a < 32) (hq : q < 4)
    (hy : ∀ (i : Fin 1024) (j : Fin 512), y (ix2 i j) = Y ⟨a * 1024 + i.val, by omega⟩ ⟨o + (q * 512 + j.val), by omega⟩)
    (ht : ∀ (b : Fin 2) (i : Fin 1024) (e : Fin 128), tab (ix3 b i e) = table angles G (turnedGain G) s (ix3 b (⟨a % 4 * 1024 + i.val, by omega⟩ : Fin 4096) e))
    (i : Fin 1024) (j : Fin 512) :
    roped y tab (ix2 i j) = Rope.roped Y (fun e => G (ix1 e)) o ho ⟨a * 1024 + i.val, by omega⟩ ⟨q * 512 + j.val, by omega⟩ * Ideal.ofBits .f32 s := by
  rw [roped_apply]
  simp only [ht, table0_apply, table1_apply]
  rw [Rope.folded_eq _ _ _ _ _ hs]
  unfold Rope.roped
  have e1 : (a * 1024 + i.val) % 4096 = a % 4 * 1024 + i.val := by omega
  have e2 : (⟨(q * 512 + j.val) % 128, Nat.mod_lt _ (by decide)⟩ : Fin 128) = ⟨j.val % 128, Nat.mod_lt _ (by decide)⟩ :=
    Fin.ext (by show (q * 512 + j.val) % 128 = j.val % 128; omega)
  have e3 : Rope.head (fun j => y (ix2 i j)) (j.val / 128 * 128) (by omega)
      = Rope.head (Y ⟨a * 1024 + i.val, by omega⟩) (o + (q * 512 + j.val) / 128 * 128) (by omega) := by
    funext e
    unfold Rope.head
    refine (hy i _).trans (congrArg _ (Fin.ext ?_))
    show o + (q * 512 + (j.val / 128 * 128 + e.val)) = o + (q * 512 + j.val) / 128 * 128 + e.val
    omega
  rw [e3]
  simp only [e1, e2]

end Cert.ProjBIdeal.Body

end
-- ==== Proof.ProjBArrays.lean ====
/-
  The four arrays of the input projection of the second kind, from the arguments.
-/
module

public import proofs.«01_k».proof.Proof.ProjBValue

@[expose] public section

set_option maxRecDepth 16384

noncomputable section

namespace Cert.ProjBIdeal.Body

open Cert.ProjBIdeal Cert.ProjBIdeal.Gen Idealize.ShloMosaic Idealize.ShloMosaic.TcCoe Idealize.SL.Sem

variable (m : (ℓ : Loc nD τ sig) → Buf (Elt Ideal) ℓ) (c : Dev nD)

/-- Where the results' blocks lie: the block of the point whose column block is the nearest of theirs. -/
theorem result_places : ∀ t : Fin cfg0.N,
    win0_5.index t = ![t.val / 16, (column 0 3 (by decide) (by decide) t).val % 16] ∧ win0_6.index t = ![t.val / 16, (column 4 7 (by decide) (by decide) t).val % 16 - 4]
    ∧ win0_7.index t = ![t.val / 16, (column 8 11 (by decide) (by decide) t).val % 16 - 8] ∧ win0_8.index t = ![t.val / 16, (column 12 15 (by decide) (by decide) t).val % 16 - 12] := by
  decide +kernel

theorem column_row (lo hi : ℕ) (h : lo ≤ hi) (hh : hi < 16) (t : Fin cfg0.N) : (column lo hi h hh t).val / 16 = t.val / 16 := by
  show (t.val / 16 * 16 + max lo (min hi (t.val % 16))) / 16 = t.val / 16
  omega

theorem column_bounds (lo hi : ℕ) (h : lo ≤ hi) (hh : hi < 16) (t : Fin cfg0.N) : lo ≤ (column lo hi h hh t).val % 16 ∧ (column lo hi h hh t).val % 16 ≤ hi := by
  show lo ≤ (t.val / 16 * 16 + max lo (min hi (t.val % 16))) % 16 ∧ (t.val / 16 * 16 + max lo (min hi (t.val % 16))) % 16 ≤ hi
  omega

/-- The point of a row of tokens and a column block. -/
def pointAt (a b : ℕ) (ha : a < 32) (hb : b < 16) : Fin cfg0.N := ⟨a * 16 + b, lt_of_lt_of_eq (by omega : _ < 512) N_0.symm⟩

theorem column_pointAt (lo hi : ℕ) (h : lo ≤ hi) (hh : hi < 16) (a b : ℕ) (ha : a < 32) (hb : lo + b ≤ hi) :
    (column lo hi h hh (pointAt a (lo + b) ha (by omega))).val = a * 16 + (lo + b) ∧ (pointAt a (lo + b) ha (by omega)).val / 16 = a :=
  ⟨congrArg Fin.val (column_self lo hi h hh _ (by show lo ≤ (a * 16 + (lo + b)) % 16; omega) (by show (a * 16 + (lo + b)) % 16 ≤ hi; omega)),
    by show (a * 16 + (lo + b)) / 16 = a; omega⟩

/-- The queries' blocks cover their array. -/
theorem covers5 : (cfg0.win 5).Covers := by
  refine (cfg0.win 5).covers_of_index_surj rfl (by decide) fun β => ?_
  have h0 : (β 0).val < 32 := (β 0).isLt
  have h1 : (β 1).val < 4 := (β 1).isLt
  obtain ⟨e1, e2⟩ := column_pointAt 0 3 (by decide) (by decide) (β 0).val (β 1).val h0 (by omega)
  refine ⟨pointAt (β 0).val (0 + (β 1).val) h0 (by omega), fun a => ?_⟩
  refine (congrFun (result_places _).1 a).trans ?_
  fin_cases a
  · exact e2
  · show (column 0 3 _ _ _).val % 16 = (β 1).val
    rw [e1]; omega

/-- The keys' blocks cover their array. -/
theorem covers6 : (cfg0.win 6).Covers := by
  refine (cfg0.win 6).covers_of_index_surj rfl (by decide) fun β => ?_
  have h0 : (β 0).val < 32 := (β 0).isLt
  have h1 : (β 1).val < 4 := (β 1).isLt
  obtain ⟨e1, e2⟩ := column_pointAt 4 7 (by decide) (by decide) (β 0).val (β 1).val h0 (by omega)
  refine ⟨pointAt (β 0).val (4 + (β 1).val) h0 (by omega), fun a => ?_⟩
  refine (congrFun (result_places _).2.1 a).trans ?_
  fin_cases a
  · exact e2
  · show (column 4 7 _ _ _).val % 16 - 4 = (β 1).val
    rw [e1]; omega

/-- The values' blocks cover their array. -/
theorem covers7 : (cfg0.win 7).Covers := by
  refine (cfg0.win 7).covers_of_index_surj rfl (by decide) fun β => ?_
  have h0 : (β 0).val < 32 := (β 0).isLt
  have h1 : (β 1).val < 4 := (β 1).isLt
  obtain ⟨e1, e2⟩ := column_pointAt 8 11 (by decide) (by decide) (β 0).val (β 1).val h0 (by omega)
  refine ⟨pointAt (β 0).val (8 + (β 1).val) h0 (by omega), fun a => ?_⟩
  refine (congrFun (result_places _).2.2.1 a).trans ?_
  fin_cases a
  · exact e2
  · show (column 8 11 _ _ _).val % 16 - 8 = (β 1).val
    rw [e1]; omega

/-- The gates' blocks cover their array. -/
theorem covers8 : (cfg0.win 8).Covers := by
  refine (cfg0.win 8).covers_of_index_surj rfl (by decide) fun β => ?_
  have h0 : (β 0).val < 32 := (β 0).isLt
  have h1 : (β 1).val < 4 := (β 1).isLt
  obtain ⟨e1, e2⟩ := column_pointAt 12 15 (by decide) (by decide) (β 0).val (β 1).val h0 (by omega)
  refine ⟨pointAt (β 0).val (12 + (β 1).val) h0 (by omega), fun a => ?_⟩
  refine (congrFun (result_places _).2.2.2 a).trans ?_
  fin_cases a
  · exact e2
  · show (column 12 15 _ _ _).val % 16 - 12 = (β 1).val
    rw [e1]; omega

/-- The tokens' columns from the launch's arguments. -/
def ours : Fin 32768 → Fin 8192 → EReal := rows (m ((c : Thread nD τ).loc main_arg0)) (m ((c : Thread nD τ).loc main_arg1)) (m ((c : Thread nD τ).loc main_arg2))

/-- The queries at a token and a column. -/
def query (t : Fin 32768) (j : Fin 2048) : EReal :=
  Rope.roped (ours m c) (fun e => m ((c : Thread nD τ).loc main_arg3) (ix1 e)) 0 (by decide) t j * Ideal.ofBits .f32 0x3DB504F3#32

/-- The keys at a token and a column. -/
def key (t : Fin 32768) (j : Fin 2048) : EReal :=
  Rope.roped (ours m c) (fun e => m ((c : Thread nD τ).loc main_arg4) (ix1 e)) 2048 (by decide) t j

/-- The values and the gates: the columns from `o` on. -/
def plainColumn (o : ℕ) (ho : o + 2048 ≤ 8192) (t : Fin 32768) (j : Fin 2048) : EReal := ours m c t ⟨o + j.val, by omega⟩

theorem query_block (u : Fin cfg0.N) (hu : u.val % 16 ≤ 3) (i : Fin 1024) (e : Fin 512) :
    qblock m c u (ix2 i e) = query m c ⟨u.val / 16 * 1024 + i.val, by have := lt_points u; omega⟩ ⟨u.val % 16 * 512 + e.val, by omega⟩ :=
  head_block (ours m c) (m ((c : Thread nD τ).loc main_arg3)) 0x3DB504F3#32 Rope.scale_bounds _ _ (u.val / 16) (u.val % 16) 0 (by decide) (by have := lt_points u; omega)
    (by omega) (fun i j => (point_columns m c u i j).trans (congrArg _ (Fin.ext (by show u.val % 16 * 512 + j.val = 0 + (u.val % 16 * 512 + j.val); omega))))
    (fun b i e => query_table m c u b i e) i e

theorem key_block (u : Fin cfg0.N) (hu : 4 ≤ u.val % 16 ∧ u.val % 16 ≤ 7) (i : Fin 1024) (e : Fin 512) :
    kblock m c u (ix2 i e) = key m c ⟨u.val / 16 * 1024 + i.val, by have := lt_points u; omega⟩ ⟨(u.val % 16 - 4) * 512 + e.val, by omega⟩ := by
  refine (head_block (ours m c) (m ((c : Thread nD τ).loc main_arg4)) 0x3F800000#32 ?_ _ _ (u.val / 16) (u.val % 16 - 4) 2048 (by decide) (by have := lt_points u; omega)
    (by omega) (fun i j => (point_columns m c u i j).trans (congrArg _ (Fin.ext (by show u.val % 16 * 512 + j.val = 2048 + ((u.val % 16 - 4) * 512 + j.val); omega))))
    (fun b i e => key_table m c u b i e) i e).trans ?_
  · rw [Ideal.ofBits_one_f32]; exact Rope.one_bounds
  · rw [Ideal.ofBits_one_f32, mul_one]; rfl

theorem plain_block (o lo : ℕ) (ho : o + 2048 ≤ 8192) (hl : o = lo * 512) (u : Fin cfg0.N) (hu : lo ≤ u.val % 16 ∧ u.val % 16 ≤ lo + 3) (i : Fin 1024) (e : Fin 512) :
    vblock m c u (ix2 i e) = plainColumn m c o ho ⟨u.val / 16 * 1024 + i.val, by have := lt_points u; omega⟩ ⟨(u.val % 16 - lo) * 512 + e.val, by omega⟩ := by
  unfold vblock
  rw [narrowed_apply, point_columns]
  unfold plainColumn ours
  exact congrArg _ (Fin.ext (by show u.val % 16 * 512 + e.val = o + ((u.val % 16 - lo) * 512 + e.val); omega))

/-- THE QUERIES' ARRAY. -/
theorem queries_array : (dats m 0 c).arrAt 5 cfg0.N = fun j => query m c (j 0) (j 1) := by
  refine (dats m 0 c).arrAt_eq_of_covers 5 _ covers5 fun t hf y => ?_
  blk_simp
  rw [after0_5]
  obtain ⟨i, e, rfl⟩ : ∃ (i : Fin 1024) (e : Fin 512), y = ix2 i e := ⟨y 0, y 1, by funext a; fin_cases a <;> rfl⟩
  refine (query_block m c _ (column_bounds 0 3 _ _ t).2 i e).trans (congrArg₂ (query m c) (Fin.ext ?_) (Fin.ext ?_))
  · show (column 0 3 _ _ t).val / 16 * 1024 + i.val = win0_5.index t 0 * 1024 + 1 * i.val
    rw [congrFun (result_places t).1 0, column_row]
    show _ = t.val / 16 * 1024 + _
    omega
  · show (column 0 3 _ _ t).val % 16 * 512 + e.val = win0_5.index t 1 * 512 + 1 * e.val
    rw [congrFun (result_places t).1 1]
    show _ = (column 0 3 _ _ t).val % 16 * 512 + _
    omega

/-- THE KEYS' ARRAY. -/
theorem keys_array : (dats m 0 c).arrAt 6 cfg0.N = fun j => key m c (j 0) (j 1) := by
  refine (dats m 0 c).arrAt_eq_of_covers 6 _ covers6 fun t hf y => ?_
  blk_simp
  rw [after0_6]
  obtain ⟨i, e, rfl⟩ : ∃ (i : Fin 1024) (e : Fin 512), y = ix2 i e := ⟨y 0, y 1, by funext a; fin_cases a <;> rfl⟩
  refine (key_block m c _ (column_bounds 4 7 _ _ t) i e).trans (congrArg₂ (key m c) (Fin.ext ?_) (Fin.ext ?_))
  · show (column 4 7 _ _ t).val / 16 * 1024 + i.val = win0_6.index t 0 * 1024 + 1 * i.val
    rw [congrFun (result_places t).2.1 0, column_row]
    show _ = t.val / 16 * 1024 + _
    omega
  · show ((column 4 7 _ _ t).val % 16 - 4) * 512 + e.val = win0_6.index t 1 * 512 + 1 * e.val
    rw [congrFun (result_places t).2.1 1]
    show _ = ((column 4 7 _ _ t).val % 16 - 4) * 512 + _
    omega

/-- THE VALUES' ARRAY. -/
theorem values_array : (dats m 0 c).arrAt 7 cfg0.N = fun j => plainColumn m c 4096 (by decide) (j 0) (j 1) := by
  refine (dats m 0 c).arrAt_eq_of_covers 7 _ covers7 fun t hf y => ?_
  blk_simp
  rw [after0_7]
  obtain ⟨i, e, rfl⟩ : ∃ (i : Fin 1024) (e : Fin 512), y = ix2 i e := ⟨y 0, y 1, by funext a; fin_cases a <;> rfl⟩
  refine (plain_block m c 4096 8 (by decide) rfl _ (column_bounds 8 11 _ _ t) i e).trans (congrArg₂ (plainColumn m c 4096 _) (Fin.ext ?_) (Fin.ext ?_))
  · show (column 8 11 _ _ t).val / 16 * 1024 + i.val = win0_7.index t 0 * 1024 + 1 * i.val
    rw [congrFun (result_places t).2.2.1 0, column_row]
    show _ = t.val / 16 * 1024 + _
    omega
  · show ((column 8 11 _ _ t).val % 16 - 8) * 512 + e.val = win0_7.index t 1 * 512 + 1 * e.val
    rw [congrFun (result_places t).2.2.1 1]
    show _ = ((column 8 11 _ _ t).val % 16 - 8) * 512 + _
    omega

/-- THE GATES' ARRAY. -/
theorem gates_array : (dats m 0 c).arrAt 8 cfg0.N = fun j => plainColumn m c 6144 (by decide) (j 0) (j 1) := by
  refine (dats m 0 c).arrAt_eq_of_covers 8 _ covers8 fun t hf y => ?_
  blk_simp
  rw [after0_8]
  obtain ⟨i, e, rfl⟩ : ∃ (i : Fin 1024) (e : Fin 512), y = ix2 i e := ⟨y 0, y 1, by funext a; fin_cases a <;> rfl⟩
  refine (plain_block m c 6144 12 (by decide) rfl _ (column_bounds 12 15 _ _ t) i e).trans (congrArg₂ (plainColumn m c 6144 _) (Fin.ext ?_) (Fin.ext ?_))
  · show (column 12 15 _ _ t).val / 16 * 1024 + i.val = win0_8.index t 0 * 1024 + 1 * i.val
    rw [congrFun (result_places t).2.2.2 0, column_row]
    show _ = t.val / 16 * 1024 + _
    omega
  · show ((column 12 15 _ _ t).val % 16 - 12) * 512 + e.val = win0_8.index t 1 * 512 + 1 * e.val
    rw [congrFun (result_places t).2.2.2 1]
    show _ = ((column 12 15 _ _ t).val % 16 - 12) * 512 + _
    omega

end Cert.ProjBIdeal.Body

end
-- ==== Proof.ProjBRef.lean ====
/-
  The reference's four results at an index: the queries and keys as normalized and rotated heads, the values and gates as columns of
  the product.
-/
module

public import proofs.«01_k».proof.Proof.Rope
public import proofs.«01_k».proof.Proof.Gen.ProjBRefIdeal.Run

@[expose] public section

set_option maxRecDepth 16384

noncomputable section

namespace Cert.ProjBRefIdeal.Block

open Cert.ProjBRefIdeal Cert.ProjBRefIdeal.Gen Idealize.ShloMosaic Idealize.ShloMosaic.TcCoe Idealize.SL.Sem

/-- The tokens normalized. -/
def normed (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
      (broadcastInDim S32768x1 ![0] bcast_S32768_S32768x1_0 (Host.reduceAdd (mulf x x) (constant S_ .f32 0x00000000#32) reducesTo_S32768x2048_S32768_d1 h_S_))
      (broadcastInDim S32768x1 ![] bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The product with the weights, the tokens apart by prompt. -/
def product (h : FVec Ideal S32768x2048 .f32) (w : FVec Ideal S2048x8192 .bf16) : FVec Ideal S8x4096x8192 .f32 :=
  shapeCast S8x4096x8192 (Host.dotGeneral dot_S32768x2048_S2048x8192_S32768x8192_1_0_0_1_n_n none h (extf .f32 w bitsLt_bf16_f32)) shapeCasts_S32768x8192_S8x4096x8192

/-- The heads normalized. -/
def heads (y : FVec Ideal S8x4096x16x128 .f32) (g : FVec Ideal S128 .f32) : FVec Ideal S8x4096x16x128 .f32 :=
  mulf (mulf y (broadcastInDim S8x4096x16x128 ![0, 1, 2, 3] bcast_S8x4096x16x1_S8x4096x16x128_0_1_2_3 (Host.rsqrt (addf (Host.divf
      (broadcastInDim S8x4096x16x1 ![0, 1, 2] bcast_S8x4096x16_S8x4096x16x1_0_1_2 (Host.reduceAdd (mulf y y) (constant S_ .f32 0x00000000#32) reducesTo_S8x4096x16x128_S8x4096x16_d3 h_S_))
      (broadcastInDim S8x4096x16x1 ![] bcast_S_S8x4096x16x1 (constant S_ .f32 0x43000000#32))) (broadcastInDim S8x4096x16x1 ![] bcast_S_S8x4096x16x1 (constant S_ .f32 0x358637BD#32))))))
    (broadcastInDim S8x4096x16x128 ![0, 1, 2, 3] bcast_S1x1x1x128_S8x4096x16x128_0_1_2_3 (broadcastInDim S1x1x1x128 ![3] bcast_S128_S1x1x1x128_3 g))

/-- The angles: the position times the inverse frequency of the lane. -/
def angles : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32))
              (mulf (broadcastInDim S64 ![] bcast_S_S64 (constant S_ .f32 0x40000000#32)) (sitofp .f32 (iotaInDim S64 32 0))))
            (broadcastInDim S64 ![] bcast_S_S64 (constant S_ .f32 0x43000000#32)))))))

/-- The heads rotated. -/
def rotated (y : FVec Ideal S8x4096x16x128 .f32) (A : FVec Ideal S4096x64 .f32) : FVec Ideal S8x4096x16x128 .f32 :=
  concatenate S8x4096x16x128 3 [
    ⟨S8x4096x16x64, subf
      (mulf (extractStridedSlice S8x4096x16x64 ![0, 0, 0, 0] y slices_S8x4096x16x128_S8x4096x16x64_0_0_0_0)
        (broadcastInDim S8x4096x16x64 ![0, 1, 2, 3] bcast_S1x4096x1x64_S8x4096x16x64_0_1_2_3 (broadcastInDim S1x4096x1x64 ![1, 3] bcast_S4096x64_S1x4096x1x64_1_3 (Host.cos A))))
      (mulf (extractStridedSlice S8x4096x16x64 ![0, 0, 0, 64] y slices_S8x4096x16x128_S8x4096x16x64_0_0_0_64)
        (broadcastInDim S8x4096x16x64 ![0, 1, 2, 3] bcast_S1x4096x1x64_S8x4096x16x64_0_1_2_3 (broadcastInDim S1x4096x1x64 ![1, 3] bcast_S4096x64_S1x4096x1x64_1_3 (Host.sin A))))⟩,
    ⟨S8x4096x16x64, addf
      (mulf (extractStridedSlice S8x4096x16x64 ![0, 0, 0, 64] y slices_S8x4096x16x128_S8x4096x16x64_0_0_0_64)
        (broadcastInDim S8x4096x16x64 ![0, 1, 2, 3] bcast_S1x4096x1x64_S8x4096x16x64_0_1_2_3 (broadcastInDim S1x4096x1x64 ![1, 3] bcast_S4096x64_S1x4096x1x64_1_3 (Host.cos A))))
      (mulf (extractStridedSlice S8x4096x16x64 ![0, 0, 0, 0] y slices_S8x4096x16x128_S8x4096x16x64_0_0_0_0)
        (broadcastInDim S8x4096x16x64 ![0, 1, 2, 3] bcast_S1x4096x1x64_S8x4096x16x64_0_1_2_3 (broadcastInDim S1x4096x1x64 ![1, 3] bcast_S4096x64_S1x4096x1x64_1_3 (Host.sin A))))⟩]
    concatenates_S8x4096x16x64_S8x4096x16x64_S8x4096x16x128_d3

theorem normed_apply (x : FVec Ideal S32768x2048 .f32) (g : FVec Ideal S2048 .f32) (t : Fin 32768) (k : Fin 2048) :
    normed x g (ix2 t k) = Rope.token (fun r => x (ix2 t r)) (fun r => g (ix1 r)) k := by
  unfold Rope.token Rope.invRms
  pointwise [normed]

/-- The product's columns at a prompt's position. -/
theorem product_apply (x : FVec Ideal S32768x2048 .f32) (g : FVec Ideal S2048 .f32) (w : FVec Ideal S2048x8192 .bf16) (b : Fin 8) (p : Fin 4096) (j : Fin 8192) :
    product (normed x g) w (ix3 b p j)
      = Rope.column (fun r => x (ix2 (⟨b.val * 4096 + p.val, by omega⟩ : Fin 32768) r)) (fun r => g (ix1 r)) (fun r => w (ix2 r j)) := by
  unfold Rope.column
  pointwise [product]
  exact Finset.sum_congr rfl fun k _ => congrArg (· * _) (normed_apply x g _ k)

theorem heads_apply (y : FVec Ideal S8x4096x16x128 .f32) (g : FVec Ideal S128 .f32) (b : Fin 8) (p : Fin 4096) (n : Fin 16) (e : Fin 128) :
    heads y g (ix4 b p n e) = Rope.unit (fun e => y (ix4 b p n e)) (fun e => g (ix1 e)) e := by
  unfold Rope.unit Rope.invRms
  pointwise [heads]

theorem angles_apply (p : Fin 4096) (f : Fin 64) : angles (ix2 p f) = Rope.angle 0x43000000#32 p.val f.val := by
  unfold Rope.angle
  pointwise [angles]

theorem rotated_apply (y : FVec Ideal S8x4096x16x128 .f32) (g : FVec Ideal S128 .f32) (b : Fin 8) (p : Fin 4096) (n : Fin 16) (e : Fin 128) :
    rotated (heads y g) angles (ix4 b p n e) = Rope.plain (fun e => y (ix4 b p n e)) (fun e => g (ix1 e))
      (fun f => Ideal.cos (Rope.angle 0x43000000#32 p.val f.val)) (fun f => Ideal.sin (Rope.angle 0x43000000#32 p.val f.val)) e := by
  unfold Rope.plain
  pointwise [rotated]
  simp only [heads_apply, angles_apply]

/-- The tokens' columns from the arguments. -/
def rows (x : FVec Ideal S32768x2048 .f32) (g : FVec Ideal S2048 .f32) (w : FVec Ideal S2048x8192 .bf16) : Fin 32768 → Fin 8192 → EReal :=
  Rope.row (fun t r => x (ix2 t r)) (fun r => g (ix1 r)) (fun r j => w (ix2 r j))

theorem position (t : Fin 32768) (h : t.val / 4096 * 4096 + t.val % 4096 < 32768) : (⟨t.val / 4096 * 4096 + t.val % 4096, h⟩ : Fin 32768) = t :=
  Fin.ext (by show t.val / 4096 * 4096 + t.val % 4096 = t.val; omega)

variable (m : (ℓ : Loc nD τ sig) → Buf (Elt Ideal) ℓ) (c : Dev nD)

/-- The queries' result as the stages above. -/
theorem queries_eq : Value.res_main_v118 m c = truncf .bf16 (shapeCast S32768x2048 (mulf (rotated (heads (shapeCast S8x4096x16x128 (extractStridedSlice S8x4096x2048 ![0, 0, 0]
      (product (normed (m ((c : Thread nD τ).loc main_arg0)) (m ((c : Thread nD τ).loc main_arg1))) (m ((c : Thread nD τ).loc main_arg2)))
      slices_S8x4096x8192_S8x4096x2048_0_0_0) shapeCasts_S8x4096x2048_S8x4096x16x128) (m ((c : Thread nD τ).loc main_arg3))) angles)
    (broadcastInDim S8x4096x16x128 ![] bcast_S_S8x4096x16x128 (constant S_ .f32 0x3DB504F3#32))) shapeCasts_S8x4096x16x128_S32768x2048) bitsLt_bf16_f32 := by
  unfold Value.res_main_v118
  rfl

/-- The keys' result as the stages above. -/
theorem keys_eq : Value.res_main_v120 m c = truncf .bf16 (shapeCast S32768x2048 (rotated (heads (shapeCast S8x4096x16x128 (extractStridedSlice S8x4096x2048 ![0, 0, 2048]
      (product (normed (m ((c : Thread nD τ).loc main_arg0)) (m ((c : Thread nD τ).loc main_arg1))) (m ((c : Thread nD τ).loc main_arg2)))
      slices_S8x4096x8192_S8x4096x2048_0_0_2048) shapeCasts_S8x4096x2048_S8x4096x16x128) (m ((c : Thread nD τ).loc main_arg4))) angles)
    shapeCasts_S8x4096x16x128_S32768x2048) bitsLt_bf16_f32 := by
  unfold Value.res_main_v120
  rfl

/-- THE QUERIES at an index. -/
theorem queries_apply (t : Fin 32768) (j : Fin 2048) : Value.res_main_v118 m c (ix2 t j)
    = Rope.roped (rows (m ((c : Thread nD τ).loc main_arg0)) (m ((c : Thread nD τ).loc main_arg1)) (m ((c : Thread nD τ).loc main_arg2))) (fun e => m ((c : Thread nD τ).loc main_arg3) (ix1 e)) 0 (by decide) t j
      * Ideal.ofBits .f32 0x3DB504F3#32 := by
  rw [queries_eq]
  pointwise
  rw [rotated_apply]
  unfold Rope.roped
  congr 2
  funext e
  pointwise
  rw [product_apply, position]
  unfold Rope.head rows Rope.row
  congr 1

/-- THE KEYS at an index. -/
theorem keys_apply (t : Fin 32768) (j : Fin 2048) : Value.res_main_v120 m c (ix2 t j)
    = Rope.roped (rows (m ((c : Thread nD τ).loc main_arg0)) (m ((c : Thread nD τ).loc main_arg1)) (m ((c : Thread nD τ).loc main_arg2))) (fun e => m ((c : Thread nD τ).loc main_arg4) (ix1 e)) 2048 (by decide) t j := by
  rw [keys_eq]
  pointwise
  rw [rotated_apply]
  unfold Rope.roped
  congr 1
  funext e
  pointwise
  rw [product_apply, position]
  unfold Rope.head rows Rope.row
  congr 1
  funext r
  congr 2
  exact Fin.ext (by show 2048 + _ = 2048 + _ + _; omega)

/-- THE VALUES at an index. -/
theorem values_apply (x : FVec Ideal S32768x2048 .f32) (g : FVec Ideal S2048 .f32) (w : FVec Ideal S2048x8192 .bf16) (t : Fin 32768) (j : Fin 2048) :
    (truncf .bf16 (shapeCast S32768x2048 (extractStridedSlice S8x4096x2048 ![0, 0, 4096] (product (normed x g) w) slices_S8x4096x8192_S8x4096x2048_0_0_4096)
      shapeCasts_S8x4096x2048_S32768x2048) bitsLt_bf16_f32 : FVec Ideal S32768x2048 .bf16) (ix2 t j) = rows x g w t ⟨4096 + j.val, by omega⟩ := by
  pointwise
  rw [product_apply, position]
  rfl

/-- THE GATES at an index. -/
theorem gates_apply (x : FVec Ideal S32768x2048 .f32) (g : FVec Ideal S2048 .f32) (w : FVec Ideal S2048x8192 .bf16) (t : Fin 32768) (j : Fin 2048) :
    (truncf .bf16 (shapeCast S32768x2048 (extractStridedSlice S8x4096x2048 ![0, 0, 6144] (product (normed x g) w) slices_S8x4096x8192_S8x4096x2048_0_0_6144)
      shapeCasts_S8x4096x2048_S32768x2048) bitsLt_bf16_f32 : FVec Ideal S32768x2048 .bf16) (ix2 t j) = rows x g w t ⟨6144 + j.val, by omega⟩ := by
  pointwise
  rw [product_apply, position]
  rfl

end Cert.ProjBRefIdeal.Block

end
-- ==== Proof.ProjB.lean ====
/-
  The input projection of the second kind: its claims.
-/
module

public import proofs.«01_k».proof.Defs
public import proofs.«01_k».proof.Proof.ProjBSame
public import proofs.«01_k».proof.Proof.ProjBArrays
public import proofs.«01_k».proof.Proof.ProjBRef
public import Idealize.ShloMosaic.Lib.Quiescent

@[expose] public section

set_option maxRecDepth 16384

noncomputable section

namespace Cert.ProjBProof

open Idealize.ShloMosaic Idealize.ShloMosaic.TcCoe Idealize.SL.Sem

section Kernel

open Cert.ProjBIdeal Cert.ProjBIdeal.Gen Cert.ProjBIdeal.Body

/-- The kernel over the extended reals: its four arrays, and its arguments kept. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v69_0) = (fun j => query m c (j 0) (j 1))
      ∧ r.2.mem ((c.tc : Thread nD τ).loc main_v69_1) = (fun j => key m c (j 0) (j 1))
      ∧ r.2.mem ((c.tc : Thread nD τ).loc main_v69_2) = (fun j => plainColumn m c 4096 (by decide) (j 0) (j 1))
      ∧ r.2.mem ((c.tc : Thread nD τ).loc main_v69_3) = (fun j => plainColumn m c 6144 (by decide) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).1 5).trans (queries_array m c), ((h.1 c).1 6).trans (keys_array m c), ((h.1 c).1 7).trans (values_array m c),
        ((h.1 c).1 8).trans (gates_array m c), h.2.1 c⟩)
    (θ_run_and (run_main m ρ) (frame m ρ))

end Kernel

section Reference

open Cert.ProjBRefIdeal Cert.ProjBRefIdeal.Block

/-- An array is known by its entries. -/
theorem entries {s : Fin 32768 → Fin 2048 → EReal} (x : FVec Ideal S32768x2048 .bf16) (h : ∀ t j, x (ix2 t j) = s t j) : x = fun j => s (j 0) (j 1) := by
  funext j
  obtain ⟨t, e, rfl⟩ : ∃ (t : Fin 32768) (e : Fin 2048), j = ix2 t e := ⟨j 0, j 1, by funext a; fin_cases a <;> rfl⟩
  exact h t e

/-- The reference: its four results, and its arguments kept. -/
theorem reference_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v118) = (fun j => Rope.roped (rows (m ((c : Thread nD τ).loc main_arg0)) (m ((c : Thread nD τ).loc main_arg1))
        (m ((c : Thread nD τ).loc main_arg2))) (fun e => m ((c : Thread nD τ).loc main_arg3) (ix1 e)) 0 (by decide) (j 0) (j 1) * Ideal.ofBits .f32 0x3DB504F3#32)
      ∧ r.2.mem ((c.tc : Thread nD τ).loc main_v120) = (fun j => Rope.roped (rows (m ((c : Thread nD τ).loc main_arg0)) (m ((c : Thread nD τ).loc main_arg1))
        (m ((c : Thread nD τ).loc main_arg2))) (fun e => m ((c : Thread nD τ).loc main_arg4) (ix1 e)) 2048 (by decide) (j 0) (j 1))
      ∧ r.2.mem ((c.tc : Thread nD τ).loc main_v122) = (fun j => rows (m ((c : Thread nD τ).loc main_arg0)) (m ((c : Thread nD τ).loc main_arg1))
        (m ((c : Thread nD τ).loc main_arg2)) (j 0) ⟨4096 + (j 1).val, by have : (j 1).val < 2048 := (j 1).isLt; omega⟩)
      ∧ r.2.mem ((c.tc : Thread nD τ).loc main_v124) = (fun j => rows (m ((c : Thread nD τ).loc main_arg0)) (m ((c : Thread nD τ).loc main_arg1))
        (m ((c : Thread nD τ).loc main_arg2)) (j 0) ⟨6144 + (j 1).val, by have : (j 1).val < 2048 := (j 1).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c).1.trans (entries _ (queries_apply m c)), (h c).2.1.trans (entries _ (keys_apply m c)),
        (h c).2.2.1.trans (entries (s := fun t j => rows _ _ _ t ⟨4096 + j.val, by omega⟩) _ (values_apply _ _ _)),
        (h c).2.2.2.1.trans (entries (s := fun t j => rows _ _ _ t ⟨6144 + j.val, by omega⟩) _ (gates_apply _ _ _)), (h c).2.2.2.2⟩)
    (Cert.ProjBRefIdeal.Value.run m ρ)

end Reference

/-- The kernel's reading over the extended reals runs, keeps its arguments and leaves every semaphore at zero. -/
theorem ideal_frame : Cert.quiescent_ProjBIdeal (hProjBIdeal := Cert.ProjBIdeal.Gen.facts) := fun m ρ _ => Cert.ProjBIdeal.Body.frame m ρ

/-- So does the reference. -/
theorem reference_frame : Cert.quiescent_ProjBRefIdeal (hProjBRefIdeal := Cert.ProjBRefIdeal.Gen.facts) :=
  fun m ρ _ => (θ_run _ _ _).mono (fun r h => ⟨fun c => (h c).2.2.2.2, sem_eq_zero_of_no_sems (by decide) r.2⟩) (Cert.ProjBRefIdeal.Value.run m ρ)

/-- Over the extended reals the kernel and the reference give the same four arrays. -/
theorem algebraic : Cert.algebraic_ProjBIdeal_ProjBRefIdeal (hProjBIdeal := Cert.ProjBIdeal.Gen.facts) (hProjBRefIdeal := Cert.ProjBRefIdeal.Gen.facts) := by
  intro m ρ m' ρ' _ hag
  refine ⟨_, _, _, _, run_arrays m ρ, (θ_run _ _ _).mono (fun r h c => ?_) (reference_arrays m' ρ')⟩
  obtain ⟨h0, h1, h2, h3, h4⟩ := h c
  rw [(hag c).1, (hag c).2.1, (hag c).2.2.1, (hag c).2.2.2.1] at h0
  rw [(hag c).1, (hag c).2.1, (hag c).2.2.1, (hag c).2.2.2.2] at h1
  rw [(hag c).1, (hag c).2.1, (hag c).2.2.1] at h2 h3
  exact ⟨h0, h1, h2, h3, h4⟩

end Cert.ProjBProof

end
-- ==== Proof.ProjAFrame.lean ====
/-
  The in-projection of the first half: the kernel's run over its grid, with what each of its four output windows and its
  scratch buffer hold at every grid point.
-/
module

public import proofs.«01_k».proof.Proof.ProjARuns
public import proofs.«01_k».proof.Proof.Carried
public import Idealize.ShloMosaic.Lib.Claim

@[expose] public section

set_option maxRecDepth 16384

noncomputable section

namespace Cert.ProjAIdeal.Body

open Cert.ProjAIdeal Cert.ProjAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a grid point takes -/

theorem starts_iff : ∀ t : Fin cfg0.N, starts (grid0.coords t) ↔ t.val % 10 = 0 :=
  (by decide +kernel : ∀ t : Fin grid0.N, starts (grid0.coords t) ↔ t.val % 10 = 0)

theorem queries_iff : ∀ t : Fin cfg0.N, k0_cond2 (grid0.coords t) = 1#1 ↔ t.val % 10 ≤ 3 :=
  (by decide +kernel : ∀ t : Fin grid0.N, k0_cond2 (grid0.coords t) = 1#1 ↔ t.val % 10 ≤ 3)

theorem keys_iff : ∀ t : Fin cfg0.N, k0_cond3 (grid0.coords t) = 1#1 ↔ (4 ≤ t.val % 10 ∧ t.val % 10 ≤ 4) :=
  (by decide +kernel : ∀ t : Fin grid0.N, k0_cond3 (grid0.coords t) = 1#1 ↔ (4 ≤ t.val % 10 ∧ t.val % 10 ≤ 4))

theorem values_iff : ∀ t : Fin cfg0.N, k0_cond4 (grid0.coords t) = 1#1 ↔ (5 ≤ t.val % 10 ∧ t.val % 10 ≤ 5) :=
  (by decide +kernel : ∀ t : Fin grid0.N, k0_cond4 (grid0.coords t) = 1#1 ↔ (5 ≤ t.val % 10 ∧ t.val % 10 ≤ 5))

theorem gates_iff : ∀ t : Fin cfg0.N, k0_cond5 (grid0.coords t) = 1#1 ↔ 6 ≤ t.val % 10 :=
  (by decide +kernel : ∀ t : Fin grid0.N, k0_cond5 (grid0.coords t) = 1#1 ↔ 6 ≤ t.val % 10)

/-! ## Where each output window is left alone, and where its buffer has been stored into since the last write-back -/

theorem idle5 : ∀ t : Fin cfg0.N, cfg0.idle 5 (grid0.coords t) = decide (4 ≤ t.val % 10) :=
  (by decide +kernel : ∀ t : Fin grid0.N, cfg0.idle 5 (grid0.coords t) = decide (4 ≤ t.val % 10))

theorem idle6 : ∀ t : Fin cfg0.N, cfg0.idle 6 (grid0.coords t) = decide (t.val % 10 < 4 ∨ 5 ≤ t.val % 10) :=
  (by decide +kernel : ∀ t : Fin grid0.N, cfg0.idle 6 (grid0.coords t) = decide (t.val % 10 < 4 ∨ 5 ≤ t.val % 10))

theorem idle7 : ∀ t : Fin cfg0.N, cfg0.idle 7 (grid0.coords t) = decide (t.val % 10 < 5 ∨ 6 ≤ t.val % 10) :=
  (by decide +kernel : ∀ t : Fin grid0.N, cfg0.idle 7 (grid0.coords t) = decide (t.val % 10 < 5 ∨ 6 ≤ t.val % 10))

theorem idle8 : ∀ t : Fin cfg0.N, cfg0.idle 8 (grid0.coords t) = decide (t.val % 10 < 6) :=
  (by decide +kernel : ∀ t : Fin grid0.N, cfg0.idle 8 (grid0.coords t) = decide (t.val % 10 < 6))

theorem fresh5 (t : Fin cfg0.N) : cfg0.fresh 5 t.val = decide (t.val % 10 ≤ 3) :=
  Cfg.fresh_tab cfg0 5 (fun n => decide (n % 10 ≤ 3)) rfl
    (by decide +kernel : ∀ t : Fin cfg0.N, decide ((t.val + 1) % 10 ≤ 3) = ((cfg0.win 5).flush t || (cfg0.idle 5 (cfg0.grid.coords t) && decide (t.val % 10 ≤ 3))))
    t.val t.isLt.le

theorem fresh6 (t : Fin cfg0.N) : cfg0.fresh 6 t.val = decide (t.val % 10 ≤ 4) :=
  Cfg.fresh_tab cfg0 6 (fun n => decide (n % 10 ≤ 4)) rfl
    (by decide +kernel : ∀ t : Fin cfg0.N, decide ((t.val + 1) % 10 ≤ 4) = ((cfg0.win 6).flush t || (cfg0.idle 6 (cfg0.grid.coords t) && decide (t.val % 10 ≤ 4))))
    t.val t.isLt.le

theorem fresh7 (t : Fin cfg0.N) : cfg0.fresh 7 t.val = decide (t.val % 10 ≤ 5) :=
  Cfg.fresh_tab cfg0 7 (fun n => decide (n % 10 ≤ 5)) rfl
    (by decide +kernel : ∀ t : Fin cfg0.N, decide ((t.val + 1) % 10 ≤ 5) = ((cfg0.win 7).flush t || (cfg0.idle 7 (cfg0.grid.coords t) && decide (t.val % 10 ≤ 5))))
    t.val t.isLt.le

theorem fresh8 (t : Fin cfg0.N) : cfg0.fresh 8 t.val = true :=
  Cfg.fresh_tab cfg0 8 (fun _ => true) rfl
    (by decide +kernel : ∀ t : Fin cfg0.N, true = ((cfg0.win 8).flush t || (cfg0.idle 8 (cfg0.grid.coords t) && true)))
    t.val t.isLt.le

/-- An idle point that writes a window back is a row's last. -/
theorem flush5 : ∀ t : Fin cfg0.N, (cfg0.win 5).flush t = true → t.val % 10 ≤ 2 ∨ t.val % 10 = 9 :=
  (by decide +kernel : ∀ t : Fin grid0.N, (cfg0.win 5).flush t = true → t.val % 10 ≤ 2 ∨ t.val % 10 = 9)

theorem flush6 : ∀ t : Fin cfg0.N, (cfg0.win 6).flush t = true → t.val % 10 = 9 :=
  (by decide +kernel : ∀ t : Fin grid0.N, (cfg0.win 6).flush t = true → t.val % 10 = 9)

theorem flush7 : ∀ t : Fin cfg0.N, (cfg0.win 7).flush t = true → t.val % 10 = 9 :=
  (by decide +kernel : ∀ t : Fin grid0.N, (cfg0.win 7).flush t = true → t.val % 10 = 9)

theorem flush8 : ∀ t : Fin cfg0.N, (cfg0.win 8).flush t = true → 6 ≤ t.val % 10 :=
  (by decide +kernel : ∀ t : Fin grid0.N, (cfg0.win 8).flush t = true → 6 ≤ t.val % 10)

/-! ## The pipeline's proof data -/

/-- The first point of the row of the grid a point lies in. -/
def rowStart (n : ℕ) : Fin cfg0.N := ⟨(n / 10 * 10) % 320, lt_of_lt_of_eq (Nat.mod_lt _ (by decide)) N_0.symm⟩

/-- The point of a point's row whose column block is the nearest between two bounds. -/
def column (lo hi : ℕ) (h : lo ≤ hi) (hh : hi < 10) (t : Fin cfg0.N) : Fin cfg0.N :=
  ⟨t.val / 10 * 10 + max lo (min hi (t.val % 10)), by
    have ht : t.val < 320 := lt_of_lt_of_eq t.isLt N_0
    exact lt_of_lt_of_eq (by omega : _ < 320) N_0.symm⟩

/-- The normalized tokens of a point's row. -/
def normed (c : Dev nD) (n : ℕ) : Vec F S1024x2048 .bf16 := k0_pay1 (iblk m c 0 (rowStart n)) (iblk m c 1 (rowStart n))

/-- The queries' block a point stores. -/
def qblock (c : Dev nD) (t : Fin cfg0.N) : Vec F S1024x512 .bf16 := roped (k0_pay2 (normed m c t.val) (iblk m c 2 t)) (iblk m c 3 t)

/-- The keys' block a point stores. -/
def kblock (c : Dev nD) (t : Fin cfg0.N) : Vec F S1024x512 .bf16 := roped (k0_pay2 (normed m c t.val) (iblk m c 2 t)) (iblk m c 4 t)

/-- The values' block, or the gates', a point stores. -/
def vblock (c : Dev nD) (t : Fin cfg0.N) : Vec F S1024x512 .bf16 := k0_pay5 (normed m c t.val) (iblk m c 2 t)

/-- Between points: the scratch buffer, which away from a row's start holds the row's normalized tokens, and the generator's
    register. -/
def between (c : Dev nD) (n : ℕ) : sProp 𝕄 :=
  iprop((∃ d : Vec F S1024x2048 .bf16, ⌜n % 10 ≠ 0 → d = normed m c n⌝ ∗ owns (c : Thread nD τ) (Memref.whole cc0_scratch0) fullShare d) ∗ (∃ r, prngReg c r))

/-- The proof data: the arrays as the region finds them; after each point an input's buffer at its block, and each output's
    at the block its row's nearest point of the kind stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qblock m c (column 0 3 (by decide) (by decide) t)
    | ⟨6, _⟩ => kblock m c (column 4 4 (by decide) (by decide) t)
    | ⟨7, _⟩ => vblock m c (column 5 5 (by decide) (by decide) t)
    | ⟨8, _⟩ => vblock m c (column 6 9 (by decide) (by decide) t)
  Φ k := between m c k.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qblock m c (column 0 3 (by decide) (by decide) t) := by dsimp only [dats]
theorem after0_6 (c : Dev nD) (t : Fin cfg0.N) : (dats m 0 c).after 6 t = kblock m c (column 4 4 (by decide) (by decide) t) := by dsimp only [dats]
theorem after0_7 (c : Dev nD) (t : Fin cfg0.N) : (dats m 0 c).after 7 t = vblock m c (column 5 5 (by decide) (by decide) t) := by dsimp only [dats]
theorem after0_8 (c : Dev nD) (t : Fin cfg0.N) : (dats m 0 c).after 8 t = vblock m c (column 6 9 (by decide) (by decide) t) := by dsimp only [dats]

/-- The nearest column block does not move where a point lies beyond the bounds, as the point before it does or ends them. -/
theorem column_pred (lo hi : ℕ) (h : lo ≤ hi) (hh : hi < 10) (t : Fin cfg0.N) (ht : t.val ≠ 0) (hb : hi < t.val % 10) :
    column lo hi h hh t = column lo hi h hh ⟨t.val - 1, by omega⟩ := by
  refine Fin.ext ?_
  show t.val / 10 * 10 + max lo (min hi (t.val % 10)) = (t.val - 1) / 10 * 10 + max lo (min hi ((t.val - 1) % 10))
  omega

/-- Between the bounds it is the point itself. -/
theorem column_self (lo hi : ℕ) (h : lo ≤ hi) (hh : hi < 10) (t : Fin cfg0.N) (h1 : lo ≤ t.val % 10) (h2 : t.val % 10 ≤ hi) :
    column lo hi h hh t = t := by
  refine Fin.ext ?_
  show t.val / 10 * 10 + max lo (min hi (t.val % 10)) = t.val
  omega

section Windows

variable (c : Dev nD) (t : Fin cfg0.N)

/-- Where the body leaves the queries' window alone, its buffer keeps what it held. -/
theorem kept5 (h : 4 ≤ t.val % 10) :
    (iprop(∃ d, owns (c : Thread nD τ) ((cfg0.win 5).stage (cfg0.slots t 5)) fullShare ((dats m 0 c).before 5 t d))) ⊢ (dats m 0 c).leavesExact 5 t :=
  Cert.Carried.kept (dats m 0 c) 5 rfl (fun _ _ => rfl)
    (fun s hs hi _ => by
      rw [idle5, decide_eq_true_eq] at hi
      rw [after0_5, after0_5, column_pred 0 3 _ _ s hs (by omega)])
    t ((idle5 t).trans (decide_eq_true h)) fun _ => (fresh5 t).trans (decide_eq_false (by omega))

/-- The same of the keys' window. -/
theorem kept6 (h : t.val % 10 < 4 ∨ 5 ≤ t.val % 10) :
    (iprop(∃ d, owns (c : Thread nD τ) ((cfg0.win 6).stage (cfg0.slots t 6)) fullShare ((dats m 0 c).before 6 t d))) ⊢ (dats m 0 c).leavesExact 6 t :=
  Cert.Carried.kept (dats m 0 c) 6 rfl (fun _ _ => rfl)
    (fun s hs _ hf => by
      rw [fresh6, decide_eq_false_iff_not] at hf
      rw [after0_6, after0_6, column_pred 4 4 _ _ s hs (by omega)])
    t ((idle6 t).trans (decide_eq_true h)) fun hf => (fresh6 t).trans (decide_eq_false (by have := flush6 t hf; omega))

/-- The same of the values' window. -/
theorem kept7 (h : t.val % 10 < 5 ∨ 6 ≤ t.val % 10) :
    (iprop(∃ d, owns (c : Thread nD τ) ((cfg0.win 7).stage (cfg0.slots t 7)) fullShare ((dats m 0 c).before 7 t d))) ⊢ (dats m 0 c).leavesExact 7 t :=
  Cert.Carried.kept (dats m 0 c) 7 rfl (fun _ _ => rfl)
    (fun s hs _ hf => by
      rw [fresh7, decide_eq_false_iff_not] at hf
      rw [after0_7, after0_7, column_pred 5 5 _ _ s hs (by omega)])
    t ((idle7 t).trans (decide_eq_true h)) fun hf => (fresh7 t).trans (decide_eq_false (by have := flush7 t hf; omega))

/-- The same of the gates' window. -/
theorem kept8 (h : t.val % 10 < 6) :
    (iprop(∃ d, owns (c : Thread nD τ) ((cfg0.win 8).stage (cfg0.slots t 8)) fullShare ((dats m 0 c).before 8 t d))) ⊢ (dats m 0 c).leavesExact 8 t :=
  Cert.Carried.kept (dats m 0 c) 8 rfl (fun _ _ => rfl)
    (fun s _ _ hf => by rw [fresh8] at hf; exact Bool.noConfusion hf)
    t ((idle8 t).trans (decide_eq_true h)) fun hf => absurd (flush8 t hf) (by omega)

/-- Where it stores the queries, the buffer holds the point's block. -/
theorem live5 (h : t.val % 10 ≤ 3) :
    (dats m 0 c).leavesExact 5 t = owns (c : Thread nD τ) ((cfg0.win 5).stage (cfg0.slots t 5)) fullShare (qblock m c t) := by
  rw [Cert.Carried.live (dats m 0 c) 5 t ((idle5 t).trans (decide_eq_false (by omega))), after0_5, column_self 0 3 _ _ t (by omega) (by omega)]

/-- Where it stores the keys. -/
theorem live6 (h : 4 ≤ t.val % 10 ∧ t.val % 10 ≤ 4) :
    (dats m 0 c).leavesExact 6 t = owns (c : Thread nD τ) ((cfg0.win 6).stage (cfg0.slots t 6)) fullShare (kblock m c t) := by
  rw [Cert.Carried.live (dats m 0 c) 6 t ((idle6 t).trans (decide_eq_false (by omega))), after0_6, column_self 4 4 _ _ t (by omega) (by omega)]

/-- Where it stores the values. -/
theorem live7 (h : 5 ≤ t.val % 10 ∧ t.val % 10 ≤ 5) :
    (dats m 0 c).leavesExact 7 t = owns (c : Thread nD τ) ((cfg0.win 7).stage (cfg0.slots t 7)) fullShare (vblock m c t) := by
  rw [Cert.Carried.live (dats m 0 c) 7 t ((idle7 t).trans (decide_eq_false (by omega))), after0_7, column_self 5 5 _ _ t (by omega) (by omega)]

/-- Where it stores the gates. -/
theorem live8 (h : 6 ≤ t.val % 10) :
    (dats m 0 c).leavesExact 8 t = owns (c : Thread nD τ) ((cfg0.win 8).stage (cfg0.slots t 8)) fullShare (vblock m c t) := by
  rw [Cert.Carried.live (dats m 0 c) 8 t ((idle8 t).trans (decide_eq_false (by omega))), after0_8, column_self 6 9 _ _ t (by omega) (by omega)]

end Windows

/-! ## The body at a grid point -/

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body leaves each input's buffer at its block. -/
theorem leaves0 (c : Dev nD) (t : Fin cfg0.N) : (dats m 0 c).leavesExact 0 t = owns (c : Thread nD τ) ((cfg0.win 0).stage (cfg0.slots t 0)) fullShare (iblk m c 0 t) :=
  (Cert.Carried.live (dats m 0 c) 0 t rfl).trans (by rw [after0_0])
theorem leaves1 (c : Dev nD) (t : Fin cfg0.N) : (dats m 0 c).leavesExact 1 t = owns (c : Thread nD τ) ((cfg0.win 1).stage (cfg0.slots t 1)) fullShare (iblk m c 1 t) :=
  (Cert.Carried.live (dats m 0 c) 1 t rfl).trans (by rw [after0_1])
theorem leaves2 (c : Dev nD) (t : Fin cfg0.N) : (dats m 0 c).leavesExact 2 t = owns (c : Thread nD τ) ((cfg0.win 2).stage (cfg0.slots t 2)) fullShare (iblk m c 2 t) :=
  (Cert.Carried.live (dats m 0 c) 2 t rfl).trans (by rw [after0_2])
theorem leaves3 (c : Dev nD) (t : Fin cfg0.N) : (dats m 0 c).leavesExact 3 t = owns (c : Thread nD τ) ((cfg0.win 3).stage (cfg0.slots t 3)) fullShare (iblk m c 3 t) :=
  (Cert.Carried.live (dats m 0 c) 3 t rfl).trans (by rw [after0_3])
theorem leaves4 (c : Dev nD) (t : Fin cfg0.N) : (dats m 0 c).leavesExact 4 t = owns (c : Thread nD τ) ((cfg0.win 4).stage (cfg0.slots t 4)) fullShare (iblk m c 4 t) :=
  (Cert.Carried.live (dats m 0 c) 4 t rfl).trans (by rw [after0_4])

/-- The row's tokens do not move within the row. -/
theorem normed_succ (c : Dev nD) (n : ℕ) (h : (n + 1) % 10 ≠ 0) : normed m c (n + 1) = normed m c n := by
  have e : rowStart (n + 1) = rowStart n :=
    Fin.ext (show (n + 1) / 10 * 10 % 320 = n / 10 * 10 % 320 by rw [show (n + 1) / 10 = n / 10 by omega])
  unfold normed; rw [e]

/-- At a row's start they are the point's own. -/
theorem normed_start (c : Dev nD) (t : Fin cfg0.N) (h : t.val % 10 = 0) : normed m c t.val = k0_pay1 (iblk m c 0 t) (iblk m c 1 t) := by
  have ht : t.val < 320 := lt_of_lt_of_eq t.isLt N_0
  have e : rowStart t.val = t := Fin.ext (by show t.val / 10 * 10 % 320 = t.val; omega)
  unfold normed; rw [e]

/-- What the body is called with at a point, the windows one by one, -/
def bodyPre (c : Dev nD) (t : Fin cfg0.N) : sProp 𝕄 :=
  iprop(between m c t.val ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))

/-- and what it returns. -/
def bodyPost (c : Dev nD) (t : Fin cfg0.N) : sProp 𝕄 :=
  iprop(between m c (t.val + 1) ∗ (dats m 0 c).owesAt () t.castSucc
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 1000000 in
/-- THE BODY AT A ROW'S FIRST POINT. -/
theorem body_first (c : Dev nD) (t : Fin cfg0.N) (ht : t.val % 10 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live5 m c t (by omega), qblock, normed_start m c t ht]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  iapply (run_first c (grid0.coords t) _ _ _ _ _ _ _ _ _ _ _ _ _ _ _ _ _ _ _ _ (iblk m c 0 t) (iblk m c 1 t) (iblk m c 2 t) (iblk m c 3 t) Set.univ _ ((starts_iff t).mpr (by omega)) ((queries_iff t).mpr (by omega)) (fun h => absurd ((keys_iff t).mp h) (by omega)) (fun h => absurd ((values_iff t).mp h) (by omega)) (fun h => absurd ((gates_iff t).mp h) (by omega)))
  isplitl [H0]; · iexact H0
  isplitl [H1]; · iexact H1
  isplitl [H2]; · iexact H2
  isplitl [H3]; · iexact H3
  isplitl [HS]; · iexists _; iexact HS
  isplitl [H5]; · icases H5 with ⟨%d5, H5⟩; iexists _; iexact H5
  iintro ⟨H0, H1, H2, H3, HS, H5⟩
  isplitl [HS Hg]
  · isplitl [HS]
    · iexists _; isplitr; swap; · iexact HS
      ipureintro; intro h
      exact (normed_start m c t ht).symm.trans (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · iapply (kept6 m c t (by omega)); iexact H6
  isplitl [H7]
  · iapply (kept7 m c t (by omega)); iexact H7
  iapply (kept8 m c t (by omega)); iexact H8

set_option maxHeartbeats 1000000 in
/-- THE BODY AT ANOTHER POINT OF QUERIES. -/
theorem body_queries (c : Dev nD) (t : Fin cfg0.N) (h0 : t.val % 10 ≠ 0) (ht : t.val % 10 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live5 m c t ht, qblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_queries c (grid0.coords t) _ _ _ _ _ _ _ _ _ _ _ _ _ _ _ _ _ _ _ _ (iblk m c 2 t) (iblk m c 3 t) (normed m c t.val) Set.univ _ (fun h => absurd ((starts_iff t).mp h) (by omega)) ((queries_iff t).mpr (by omega)) (fun h => absurd ((keys_iff t).mp h) (by omega)) (fun h => absurd ((values_iff t).mp h) (by omega)) (fun h => absurd ((gates_iff t).mp h) (by omega)))
  isplitl [H2]; · iexact H2
  isplitl [H3]; · iexact H3
  isplitl [HS]; · iexact HS
  isplitl [H5]; · icases H5 with ⟨%d5, H5⟩; iexists _; iexact H5
  iintro ⟨H2, H3, HS, H5⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · iapply (kept6 m c t (by omega)); iexact H6
  isplitl [H7]
  · iapply (kept7 m c t (by omega)); iexact H7
  iapply (kept8 m c t (by omega)); iexact H8

set_option maxHeartbeats 1000000 in
/-- THE BODY AT A POINT OF KEYS. -/
theorem body_keys (c : Dev nD) (t : Fin cfg0.N) (ht : 4 ≤ t.val % 10 ∧ t.val % 10 ≤ 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live6 m c t ht, kblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_keys c (grid0.coords t) _ _ _ _ _ _ _ _ _ _ _ _ _ _ _ _ _ _ _ _ (iblk m c 2 t) (iblk m c 4 t) (normed m c t.val) Set.univ _ (fun h => absurd ((starts_iff t).mp h) (by omega)) (fun h => absurd ((queries_iff t).mp h) (by omega)) ((keys_iff t).mpr (by omega)) (fun h => absurd ((values_iff t).mp h) (by omega)) (fun h => absurd ((gates_iff t).mp h) (by omega)))
  isplitl [H2]; · iexact H2
  isplitl [H4]; · iexact H4
  isplitl [HS]; · iexact HS
  isplitl [H6]; · icases H6 with ⟨%d6, H6⟩; iexists _; iexact H6
  iintro ⟨H2, H4, HS, H6⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 m c t (by omega)); iexact H5
  isplitl [H6]
  · iexact H6
  isplitl [H7]
  · iapply (kept7 m c t (by omega)); iexact H7
  iapply (kept8 m c t (by omega)); iexact H8

set_option maxHeartbeats 1000000 in
/-- THE BODY AT A POINT OF VALUES. -/
theorem body_values (c : Dev nD) (t : Fin cfg0.N) (ht : 5 ≤ t.val % 10 ∧ t.val % 10 ≤ 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live7 m c t ht, vblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_values c (grid0.coords t) _ _ _ _ _ _ _ _ _ _ _ _ _ _ _ _ _ _ _ _ (iblk m c 2 t) (normed m c t.val) Set.univ _ (fun h => absurd ((starts_iff t).mp h) (by omega)) (fun h => absurd ((queries_iff t).mp h) (by omega)) (fun h => absurd ((keys_iff t).mp h) (by omega)) ((values_iff t).mpr (by omega)) (fun h => absurd ((gates_iff t).mp h) (by omega)))
  isplitl [H2]; · iexact H2
  isplitl [HS]; · iexact HS
  isplitl [H7]; · icases H7 with ⟨%d7, H7⟩; iexists _; iexact H7
  iintro ⟨H2, HS, H7⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 m c t (by omega)); iexact H5
  isplitl [H6]
  · iapply (kept6 m c t (by omega)); iexact H6
  isplitl [H7]
  · iexact H7
  iapply (kept8 m c t (by omega)); iexact H8

set_option maxHeartbeats 1000000 in
/-- THE BODY AT A POINT OF GATES. -/
theorem body_gates (c : Dev nD) (t : Fin cfg0.N) (ht : 6 ≤ t.val % 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [leaves0, leaves1, leaves2, leaves3, leaves4, live8 m c t ht, vblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_gates c (grid0.coords t) _ _ _ _ _ _ _ _ _ _ _ _ _ _ _ _ _ _ _ _ (iblk m c 2 t) (normed m c t.val) Set.univ _ (fun h => absurd ((starts_iff t).mp h) (by omega)) (fun h => absurd ((queries_iff t).mp h) (by omega)) (fun h => absurd ((keys_iff t).mp h) (by omega)) (fun h => absurd ((values_iff t).mp h) (by omega)) ((gates_iff t).mpr (by omega)))
  isplitl [H2]; · iexact H2
  isplitl [HS]; · iexact HS
  isplitl [H8]; · icases H8 with ⟨%d8, H8⟩; iexists _; iexact H8
  iintro ⟨H2, HS, H8⟩
  isplitl [HS Hg]
  · isplitl [HS]
    · iexists _; isplitr; swap; · iexact HS
      ipureintro; intro h
      exact (normed_succ m c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 m c t (by omega)); iexact H5
  isplitl [H6]
  · iapply (kept6 m c t (by omega)); iexact H6
  isplitl [H7]
  · iapply (kept7 m c t (by omega)); iexact H7
  iexact H8

/-- THE BODY AT ANY POINT. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · exact body_first m c t h0
  by_cases h1 : t.val % 10 ≤ 3
  · exact body_queries m c t h0 h1
  by_cases h2 : t.val % 10 ≤ 4
  · exact body_keys m c t ⟨by omega, h2⟩
  by_cases h3 : t.val % 10 ≤ 5
  · exact body_values m c t ⟨by omega, h3⟩
  · exact body_gates m c t (by omega)

theorem defs₀_row (t : Fin cfg0.N) : defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What a core holds beside its windows, the scratch buffer at some contents. -/
theorem rest_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- Before the first point nothing is known of the scratch buffer, -/
theorem enters (c : Dev nD) : (Pipeline.ΦA spec0 c : sProp 𝕄) ⊢ (dats m 0 c).Φ 0 := by
  rw [rest_eq, show (dats m 0 c).Φ 0 = between m c 0 from rfl]
  unfold between
  iintro ⟨⟨%d, HS⟩, Hg⟩
  isplitl [HS]
  · iexists d; isplitr; swap; · iexact HS
    ipureintro; intro h; exact absurd rfl h
  iexact Hg

/-- and after the last it is forgotten. -/
theorem leaves (c : Dev nD) : (dats m 0 c).Φ (Fin.last cfg0.N) ⊢ (Pipeline.ΦA spec0 c : sProp 𝕄) := by
  rw [rest_eq, show (dats m 0 c).Φ (Fin.last cfg0.N) = between m c (Fin.last cfg0.N).val from rfl]
  unfold between
  iintro ⟨⟨%d, -, HS⟩, Hg⟩
  isplitl [HS]
  · iexists d; iexact HS
  iexact Hg

set_option backward.isDefEq.respectTransparency.types false in
/-- THE RUN: every fair execution ends with the arrays as the proof data says and every semaphore counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- Its first half. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- THE FRAME: the arguments end as they started, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjAIdeal.Body

end
-- ==== Proof.ProjASame.lean ====
/-
  The in-projection of the first half, as compiled: it is the program its reading over the extended reals is printed from,
  so it runs as that does.
-/
module

public import proofs.«01_k».proof.Defs
public import proofs.«01_k».proof.Proof.Gen.ProjA.Launch
public import proofs.«01_k».proof.Proof.ProjAFrame
public import proofs.«01_k».proof.Proof.Same

@[expose] public section

noncomputable section
namespace Cert.ProjAProof
open Idealize.ShloMosaic Idealize.SL.Sem
variable {F : FTy → Type} [FloatOps F]

/-- The two printings have the same host operations, -/
theorem ops0 : Cert.ProjA.Gen.hostOps0 (F := F) = Cert.ProjAIdeal.Gen.hostOps0 (F := F) := rfl
theorem ops1 : Cert.ProjA.Gen.hostOps0_1 (F := F) = Cert.ProjAIdeal.Gen.hostOps0_1 (F := F) := rfl
theorem ops2 : Cert.ProjA.Gen.hostOps0_2 (F := F) = Cert.ProjAIdeal.Gen.hostOps0_2 (F := F) := rfl
theorem ops3 : Cert.ProjA.Gen.hostOps0_3 (F := F) = Cert.ProjAIdeal.Gen.hostOps0_3 (F := F) := rfl
theorem ops4 : Cert.ProjA.Gen.hostOps0_4 (F := F) = Cert.ProjAIdeal.Gen.hostOps0_4 (F := F) := rfl
theorem ops5 : Cert.ProjA.Gen.hostOps0_5 (F := F) = Cert.ProjAIdeal.Gen.hostOps0_5 (F := F) := rfl
theorem ops6 : Cert.ProjA.Gen.hostOps0_6 (F := F) = Cert.ProjAIdeal.Gen.hostOps0_6 (F := F) := rfl
theorem ops7 : Cert.ProjA.Gen.hostOps0_7 (F := F) = Cert.ProjAIdeal.Gen.hostOps0_7 (F := F) := rfl
theorem ops8 : Cert.ProjA.Gen.hostOps0_8 (F := F) = Cert.ProjAIdeal.Gen.hostOps0_8 (F := F) := rfl
set_option maxHeartbeats 1000000 in
/-- the same kernel body, -/
theorem bodies : Cert.ProjA.defs₀ (F := F) = Cert.ProjAIdeal.defs₀ (F := F) := by
  unfold Cert.ProjA.defs₀ Cert.ProjAIdeal.defs₀
  refine congrArg Defs.onTc ?_
  funext l x
  match l, x with
  | 0, (t, s) => rfl

/-- the same body table -/
theorem tables : Cert.ProjA.defs (F := F) = Cert.ProjAIdeal.defs (F := F) := by
  unfold Cert.ProjA.defs Cert.ProjAIdeal.defs
  exact congrArg (Pipeline.defs Cert.ProjA.pcfgs) bodies

set_option maxHeartbeats 1000000 in
/-- and the same main program. -/
theorem mains : Cert.ProjA.main (F := F) = Cert.ProjAIdeal.main (F := F) := by
  funext c
  refine (Cert.ProjA.Gen.main_chain c).trans (Eq.trans ?_ (Cert.ProjAIdeal.Gen.main_chain c).symm)
  exact Cert.Same.chain_nine Pipeline.chain StableHlo.seq _ ops0 ops1 ops2 ops3 ops4 ops5 ops6 ops7 ops8

set_option maxHeartbeats 1000000 in
/-- The kernel runs, keeps its arguments and leaves every semaphore at zero. -/
theorem kernel_frame : Cert.quiescent_ProjA := fun m ρ _ => Cert.Same.run tables mains _ _ (Cert.ProjAIdeal.Body.frame (F := Bits) m ρ)

end Cert.ProjAProof
end
-- ==== Proof.ProjAValue.lean ====
/-
  What the input projection of the first kind leaves in its four arrays, at an index: the queries and keys as heads normalized and
  rotated through the tables, the values and gates as columns of the product.
-/
module

public import proofs.«01_k».proof.Proof.ProjAFrame
public import proofs.«01_k».proof.Proof.Rope
public import Idealize.ShloMosaic.Lib.Pipeline.ValueKit
public import Idealize.ShloMosaic.Lib.Pipeline.Covers
public import Idealize.ShloMosaic.Lib.Pointwise

@[expose] public section

set_option maxRecDepth 16384

noncomputable section

namespace Cert.ProjAIdeal.Body

open Cert.ProjAIdeal Cert.ProjAIdeal.Gen Idealize.ShloMosaic Idealize.ShloMosaic.TcCoe Idealize.SL.Sem

/-! ## A block's columns -/

/-- One head's columns normalized and rotated, as the kernel writes it. -/
def turned (y : FVec Ideal S1024x128 .f32) (t0 t1 t2 : Vec Ideal S1x1024x128 .f32) : FVec Ideal S1024x128 .f32 :=
  mulf (addf (addf (mulf y (shapeCast S1024x128 t0 shapeCasts_S1x1024x128_S1024x128))
      (mulf (dynamicRotate 1 96#32 none y rotates_S1024x128_d1) (shapeCast S1024x128 t1 shapeCasts_S1x1024x128_S1024x128)))
      (mulf (dynamicRotate 1 32#32 none y rotates_S1024x128_d1) (shapeCast S1024x128 t2 shapeCasts_S1x1024x128_S1024x128)))
    (broadcastTo S1024x128 (rsqrt (addf (divf (shapeCast S1024x1 (multiReduction .add [1] S1024 (mulf y y) 0x00000000#32 reduces_S1024x128_S1024 (.inl rfl) rfl)
      shapeCasts_S1024_S1024x1) (broadcast S1024x1 (Scalar.ofBits .f32 0x43000000#32))) (broadcast S1024x1 (Scalar.ofBits .f32 0x358637BD#32)))) broadcasts_S1024x1_S1024x128)

theorem turned_apply (y : FVec Ideal S1024x128 .f32) (t0 t1 t2 : Vec Ideal S1x1024x128 .f32) (i : Fin 1024) (e : Fin 128) :
    turned y t0 t1 t2 (ix2 i e) = Rope.folded2 (fun e => y (ix2 i e)) (fun e => t0 (ix3 0 i e)) (fun e => t1 (ix3 0 i e)) (fun e => t2 (ix3 0 i e)) e := by
  unfold Rope.folded2 Rope.invRms
  pointwise [turned]

theorem plane0_apply (tab : Vec Ideal S3x1024x128 .f32) (i : Fin 1024) (e : Fin 128) : plane0 tab (ix3 0 i e) = tab (ix3 0 i e) := by
  pointwise [plane0]

theorem plane1_apply (tab : Vec Ideal S3x1024x128 .f32) (i : Fin 1024) (e : Fin 128) : plane1 tab (ix3 0 i e) = tab (ix3 1 i e) := by
  pointwise [plane1]

theorem plane2_apply (tab : Vec Ideal S3x1024x128 .f32) (i : Fin 1024) (e : Fin 128) : plane2 tab (ix3 0 i e) = tab (ix3 2 i e) := by
  pointwise [plane2]

/-- The rotated block is four heads side by side. -/
theorem roped_eq (y : FVec Ideal S1024x512 .f32) (tab : Vec Ideal S3x1024x128 .f32) :
    roped y tab = truncf .bf16 (concatenate S1024x512 1 [
      ⟨S1024x128, turned (extractStridedSlice S1024x128 ![0, 0] y slices_S1024x512_o0_0_S1024x128) (plane0 tab) (plane1 tab) (plane2 tab)⟩,
      ⟨S1024x128, turned (extractStridedSlice S1024x128 ![0, 128] y slices_S1024x512_o0_128_S1024x128) (plane0 tab) (plane1 tab) (plane2 tab)⟩,
      ⟨S1024x128, turned (extractStridedSlice S1024x128 ![0, 256] y slices_S1024x512_o0_256_S1024x128) (plane0 tab) (plane1 tab) (plane2 tab)⟩,
      ⟨S1024x128, turned (extractStridedSlice S1024x128 ![0, 384] y slices_S1024x512_o0_384_S1024x128) (plane0 tab) (plane1 tab) (plane2 tab)⟩]
      concatenates_S1024x128_S1024x128_S1024x128_S1024x128_S1024x512_d1) bitsLt_bf16_f32 := rfl

/-- A column of the rotated block: its head through the table. -/
theorem roped_apply (y : FVec Ideal S1024x512 .f32) (tab : Vec Ideal S3x1024x128 .f32) (i : Fin 1024) (j : Fin 512) :
    roped y tab (ix2 i j) = Rope.folded2 (Rope.head (fun j => y (ix2 i j)) (j.val / 128 * 128) (by omega)) (fun e => tab (ix3 0 i e))
      (fun e => tab (ix3 1 i e)) (fun e => tab (ix3 2 i e)) ⟨j.val % 128, Nat.mod_lt _ (by decide)⟩ := by
  have cut : ∀ (k : ℕ) (x : Fin 128 → Fin 512) (_ : ∀ e, (x e).val = 128 * k + e.val) (l : ℕ) (hl : l < 128), j.val = 128 * k + l →
      Rope.folded2 (fun e => y (ix2 i (x e))) (fun e => tab (ix3 0 i e)) (fun e => tab (ix3 1 i e)) (fun e => tab (ix3 2 i e)) ⟨l, hl⟩
        = Rope.folded2 (Rope.head (fun j => y (ix2 i j)) (j.val / 128 * 128) (by omega)) (fun e => tab (ix3 0 i e))
          (fun e => tab (ix3 1 i e)) (fun e => tab (ix3 2 i e)) ⟨j.val % 128, Nat.mod_lt _ (by decide)⟩ := by
    intro k x hx l hl hj
    have e1 : (⟨l, hl⟩ : Fin 128) = ⟨j.val % 128, Nat.mod_lt _ (by decide)⟩ := Fin.ext (by show l = j.val % 128; omega)
    have e2 : (fun e : Fin 128 => y (ix2 i (x e))) = Rope.head (fun j => y (ix2 i j)) (j.val / 128 * 128) (by omega) := by
      funext e
      unfold Rope.head
      exact congrArg (fun z => y (ix2 i z)) (Fin.ext (by rw [hx]; show 128 * k + e.val = j.val / 128 * 128 + e.val; omega))
    rw [e1, e2]
  rw [roped_eq]
  pointwise
  split
  · rw [turned_apply]; simp only [plane0_apply, plane1_apply, plane2_apply]; pointwise; exact cut 0 _ (fun e => by show e.val = 128 * 0 + e.val; omega) j.val (by omega) (by omega)
  · split
    · rw [turned_apply]; simp only [plane0_apply, plane1_apply, plane2_apply]; pointwise; exact cut 1 _ (fun e => by rfl) (j.val - 128) (by omega) (by omega)
    · split
      · rw [turned_apply]; simp only [plane0_apply, plane1_apply, plane2_apply]; pointwise; exact cut 2 _ (fun e => by rfl) (j.val - 128 - 128) (by omega) (by omega)
      · rw [turned_apply]; simp only [plane0_apply, plane1_apply, plane2_apply]; pointwise; exact cut 3 _ (fun e => by rfl) (j.val - 128 - 128 - 128) (by omega) (by omega)

/-- The normalized tokens. -/
theorem tokens_apply (x : Vec Ideal S1024x2048 .f32) (g : Vec Ideal S1x2048 .f32) (i : Fin 1024) (k : Fin 2048) :
    k0_pay1 x g (ix2 i k) = Rope.token (fun r => x (ix2 i r)) (fun r => g (ix2 0 r)) k := by
  unfold Rope.token Rope.invRms
  pointwise [k0_pay1]

/-- A column of the product. -/
theorem product_apply (x : Vec Ideal S1024x2048 .f32) (g : Vec Ideal S1x2048 .f32) (w : Vec Ideal S2048x512 .bf16) (i : Fin 1024) (j : Fin 512) :
    k0_pay2 (k0_pay1 x g) w (ix2 i j) = Rope.column (fun r => x (ix2 i r)) (fun r => g (ix2 0 r)) (fun r => w (ix2 r j)) := by
  unfold Rope.column
  pointwise [k0_pay2]
  exact Finset.sum_congr rfl fun k _ => congrArg (· * _) (tokens_apply x g i k)

theorem narrowed_apply (h : Vec Ideal S1024x2048 .bf16) (w : Vec Ideal S2048x512 .bf16) (i : Fin 1024) (j : Fin 512) :
    k0_pay5 h w (ix2 i j) = k0_pay2 h w (ix2 i j) := by
  pointwise [k0_pay5]

/-! ## The tables -/

/-- The rows of a prompt's positions, 64 to a row. -/
def rowsOf : FVec Ideal S4096 .f32 := shapeCast S4096 (broadcastInDim S64x64 ![0] bcast_S64_S64x64_0 (sitofp .f32 (iotaInDim S64 32 0))) shapeCasts_S64x64_S4096

/-- Their columns. -/
def columnsOf : FVec Ideal S4096 .f32 :=
  shapeCast S4096 (broadcastInDim S64x64 ![0, 1] bcast_S1x64_S64x64_0_1 (shapeCast S1x64 (sitofp .f32 (iotaInDim S64 32 0)) shapeCasts_S64_S1x64)) shapeCasts_S64x64_S4096

/-- The angles: a position times the inverse frequency of the lane. -/
def angles (q : FVec Ideal S4096 .f32) : FVec Ideal S4096x32 .f32 :=
  mulf (broadcastInDim S4096x32 ![0, 1] bcast_S4096x1_S4096x32_0_1 (broadcastInDim S4096x1 ![0] bcast_S4096_S4096x1_0 q))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The gain turned by a quarter of a head one way, -/
def gainLo (g : FVec Ideal S128 .f32) : FVec Ideal S128 .f32 :=
  concatenate S128 0 [⟨S96, extractStridedSlice S96 ![32] g slices_S128_S96_32⟩, ⟨S32, extractStridedSlice S32 ![0] g slices_S128_S32_0⟩] concatenates_S96_S32_S128_d0

/-- and the other way. -/
def gainHi (g : FVec Ideal S128 .f32) : FVec Ideal S128 .f32 :=
  concatenate S128 0 [⟨S32, extractStridedSlice S32 ![96] g slices_S128_S32_96⟩, ⟨S96, extractStridedSlice S96 ![0] g slices_S128_S96_0⟩] concatenates_S32_S96_S128_d0

/-- The lanes a table leaves out. -/
def zeros : FVec Ideal S4096x32 .f32 := broadcastInDim S4096x32 ![] bcast_S_S4096x32 (constant S_ .f32 0x00000000#32)

/-- The kernel's table from the angles of the rows and of the columns: cosines, and the sines of either half's quarters, with the gain
    and the scale inside. -/
def table (A B : FVec Ideal S4096x32 .f32) (g g' g'' : FVec Ideal S128 .f32) (s : BitVec 32) : FVec Ideal S3x4096x128 .f32 :=
  mulf (concatenate S3x4096x128 0 [
      ⟨S1x4096x128, broadcastInDim S1x4096x128 ![1, 2] bcast_S4096x128_S1x4096x128_1_2
        (mulf (concatenate S4096x128 1 [⟨S4096x32, Host.cos A⟩, ⟨S4096x32, Host.cos A⟩, ⟨S4096x32, Host.cos B⟩, ⟨S4096x32, Host.cos B⟩] concatenates_S4096x32_S4096x32_S4096x32_S4096x32_S4096x128_d1)
          (broadcastInDim S4096x128 ![0, 1] bcast_S1x128_S4096x128_0_1 (broadcastInDim S1x128 ![1] bcast_S128_S1x128_1 g)))⟩,
      ⟨S1x4096x128, broadcastInDim S1x4096x128 ![1, 2] bcast_S4096x128_S1x4096x128_1_2
        (mulf (concatenate S4096x128 1 [⟨S4096x32, Host.negf (Host.sin A)⟩, ⟨S4096x32, zeros⟩, ⟨S4096x32, Host.negf (Host.sin B)⟩, ⟨S4096x32, zeros⟩] concatenates_S4096x32_S4096x32_S4096x32_S4096x32_S4096x128_d1)
          (broadcastInDim S4096x128 ![0, 1] bcast_S1x128_S4096x128_0_1 (broadcastInDim S1x128 ![1] bcast_S128_S1x128_1 g')))⟩,
      ⟨S1x4096x128, broadcastInDim S1x4096x128 ![1, 2] bcast_S4096x128_S1x4096x128_1_2
        (mulf (concatenate S4096x128 1 [⟨S4096x32, zeros⟩, ⟨S4096x32, Host.sin A⟩, ⟨S4096x32, zeros⟩, ⟨S4096x32, Host.sin B⟩] concatenates_S4096x32_S4096x32_S4096x32_S4096x32_S4096x128_d1)
          (broadcastInDim S4096x128 ![0, 1] bcast_S1x128_S4096x128_0_1 (broadcastInDim S1x128 ![1] bcast_S128_S1x128_1 g'')))⟩] concatenates_S1x4096x128_S1x4096x128_S1x4096x128_S3x4096x128_d0)
    (broadcastInDim S3x4096x128 ![] bcast_S_S3x4096x128 (constant S_ .f32 s))

/-- A gain's table. -/
def tableOf (g : FVec Ideal S128 .f32) (s : BitVec 32) : FVec Ideal S3x4096x128 .f32 := table (angles rowsOf) (angles columnsOf) g (gainLo g) (gainHi g) s

theorem angles_apply (q : FVec Ideal S4096 .f32) (p : Fin 4096) (f : Fin 32) : angles q (ix2 p f) = q (ix1 p) * Ideal.div 1 (Ideal.pow (Ideal.ofBits .f32 0x461C4000#32)
    (Ideal.div (Ideal.ofBits .f32 0x40000000#32 * FloatOps.sitofp (F := Ideal) .f32 (BitVec.ofNat 32 f.val)) (Ideal.ofBits .f32 0x42800000#32))) := by
  pointwise [angles]

theorem rowsOf_apply (p : Fin 4096) : rowsOf (ix1 p) = FloatOps.sitofp (F := Ideal) .f32 (BitVec.ofNat 32 (p.val / 64)) := by
  pointwise [rowsOf]

theorem columnsOf_apply (p : Fin 4096) : columnsOf (ix1 p) = FloatOps.sitofp (F := Ideal) .f32 (BitVec.ofNat 32 (p.val % 64)) := by
  pointwise [columnsOf]

theorem row_angles (p : Fin 4096) (f : Fin 32) : angles rowsOf (ix2 p f) = Rope.angle 0x42800000#32 (p.val / 64) f.val := by
  rw [angles_apply, rowsOf_apply]; rfl

theorem column_angles (p : Fin 4096) (f : Fin 32) : angles columnsOf (ix2 p f) = Rope.angle 0x42800000#32 (p.val % 64) f.val := by
  rw [angles_apply, columnsOf_apply]; rfl

theorem gainLo_apply (g : FVec Ideal S128 .f32) (e : Fin 128) :
    gainLo g (ix1 e) = if h : e.val < 96 then g (ix1 ⟨32 + e.val, by omega⟩) else g (ix1 ⟨e.val - 96, by omega⟩) := by
  pointwise [gainLo]

theorem gainHi_apply (g : FVec Ideal S128 .f32) (e : Fin 128) :
    gainHi g (ix1 e) = if h : e.val < 32 then g (ix1 ⟨96 + e.val, by omega⟩) else g (ix1 ⟨e.val - 32, by omega⟩) := by
  pointwise [gainHi]

theorem zeros_apply (p : Fin 4096) (f : Fin 32) : zeros (ix2 p f) = 0 := by
  pointwise [zeros]

theorem table0_apply (g : FVec Ideal S128 .f32) (s : BitVec 32) (p : Fin 4096) (e : Fin 128) : tableOf g s (ix3 0 p e)
    = Rope.cosTable2 (fun e => g (ix1 e)) (fun f => Ideal.cos (Rope.angle 0x42800000#32 (p.val / 64) f.val)) (fun f => Ideal.cos (Rope.angle 0x42800000#32 (p.val % 64) f.val))
      (Ideal.ofBits .f32 s) e := by
  unfold Rope.cosTable2 Rope.quarters
  pointwise [tableOf, table]
  simp only [row_angles, column_angles]

theorem table1_apply (g : FVec Ideal S128 .f32) (s : BitVec 32) (p : Fin 4096) (e : Fin 128) : tableOf g s (ix3 1 p e)
    = Rope.loTable (fun e => g (ix1 e)) (fun f => Ideal.sin (Rope.angle 0x42800000#32 (p.val / 64) f.val)) (fun f => Ideal.sin (Rope.angle 0x42800000#32 (p.val % 64) f.val))
      (Ideal.ofBits .f32 s) e := by
  unfold Rope.loTable Rope.quarters
  pointwise [tableOf, table]
  simp only [row_angles, column_angles, zeros_apply, gainLo_apply]

theorem table2_apply (g : FVec Ideal S128 .f32) (s : BitVec 32) (p : Fin 4096) (e : Fin 128) : tableOf g s (ix3 2 p e)
    = Rope.hiTable (fun e => g (ix1 e)) (fun f => Ideal.sin (Rope.angle 0x42800000#32 (p.val / 64) f.val)) (fun f => Ideal.sin (Rope.angle 0x42800000#32 (p.val % 64) f.val))
      (Ideal.ofBits .f32 s) e := by
  unfold Rope.hiTable Rope.quarters
  pointwise [tableOf, table]
  simp only [row_angles, column_angles, zeros_apply, gainHi_apply]

variable (m : (ℓ : Loc nD τ sig) → Buf (Elt Ideal) ℓ) (c : Dev nD)

/-- What the launch finds as the queries' table. -/
theorem heldQ : (V m c main_v65 : FVec Ideal S3x4096x128 .f32) = tableOf (m ((c : Thread nD τ).loc main_arg3)) 0x3DB504F3#32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- As the keys'. -/
theorem heldK : (V m c main_v131 : FVec Ideal S3x4096x128 .f32) = tableOf (m ((c : Thread nD τ).loc main_arg4)) 0x3F800000#32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- As the tokens' gain. -/
theorem heldG : (V m c main_v132 : FVec Ideal S1x2048 .f32) = shapeCast S1x2048 (m ((c : Thread nD τ).loc main_arg1) : FVec Ideal S2048 .f32) shapeCasts_S2048_S1x2048 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-! ## The blocks -/

theorem places : ∀ t : Fin cfg0.N, win0_0.index t = ![t.val / 10, 0] ∧ win0_1.index t = ![0, 0] ∧ win0_2.index t = ![0, t.val % 10]
    ∧ win0_3.index t = ![0, t.val / 10 % 4, 0] ∧ win0_4.index t = ![0, t.val / 10 % 4, 0] := by
  decide +kernel

theorem lt_points (t : Fin cfg0.N) : t.val < 320 := lt_of_lt_of_eq t.isLt N_0

theorem row_block (t : Fin cfg0.N) (i : Fin 1024) (r : Fin 2048) : iblk m c 0 (rowStart t.val) (ix2 i r)
    = m ((c : Thread nD τ).loc main_arg0) (ix2 (⟨t.val / 10 * 1024 + i.val, by have := lt_points t; omega⟩ : Fin 32768) r) := by
  have p : win0_0.index (rowStart t.val) = ![t.val / 10, 0] := by
    rw [(places _).1]
    have : (rowStart t.val).val / 10 = t.val / 10 := by have := lt_points t; show t.val / 10 * 10 % 320 / 10 = _; omega
    rw [this]
  blk_ext [iblk, V, p]

theorem gain_row (X : FVec Ideal S2048 .f32) (r : Fin 2048) : shapeCast S1x2048 X shapeCasts_S2048_S1x2048 (ix2 (0 : Fin 1) r) = X (ix1 r) := by
  pointwise []

theorem gain_block (t : Fin cfg0.N) (r : Fin 2048) : iblk m c 1 t (ix2 (0 : Fin 1) r) = m ((c : Thread nD τ).loc main_arg1) (ix1 r) := by
  refine Eq.trans ?_ (gain_row (m ((c : Thread nD τ).loc main_arg1)) r)
  rw [← heldG]
  have p := (places t).2.1
  blk_ext [iblk, p]

theorem weight_block (t : Fin cfg0.N) (r : Fin 2048) (j : Fin 512) : iblk m c 2 t (ix2 r j)
    = m ((c : Thread nD τ).loc main_arg2) (ix2 r (⟨t.val % 10 * 512 + j.val, by omega⟩ : Fin 5120)) := by
  have p := (places t).2.2.1
  blk_ext [iblk, V, p]

theorem query_table (t : Fin cfg0.N) (a : Fin 3) (i : Fin 1024) (e : Fin 128) : iblk m c 3 t (ix3 a i e)
    = tableOf (m ((c : Thread nD τ).loc main_arg3)) 0x3DB504F3#32
      (ix3 a (⟨t.val / 10 % 4 * 1024 + i.val, by omega⟩ : Fin 4096) e) := by
  rw [← heldQ]
  have p := (places t).2.2.2.1
  blk_ext [iblk, p]

theorem key_table (t : Fin cfg0.N) (a : Fin 3) (i : Fin 1024) (e : Fin 128) : iblk m c 4 t (ix3 a i e)
    = tableOf (m ((c : Thread nD τ).loc main_arg4)) 0x3F800000#32
      (ix3 a (⟨t.val / 10 % 4 * 1024 + i.val, by omega⟩ : Fin 4096) e) := by
  rw [← heldK]
  have p := (places t).2.2.2.2
  blk_ext [iblk, p]

/-- The tokens' columns from the arguments. -/
def rows (x : FVec Ideal S32768x2048 .f32) (g : FVec Ideal S2048 .f32) (w : FVec Ideal S2048x5120 .bf16) : Fin 32768 → Fin 5120 → EReal :=
  Rope.row (fun t r => x (ix2 t r)) (fun r => g (ix1 r)) (fun r j => w (ix2 r j))

/-- The product a point forms: its tokens' columns from its column block on. -/
theorem point_columns (t : Fin cfg0.N) (i : Fin 1024) (j : Fin 512) : k0_pay2 (normed m c t.val) (iblk m c 2 t) (ix2 i j)
    = rows (m ((c : Thread nD τ).loc main_arg0)) (m ((c : Thread nD τ).loc main_arg1)) (m ((c : Thread nD τ).loc main_arg2))
      ⟨t.val / 10 * 1024 + i.val, by have := lt_points t; omega⟩ ⟨t.val % 10 * 512 + j.val, by omega⟩ := by
  unfold normed rows Rope.row
  rw [product_apply]
  simp only [row_block, gain_block, weight_block]

/-- A block's head through a table block is the plain head of the tokens' columns, times the table's scale. -/
theorem head_block (Y : Fin 32768 → Fin 5120 → EReal) (G : FVec Ideal S128 .f32) (s : BitVec 32) (hs : 0 ≤ Ideal.ofBits .f32 s ∧ Ideal.ofBits .f32 s ≠ ⊤)
    (y : FVec Ideal S1024x512 .f32) (tab : Vec Ideal S3x1024x128 .f32) (a q : ℕ) (o W : ℕ) (ho : o + W ≤ 5120) (hW : 128 ∣ W) (ha : a < 32) (hq : q * 512 + 512 ≤ W)
    (hy : ∀ (i : Fin 1024) (j : Fin 512), y (ix2 i j) = Y ⟨a * 1024 + i.val, by omega⟩ ⟨o + (q * 512 + j.val), by omega⟩)
    (ht : ∀ (b : Fin 3) (i : Fin 1024) (e : Fin 128), tab (ix3 b i e) = tableOf G s (ix3 b (⟨a % 4 * 1024 + i.val, by omega⟩ : Fin 4096) e))
    (i : Fin 1024) (j : Fin 512) :
    roped y tab (ix2 i j) = Rope.roped2 Y (fun e => G (ix1 e)) o W ho hW ⟨a * 1024 + i.val, by omega⟩ ⟨q * 512 + j.val, by omega⟩ * Ideal.ofBits .f32 s := by
  rw [roped_apply]
  simp only [ht, table0_apply, table1_apply, table2_apply]
  rw [Rope.folded2_eq _ _ _ _ _ _ _ hs]
  unfold Rope.roped2
  have e1 : (a * 1024 + i.val) % 4096 = a % 4 * 1024 + i.val := by omega
  have e2 : (⟨(q * 512 + j.val) % 128, Nat.mod_lt _ (by decide)⟩ : Fin 128) = ⟨j.val % 128, Nat.mod_lt _ (by decide)⟩ :=
    Fin.ext (by show (q * 512 + j.val) % 128 = j.val % 128; omega)
  have e3 : Rope.head (fun j => y (ix2 i j)) (j.val / 128 * 128) (by omega)
      = Rope.head (Y ⟨a * 1024 + i.val, by omega⟩) (o + (q * 512 + j.val) / 128 * 128) (by omega) := by
    funext e
    unfold Rope.head
    refine (hy i _).trans (congrArg _ (Fin.ext ?_))
    show o + (q * 512 + (j.val / 128 * 128 + e.val)) = o + (q * 512 + j.val) / 128 * 128 + e.val
    omega
  rw [e3]
  simp only [e1, e2]

end Cert.ProjAIdeal.Body

end
-- ==== Proof.ProjAArrays.lean ====
/-
  The four arrays of the input projection of the first kind, from the arguments.
-/
module

public import proofs.«01_k».proof.Proof.ProjAValue

@[expose] public section

set_option maxRecDepth 16384

noncomputable section

namespace Cert.ProjAIdeal.Body

open Cert.ProjAIdeal Cert.ProjAIdeal.Gen Idealize.ShloMosaic Idealize.ShloMosaic.TcCoe Idealize.SL.Sem

variable (m : (ℓ : Loc nD τ sig) → Buf (Elt Ideal) ℓ) (c : Dev nD)

/-- Where the results' blocks lie: the block of the point whose column block is the nearest of theirs. -/
theorem result_places : ∀ t : Fin cfg0.N,
    win0_5.index t = ![t.val / 10, (column 0 3 (by decide) (by decide) t).val % 10] ∧ win0_6.index t = ![t.val / 10, (column 4 4 (by decide) (by decide) t).val % 10 - 4]
    ∧ win0_7.index t = ![t.val / 10, (column 5 5 (by decide) (by decide) t).val % 10 - 5] ∧ win0_8.index t = ![t.val / 10, (column 6 9 (by decide) (by decide) t).val % 10 - 6] := by
  decide +kernel

theorem column_row (lo hi : ℕ) (h : lo ≤ hi) (hh : hi < 10) (t : Fin cfg0.N) : (column lo hi h hh t).val / 10 = t.val / 10 := by
  show (t.val / 10 * 10 + max lo (min hi (t.val % 10))) / 10 = t.val / 10
  omega

theorem column_bounds (lo hi : ℕ) (h : lo ≤ hi) (hh : hi < 10) (t : Fin cfg0.N) : lo ≤ (column lo hi h hh t).val % 10 ∧ (column lo hi h hh t).val % 10 ≤ hi := by
  show lo ≤ (t.val / 10 * 10 + max lo (min hi (t.val % 10))) % 10 ∧ (t.val / 10 * 10 + max lo (min hi (t.val % 10))) % 10 ≤ hi
  omega

/-- The point of a row of tokens and a column block. -/
def pointAt (a b : ℕ) (ha : a < 32) (hb : b < 10) : Fin cfg0.N := ⟨a * 10 + b, lt_of_lt_of_eq (by omega : _ < 320) N_0.symm⟩

theorem column_pointAt (lo hi : ℕ) (h : lo ≤ hi) (hh : hi < 10) (a b : ℕ) (ha : a < 32) (hb : lo + b ≤ hi) :
    (column lo hi h hh (pointAt a (lo + b) ha (by omega))).val = a * 10 + (lo + b) ∧ (pointAt a (lo + b) ha (by omega)).val / 10 = a :=
  ⟨congrArg Fin.val (column_self lo hi h hh _ (by show lo ≤ (a * 10 + (lo + b)) % 10; omega) (by show (a * 10 + (lo + b)) % 10 ≤ hi; omega)),
    by show (a * 10 + (lo + b)) / 10 = a; omega⟩

/-- The queries' blocks cover their array. -/
theorem covers5 : (cfg0.win 5).Covers := by
  refine (cfg0.win 5).covers_of_index_surj rfl (by decide) fun β => ?_
  have h0 : (β 0).val < 32 := (β 0).isLt
  have h1 : (β 1).val < 4 := (β 1).isLt
  obtain ⟨e1, e2⟩ := column_pointAt 0 3 (by decide) (by decide) (β 0).val (β 1).val h0 (by omega)
  refine ⟨pointAt (β 0).val (0 + (β 1).val) h0 (by omega), fun a => ?_⟩
  refine (congrFun (result_places _).1 a).trans ?_
  fin_cases a
  · exact e2
  · show (column 0 3 _ _ _).val % 10 = (β 1).val
    rw [e1]; omega

/-- The keys' blocks cover their array. -/
theorem covers6 : (cfg0.win 6).Covers := by
  refine (cfg0.win 6).covers_of_index_surj rfl (by decide) fun β => ?_
  have h0 : (β 0).val < 32 := (β 0).isLt
  have h1 : (β 1).val < 1 := (β 1).isLt
  obtain ⟨e1, e2⟩ := column_pointAt 4 4 (by decide) (by decide) (β 0).val (β 1).val h0 (by omega)
  refine ⟨pointAt (β 0).val (4 + (β 1).val) h0 (by omega), fun a => ?_⟩
  refine (congrFun (result_places _).2.1 a).trans ?_
  fin_cases a
  · exact e2
  · show (column 4 4 _ _ _).val % 10 - 4 = (β 1).val
    rw [e1]; omega

/-- The values' blocks cover their array. -/
theorem covers7 : (cfg0.win 7).Covers := by
  refine (cfg0.win 7).covers_of_index_surj rfl (by decide) fun β => ?_
  have h0 : (β 0).val < 32 := (β 0).isLt
  have h1 : (β 1).val < 1 := (β 1).isLt
  obtain ⟨e1, e2⟩ := column_pointAt 5 5 (by decide) (by decide) (β 0).val (β 1).val h0 (by omega)
  refine ⟨pointAt (β 0).val (5 + (β 1).val) h0 (by omega), fun a => ?_⟩
  refine (congrFun (result_places _).2.2.1 a).trans ?_
  fin_cases a
  · exact e2
  · show (column 5 5 _ _ _).val % 10 - 5 = (β 1).val
    rw [e1]; omega

/-- The gates' blocks cover their array. -/
theorem covers8 : (cfg0.win 8).Covers := by
  refine (cfg0.win 8).covers_of_index_surj rfl (by decide) fun β => ?_
  have h0 : (β 0).val < 32 := (β 0).isLt
  have h1 : (β 1).val < 4 := (β 1).isLt
  obtain ⟨e1, e2⟩ := column_pointAt 6 9 (by decide) (by decide) (β 0).val (β 1).val h0 (by omega)
  refine ⟨pointAt (β 0).val (6 + (β 1).val) h0 (by omega), fun a => ?_⟩
  refine (congrFun (result_places _).2.2.2 a).trans ?_
  fin_cases a
  · exact e2
  · show (column 6 9 _ _ _).val % 10 - 6 = (β 1).val
    rw [e1]; omega

/-- The tokens' columns from the launch's arguments. -/
def ours : Fin 32768 → Fin 5120 → EReal := rows (m ((c : Thread nD τ).loc main_arg0)) (m ((c : Thread nD τ).loc main_arg1)) (m ((c : Thread nD τ).loc main_arg2))

/-- The queries at a token and a column. -/
def query (t : Fin 32768) (j : Fin 2048) : EReal :=
  Rope.roped2 (ours m c) (fun e => m ((c : Thread nD τ).loc main_arg3) (ix1 e)) 0 2048 (by decide) (by decide) t j * Ideal.ofBits .f32 0x3DB504F3#32

/-- The keys at a token and a column. -/
def key (t : Fin 32768) (j : Fin 512) : EReal :=
  Rope.roped2 (ours m c) (fun e => m ((c : Thread nD τ).loc main_arg4) (ix1 e)) 2048 512 (by decide) (by decide) t j

/-- The values and the gates: `W` columns from `o` on. -/
def plainColumn (o W : ℕ) (ho : o + W ≤ 5120) (t : Fin 32768) (j : Fin W) : EReal := ours m c t ⟨o + j.val, by omega⟩

theorem query_block (u : Fin cfg0.N) (hu : u.val % 10 ≤ 3) (i : Fin 1024) (e : Fin 512) :
    qblock m c u (ix2 i e) = query m c ⟨u.val / 10 * 1024 + i.val, by have := lt_points u; omega⟩ ⟨u.val % 10 * 512 + e.val, by omega⟩ :=
  head_block (ours m c) (m ((c : Thread nD τ).loc main_arg3)) 0x3DB504F3#32 Rope.scale_bounds _ _ (u.val / 10) (u.val % 10) 0 2048 (by decide) (by decide) (by have := lt_points u; omega)
    (by omega) (fun i j => (point_columns m c u i j).trans (congrArg _ (Fin.ext (by show u.val % 10 * 512 + j.val = 0 + (u.val % 10 * 512 + j.val); omega))))
    (fun b i e => query_table m c u b i e) i e

theorem key_block (u : Fin cfg0.N) (hu : 4 ≤ u.val % 10 ∧ u.val % 10 ≤ 4) (i : Fin 1024) (e : Fin 512) :
    kblock m c u (ix2 i e) = key m c ⟨u.val / 10 * 1024 + i.val, by have := lt_points u; omega⟩ ⟨(u.val % 10 - 4) * 512 + e.val, by omega⟩ := by
  refine (head_block (ours m c) (m ((c : Thread nD τ).loc main_arg4)) 0x3F800000#32 ?_ _ _ (u.val / 10) (u.val % 10 - 4) 2048 512 (by decide) (by decide) (by have := lt_points u; omega)
    (by omega) (fun i j => (point_columns m c u i j).trans (congrArg _ (Fin.ext (by show u.val % 10 * 512 + j.val = 2048 + ((u.val % 10 - 4) * 512 + j.val); omega))))
    (fun b i e => key_table m c u b i e) i e).trans ?_
  · rw [Ideal.ofBits_one_f32]; exact Rope.one_bounds
  · rw [Ideal.ofBits_one_f32, mul_one]; rfl

theorem plain_block (o W lo n : ℕ) (ho : o + W ≤ 5120) (hl : o = lo * 512) (hn : W = n * 512 + 512) (u : Fin cfg0.N) (hu : lo ≤ u.val % 10 ∧ u.val % 10 ≤ lo + n) (i : Fin 1024) (e : Fin 512) :
    vblock m c u (ix2 i e) = plainColumn m c o W ho ⟨u.val / 10 * 1024 + i.val, by have := lt_points u; omega⟩ ⟨(u.val % 10 - lo) * 512 + e.val, by omega⟩ := by
  unfold vblock
  rw [narrowed_apply, point_columns]
  unfold plainColumn ours
  exact congrArg _ (Fin.ext (by show u.val % 10 * 512 + e.val = o + ((u.val % 10 - lo) * 512 + e.val); omega))

/-- THE QUERIES' ARRAY. -/
theorem queries_array : (dats m 0 c).arrAt 5 cfg0.N = fun j => query m c (j 0) (j 1) := by
  refine (dats m 0 c).arrAt_eq_of_covers 5 _ covers5 fun t hf y => ?_
  blk_simp
  rw [after0_5]
  obtain ⟨i, e, rfl⟩ : ∃ (i : Fin 1024) (e : Fin 512), y = ix2 i e := ⟨y 0, y 1, by funext a; fin_cases a <;> rfl⟩
  refine (query_block m c _ (column_bounds 0 3 _ _ t).2 i e).trans (congrArg₂ (query m c) (Fin.ext ?_) (Fin.ext ?_))
  · show (column 0 3 _ _ t).val / 10 * 1024 + i.val = win0_5.index t 0 * 1024 + 1 * i.val
    rw [congrFun (result_places t).1 0, column_row]
    show _ = t.val / 10 * 1024 + _
    omega
  · show (column 0 3 _ _ t).val % 10 * 512 + e.val = win0_5.index t 1 * 512 + 1 * e.val
    rw [congrFun (result_places t).1 1]
    show _ = (column 0 3 _ _ t).val % 10 * 512 + _
    omega

/-- THE KEYS' ARRAY. -/
theorem keys_array : (dats m 0 c).arrAt 6 cfg0.N = fun j => key m c (j 0) (j 1) := by
  refine (dats m 0 c).arrAt_eq_of_covers 6 _ covers6 fun t hf y => ?_
  blk_simp
  rw [after0_6]
  obtain ⟨i, e, rfl⟩ : ∃ (i : Fin 1024) (e : Fin 512), y = ix2 i e := ⟨y 0, y 1, by funext a; fin_cases a <;> rfl⟩
  refine (key_block m c _ (column_bounds 4 4 _ _ t) i e).trans (congrArg₂ (key m c) (Fin.ext ?_) (Fin.ext ?_))
  · show (column 4 4 _ _ t).val / 10 * 1024 + i.val = win0_6.index t 0 * 1024 + 1 * i.val
    rw [congrFun (result_places t).2.1 0, column_row]
    show _ = t.val / 10 * 1024 + _
    omega
  · show ((column 4 4 _ _ t).val % 10 - 4) * 512 + e.val = win0_6.index t 1 * 512 + 1 * e.val
    rw [congrFun (result_places t).2.1 1]
    show _ = ((column 4 4 _ _ t).val % 10 - 4) * 512 + _
    omega

/-- THE VALUES' ARRAY. -/
theorem values_array : (dats m 0 c).arrAt 7 cfg0.N = fun j => plainColumn m c 2560 512 (by decide) (j 0) (j 1) := by
  refine (dats m 0 c).arrAt_eq_of_covers 7 _ covers7 fun t hf y => ?_
  blk_simp
  rw [after0_7]
  obtain ⟨i, e, rfl⟩ : ∃ (i : Fin 1024) (e : Fin 512), y = ix2 i e := ⟨y 0, y 1, by funext a; fin_cases a <;> rfl⟩
  refine (plain_block m c 2560 512 5 0 (by decide) rfl rfl _ (column_bounds 5 5 _ _ t) i e).trans (congrArg₂ (plainColumn m c 2560 512 _) (Fin.ext ?_) (Fin.ext ?_))
  · show (column 5 5 _ _ t).val / 10 * 1024 + i.val = win0_7.index t 0 * 1024 + 1 * i.val
    rw [congrFun (result_places t).2.2.1 0, column_row]
    show _ = t.val / 10 * 1024 + _
    omega
  · show ((column 5 5 _ _ t).val % 10 - 5) * 512 + e.val = win0_7.index t 1 * 512 + 1 * e.val
    rw [congrFun (result_places t).2.2.1 1]
    show _ = ((column 5 5 _ _ t).val % 10 - 5) * 512 + _
    omega

/-- THE GATES' ARRAY. -/
theorem gates_array : (dats m 0 c).arrAt 8 cfg0.N = fun j => plainColumn m c 3072 2048 (by decide) (j 0) (j 1) := by
  refine (dats m 0 c).arrAt_eq_of_covers 8 _ covers8 fun t hf y => ?_
  blk_simp
  rw [after0_8]
  obtain ⟨i, e, rfl⟩ : ∃ (i : Fin 1024) (e : Fin 512), y = ix2 i e := ⟨y 0, y 1, by funext a; fin_cases a <;> rfl⟩
  refine (plain_block m c 3072 2048 6 3 (by decide) rfl rfl _ (column_bounds 6 9 _ _ t) i e).trans (congrArg₂ (plainColumn m c 3072 2048 _) (Fin.ext ?_) (Fin.ext ?_))
  · show (column 6 9 _ _ t).val / 10 * 1024 + i.val = win0_8.index t 0 * 1024 + 1 * i.val
    rw [congrFun (result_places t).2.2.2 0, column_row]
    show _ = t.val / 10 * 1024 + _
    omega
  · show ((column 6 9 _ _ t).val % 10 - 6) * 512 + e.val = win0_8.index t 1 * 512 + 1 * e.val
    rw [congrFun (result_places t).2.2.2 1]
    show _ = ((column 6 9 _ _ t).val % 10 - 6) * 512 + _
    omega

end Cert.ProjAIdeal.Body

end
-- ==== Proof.ProjARef.lean ====
/-
  The reference's four results at an index: the queries and keys as normalized and rotated heads, the values and gates as columns of
  the product.
-/
module

public import proofs.«01_k».proof.Proof.Rope
public import proofs.«01_k».proof.Proof.Gen.ProjARefIdeal.Run

@[expose] public section

set_option maxRecDepth 16384

noncomputable section

namespace Cert.ProjARefIdeal.Block

open Cert.ProjARefIdeal Cert.ProjARefIdeal.Gen Idealize.ShloMosaic Idealize.ShloMosaic.TcCoe Idealize.SL.Sem

/-- The tokens normalized. -/
def normed (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
      (broadcastInDim S32768x1 ![0] bcast_S32768_S32768x1_0 (Host.reduceAdd (mulf x x) (constant S_ .f32 0x00000000#32) reducesTo_S32768x2048_S32768_d1 h_S_))
      (broadcastInDim S32768x1 ![] bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The product with the weights, the tokens apart by prompt. -/
def product (h : FVec Ideal S32768x2048 .f32) (w : FVec Ideal S2048x5120 .bf16) : FVec Ideal S8x4096x5120 .f32 :=
  shapeCast S8x4096x5120 (Host.dotGeneral dot_S32768x2048_S2048x5120_S32768x5120_1_0_0_1_n_n none h (extf .f32 w bitsLt_bf16_f32)) shapeCasts_S32768x5120_S8x4096x5120

/-- Sixteen heads normalized. -/
def heads16 (y : FVec Ideal S8x4096x16x128 .f32) (g : FVec Ideal S128 .f32) : FVec Ideal S8x4096x16x128 .f32 :=
  mulf (mulf y (broadcastInDim S8x4096x16x128 ![0, 1, 2, 3] bcast_S8x4096x16x1_S8x4096x16x128_0_1_2_3 (Host.rsqrt (addf (Host.divf
      (broadcastInDim S8x4096x16x1 ![0, 1, 2] bcast_S8x4096x16_S8x4096x16x1_0_1_2 (Host.reduceAdd (mulf y y) (constant S_ .f32 0x00000000#32) reducesTo_S8x4096x16x128_S8x4096x16_d3 h_S_))
      (broadcastInDim S8x4096x16x1 ![] bcast_S_S8x4096x16x1 (constant S_ .f32 0x43000000#32))) (broadcastInDim S8x4096x16x1 ![] bcast_S_S8x4096x16x1 (constant S_ .f32 0x358637BD#32))))))
    (broadcastInDim S8x4096x16x128 ![0, 1, 2, 3] bcast_S1x1x1x128_S8x4096x16x128_0_1_2_3 (broadcastInDim S1x1x1x128 ![3] bcast_S128_S1x1x1x128_3 g))

/-- Four heads normalized. -/
def heads4 (y : FVec Ideal S8x4096x4x128 .f32) (g : FVec Ideal S128 .f32) : FVec Ideal S8x4096x4x128 .f32 :=
  mulf (mulf y (broadcastInDim S8x4096x4x128 ![0, 1, 2, 3] bcast_S8x4096x4x1_S8x4096x4x128_0_1_2_3 (Host.rsqrt (addf (Host.divf
      (broadcastInDim S8x4096x4x1 ![0, 1, 2] bcast_S8x4096x4_S8x4096x4x1_0_1_2 (Host.reduceAdd (mulf y y) (constant S_ .f32 0x00000000#32) reducesTo_S8x4096x4x128_S8x4096x4_d3 h_S_))
      (broadcastInDim S8x4096x4x1 ![] bcast_S_S8x4096x4x1 (constant S_ .f32 0x43000000#32))) (broadcastInDim S8x4096x4x1 ![] bcast_S_S8x4096x4x1 (constant S_ .f32 0x358637BD#32))))))
    (broadcastInDim S8x4096x4x128 ![0, 1, 2, 3] bcast_S1x1x1x128_S8x4096x4x128_0_1_2_3 (broadcastInDim S1x1x1x128 ![3] bcast_S128_S1x1x1x128_3 g))

/-- The rows of a prompt's positions, 64 to a row. -/
def rowsOf : FVec Ideal S4096 .f32 := shapeCast S4096 (broadcastInDim S64x64 ![0] bcast_S64_S64x64_0 (sitofp .f32 (iotaInDim S64 32 0))) shapeCasts_S64x64_S4096

/-- Their columns. -/
def columnsOf : FVec Ideal S4096 .f32 :=
  shapeCast S4096 (broadcastInDim S64x64 ![0, 1] bcast_S1x64_S64x64_0_1 (shapeCast S1x64 (sitofp .f32 (iotaInDim S64 32 0)) shapeCasts_S64_S1x64)) shapeCasts_S64x64_S4096

/-- The angles: a position times the inverse frequency of the lane. -/
def angles (q : FVec Ideal S4096 .f32) : FVec Ideal S4096x32 .f32 :=
  mulf (broadcastInDim S4096x32 ![0, 1] bcast_S4096x1_S4096x32_0_1 (broadcastInDim S4096x1 ![0] bcast_S4096_S4096x1_0 q))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- Half of every one of sixteen heads rotated. -/
def half16 (u : FVec Ideal S8x4096x16x64 .f32) (A : FVec Ideal S4096x32 .f32) : FVec Ideal S8x4096x16x64 .f32 :=
  concatenate S8x4096x16x64 3 [
    ⟨S8x4096x16x32, subf
      (mulf (extractStridedSlice S8x4096x16x32 ![0, 0, 0, 0] u slices_S8x4096x16x64_S8x4096x16x32_0_0_0_0)
        (broadcastInDim S8x4096x16x32 ![0, 1, 2, 3] bcast_S1x4096x1x32_S8x4096x16x32_0_1_2_3 (broadcastInDim S1x4096x1x32 ![1, 3] bcast_S4096x32_S1x4096x1x32_1_3 (Host.cos A))))
      (mulf (extractStridedSlice S8x4096x16x32 ![0, 0, 0, 32] u slices_S8x4096x16x64_S8x4096x16x32_0_0_0_32)
        (broadcastInDim S8x4096x16x32 ![0, 1, 2, 3] bcast_S1x4096x1x32_S8x4096x16x32_0_1_2_3 (broadcastInDim S1x4096x1x32 ![1, 3] bcast_S4096x32_S1x4096x1x32_1_3 (Host.sin A))))⟩,
    ⟨S8x4096x16x32, addf
      (mulf (extractStridedSlice S8x4096x16x32 ![0, 0, 0, 32] u slices_S8x4096x16x64_S8x4096x16x32_0_0_0_32)
        (broadcastInDim S8x4096x16x32 ![0, 1, 2, 3] bcast_S1x4096x1x32_S8x4096x16x32_0_1_2_3 (broadcastInDim S1x4096x1x32 ![1, 3] bcast_S4096x32_S1x4096x1x32_1_3 (Host.cos A))))
      (mulf (extractStridedSlice S8x4096x16x32 ![0, 0, 0, 0] u slices_S8x4096x16x64_S8x4096x16x32_0_0_0_0)
        (broadcastInDim S8x4096x16x32 ![0, 1, 2, 3] bcast_S1x4096x1x32_S8x4096x16x32_0_1_2_3 (broadcastInDim S1x4096x1x32 ![1, 3] bcast_S4096x32_S1x4096x1x32_1_3 (Host.sin A))))⟩]
    concatenates_S8x4096x16x32_S8x4096x16x32_S8x4096x16x64_d3

/-- Sixteen heads rotated, the first half by one angle and the second by another. -/
def rotated16 (y : FVec Ideal S8x4096x16x128 .f32) (A B : FVec Ideal S4096x32 .f32) : FVec Ideal S8x4096x16x128 .f32 :=
  concatenate S8x4096x16x128 3 [
    ⟨S8x4096x16x64, half16 (extractStridedSlice S8x4096x16x64 ![0, 0, 0, 0] y slices_S8x4096x16x128_S8x4096x16x64_0_0_0_0) A⟩,
    ⟨S8x4096x16x64, half16 (extractStridedSlice S8x4096x16x64 ![0, 0, 0, 64] y slices_S8x4096x16x128_S8x4096x16x64_0_0_0_64) B⟩]
    concatenates_S8x4096x16x64_S8x4096x16x64_S8x4096x16x128_d3

/-- Half of every one of four heads rotated. -/
def half4 (u : FVec Ideal S8x4096x4x64 .f32) (A : FVec Ideal S4096x32 .f32) : FVec Ideal S8x4096x4x64 .f32 :=
  concatenate S8x4096x4x64 3 [
    ⟨S8x4096x4x32, subf
      (mulf (extractStridedSlice S8x4096x4x32 ![0, 0, 0, 0] u slices_S8x4096x4x64_S8x4096x4x32_0_0_0_0)
        (broadcastInDim S8x4096x4x32 ![0, 1, 2, 3] bcast_S1x4096x1x32_S8x4096x4x32_0_1_2_3 (broadcastInDim S1x4096x1x32 ![1, 3] bcast_S4096x32_S1x4096x1x32_1_3 (Host.cos A))))
      (mulf (extractStridedSlice S8x4096x4x32 ![0, 0, 0, 32] u slices_S8x4096x4x64_S8x4096x4x32_0_0_0_32)
        (broadcastInDim S8x4096x4x32 ![0, 1, 2, 3] bcast_S1x4096x1x32_S8x4096x4x32_0_1_2_3 (broadcastInDim S1x4096x1x32 ![1, 3] bcast_S4096x32_S1x4096x1x32_1_3 (Host.sin A))))⟩,
    ⟨S8x4096x4x32, addf
      (mulf (extractStridedSlice S8x4096x4x32 ![0, 0, 0, 32] u slices_S8x4096x4x64_S8x4096x4x32_0_0_0_32)
        (broadcastInDim S8x4096x4x32 ![0, 1, 2, 3] bcast_S1x4096x1x32_S8x4096x4x32_0_1_2_3 (broadcastInDim S1x4096x1x32 ![1, 3] bcast_S4096x32_S1x4096x1x32_1_3 (Host.cos A))))
      (mulf (extractStridedSlice S8x4096x4x32 ![0, 0, 0, 0] u slices_S8x4096x4x64_S8x4096x4x32_0_0_0_0)
        (broadcastInDim S8x4096x4x32 ![0, 1, 2, 3] bcast_S1x4096x1x32_S8x4096x4x32_0_1_2_3 (broadcastInDim S1x4096x1x32 ![1, 3] bcast_S4096x32_S1x4096x1x32_1_3 (Host.sin A))))⟩]
    concatenates_S8x4096x4x32_S8x4096x4x32_S8x4096x4x64_d3

/-- Four heads rotated, the first half by one angle and the second by another. -/
def rotated4 (y : FVec Ideal S8x4096x4x128 .f32) (A B : FVec Ideal S4096x32 .f32) : FVec Ideal S8x4096x4x128 .f32 :=
  concatenate S8x4096x4x128 3 [
    ⟨S8x4096x4x64, half4 (extractStridedSlice S8x4096x4x64 ![0, 0, 0, 0] y slices_S8x4096x4x128_S8x4096x4x64_0_0_0_0) A⟩,
    ⟨S8x4096x4x64, half4 (extractStridedSlice S8x4096x4x64 ![0, 0, 0, 64] y slices_S8x4096x4x128_S8x4096x4x64_0_0_0_64) B⟩]
    concatenates_S8x4096x4x64_S8x4096x4x64_S8x4096x4x128_d3

theorem normed_apply (x : FVec Ideal S32768x2048 .f32) (g : FVec Ideal S2048 .f32) (t : Fin 32768) (k : Fin 2048) :
    normed x g (ix2 t k) = Rope.token (fun r => x (ix2 t r)) (fun r => g (ix1 r)) k := by
  unfold Rope.token Rope.invRms
  pointwise [normed]

/-- The product's columns at a prompt's position. -/
theorem product_apply (x : FVec Ideal S32768x2048 .f32) (g : FVec Ideal S2048 .f32) (w : FVec Ideal S2048x5120 .bf16) (b : Fin 8) (p : Fin 4096) (j : Fin 5120) :
    product (normed x g) w (ix3 b p j)
      = Rope.column (fun r => x (ix2 (⟨b.val * 4096 + p.val, by omega⟩ : Fin 32768) r)) (fun r => g (ix1 r)) (fun r => w (ix2 r j)) := by
  unfold Rope.column
  pointwise [product]
  exact Finset.sum_congr rfl fun k _ => congrArg (· * _) (normed_apply x g _ k)

theorem heads16_apply (y : FVec Ideal S8x4096x16x128 .f32) (g : FVec Ideal S128 .f32) (b : Fin 8) (p : Fin 4096) (n : Fin 16) (e : Fin 128) :
    heads16 y g (ix4 b p n e) = Rope.unit (fun e => y (ix4 b p n e)) (fun e => g (ix1 e)) e := by
  unfold Rope.unit Rope.invRms
  pointwise [heads16]

theorem heads4_apply (y : FVec Ideal S8x4096x4x128 .f32) (g : FVec Ideal S128 .f32) (b : Fin 8) (p : Fin 4096) (n : Fin 4) (e : Fin 128) :
    heads4 y g (ix4 b p n e) = Rope.unit (fun e => y (ix4 b p n e)) (fun e => g (ix1 e)) e := by
  unfold Rope.unit Rope.invRms
  pointwise [heads4]

theorem angles_apply (q : FVec Ideal S4096 .f32) (p : Fin 4096) (f : Fin 32) : angles q (ix2 p f) = q (ix1 p) * Ideal.div 1 (Ideal.pow (Ideal.ofBits .f32 0x461C4000#32)
    (Ideal.div (Ideal.ofBits .f32 0x40000000#32 * FloatOps.sitofp (F := Ideal) .f32 (BitVec.ofNat 32 f.val)) (Ideal.ofBits .f32 0x42800000#32))) := by
  pointwise [angles]

theorem rowsOf_apply (p : Fin 4096) : rowsOf (ix1 p) = FloatOps.sitofp (F := Ideal) .f32 (BitVec.ofNat 32 (p.val / 64)) := by
  pointwise [rowsOf]

theorem columnsOf_apply (p : Fin 4096) : columnsOf (ix1 p) = FloatOps.sitofp (F := Ideal) .f32 (BitVec.ofNat 32 (p.val % 64)) := by
  pointwise [columnsOf]

theorem row_angles (p : Fin 4096) (f : Fin 32) : angles rowsOf (ix2 p f) = Rope.angle 0x42800000#32 (p.val / 64) f.val := by
  rw [angles_apply, rowsOf_apply]; rfl

theorem column_angles (p : Fin 4096) (f : Fin 32) : angles columnsOf (ix2 p f) = Rope.angle 0x42800000#32 (p.val % 64) f.val := by
  rw [angles_apply, columnsOf_apply]; rfl

theorem half16_apply (u : FVec Ideal S8x4096x16x64 .f32) (A : FVec Ideal S4096x32 .f32) (b : Fin 8) (p : Fin 4096) (n : Fin 16) (i : Fin 64) :
    half16 u A (ix4 b p n i) = Rope.half (fun i => u (ix4 b p n i)) (fun f => Ideal.cos (A (ix2 p f))) (fun f => Ideal.sin (A (ix2 p f))) i := by
  unfold Rope.half
  pointwise [half16]

theorem rotated16_apply (y : FVec Ideal S8x4096x16x128 .f32) (g : FVec Ideal S128 .f32) (b : Fin 8) (p : Fin 4096) (n : Fin 16) (e : Fin 128) :
    rotated16 (heads16 y g) (angles rowsOf) (angles columnsOf) (ix4 b p n e) = Rope.plain2 (fun e => y (ix4 b p n e)) (fun e => g (ix1 e))
      (fun f => Ideal.cos (Rope.angle 0x42800000#32 (p.val / 64) f.val)) (fun f => Ideal.sin (Rope.angle 0x42800000#32 (p.val / 64) f.val))
      (fun f => Ideal.cos (Rope.angle 0x42800000#32 (p.val % 64) f.val)) (fun f => Ideal.sin (Rope.angle 0x42800000#32 (p.val % 64) f.val)) e := by
  unfold Rope.plain2
  pointwise [rotated16]
  split
  · rw [half16_apply]
    pointwise
    simp only [heads16_apply, row_angles]
  · rw [half16_apply]
    pointwise
    simp only [heads16_apply, column_angles]

theorem half4_apply (u : FVec Ideal S8x4096x4x64 .f32) (A : FVec Ideal S4096x32 .f32) (b : Fin 8) (p : Fin 4096) (n : Fin 4) (i : Fin 64) :
    half4 u A (ix4 b p n i) = Rope.half (fun i => u (ix4 b p n i)) (fun f => Ideal.cos (A (ix2 p f))) (fun f => Ideal.sin (A (ix2 p f))) i := by
  unfold Rope.half
  pointwise [half4]

theorem rotated4_apply (y : FVec Ideal S8x4096x4x128 .f32) (g : FVec Ideal S128 .f32) (b : Fin 8) (p : Fin 4096) (n : Fin 4) (e : Fin 128) :
    rotated4 (heads4 y g) (angles rowsOf) (angles columnsOf) (ix4 b p n e) = Rope.plain2 (fun e => y (ix4 b p n e)) (fun e => g (ix1 e))
      (fun f => Ideal.cos (Rope.angle 0x42800000#32 (p.val / 64) f.val)) (fun f => Ideal.sin (Rope.angle 0x42800000#32 (p.val / 64) f.val))
      (fun f => Ideal.cos (Rope.angle 0x42800000#32 (p.val % 64) f.val)) (fun f => Ideal.sin (Rope.angle 0x42800000#32 (p.val % 64) f.val)) e := by
  unfold Rope.plain2
  pointwise [rotated4]
  split
  · rw [half4_apply]
    pointwise
    simp only [heads4_apply, row_angles]
  · rw [half4_apply]
    pointwise
    simp only [heads4_apply, column_angles]

/-- The tokens' columns from the arguments. -/
def rows (x : FVec Ideal S32768x2048 .f32) (g : FVec Ideal S2048 .f32) (w : FVec Ideal S2048x5120 .bf16) : Fin 32768 → Fin 5120 → EReal :=
  Rope.row (fun t r => x (ix2 t r)) (fun r => g (ix1 r)) (fun r j => w (ix2 r j))

theorem position (t : Fin 32768) (h : t.val / 4096 * 4096 + t.val % 4096 < 32768) : (⟨t.val / 4096 * 4096 + t.val % 4096, h⟩ : Fin 32768) = t :=
  Fin.ext (by show t.val / 4096 * 4096 + t.val % 4096 = t.val; omega)

/-- The queries' result as the stages above. -/
def queries (x : FVec Ideal S32768x2048 .f32) (g : FVec Ideal S2048 .f32) (w : FVec Ideal S2048x5120 .bf16) (G : FVec Ideal S128 .f32) : FVec Ideal S32768x2048 .bf16 :=
  truncf .bf16 (shapeCast S32768x2048 (mulf (rotated16 (heads16 (shapeCast S8x4096x16x128 (extractStridedSlice S8x4096x2048 ![0, 0, 0]
      (product (normed x g) w) slices_S8x4096x5120_S8x4096x2048_0_0_0) shapeCasts_S8x4096x2048_S8x4096x16x128) G) (angles rowsOf) (angles columnsOf))
    (broadcastInDim S8x4096x16x128 ![] bcast_S_S8x4096x16x128 (constant S_ .f32 0x3DB504F3#32))) shapeCasts_S8x4096x16x128_S32768x2048) bitsLt_bf16_f32

/-- The keys' result as the stages above. -/
def keys (x : FVec Ideal S32768x2048 .f32) (g : FVec Ideal S2048 .f32) (w : FVec Ideal S2048x5120 .bf16) (G : FVec Ideal S128 .f32) : FVec Ideal S32768x512 .bf16 :=
  truncf .bf16 (shapeCast S32768x512 (rotated4 (heads4 (shapeCast S8x4096x4x128 (extractStridedSlice S8x4096x512 ![0, 0, 2048]
      (product (normed x g) w) slices_S8x4096x5120_S8x4096x512_0_0_2048) shapeCasts_S8x4096x512_S8x4096x4x128) G) (angles rowsOf) (angles columnsOf))
    shapeCasts_S8x4096x4x128_S32768x512) bitsLt_bf16_f32

variable (x : FVec Ideal S32768x2048 .f32) (g : FVec Ideal S2048 .f32) (w : FVec Ideal S2048x5120 .bf16) (G : FVec Ideal S128 .f32)

/-- THE QUERIES at an index. -/
theorem queries_apply (t : Fin 32768) (j : Fin 2048) : queries x g w G (ix2 t j)
    = Rope.roped2 (rows x g w) (fun e => G (ix1 e)) 0 2048 (by decide) (by decide) t j * Ideal.ofBits .f32 0x3DB504F3#32 := by
  pointwise [queries]
  rw [rotated16_apply]
  unfold Rope.roped2
  congr 2
  funext e
  pointwise
  rw [product_apply, position]
  unfold Rope.head rows Rope.row
  congr 1

/-- THE KEYS at an index. -/
theorem keys_apply (t : Fin 32768) (j : Fin 512) : keys x g w G (ix2 t j)
    = Rope.roped2 (rows x g w) (fun e => G (ix1 e)) 2048 512 (by decide) (by decide) t j := by
  pointwise [keys]
  rw [rotated4_apply]
  unfold Rope.roped2
  congr 1
  funext e
  pointwise
  rw [product_apply, position]
  unfold Rope.head rows Rope.row
  congr 1
  funext r
  congr 2
  exact Fin.ext (by show 2048 + _ = 2048 + _ + _; omega)

/-- THE VALUES at an index. -/
theorem values_apply (t : Fin 32768) (j : Fin 512) :
    (truncf .bf16 (shapeCast S32768x512 (extractStridedSlice S8x4096x512 ![0, 0, 2560] (product (normed x g) w) slices_S8x4096x5120_S8x4096x512_0_0_2560)
      shapeCasts_S8x4096x512_S32768x512) bitsLt_bf16_f32 : FVec Ideal S32768x512 .bf16) (ix2 t j) = rows x g w t ⟨2560 + j.val, by omega⟩ := by
  pointwise
  rw [product_apply, position]
  rfl

/-- THE GATES at an index. -/
theorem gates_apply (t : Fin 32768) (j : Fin 2048) :
    (truncf .bf16 (shapeCast S32768x2048 (extractStridedSlice S8x4096x2048 ![0, 0, 3072] (product (normed x g) w) slices_S8x4096x5120_S8x4096x2048_0_0_3072)
      shapeCasts_S8x4096x2048_S32768x2048) bitsLt_bf16_f32 : FVec Ideal S32768x2048 .bf16) (ix2 t j) = rows x g w t ⟨3072 + j.val, by omega⟩ := by
  pointwise
  rw [product_apply, position]
  rfl

end Cert.ProjARefIdeal.Block

end
-- ==== Proof.ProjA.lean ====
/-
  The input projection of the first kind: its claims.
-/
module

public import proofs.«01_k».proof.Defs
public import proofs.«01_k».proof.Proof.ProjASame
public import proofs.«01_k».proof.Proof.ProjAArrays
public import proofs.«01_k».proof.Proof.ProjARef
public import Idealize.ShloMosaic.Lib.Quiescent

@[expose] public section

set_option maxRecDepth 16384

noncomputable section

namespace Cert.ProjAProof

open Idealize.ShloMosaic Idealize.ShloMosaic.TcCoe Idealize.SL.Sem

section Kernel

open Cert.ProjAIdeal Cert.ProjAIdeal.Gen Cert.ProjAIdeal.Body

/-- The kernel over the extended reals: its four arrays, and its arguments kept. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v133_0) = (fun j => query m c (j 0) (j 1))
      ∧ r.2.mem ((c.tc : Thread nD τ).loc main_v133_1) = (fun j => key m c (j 0) (j 1))
      ∧ r.2.mem ((c.tc : Thread nD τ).loc main_v133_2) = (fun j => plainColumn m c 2560 512 (by decide) (j 0) (j 1))
      ∧ r.2.mem ((c.tc : Thread nD τ).loc main_v133_3) = (fun j => plainColumn m c 3072 2048 (by decide) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).1 5).trans (queries_array m c), ((h.1 c).1 6).trans (keys_array m c), ((h.1 c).1 7).trans (values_array m c),
        ((h.1 c).1 8).trans (gates_array m c), h.2.1 c⟩)
    (θ_run_and (run_main m ρ) (frame m ρ))

end Kernel

section Reference

open Cert.ProjARefIdeal Cert.ProjARefIdeal.Block

/-- An array is known by its entries. -/
theorem entries {N : ℕ} {s : Fin 32768 → Fin N → EReal} (x : FVec Ideal ⟨2, ![32768, N]⟩ .bf16) (h : ∀ t j, x (ix2 t j) = s t j) : x = fun j => s (j 0) (j 1) := by
  funext j
  obtain ⟨t, e, rfl⟩ : ∃ (t : Fin 32768) (e : Fin N), j = ix2 t e := ⟨j 0, j 1, by funext a; fin_cases a <;> rfl⟩
  exact h t e

/-- The reference: its four results, and its arguments kept. -/
theorem reference_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v196) = (fun j => Rope.roped2 (rows (m ((c : Thread nD τ).loc main_arg0)) (m ((c : Thread nD τ).loc main_arg1))
        (m ((c : Thread nD τ).loc main_arg2))) (fun e => m ((c : Thread nD τ).loc main_arg3) (ix1 e)) 0 2048 (by decide) (by decide) (j 0) (j 1) * Ideal.ofBits .f32 0x3DB504F3#32)
      ∧ r.2.mem ((c.tc : Thread nD τ).loc main_v198) = (fun j => Rope.roped2 (rows (m ((c : Thread nD τ).loc main_arg0)) (m ((c : Thread nD τ).loc main_arg1))
        (m ((c : Thread nD τ).loc main_arg2))) (fun e => m ((c : Thread nD τ).loc main_arg4) (ix1 e)) 2048 512 (by decide) (by decide) (j 0) (j 1))
      ∧ r.2.mem ((c.tc : Thread nD τ).loc main_v200) = (fun j => rows (m ((c : Thread nD τ).loc main_arg0)) (m ((c : Thread nD τ).loc main_arg1))
        (m ((c : Thread nD τ).loc main_arg2)) (j 0) ⟨2560 + (j 1).val, by have : (j 1).val < 512 := (j 1).isLt; omega⟩)
      ∧ r.2.mem ((c.tc : Thread nD τ).loc main_v202) = (fun j => rows (m ((c : Thread nD τ).loc main_arg0)) (m ((c : Thread nD τ).loc main_arg1))
        (m ((c : Thread nD τ).loc main_arg2)) (j 0) ⟨3072 + (j 1).val, by have : (j 1).val < 2048 := (j 1).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c).1.trans (entries _ (queries_apply _ _ _ _)), (h c).2.1.trans (entries _ (keys_apply _ _ _ _)),
        (h c).2.2.1.trans (entries (s := fun t j => rows _ _ _ t ⟨2560 + j.val, by omega⟩) _ (values_apply _ _ _)),
        (h c).2.2.2.1.trans (entries (s := fun t j => rows _ _ _ t ⟨3072 + j.val, by omega⟩) _ (gates_apply _ _ _)), (h c).2.2.2.2⟩)
    (Cert.ProjARefIdeal.Value.run m ρ)

end Reference

/-- The kernel's reading over the extended reals runs, keeps its arguments and leaves every semaphore at zero. -/
theorem ideal_frame : Cert.quiescent_ProjAIdeal (hProjAIdeal := Cert.ProjAIdeal.Gen.facts) := fun m ρ _ => Cert.ProjAIdeal.Body.frame m ρ

/-- So does the reference. -/
theorem reference_frame : Cert.quiescent_ProjARefIdeal (hProjARefIdeal := Cert.ProjARefIdeal.Gen.facts) :=
  fun m ρ _ => (θ_run _ _ _).mono (fun r h => ⟨fun c => (h c).2.2.2.2, sem_eq_zero_of_no_sems (by decide) r.2⟩) (Cert.ProjARefIdeal.Value.run m ρ)

/-- Over the extended reals the kernel and the reference give the same four arrays. -/
theorem algebraic : Cert.algebraic_ProjAIdeal_ProjARefIdeal (hProjAIdeal := Cert.ProjAIdeal.Gen.facts) (hProjARefIdeal := Cert.ProjARefIdeal.Gen.facts) := by
  intro m ρ m' ρ' _ hag
  refine ⟨_, _, _, _, run_arrays m ρ, (θ_run _ _ _).mono (fun r h c => ?_) (reference_arrays m' ρ')⟩
  obtain ⟨h0, h1, h2, h3, h4⟩ := h c
  rw [(hag c).1, (hag c).2.1, (hag c).2.2.1, (hag c).2.2.2.1] at h0
  rw [(hag c).1, (hag c).2.1, (hag c).2.2.1, (hag c).2.2.2.2] at h1
  rw [(hag c).1, (hag c).2.1, (hag c).2.2.1] at h2 h3
  exact ⟨h0, h1, h2, h3, h4⟩

end Cert.ProjAProof

end
-- ==== Proof.LayerARuns.lean ====
/-
  The in-projection as the first of a layer's three calls: what its body leaves at each kind of grid point, in the terms of
  the call alone.
-/
module

public import proofs.«01_k».proof.Proof.Gen.LayerAIdeal.Skeleton
public import proofs.«01_k».proof.Proof.Gen.LayerAIdeal.Points
public import proofs.«01_k».proof.Proof.ProjARuns
public import proofs.«01_k».proof.Proof.WholeBlock

@[expose] public section

set_option maxRecDepth 16384

noncomputable section

namespace Cert.LayerAIdeal.Body

open Cert.LayerAIdeal Cert.LayerAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeBlock (zero2)
open Cert.ProjAIdeal.Body (plane0 plane1 plane2 roped)

variable {F : FTy → Type} [FloatOps F]

local notation "𝕄" => MT nD τ sig Unit (Elt F) ℕ (UR sig nD τ) ℕ

/-- The point is the first of its row of the grid. -/
abbrev starts (i : grid0.Coords) : Prop := (Scalar.cmpi .ne (Scalar.extui (Scalar.cmpi .eq (BitVec.ofNat 32 (i 1).val) 0#32)) 0#32) = 1#1

/-- A load of the tokens' block. -/
theorem tokens (a : Memref sig .tc .vmem S1024x2048 .f32) (ha : a.IsWhole) (x : Vec F S1024x2048 .f32) :
    View.readAt (Elt F) a.view (Rect.unit ![0, 0] ![1024, 2048] inb_S1024x2048_S1024x2048_0_0).toLoadRect (ha.unread x) = x :=
  (Cert.WholeBlock.loaded a.view zero2 _ _).trans (ha.read_unread x)

/-- A load of the norm's gain. -/
theorem gain (a : Memref sig .tc .vmem S1x2048 .f32) (ha : a.IsWhole) (g : Vec F S1x2048 .f32) :
    View.readAt (Elt F) a.view (Rect.unit ![0, 0] ![1, 2048] inb_S1x2048_S1x2048_0_0).toLoadRect (ha.unread g) = g :=
  (Cert.WholeBlock.loaded a.view zero2 _ _).trans (ha.read_unread g)

/-- A load of the weights' block. -/
theorem weights (a : Memref sig .tc .vmem S2048x512 .bf16) (ha : a.IsWhole) (w : Vec F S2048x512 .bf16) :
    View.readAt (Elt F) a.view (Rect.unit ![0, 0] ![2048, 512] inb_S2048x512_S2048x512_0_0).toLoadRect (ha.unread w) = w :=
  (Cert.WholeBlock.loaded a.view zero2 _ _).trans (ha.read_unread w)

/-- A load of the scratch buffer. -/
theorem scratch (a : Memref sig .tc .vmem S1024x2048 .bf16) (ha : a.IsWhole) (h : Vec F S1024x2048 .bf16) :
    View.readAt (Elt F) a.view (Rect.unit ![0, 0] ![1024, 2048] inb_S1024x2048_S1024x2048_0_0).toLoadRect (ha.unread h) = h :=
  (Cert.WholeBlock.loaded a.view zero2 _ _).trans (ha.read_unread h)

/-- A load of the scratch buffer after a store of all of it. -/
theorem reloaded (a : Memref sig .tc .vmem S1024x2048 .bf16) (h : Vec F S1024x2048 .bf16) :
    a.view.readCov [(⟨Rect.unit ![0, 0] ![1024, 2048] inb_S1024x2048_S1024x2048_0_0, h⟩ : View.Piece (Elt F) S1024x2048 .bf16)]
      (Rect.unit ![0, 0] ![1024, 2048] inb_S1024x2048_S1024x2048_0_0).toLoadRect = h :=
  View.readCov_full a.view _ _ h []

/-- A load of a table's first plane. -/
theorem loads_plane0 (a : Memref sig .tc .vmem S3x1024x128 .f32) (ha : a.IsWhole) (tab : Vec F S3x1024x128 .f32) :
    View.readAt (Elt F) a.view (Rect.unit ![0, 0, 0] ![1, 1024, 128] inb_S3x1024x128_S1x1024x128_0_0_0).toLoadRect (ha.unread tab) = plane0 tab := by
  rw [View.readAt_eq_ld, ha.read_unread]; rfl

/-- A load of its second plane. -/
theorem loads_plane1 (a : Memref sig .tc .vmem S3x1024x128 .f32) (ha : a.IsWhole) (tab : Vec F S3x1024x128 .f32) :
    View.readAt (Elt F) a.view (Rect.unit ![1, 0, 0] ![1, 1024, 128] inb_S3x1024x128_S1x1024x128_1_0_0).toLoadRect (ha.unread tab) = plane1 tab := by
  rw [View.readAt_eq_ld, ha.read_unread]; rfl

/-- A load of its third plane. -/
theorem loads_plane2 (a : Memref sig .tc .vmem S3x1024x128 .f32) (ha : a.IsWhole) (tab : Vec F S3x1024x128 .f32) :
    View.readAt (Elt F) a.view (Rect.unit ![2, 0, 0] ![1, 1024, 128] inb_S3x1024x128_S1x1024x128_2_0_0).toLoadRect (ha.unread tab) = plane2 tab := by
  rw [View.readAt_eq_ld, ha.read_unread]; rfl

/-- The block's rotated heads, in the payloads the keys' branch spells. -/
theorem keys_payload (tab : Vec F S3x1024x128 .f32) (y : FVec F S1024x512 .f32) :
    k0_pay4 (k0_pay16 y (plane0 tab) (plane1 tab) (plane2 tab))
      (k0_pay21 (k0_pay17 y) (k0_pay18 y) (k0_pay19 y (plane0 tab)) (k0_pay20 y) (plane1 tab) (plane2 tab))
      (k0_pay22 y (plane0 tab) (plane1 tab) (plane2 tab)) (k0_pay23 y) (k0_pay24 y) (Scalar.ofBits .f32 0x43000000#32)
      (plane0 tab) (plane1 tab) (plane2 tab) = roped y tab := rfl

set_option maxHeartbeats 2000000 in
/-- A POINT OF VALUES stores the product of the normalized rows and the weights' block. -/
theorem run_values (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S3x1024x128 .f32) (harg5 : arg5.IsWhole) (arg6 : Memref sig .tc .vmem S3x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (h : Vec F S1024x2048 .bf16) (E : Set ℕ) (K : PUnit → sProp 𝕄)
    (hc0 : ¬starts i) (hc1 : ¬k0_cond2 i = 1#1) (hc2 : ¬k0_cond3 i = 1#1) (hc3 : k0_cond4 i = 1#1) (hc4 : ¬k0_cond5 i = 1#1) :
    iprop(owns (c : Thread nD τ) arg4 fullShare w ∗ owns (c : Thread nD τ) arg11 fullShare h ∗ (∃ d, owns (c : Thread nD τ) arg9 fullShare d)
        ∗ (iprop(owns (c : Thread nD τ) arg4 fullShare w ∗ owns (c : Thread nD τ) arg11 fullShare h ∗ owns (c : Thread nD τ) arg9 fullShare (k0_pay5 h w)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f4, %hf4, H4⟩, ⟨%f11, %hf11, H11⟩, ⟨%d9, %f9, -, H9⟩, Hk⟩
  obtain rfl := harg4.eq_unread hf4; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H11]
  · iexists _; isplitr; · ipureintro; exact harg11.read_unread _
    iexact H11
  iexists _; isplitr; swap; · iexact H9
  ipureintro
  refine (Cert.WholeBlock.stored arg9.view zero2 _ _ _ _).trans ?_
  exact congrArg₂ k0_pay5 (scratch arg11 harg11 h) (weights arg4 harg4 w)

set_option maxHeartbeats 2000000 in
/-- A POINT OF GATES stores the same product into the gates' block. -/
theorem run_gates (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S3x1024x128 .f32) (harg5 : arg5.IsWhole) (arg6 : Memref sig .tc .vmem S3x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (h : Vec F S1024x2048 .bf16) (E : Set ℕ) (K : PUnit → sProp 𝕄)
    (hc0 : ¬starts i) (hc1 : ¬k0_cond2 i = 1#1) (hc2 : ¬k0_cond3 i = 1#1) (hc3 : ¬k0_cond4 i = 1#1) (hc4 : k0_cond5 i = 1#1) :
    iprop(owns (c : Thread nD τ) arg4 fullShare w ∗ owns (c : Thread nD τ) arg11 fullShare h ∗ (∃ d, owns (c : Thread nD τ) arg10 fullShare d)
        ∗ (iprop(owns (c : Thread nD τ) arg4 fullShare w ∗ owns (c : Thread nD τ) arg11 fullShare h ∗ owns (c : Thread nD τ) arg10 fullShare (k0_pay5 h w)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f4, %hf4, H4⟩, ⟨%f11, %hf11, H11⟩, ⟨%d10, %f10, -, H10⟩, Hk⟩
  obtain rfl := harg4.eq_unread hf4; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H11]
  · iexists _; isplitr; · ipureintro; exact harg11.read_unread _
    iexact H11
  iexists _; isplitr; swap; · iexact H10
  ipureintro
  refine (Cert.WholeBlock.stored arg10.view zero2 _ _ _ _).trans ?_
  exact congrArg₂ k0_pay5 (scratch arg11 harg11 h) (weights arg4 harg4 w)

set_option maxHeartbeats 2000000 in
/-- A POINT OF KEYS stores the rotated heads of the product. -/
theorem run_keys (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S3x1024x128 .f32) (harg5 : arg5.IsWhole) (arg6 : Memref sig .tc .vmem S3x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (tab : Vec F S3x1024x128 .f32) (h : Vec F S1024x2048 .bf16) (E : Set ℕ) (K : PUnit → sProp 𝕄)
    (hc0 : ¬starts i) (hc1 : ¬k0_cond2 i = 1#1) (hc2 : k0_cond3 i = 1#1) (hc3 : ¬k0_cond4 i = 1#1) (hc4 : ¬k0_cond5 i = 1#1) :
    iprop(owns (c : Thread nD τ) arg4 fullShare w ∗ owns (c : Thread nD τ) arg6 fullShare tab ∗ owns (c : Thread nD τ) arg11 fullShare h ∗ (∃ d, owns (c : Thread nD τ) arg8 fullShare d)
        ∗ (iprop(owns (c : Thread nD τ) arg4 fullShare w ∗ owns (c : Thread nD τ) arg6 fullShare tab ∗ owns (c : Thread nD τ) arg11 fullShare h ∗ owns (c : Thread nD τ) arg8 fullShare (roped (k0_pay2 h w) tab)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f4, %hf4, H4⟩, ⟨%f6, %hf6, H6⟩, ⟨%f11, %hf11, H11⟩, ⟨%d8, %f8, -, H8⟩, Hk⟩
  obtain rfl := harg4.eq_unread hf4; obtain rfl := harg6.eq_unread hf6; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H6]
  · iexists _; isplitr; · ipureintro; exact harg6.read_unread _
    iexact H6
  isplitl [H11]
  · iexists _; isplitr; · ipureintro; exact harg11.read_unread _
    iexact H11
  iexists _; isplitr; swap; · iexact H8
  ipureintro
  refine (Cert.WholeBlock.stored arg8.view zero2 _ _ _ _).trans ?_
  delta run_keys.sl.r_5 run_keys.sl.r_6 run_keys.sl.r_7 run_keys.sl.r_8 run_keys.sl.r_4 run_keys.sl.r run_keys.sl.r_1 run_keys.sl.r_2 run_keys.sl.r_3 run_keys.sl.cst_50
  simp only [weights, scratch, loads_plane0, loads_plane1, loads_plane2]
  rfl

set_option maxHeartbeats 2000000 in
/-- A POINT OF QUERIES, other than a row's first, stores the rotated heads of the product. -/
theorem run_queries (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S3x1024x128 .f32) (harg5 : arg5.IsWhole) (arg6 : Memref sig .tc .vmem S3x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (w : Vec F S2048x512 .bf16) (tab : Vec F S3x1024x128 .f32) (h : Vec F S1024x2048 .bf16) (E : Set ℕ) (K : PUnit → sProp 𝕄)
    (hc0 : ¬starts i) (hc1 : k0_cond2 i = 1#1) (hc2 : ¬k0_cond3 i = 1#1) (hc3 : ¬k0_cond4 i = 1#1) (hc4 : ¬k0_cond5 i = 1#1) :
    iprop(owns (c : Thread nD τ) arg4 fullShare w ∗ owns (c : Thread nD τ) arg5 fullShare tab ∗ owns (c : Thread nD τ) arg11 fullShare h ∗ (∃ d, owns (c : Thread nD τ) arg7 fullShare d)
        ∗ (iprop(owns (c : Thread nD τ) arg4 fullShare w ∗ owns (c : Thread nD τ) arg5 fullShare tab ∗ owns (c : Thread nD τ) arg11 fullShare h ∗ owns (c : Thread nD τ) arg7 fullShare (roped (k0_pay2 h w) tab)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f4, %hf4, H4⟩, ⟨%f5, %hf5, H5⟩, ⟨%f11, %hf11, H11⟩, ⟨%d7, %f7, -, H7⟩, Hk⟩
  obtain rfl := harg4.eq_unread hf4; obtain rfl := harg5.eq_unread hf5; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H5]
  · iexists _; isplitr; · ipureintro; exact harg5.read_unread _
    iexact H5
  isplitl [H11]
  · iexists _; isplitr; · ipureintro; exact harg11.read_unread _
    iexact H11
  iexists _; isplitr; swap; · iexact H7
  ipureintro
  refine (Cert.WholeBlock.stored arg7.view zero2 _ _ _ _).trans ?_
  delta run_queries.sl.r_5 run_queries.sl.r_6 run_queries.sl.r_7 run_queries.sl.r_8 run_queries.sl.r_4 run_queries.sl.r run_queries.sl.r_1 run_queries.sl.r_2 run_queries.sl.r_3 run_queries.sl.cst_50
  simp only [weights, scratch, loads_plane0, loads_plane1, loads_plane2]
  rfl

set_option maxHeartbeats 2000000 in
/-- A ROW'S FIRST POINT normalizes the row's tokens into the scratch buffer and stores the first queries. -/
theorem run_first (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S3x1024x128 .f32) (harg5 : arg5.IsWhole) (arg6 : Memref sig .tc .vmem S3x1024x128 .f32) (harg6 : arg6.IsWhole)
    (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x2048 .bf16) (harg11 : arg11.IsWhole)
    (x : Vec F S1024x2048 .f32) (g : Vec F S1x2048 .f32) (w : Vec F S2048x512 .bf16) (tab : Vec F S3x1024x128 .f32) (E : Set ℕ) (K : PUnit → sProp 𝕄)
    (hc0 : starts i) (hc1 : k0_cond2 i = 1#1) (hc2 : ¬k0_cond3 i = 1#1) (hc3 : ¬k0_cond4 i = 1#1) (hc4 : ¬k0_cond5 i = 1#1) :
    iprop(owns (c : Thread nD τ) arg2 fullShare x ∗ owns (c : Thread nD τ) arg3 fullShare g ∗ owns (c : Thread nD τ) arg4 fullShare w ∗ owns (c : Thread nD τ) arg5 fullShare tab ∗ (∃ d, owns (c : Thread nD τ) arg11 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w ∗ owns (c : Thread nD τ) arg5 fullShare tab ∗ owns (c : Thread nD τ) arg11 fullShare (k0_pay1 x g) ∗ owns (c : Thread nD τ) arg7 fullShare (roped (k0_pay2 (k0_pay1 x g) w) tab)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%d11, %f11, -, H11⟩, ⟨%d7, %f7, -, H7⟩, Hk⟩
  obtain rfl := harg2.eq_unread hf2; obtain rfl := harg3.eq_unread hf3; obtain rfl := harg4.eq_unread hf4; obtain rfl := harg5.eq_unread hf5
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr; swap; · iexact H11
    ipureintro
    delta run_first.sl.H11_1
    refine (Cert.WholeBlock.stored arg11.view zero2 _ _ _ _).trans ?_
    exact congrArg₂ k0_pay1 (tokens arg2 harg2 x) (gain arg3 harg3 g)
  iexists _; isplitr; swap; · iexact H7
  ipureintro
  refine (Cert.WholeBlock.stored arg7.view zero2 _ _ _ _).trans ?_
  delta run_first.sl.r_5 run_first.sl.r_6 run_first.sl.r_7 run_first.sl.r_8 run_first.sl.r_4 run_first.sl.r run_first.sl.r_1 run_first.sl.r_2 run_first.sl.r_3 run_first.sl.cst_50 run_first.sl.v3
  delta run_first.sl.H11_1
  simp only [weights, tokens, gain, reloaded, loads_plane0, loads_plane1, loads_plane2]
  rfl

end Cert.LayerAIdeal.Body

end
-- ==== Proof.LayerAFrame.lean ====
/-
  The layer's in-projection call: its run over its grid, with what each of its four output windows and its scratch buffer
  hold at every grid point, for any contents the call finds in its arrays.
-/
module

public import proofs.«01_k».proof.Proof.LayerARuns
public import proofs.«01_k».proof.Proof.Gen.LayerAIdeal.Launch
public import proofs.«01_k».proof.Proof.Carried
public import Idealize.ShloMosaic.Lib.Pipeline.Frame
public import Idealize.ShloMosaic.Lib.Claim

@[expose] public section

set_option maxRecDepth 16384

noncomputable section

namespace Cert.LayerAIdeal.Body

open Cert.LayerAIdeal Cert.LayerAIdeal.Gen
open Cert.ProjAIdeal.Body (roped)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- A window's block at a point, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Which branch a grid point takes -/

theorem starts_iff : ∀ t : Fin cfg0.N, starts (grid0.coords t) ↔ t.val % 10 = 0 :=
  (by decide +kernel : ∀ t : Fin grid0.N, starts (grid0.coords t) ↔ t.val % 10 = 0)

theorem queries_iff : ∀ t : Fin cfg0.N, k0_cond2 (grid0.coords t) = 1#1 ↔ t.val % 10 ≤ 3 :=
  (by decide +kernel : ∀ t : Fin grid0.N, k0_cond2 (grid0.coords t) = 1#1 ↔ t.val % 10 ≤ 3)

theorem keys_iff : ∀ t : Fin cfg0.N, k0_cond3 (grid0.coords t) = 1#1 ↔ (4 ≤ t.val % 10 ∧ t.val % 10 ≤ 4) :=
  (by decide +kernel : ∀ t : Fin grid0.N, k0_cond3 (grid0.coords t) = 1#1 ↔ (4 ≤ t.val % 10 ∧ t.val % 10 ≤ 4))

theorem values_iff : ∀ t : Fin cfg0.N, k0_cond4 (grid0.coords t) = 1#1 ↔ (5 ≤ t.val % 10 ∧ t.val % 10 ≤ 5) :=
  (by decide +kernel : ∀ t : Fin grid0.N, k0_cond4 (grid0.coords t) = 1#1 ↔ (5 ≤ t.val % 10 ∧ t.val % 10 ≤ 5))

theorem gates_iff : ∀ t : Fin cfg0.N, k0_cond5 (grid0.coords t) = 1#1 ↔ 6 ≤ t.val % 10 :=
  (by decide +kernel : ∀ t : Fin grid0.N, k0_cond5 (grid0.coords t) = 1#1 ↔ 6 ≤ t.val % 10)

/-! ## Where each output window is left alone, and where its buffer has been stored into since the last write-back -/

theorem idle5 : ∀ t : Fin cfg0.N, cfg0.idle 5 (grid0.coords t) = decide (4 ≤ t.val % 10) :=
  (by decide +kernel : ∀ t : Fin grid0.N, cfg0.idle 5 (grid0.coords t) = decide (4 ≤ t.val % 10))

theorem idle6 : ∀ t : Fin cfg0.N, cfg0.idle 6 (grid0.coords t) = decide (t.val % 10 < 4 ∨ 5 ≤ t.val % 10) :=
  (by decide +kernel : ∀ t : Fin grid0.N, cfg0.idle 6 (grid0.coords t) = decide (t.val % 10 < 4 ∨ 5 ≤ t.val % 10))

theorem idle7 : ∀ t : Fin cfg0.N, cfg0.idle 7 (grid0.coords t) = decide (t.val % 10 < 5 ∨ 6 ≤ t.val % 10) :=
  (by decide +kernel : ∀ t : Fin grid0.N, cfg0.idle 7 (grid0.coords t) = decide (t.val % 10 < 5 ∨ 6 ≤ t.val % 10))

theorem idle8 : ∀ t : Fin cfg0.N, cfg0.idle 8 (grid0.coords t) = decide (t.val % 10 < 6) :=
  (by decide +kernel : ∀ t : Fin grid0.N, cfg0.idle 8 (grid0.coords t) = decide (t.val % 10 < 6))

theorem fresh5 (t : Fin cfg0.N) : cfg0.fresh 5 t.val = decide (t.val % 10 ≤ 3) :=
  Cfg.fresh_tab cfg0 5 (fun n => decide (n % 10 ≤ 3)) rfl
    (by decide +kernel : ∀ t : Fin cfg0.N, decide ((t.val + 1) % 10 ≤ 3) = ((cfg0.win 5).flush t || (cfg0.idle 5 (cfg0.grid.coords t) && decide (t.val % 10 ≤ 3))))
    t.val t.isLt.le

theorem fresh6 (t : Fin cfg0.N) : cfg0.fresh 6 t.val = decide (t.val % 10 ≤ 4) :=
  Cfg.fresh_tab cfg0 6 (fun n => decide (n % 10 ≤ 4)) rfl
    (by decide +kernel : ∀ t : Fin cfg0.N, decide ((t.val + 1) % 10 ≤ 4) = ((cfg0.win 6).flush t || (cfg0.idle 6 (cfg0.grid.coords t) && decide (t.val % 10 ≤ 4))))
    t.val t.isLt.le

theorem fresh7 (t : Fin cfg0.N) : cfg0.fresh 7 t.val = decide (t.val % 10 ≤ 5) :=
  Cfg.fresh_tab cfg0 7 (fun n => decide (n % 10 ≤ 5)) rfl
    (by decide +kernel : ∀ t : Fin cfg0.N, decide ((t.val + 1) % 10 ≤ 5) = ((cfg0.win 7).flush t || (cfg0.idle 7 (cfg0.grid.coords t) && decide (t.val % 10 ≤ 5))))
    t.val t.isLt.le

theorem fresh8 (t : Fin cfg0.N) : cfg0.fresh 8 t.val = true :=
  Cfg.fresh_tab cfg0 8 (fun _ => true) rfl
    (by decide +kernel : ∀ t : Fin cfg0.N, true = ((cfg0.win 8).flush t || (cfg0.idle 8 (cfg0.grid.coords t) && true)))
    t.val t.isLt.le

/-- An idle point that writes a window back is a row's last. -/
theorem flush5 : ∀ t : Fin cfg0.N, (cfg0.win 5).flush t = true → t.val % 10 ≤ 2 ∨ t.val % 10 = 9 :=
  (by decide +kernel : ∀ t : Fin grid0.N, (cfg0.win 5).flush t = true → t.val % 10 ≤ 2 ∨ t.val % 10 = 9)

theorem flush6 : ∀ t : Fin cfg0.N, (cfg0.win 6).flush t = true → t.val % 10 = 9 :=
  (by decide +kernel : ∀ t : Fin grid0.N, (cfg0.win 6).flush t = true → t.val % 10 = 9)

theorem flush7 : ∀ t : Fin cfg0.N, (cfg0.win 7).flush t = true → t.val % 10 = 9 :=
  (by decide +kernel : ∀ t : Fin grid0.N, (cfg0.win 7).flush t = true → t.val % 10 = 9)

theorem flush8 : ∀ t : Fin cfg0.N, (cfg0.win 8).flush t = true → 6 ≤ t.val % 10 :=
  (by decide +kernel : ∀ t : Fin grid0.N, (cfg0.win 8).flush t = true → 6 ≤ t.val % 10)

/-! ## The pipeline's proof data -/

/-- The first point of the row of the grid a point lies in. -/
def rowStart (n : ℕ) : Fin cfg0.N := ⟨(n / 10 * 10) % 320, lt_of_lt_of_eq (Nat.mod_lt _ (by decide)) N_0.symm⟩

/-- The point of a point's row whose column block is the nearest between two bounds. -/
def column (lo hi : ℕ) (h : lo ≤ hi) (hh : hi < 10) (t : Fin cfg0.N) : Fin cfg0.N :=
  ⟨t.val / 10 * 10 + max lo (min hi (t.val % 10)), by
    have ht : t.val < 320 := lt_of_lt_of_eq t.isLt N_0
    exact lt_of_lt_of_eq (by omega : _ < 320) N_0.symm⟩

/-- The normalized tokens of a point's row. -/
def normed (c : Dev nD) (n : ℕ) : Vec F S1024x2048 .bf16 := k0_pay1 (iblk V c 0 (rowStart n)) (iblk V c 1 (rowStart n))

/-- The queries' block a point stores. -/
def qblock (c : Dev nD) (t : Fin cfg0.N) : Vec F S1024x512 .bf16 := roped (k0_pay2 (normed V c t.val) (iblk V c 2 t)) (iblk V c 3 t)

/-- The keys' block a point stores. -/
def kblock (c : Dev nD) (t : Fin cfg0.N) : Vec F S1024x512 .bf16 := roped (k0_pay2 (normed V c t.val) (iblk V c 2 t)) (iblk V c 4 t)

/-- The values' block, or the gates', a point stores. -/
def vblock (c : Dev nD) (t : Fin cfg0.N) : Vec F S1024x512 .bf16 := k0_pay5 (normed V c t.val) (iblk V c 2 t)

/-- A buffer of the later calls, at any contents. -/
def anyAt (c : Dev nD) (r : Ref sig .tc) : sProp 𝕄 := iprop(∃ f : Buf (Elt F) ((c : Thread nD τ).loc r), ((c : Thread nD τ).loc r) ↦{fullShare} f)

/-- The later calls' buffers, which this one does not touch. -/
def others (c : Dev nD) : sProp 𝕄 :=
  iprop(anyAt c cc1_stg0_0 ∗ anyAt c cc1_stg0_1 ∗ anyAt c cc1_stg1_0 ∗ anyAt c cc1_stg1_1 ∗ anyAt c cc1_stg2_0 ∗ anyAt c cc1_stg2_1 ∗ anyAt c cc1_stg3_0 ∗ anyAt c cc1_stg3_1 ∗ anyAt c cc1_scratch0 ∗ anyAt c cc1_scratch1 ∗ anyAt c cc1_scratch2 ∗ anyAt c cc2_stg0_0 ∗ anyAt c cc2_stg0_1 ∗ anyAt c cc2_stg1_0 ∗ anyAt c cc2_stg1_1 ∗ anyAt c cc2_stg2_0 ∗ anyAt c cc2_stg3_0 ∗ anyAt c cc2_stg3_1 ∗ anyAt c cc2_stg4_0 ∗ anyAt c cc2_stg4_1)

/-- Between points: the scratch buffer, which away from a row's start holds the row's normalized tokens, and the generator's
    register beside the later calls' buffers. -/
def between (c : Dev nD) (n : ℕ) : sProp 𝕄 :=
  iprop((∃ d : Vec F S1024x2048 .bf16, ⌜n % 10 ≠ 0 → d = normed V c n⌝ ∗ owns (c : Thread nD τ) (Memref.whole cc0_scratch0) fullShare d)
    ∗ (others c ∗ (∃ r, prngReg c r)))

/-- The proof data: the arrays as the region finds them; after each point an input's buffer at its block, and each output's
    at the block its row's nearest point of the kind stores. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => qblock V c (column 0 3 (by decide) (by decide) t)
    | ⟨6, _⟩ => kblock V c (column 4 4 (by decide) (by decide) t)
    | ⟨7, _⟩ => vblock V c (column 5 5 (by decide) (by decide) t)
    | ⟨8, _⟩ => vblock V c (column 6 9 (by decide) (by decide) t)
  Φ k := between V c k.val
  q _ := fullShare
  owed _ := 0

theorem A_eq (c : Dev nD) (w : Fin cfg0.W) : (dat0 V c).A w = V c (Pipeline.arrRef spec0 w) := by dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = qblock V c (column 0 3 (by decide) (by decide) t) := by dsimp only [dat0]
theorem after0_6 (c : Dev nD) (t : Fin cfg0.N) : (dat0 V c).after 6 t = kblock V c (column 4 4 (by decide) (by decide) t) := by dsimp only [dat0]
theorem after0_7 (c : Dev nD) (t : Fin cfg0.N) : (dat0 V c).after 7 t = vblock V c (column 5 5 (by decide) (by decide) t) := by dsimp only [dat0]
theorem after0_8 (c : Dev nD) (t : Fin cfg0.N) : (dat0 V c).after 8 t = vblock V c (column 6 9 (by decide) (by decide) t) := by dsimp only [dat0]

/-- The nearest column block does not move where a point lies beyond the bounds, as the point before it does or ends them. -/
theorem column_pred (lo hi : ℕ) (h : lo ≤ hi) (hh : hi < 10) (t : Fin cfg0.N) (ht : t.val ≠ 0) (hb : hi < t.val % 10) :
    column lo hi h hh t = column lo hi h hh ⟨t.val - 1, by omega⟩ := by
  refine Fin.ext ?_
  show t.val / 10 * 10 + max lo (min hi (t.val % 10)) = (t.val - 1) / 10 * 10 + max lo (min hi ((t.val - 1) % 10))
  omega

/-- Between the bounds it is the point itself. -/
theorem column_self (lo hi : ℕ) (h : lo ≤ hi) (hh : hi < 10) (t : Fin cfg0.N) (h1 : lo ≤ t.val % 10) (h2 : t.val % 10 ≤ hi) :
    column lo hi h hh t = t := by
  refine Fin.ext ?_
  show t.val / 10 * 10 + max lo (min hi (t.val % 10)) = t.val
  omega

section Windows

variable (c : Dev nD) (t : Fin cfg0.N)

/-- Where the body leaves the queries' window alone, its buffer keeps what it held. -/
theorem kept5 (h : 4 ≤ t.val % 10) :
    (iprop(∃ d, owns (c : Thread nD τ) ((cfg0.win 5).stage (cfg0.slots t 5)) fullShare ((dat0 V c).before 5 t d))) ⊢ (dat0 V c).leavesExact 5 t :=
  Cert.Carried.kept (dat0 V c) 5 rfl (fun _ _ => rfl)
    (fun s hs hi _ => by
      rw [idle5, decide_eq_true_eq] at hi
      rw [after0_5, after0_5, column_pred 0 3 _ _ s hs (by omega)])
    t ((idle5 t).trans (decide_eq_true h)) fun _ => (fresh5 t).trans (decide_eq_false (by omega))

/-- The same of the keys' window. -/
theorem kept6 (h : t.val % 10 < 4 ∨ 5 ≤ t.val % 10) :
    (iprop(∃ d, owns (c : Thread nD τ) ((cfg0.win 6).stage (cfg0.slots t 6)) fullShare ((dat0 V c).before 6 t d))) ⊢ (dat0 V c).leavesExact 6 t :=
  Cert.Carried.kept (dat0 V c) 6 rfl (fun _ _ => rfl)
    (fun s hs _ hf => by
      rw [fresh6, decide_eq_false_iff_not] at hf
      rw [after0_6, after0_6, column_pred 4 4 _ _ s hs (by omega)])
    t ((idle6 t).trans (decide_eq_true h)) fun hf => (fresh6 t).trans (decide_eq_false (by have := flush6 t hf; omega))

/-- The same of the values' window. -/
theorem kept7 (h : t.val % 10 < 5 ∨ 6 ≤ t.val % 10) :
    (iprop(∃ d, owns (c : Thread nD τ) ((cfg0.win 7).stage (cfg0.slots t 7)) fullShare ((dat0 V c).before 7 t d))) ⊢ (dat0 V c).leavesExact 7 t :=
  Cert.Carried.kept (dat0 V c) 7 rfl (fun _ _ => rfl)
    (fun s hs _ hf => by
      rw [fresh7, decide_eq_false_iff_not] at hf
      rw [after0_7, after0_7, column_pred 5 5 _ _ s hs (by omega)])
    t ((idle7 t).trans (decide_eq_true h)) fun hf => (fresh7 t).trans (decide_eq_false (by have := flush7 t hf; omega))

/-- The same of the gates' window. -/
theorem kept8 (h : t.val % 10 < 6) :
    (iprop(∃ d, owns (c : Thread nD τ) ((cfg0.win 8).stage (cfg0.slots t 8)) fullShare ((dat0 V c).before 8 t d))) ⊢ (dat0 V c).leavesExact 8 t :=
  Cert.Carried.kept (dat0 V c) 8 rfl (fun _ _ => rfl)
    (fun s _ _ hf => by rw [fresh8] at hf; exact Bool.noConfusion hf)
    t ((idle8 t).trans (decide_eq_true h)) fun hf => absurd (flush8 t hf) (by omega)

/-- Where it stores the queries, the buffer holds the point's block. -/
theorem live5 (h : t.val % 10 ≤ 3) :
    (dat0 V c).leavesExact 5 t = owns (c : Thread nD τ) ((cfg0.win 5).stage (cfg0.slots t 5)) fullShare (qblock V c t) := by
  rw [Cert.Carried.live (dat0 V c) 5 t ((idle5 t).trans (decide_eq_false (by omega))), after0_5, column_self 0 3 _ _ t (by omega) (by omega)]

/-- Where it stores the keys. -/
theorem live6 (h : 4 ≤ t.val % 10 ∧ t.val % 10 ≤ 4) :
    (dat0 V c).leavesExact 6 t = owns (c : Thread nD τ) ((cfg0.win 6).stage (cfg0.slots t 6)) fullShare (kblock V c t) := by
  rw [Cert.Carried.live (dat0 V c) 6 t ((idle6 t).trans (decide_eq_false (by omega))), after0_6, column_self 4 4 _ _ t (by omega) (by omega)]

/-- Where it stores the values. -/
theorem live7 (h : 5 ≤ t.val % 10 ∧ t.val % 10 ≤ 5) :
    (dat0 V c).leavesExact 7 t = owns (c : Thread nD τ) ((cfg0.win 7).stage (cfg0.slots t 7)) fullShare (vblock V c t) := by
  rw [Cert.Carried.live (dat0 V c) 7 t ((idle7 t).trans (decide_eq_false (by omega))), after0_7, column_self 5 5 _ _ t (by omega) (by omega)]

/-- Where it stores the gates. -/
theorem live8 (h : 6 ≤ t.val % 10) :
    (dat0 V c).leavesExact 8 t = owns (c : Thread nD τ) ((cfg0.win 8).stage (cfg0.slots t 8)) fullShare (vblock V c t) := by
  rw [Cert.Carried.live (dat0 V c) 8 t ((idle8 t).trans (decide_eq_false (by omega))), after0_8, column_self 6 9 _ _ t (by omega) (by omega)]

end Windows

/-! ## The body at a grid point -/

/-- Each input's buffer holds its block at every point. -/
theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d

/-- The body leaves each input's buffer at its block. -/
theorem leaves0 (c : Dev nD) (t : Fin cfg0.N) : (dat0 V c).leavesExact 0 t = owns (c : Thread nD τ) ((cfg0.win 0).stage (cfg0.slots t 0)) fullShare (iblk V c 0 t) :=
  (Cert.Carried.live (dat0 V c) 0 t rfl).trans (by rw [after0_0])
theorem leaves1 (c : Dev nD) (t : Fin cfg0.N) : (dat0 V c).leavesExact 1 t = owns (c : Thread nD τ) ((cfg0.win 1).stage (cfg0.slots t 1)) fullShare (iblk V c 1 t) :=
  (Cert.Carried.live (dat0 V c) 1 t rfl).trans (by rw [after0_1])
theorem leaves2 (c : Dev nD) (t : Fin cfg0.N) : (dat0 V c).leavesExact 2 t = owns (c : Thread nD τ) ((cfg0.win 2).stage (cfg0.slots t 2)) fullShare (iblk V c 2 t) :=
  (Cert.Carried.live (dat0 V c) 2 t rfl).trans (by rw [after0_2])
theorem leaves3 (c : Dev nD) (t : Fin cfg0.N) : (dat0 V c).leavesExact 3 t = owns (c : Thread nD τ) ((cfg0.win 3).stage (cfg0.slots t 3)) fullShare (iblk V c 3 t) :=
  (Cert.Carried.live (dat0 V c) 3 t rfl).trans (by rw [after0_3])
theorem leaves4 (c : Dev nD) (t : Fin cfg0.N) : (dat0 V c).leavesExact 4 t = owns (c : Thread nD τ) ((cfg0.win 4).stage (cfg0.slots t 4)) fullShare (iblk V c 4 t) :=
  (Cert.Carried.live (dat0 V c) 4 t rfl).trans (by rw [after0_4])

/-- The row's tokens do not move within the row. -/
theorem normed_succ (c : Dev nD) (n : ℕ) (h : (n + 1) % 10 ≠ 0) : normed V c (n + 1) = normed V c n := by
  have e : rowStart (n + 1) = rowStart n :=
    Fin.ext (show (n + 1) / 10 * 10 % 320 = n / 10 * 10 % 320 by rw [show (n + 1) / 10 = n / 10 by omega])
  unfold normed; rw [e]

/-- At a row's start they are the point's own. -/
theorem normed_start (c : Dev nD) (t : Fin cfg0.N) (h : t.val % 10 = 0) : normed V c t.val = k0_pay1 (iblk V c 0 t) (iblk V c 1 t) := by
  have ht : t.val < 320 := lt_of_lt_of_eq t.isLt N_0
  have e : rowStart t.val = t := Fin.ext (by show t.val / 10 * 10 % 320 = t.val; omega)
  unfold normed; rw [e]

/-- What the body is called with at a point, the windows one by one, -/
def bodyPre (c : Dev nD) (t : Fin cfg0.N) : sProp 𝕄 :=
  iprop(between V c t.val ∗ (dat0 V c).owesAt () t.castSucc
    ∗ (∃ d, owns (c : Thread nD τ) ((cfg0.win 0).stage (cfg0.slots t 0)) fullShare ((dat0 V c).before 0 t d))
    ∗ (∃ d, owns (c : Thread nD τ) ((cfg0.win 1).stage (cfg0.slots t 1)) fullShare ((dat0 V c).before 1 t d))
    ∗ (∃ d, owns (c : Thread nD τ) ((cfg0.win 2).stage (cfg0.slots t 2)) fullShare ((dat0 V c).before 2 t d))
    ∗ (∃ d, owns (c : Thread nD τ) ((cfg0.win 3).stage (cfg0.slots t 3)) fullShare ((dat0 V c).before 3 t d))
    ∗ (∃ d, owns (c : Thread nD τ) ((cfg0.win 4).stage (cfg0.slots t 4)) fullShare ((dat0 V c).before 4 t d))
    ∗ (∃ d, owns (c : Thread nD τ) ((cfg0.win 5).stage (cfg0.slots t 5)) fullShare ((dat0 V c).before 5 t d))
    ∗ (∃ d, owns (c : Thread nD τ) ((cfg0.win 6).stage (cfg0.slots t 6)) fullShare ((dat0 V c).before 6 t d))
    ∗ (∃ d, owns (c : Thread nD τ) ((cfg0.win 7).stage (cfg0.slots t 7)) fullShare ((dat0 V c).before 7 t d))
    ∗ (∃ d, owns (c : Thread nD τ) ((cfg0.win 8).stage (cfg0.slots t 8)) fullShare ((dat0 V c).before 8 t d)))

/-- and what it returns. -/
def bodyPost (c : Dev nD) (t : Fin cfg0.N) : sProp 𝕄 :=
  iprop(between V c (t.val + 1) ∗ (dat0 V c).owesAt () t.castSucc
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t)

set_option maxHeartbeats 1000000 in
/-- THE BODY AT A ROW'S FIRST POINT. -/
theorem body_first (c : Dev nD) (t : Fin cfg0.N) (ht : t.val % 10 = 0) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [leaves0, leaves1, leaves2, leaves3, leaves4, live5 V c t (by omega), qblock, normed_start V c t ht]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  iapply (run_first c (grid0.coords t) _ _ _ _ _ _ _ _ _ _ _ _ _ _ _ _ _ _ _ _ (iblk V c 0 t) (iblk V c 1 t) (iblk V c 2 t) (iblk V c 3 t) Set.univ _ ((starts_iff t).mpr (by omega)) ((queries_iff t).mpr (by omega)) (fun h => absurd ((keys_iff t).mp h) (by omega)) (fun h => absurd ((values_iff t).mp h) (by omega)) (fun h => absurd ((gates_iff t).mp h) (by omega)))
  isplitl [H0]; · iexact H0
  isplitl [H1]; · iexact H1
  isplitl [H2]; · iexact H2
  isplitl [H3]; · iexact H3
  isplitl [HS]; · iexists _; iexact HS
  isplitl [H5]; · icases H5 with ⟨%d5, H5⟩; iexists _; iexact H5
  iintro ⟨H0, H1, H2, H3, HS, H5⟩
  isplitl [HS Hg]
  · isplitl [HS]
    · iexists _; isplitr; swap; · iexact HS
      ipureintro; intro h
      exact (normed_start V c t ht).symm.trans (normed_succ V c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · iapply (kept6 V c t (by omega)); iexact H6
  isplitl [H7]
  · iapply (kept7 V c t (by omega)); iexact H7
  iapply (kept8 V c t (by omega)); iexact H8

set_option maxHeartbeats 1000000 in
/-- THE BODY AT ANOTHER POINT OF QUERIES. -/
theorem body_queries (c : Dev nD) (t : Fin cfg0.N) (h0 : t.val % 10 ≠ 0) (ht : t.val % 10 ≤ 3) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [leaves0, leaves1, leaves2, leaves3, leaves4, live5 V c t ht, qblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_queries c (grid0.coords t) _ _ _ _ _ _ _ _ _ _ _ _ _ _ _ _ _ _ _ _ (iblk V c 2 t) (iblk V c 3 t) (normed V c t.val) Set.univ _ (fun h => absurd ((starts_iff t).mp h) (by omega)) ((queries_iff t).mpr (by omega)) (fun h => absurd ((keys_iff t).mp h) (by omega)) (fun h => absurd ((values_iff t).mp h) (by omega)) (fun h => absurd ((gates_iff t).mp h) (by omega)))
  isplitl [H2]; · iexact H2
  isplitl [H3]; · iexact H3
  isplitl [HS]; · iexact HS
  isplitl [H5]; · icases H5 with ⟨%d5, H5⟩; iexists _; iexact H5
  iintro ⟨H2, H3, HS, H5⟩
  isplitl [HS Hg]
  · isplitl [HS]
    · iexists _; isplitr; swap; · iexact HS
      ipureintro; intro h
      exact (normed_succ V c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · iapply (kept6 V c t (by omega)); iexact H6
  isplitl [H7]
  · iapply (kept7 V c t (by omega)); iexact H7
  iapply (kept8 V c t (by omega)); iexact H8

set_option maxHeartbeats 1000000 in
/-- THE BODY AT A POINT OF KEYS. -/
theorem body_keys (c : Dev nD) (t : Fin cfg0.N) (ht : 4 ≤ t.val % 10 ∧ t.val % 10 ≤ 4) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [leaves0, leaves1, leaves2, leaves3, leaves4, live6 V c t ht, kblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_keys c (grid0.coords t) _ _ _ _ _ _ _ _ _ _ _ _ _ _ _ _ _ _ _ _ (iblk V c 2 t) (iblk V c 4 t) (normed V c t.val) Set.univ _ (fun h => absurd ((starts_iff t).mp h) (by omega)) (fun h => absurd ((queries_iff t).mp h) (by omega)) ((keys_iff t).mpr (by omega)) (fun h => absurd ((values_iff t).mp h) (by omega)) (fun h => absurd ((gates_iff t).mp h) (by omega)))
  isplitl [H2]; · iexact H2
  isplitl [H4]; · iexact H4
  isplitl [HS]; · iexact HS
  isplitl [H6]; · icases H6 with ⟨%d6, H6⟩; iexists _; iexact H6
  iintro ⟨H2, H4, HS, H6⟩
  isplitl [HS Hg]
  · isplitl [HS]
    · iexists _; isplitr; swap; · iexact HS
      ipureintro; intro h
      exact (normed_succ V c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 V c t (by omega)); iexact H5
  isplitl [H6]
  · iexact H6
  isplitl [H7]
  · iapply (kept7 V c t (by omega)); iexact H7
  iapply (kept8 V c t (by omega)); iexact H8

set_option maxHeartbeats 1000000 in
/-- THE BODY AT A POINT OF VALUES. -/
theorem body_values (c : Dev nD) (t : Fin cfg0.N) (ht : 5 ≤ t.val % 10 ∧ t.val % 10 ≤ 5) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [leaves0, leaves1, leaves2, leaves3, leaves4, live7 V c t ht, vblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_values c (grid0.coords t) _ _ _ _ _ _ _ _ _ _ _ _ _ _ _ _ _ _ _ _ (iblk V c 2 t) (normed V c t.val) Set.univ _ (fun h => absurd ((starts_iff t).mp h) (by omega)) (fun h => absurd ((queries_iff t).mp h) (by omega)) (fun h => absurd ((keys_iff t).mp h) (by omega)) ((values_iff t).mpr (by omega)) (fun h => absurd ((gates_iff t).mp h) (by omega)))
  isplitl [H2]; · iexact H2
  isplitl [HS]; · iexact HS
  isplitl [H7]; · icases H7 with ⟨%d7, H7⟩; iexists _; iexact H7
  iintro ⟨H2, HS, H7⟩
  isplitl [HS Hg]
  · isplitl [HS]
    · iexists _; isplitr; swap; · iexact HS
      ipureintro; intro h
      exact (normed_succ V c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 V c t (by omega)); iexact H5
  isplitl [H6]
  · iapply (kept6 V c t (by omega)); iexact H6
  isplitl [H7]
  · iexact H7
  iapply (kept8 V c t (by omega)); iexact H8

set_option maxHeartbeats 1000000 in
/-- THE BODY AT A POINT OF GATES. -/
theorem body_gates (c : Dev nD) (t : Fin cfg0.N) (ht : 6 ≤ t.val % 10) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [leaves0, leaves1, leaves2, leaves3, leaves4, live8 V c t ht, vblock]
  unfold between
  iintro ⟨⟨⟨%s, %hs, HS⟩, Hg⟩, Ho, ⟨%d0, H0⟩, ⟨%d1, H1⟩, ⟨%d2, H2⟩, ⟨%d3, H3⟩, ⟨%d4, H4⟩, H5, H6, H7, H8⟩
  obtain rfl := hs (by omega)
  iapply (run_gates c (grid0.coords t) _ _ _ _ _ _ _ _ _ _ _ _ _ _ _ _ _ _ _ _ (iblk V c 2 t) (normed V c t.val) Set.univ _ (fun h => absurd ((starts_iff t).mp h) (by omega)) (fun h => absurd ((queries_iff t).mp h) (by omega)) (fun h => absurd ((keys_iff t).mp h) (by omega)) (fun h => absurd ((values_iff t).mp h) (by omega)) ((gates_iff t).mpr (by omega)))
  isplitl [H2]; · iexact H2
  isplitl [HS]; · iexact HS
  isplitl [H8]; · icases H8 with ⟨%d8, H8⟩; iexists _; iexact H8
  iintro ⟨H2, HS, H8⟩
  isplitl [HS Hg]
  · isplitl [HS]
    · iexists _; isplitr; swap; · iexact HS
      ipureintro; intro h
      exact (normed_succ V c t.val h).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (kept5 V c t (by omega)); iexact H5
  isplitl [H6]
  · iapply (kept6 V c t (by omega)); iexact H6
  isplitl [H7]
  · iapply (kept7 V c t (by omega)); iexact H7
  iexact H8

/-- THE BODY AT ANY POINT. -/
theorem sound_body (c : Dev nD) (t : Fin cfg0.N) :
    bodyPre V c t ⊢ wp frame (wpE (defs₀ (F := F)) Variants.none c none) Set.univ (bodyAt0 t) (fun _ => bodyPost V c t) := by
  by_cases h0 : t.val % 10 = 0
  · exact body_first V c t h0
  by_cases h1 : t.val % 10 ≤ 3
  · exact body_queries V c t h0 h1
  by_cases h2 : t.val % 10 ≤ 4
  · exact body_keys V c t ⟨by omega, h2⟩
  by_cases h3 : t.val % 10 ≤ 5
  · exact body_values V c t ⟨by omega, h3⟩
  · exact body_gates V c t (by omega)

theorem defs₀_row (t : Fin cfg0.N) : defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

/-! ## Before the first point and after the last -/

/-- What a core holds beside its windows: the scratch buffer at some contents, and the later calls' buffers. -/
theorem rest_eq (c : Dev nD) :
    (Pipeline.scopedRest spec0 c : sProp 𝕄)
      = iprop((∃ d, owns (c : Thread nD τ) (Memref.whole cc0_scratch0) fullShare d) ∗ others c) := by
  rw [scopedRest0_eq]; unfold others anyAt; simp only [owns_whole]; try rfl

/-- Before the first point nothing is known of the scratch buffer, -/
theorem enters (c : Dev nD) : iprop(Pipeline.scopedRest spec0 c ∗ ∃ r, prngReg c r) ⊢ (dat0 V c).Φ 0 := by
  rw [rest_eq, show (dat0 V c).Φ 0 = between V c 0 from rfl]
  unfold between
  iintro ⟨⟨⟨%d, HS⟩, Ho⟩, Hg⟩
  isplitl [HS]
  · iexists d; isplitr; swap; · iexact HS
    ipureintro; intro h; exact absurd rfl h
  isplitl [Ho]; · iexact Ho
  iexact Hg

/-- and after the last it is forgotten. -/
theorem leaves (c : Dev nD) : (dat0 V c).Φ (Fin.last cfg0.N) ⊢ iprop(Pipeline.scopedRest spec0 c ∗ ∃ r, prngReg c r) := by
  rw [rest_eq, show (dat0 V c).Φ (Fin.last cfg0.N) = between V c (Fin.last cfg0.N).val from rfl]
  unfold between
  iintro ⟨⟨%d, -, HS⟩, Ho, Hg⟩
  isplitr [Hg]
  · isplitl [HS]; · iexists d; iexact HS
    iexact Ho
  iexact Hg

end Cert.LayerAIdeal.Body

end
-- ==== Proof.LayerACalls.lean ====
/-
  What each of the layer's three calls finds and leaves: each is entered on what the call and the reshapes before it left.
-/
module

public import proofs.«01_k».proof.Proof.LayerAFrame
public import proofs.«01_k».proof.Proof.Gen.Own.LayerAIdeal.RegionsD

@[expose] public section

set_option maxRecDepth 16384

noncomputable section

namespace Cert.LayerAIdeal.Body

open Cert.LayerAIdeal Cert.LayerAIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each call leaves -/

/-- What the in-projection finds in a buffer. -/
abbrev entry (c : Dev nD) (b : Ref sig .tc) : Buf (Elt F) ((c : Thread nD τ).loc b) := V9 m c (Proc.devRef .tc b)

/-- A core's buffers after the in-projection, -/
def left0 (c : Dev nD) : Valuation τ sig (Elt F) :=
  Function.update (Function.update (Function.update (Function.update (V9 m c)
    main_v133_0 ((dat0 (entry m) c).arrAt 5 cfg0.N)) main_v133_1 ((dat0 (entry m) c).arrAt 6 cfg0.N))
    main_v133_2 ((dat0 (entry m) c).arrAt 7 cfg0.N)) main_v133_3 ((dat0 (entry m) c).arrAt 8 cfg0.N)

/-- after the attention's three reshapes, -/
def found1 (c : Dev nD) : Valuation τ sig (Elt F) := StableHlo.after hostOps1 (left0 m c)

/-- the attention's proof data, -/
def dat1 (c : Dev nD) : Dat τ (Elt F) Unit ℕ (UR sig nD τ) ℕ cfg1 c :=
  Own.K1.dat Variants.none (fun c b => found1 m c (Proc.devRef .tc b)) (fun _ => 0) c

/-- after the attention, -/
def left1 (c : Dev nD) : Valuation τ sig (Elt F) := Function.update (found1 m c) main_v137 ((dat1 m c).arrAt 3 cfg1.N)

/-- after the out-projection's reshape, -/
def found2 (c : Dev nD) : Valuation τ sig (Elt F) := StableHlo.after hostOps2 (left1 m c)

/-- and the out-projection's proof data. -/
def dat2 (c : Dev nD) : Dat τ (Elt F) Unit ℕ (UR sig nD τ) ℕ cfg2 c :=
  Own.K2.dat Variants.none (fun c b => found2 m c (Proc.devRef .tc b)) (fun _ => 0) c

/-- A core's buffers after the out-projection. -/
def left2 (c : Dev nD) : Valuation τ sig (Elt F) := Function.update (found2 m c) main_v139 ((dat2 m c).arrAt 4 cfg2.N)

/-- What the calls leave in the buffers they write. -/
def outs : Outs (F := F) := fun n r c => match n with
  | 10 => left0 m c (Proc.devRef .tc r)
  | 12 => left1 m c (Proc.devRef .tc r)
  | _ => left2 m c (Proc.devRef .tc r)

/-- Two buffers of the core's are two buffers of the device's. -/
theorem apart {r r' : Ref sig .tc} (h : r ≠ r') : (Proc.devRef .tc r : DevRef τ sig) ≠ Proc.devRef .tc r' := StableHlo.devRef_ne_of_ne h

theorem left0_queries (c : Dev nD) : left0 m c (Proc.devRef .tc main_v133_0) = (dat0 (entry m) c).arrAt 5 cfg0.N := by
  rw [left0, Function.update_of_ne (apart (by decide : main_v133_0 ≠ main_v133_3)), Function.update_of_ne (apart (by decide : main_v133_0 ≠ main_v133_2)),
    Function.update_of_ne (apart (by decide : main_v133_0 ≠ main_v133_1)), Function.update_self]
theorem left0_keys (c : Dev nD) : left0 m c (Proc.devRef .tc main_v133_1) = (dat0 (entry m) c).arrAt 6 cfg0.N := by
  rw [left0, Function.update_of_ne (apart (by decide : main_v133_1 ≠ main_v133_3)), Function.update_of_ne (apart (by decide : main_v133_1 ≠ main_v133_2)),
    Function.update_self]
theorem left0_values (c : Dev nD) : left0 m c (Proc.devRef .tc main_v133_2) = (dat0 (entry m) c).arrAt 7 cfg0.N := by
  rw [left0, Function.update_of_ne (apart (by decide : main_v133_2 ≠ main_v133_3)), Function.update_self]
theorem left0_gates (c : Dev nD) : left0 m c (Proc.devRef .tc main_v133_3) = (dat0 (entry m) c).arrAt 8 cfg0.N := by
  rw [left0, Function.update_self]

theorem outs_first (r : Ref sig .tc) (c : Dev nD) : outs m 10 r c = left0 m c (Proc.devRef .tc r) := by rw [outs]
theorem outs_attended (c : Dev nD) : outs m 12 main_v137 c = (dat1 m c).arrAt 3 cfg1.N := by rw [outs, left1, Function.update_self]
theorem outs_projected (c : Dev nD) : outs m 14 main_v139 c = (dat2 m c).arrAt 4 cfg2.N := by
  rw [outs, left2, Function.update_self] <;> (intro h; cases h)

/-- The run's valuations are these. -/
theorem V10_eq (c : Dev nD) : V10 m (outs m) c = left0 m c := by
  unfold V10; rw [outs_first, outs_first, outs_first, outs_first, left0_queries, left0_keys, left0_values, left0_gates]; rfl

theorem V11_eq (c : Dev nD) : V11 m (outs m) c = found1 m c := by unfold V11; rw [V10_eq]; rfl

theorem V12_eq (c : Dev nD) : V12 m (outs m) c = left1 m c := by unfold V12; rw [V11_eq, outs_attended]; rfl

theorem V13_eq (c : Dev nD) : V13 m (outs m) c = found2 m c := by unfold V13; rw [V12_eq]; rfl

/-! ## The calls as segments of the run -/

/-- The calls' proof data. -/
def dats (p : Fin 3) (c : Dev nD) : Dat τ (Elt F) Unit ℕ (UR sig nD τ) ℕ (cfgs p) c := match p with
  | ⟨0, _⟩ => dat0 (entry m) c
  | ⟨1, _⟩ => dat1 m c
  | ⟨2, _⟩ => dat2 m c

/-- The family the later two calls' segments are stated over. -/
abbrev family : (p : Fin 3) → (c : Dev nD) → Dat τ (Elt F) Unit ℕ (UR sig nD τ) ℕ (cfgs p) c :=
  Own.pdatsD m (outs m) Variants.none (dats m) (fun _ => 0) (fun _ => 0)

theorem family1 (c : Dev nD) : family m 1 c = dat1 m c := by
  have e : Own.Ve1 m (outs m) = fun c b => found1 m c (Proc.devRef .tc b) := funext fun c => funext fun b => congrFun (V11_eq m c) _
  show Own.K1.dat (F := F) (Ix := Unit) (U := UR sig nD τ) (Lvl := ℕ) Variants.none (Own.Ve1 m (outs m)) (fun _ => 0) c = _
  rw [e]; rfl

theorem family2 (c : Dev nD) : family m 2 c = dat2 m c := by
  have e : Own.Ve2 m (outs m) = fun c b => found2 m c (Proc.devRef .tc b) := funext fun c => funext fun b => congrFun (V13_eq m c) _
  show Own.K2.dat (F := F) (Ix := Unit) (U := UR sig nD τ) (Lvl := ℕ) Variants.none (Own.Ve2 m (outs m)) (fun _ => 0) c = _
  rw [e]; rfl

theorem attended_eq (c : Dev nD) : outs m 12 main_v137 c = (family m 1 c).arrAt 3 cfg1.N := by rw [outs_attended, family1]

theorem projected_eq (c : Dev nD) : outs m 14 main_v139 c = (family m 2 c).arrAt 4 cfg2.N := by rw [outs_projected, family2]

end Cert.LayerAIdeal.Body

end
-- ==== Proof.LayerARun.lean ====
/-
  The layer's run: its three calls entered one after another, each on what the call and the reshapes before it left, so that
  the last buffer ends at what the last call's proof data says.
-/
module

public import proofs.«01_k».proof.Proof.LayerACalls

@[expose] public section

set_option maxRecDepth 16384

noncomputable section

namespace Cert.LayerAIdeal.Body

open Cert.LayerAIdeal Cert.LayerAIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The calls as segments of the run -/

/-- Every wait's level: the transfers' one index, on the cores' cells. -/
def L : GSem nD τ sig → Finset Unit := fun g => if g.1.2 = .tc then Finset.univ else ∅
def lv : GSem nD τ sig → Unit → ℕ := fun _ _ => 0

theorem L_off (g : GSem nD τ sig) (h : g.1.2 ≠ .tc) : L g = ∅ := if_neg h

theorem cut (p : Fin 3) : Pipeline.LevelCut (pcfgs (F := F)) adm () L lv p (fun _ => 0) (fun _ => 0) where
  hι _ _ _ := by unfold L; rw [if_pos rfl]; exact Finset.mem_univ _
  hιb _ _ _ := le_rfl
  hD _ _ _ h := absurd h (lt_irrefl _)

/-- Between the calls a core holds its generator's register and owes nothing. -/
def E (_ : Fin 4) (c : Dev nD) : sProp 𝕄 := iprop((∃ r, prngReg c r) ∗ ∃ W, owes (c : Thread nD τ) (0 : CellTallies nD τ sig Unit) W)

theorem E_in (k : Fin 4) (c : Dev nD) : E (F := F) k c ⊢ iprop((∃ r, prngReg c r) ∗ (∃ W, owes (c : Thread nD τ) (0 : CellTallies nD τ sig Unit) W) ∗ emp) := by
  unfold E; iintro ⟨Hp, HO⟩
  isplitl [Hp]; · iexact Hp
  isplitl [HO]; · iexact HO
  iempintro

theorem E_out (k : Fin 4) (c : Dev nD) : iprop((∃ r, prngReg c r) ∗ (∃ W, owes (c : Thread nD τ) (0 : CellTallies nD τ sig Unit) W) ∗ emp) ⊢ E (F := F) k c := by
  unfold E; iintro ⟨Hp, HO, -⟩
  isplitl [Hp]; · iexact Hp
  iexact HO

/-- The in-projection's arrays are among the buffers a core holds, -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)

/-- and it changes no other. -/
theorem rest0_eq (c : Dev nD) : ∀ b ∈ (Pipeline.ucRefs τ sig) \ Pipeline.arrRefs (τ := τ) spec0, V10 m (outs m) c b = V9 m c b := fun b hb => by
  have hn : b ∉ Pipeline.arrRefs (τ := τ) spec0 := (Finset.mem_sdiff.mp hb).2
  have h0 : b ≠ Proc.devRef .tc main_v133_0 := by rintro rfl; exact hn (arr0_mem 5)
  have h1 : b ≠ Proc.devRef .tc main_v133_1 := by rintro rfl; exact hn (arr0_mem 6)
  have h2 : b ≠ Proc.devRef .tc main_v133_2 := by rintro rfl; exact hn (arr0_mem 7)
  have h3 : b ≠ Proc.devRef .tc main_v133_3 := by rintro rfl; exact hn (arr0_mem 8)
  simp only [V10, Function.update_of_ne h0, Function.update_of_ne h1, Function.update_of_ne h2, Function.update_of_ne h3]

theorem V10_queries (c : Dev nD) : V10 m (outs m) c (Proc.devRef .tc main_v133_0) = (dat0 (entry m) c).arrAt 5 cfg0.N := by
  rw [V10_eq, left0_queries]
theorem V10_keys (c : Dev nD) : V10 m (outs m) c (Proc.devRef .tc main_v133_1) = (dat0 (entry m) c).arrAt 6 cfg0.N := by
  rw [V10_eq, left0_keys]
theorem V10_values (c : Dev nD) : V10 m (outs m) c (Proc.devRef .tc main_v133_2) = (dat0 (entry m) c).arrAt 7 cfg0.N := by
  rw [V10_eq, left0_values]
theorem V10_gates (c : Dev nD) : V10 m (outs m) c (Proc.devRef .tc main_v133_3) = (dat0 (entry m) c).arrAt 8 cfg0.N := by
  rw [V10_eq, left0_gates]

/-- An input's array is as the call found it. -/
theorem input0 (c : Dev nD) (w : Fin cfg0.W) (hw : (cfg0.win w).isOut = false)
    (hb : Pipeline.arrRef spec0 w ∉ ([main_v133_0, main_v133_1, main_v133_2, main_v133_3] : List (Ref sig .tc))) :
    (dat0 (entry m) c).arrAt w cfg0.N = V10 m (outs m) c (Proc.devRef .tc (Pipeline.arrRef spec0 w)) :=
  ((dat0 (entry m) c).arrAt_in w hw _).trans ((A_eq (entry m) c w).trans (V10_of m (outs m) c (Pipeline.arrRef spec0 w) hb).symm)

set_option backward.isDefEq.respectTransparency.types false in
/-- The in-projection as a segment: entered at the host's buffers, left at what its proof data says. -/
def R0 : RegionSeg (pcfgs (F := F)) adm (family m) () defs₀ Variants.none L lv 0 :=
  Pipeline.RegionSeg.ofHeld (pcfgs (F := F)) adm (family m) () defs₀ Variants.none L lv 0 (fun _ => 0)
    (fun c => iprop(∃ r, prngReg c r)) (fun c => iprop(∃ r, prngReg c r))
    launch0.toP rfl
    (fun c => (body_obligation (entry m) c).loose) (fun _ _ => rfl) (fun _ => rfl)
    (fun c => (family m 0 c).share_full fun _ => rfl) (enters (entry m)) (leaves (entry m)) (fun _ => 0) (cut 0)
    (fun c => iprop(StableHlo.held (c : Thread nD τ) ((Pipeline.ucRefs τ sig) \ Pipeline.arrRefs (τ := τ) spec0) (V9 m c) ∗ emp))
    (V9 m) (V10 m (outs m)) (fun _ _ => rfl)
    (fun c => fun
      | 0 => input0 m c 0 rfl (by decide) | 1 => input0 m c 1 rfl (by decide) | 2 => input0 m c 2 rfl (by decide)
      | 3 => input0 m c 3 rfl (by decide) | 4 => input0 m c 4 rfl (by decide)
      | 5 => (V10_queries m c).symm | 6 => (V10_keys m c).symm | 7 => (V10_values m c).symm | 8 => (V10_gates m c).symm
      | ⟨_ + 9, h⟩ => absurd h (Nat.not_lt.2 (Nat.le_add_left _ _)))

theorem hpre0 (c : Dev nD) :
    iprop(StableHlo.held (c : Thread nD τ) (Pipeline.ucRefs τ sig) (V9 m c) ∗ E 0 c) ⊢ (R0 m).pre c := by
  show _ ⊢ iprop(StableHlo.held (c : Thread nD τ) (Pipeline.arrRefs (τ := τ) spec0) (V9 m c) ∗ (∃ r, prngReg c r)
    ∗ (StableHlo.held (c : Thread nD τ) ((Pipeline.ucRefs τ sig) \ Pipeline.arrRefs (τ := τ) spec0) (V9 m c) ∗ emp) ∗ ∃ W, owes (c : Thread nD τ) (0 : CellTallies nD τ sig Unit) W)
  rw [StableHlo.held_sub_split (c : Thread nD τ) arr0_S (V9 m c)]
  iintro ⟨⟨Ha, Hr⟩, HE⟩
  ihave HE' := (E_in 0 c) $$ HE
  icases HE' with ⟨Hp, HO, Hx⟩
  isplitl [Ha]; · iexact Ha
  isplitl [Hp]; · iexact Hp
  isplitl [Hr Hx]; · isplitl [Hr] <;> iassumption
  iexact HO

theorem hpost0 (c : Dev nD) :
    (R0 m).post c ⊢ iprop(StableHlo.held (c : Thread nD τ) (Pipeline.ucRefs τ sig) (V10 m (outs m) c) ∗ E 1 c) := by
  show iprop(StableHlo.held (c : Thread nD τ) (Pipeline.arrRefs (τ := τ) spec0) (V10 m (outs m) c) ∗ (∃ r, prngReg c r)
    ∗ (StableHlo.held (c : Thread nD τ) ((Pipeline.ucRefs τ sig) \ Pipeline.arrRefs (τ := τ) spec0) (V9 m c) ∗ emp) ∗ ∃ W, owes (c : Thread nD τ) (0 : CellTallies nD τ sig Unit) W) ⊢ _
  rw [StableHlo.held_sub_split (c : Thread nD τ) arr0_S (V10 m (outs m) c),
    StableHlo.held_congr (c : Thread nD τ) (S := (Pipeline.ucRefs τ sig) \ Pipeline.arrRefs (τ := τ) spec0) (rest0_eq m c)]
  iintro ⟨Ha, Hp, ⟨Hr, Hx⟩, HO⟩
  isplitl [Ha Hr]; · isplitl [Ha] <;> iassumption
  iapply (E_out 1 c)
  isplitl [Hp]; · iexact Hp
  isplitl [HO]; · iexact HO
  iexact Hx

/-- The attention and the out-projection as segments. -/
abbrev R1 : RegionSeg (pcfgs (F := F)) adm (family m) () defs₀ Variants.none L lv 1 :=
  Own.R1D m (outs m) Variants.none L lv () (dats m) (fun _ => 0) (fun _ => 0) (fun _ => 0) (cut 1) (fun _ => iprop(emp)) (attended_eq m)
abbrev R2 : RegionSeg (pcfgs (F := F)) adm (family m) () defs₀ Variants.none L lv 2 :=
  Own.R2D m (outs m) Variants.none L lv () (dats m) (fun _ => 0) (fun _ => 0) (fun _ => 0) (cut 2) (fun _ => iprop(emp)) (projected_eq m)

/-! ## The run -/

/-- What a finished run leaves on a core: the arguments as they were and the result at the last call's contents. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5))
  ∧ s.mem ((c.tc : Thread nD τ).loc main_v139) = (dat2 m c).arrAt 4 cfg2.N

/-- It is read off the buffers a core holds at the end. -/
theorem ends_read (c : Dev nD) (s' : Phys nD τ sig (Elt F)) :
    iprop(StableHlo.held (c : Thread nD τ) (Pipeline.ucRefs τ sig) (V14 m (outs m) c) ∗ SI s') ⊢ (|={Set.univ}=> iprop(⌜Ends m c s'.mem⌝ ∗ SI s') : sProp 𝕄) := by
  unfold StableHlo.held
  iintro ⟨Hh, HSI⟩
  ihave Hr := (pointsTo_read_all (Pipeline.ucRefs τ sig) (fun b => ((c : Thread nD τ).1, b)) (V14 m (outs m) c) s') $$ [Hh HSI]
  · isplitl [Hh] <;> iassumption
  icases Hr with ⟨%h, HSI⟩
  imodintro
  isplitr
  · ipureintro
    have hread : ∀ r : Ref sig .tc, (¬ (Proc.devRef .tc r : DevRef τ sig).isScoped) → s'.mem.mem ((c.tc : Thread nD τ).loc r) = V14 m (outs m) c (Proc.devRef .tc r) :=
      fun r hr => h (Proc.devRef .tc r) (Finset.mem_filter.mpr ⟨StableHlo.devRef_mem_tcRefs r, hr⟩)
    exact ⟨⟨(hread main_arg0 (by decide)).trans (V14_main_arg0 m (outs m) c), (hread main_arg1 (by decide)).trans (V14_main_arg1 m (outs m) c),
      (hread main_arg2 (by decide)).trans (V14_main_arg2 m (outs m) c), (hread main_arg3 (by decide)).trans (V14_main_arg3 m (outs m) c),
      (hread main_arg4 (by decide)).trans (V14_main_arg4 m (outs m) c), (hread main_arg5 (by decide)).trans (V14_main_arg5 m (outs m) c)⟩,
      (hread main_v139 (by decide)).trans ((Own.V14_at_main_v139 m (outs m) c).trans (outs_projected m c))⟩
  · iexact HSI

/-- Every core starts from its launch contents, its register and nothing owed. -/
theorem starts_held :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)) ∗ levAts L lv)
      ⊢ (|={Set.univ}=> bigSep Finset.univ fun c : Dev nD => iprop(StableHlo.held (c : Thread nD τ) (Pipeline.ucRefs τ sig) (V0 m c) ∗ E 0 c) : sProp 𝕄) := by
  refine Pipeline.initEach L lv fun c => ?_
  rw [show unscopedBufs c (fun b => m ((c.tc : Thread nD τ).loc b)) = StableHlo.held (c : Thread nD τ) (Pipeline.ucRefs τ sig) (V0 m c) from Pipeline.unscopedBufs_held c (V0 m c)]
  unfold E
  iintro ⟨⟨Hh, -, HO, -, Hp, -⟩, -⟩
  imodintro
  isplitl [Hh]; · iexact Hh
  isplitl [Hp]; · iexists _; iexact Hp
  iexists _; iexact HO

/-- The launch's tokens are the whole of what the run starts with. -/
theorem launch_owned :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE RUN: every fair execution ends with the arguments as they were, the result at the last call's contents, and every
    semaphore counter at zero. -/
theorem run_main : θ_run defs (onTc (τ := τ) (main (F := F))) ⟨m, fun _ => 0, ρ⟩ (fun r => (∀ c, Ends m c r.2) ∧ r.2.sem = fun _ => 0) := by
  refine Pipeline.θ_run_regions_kit_dev_sems (pcfgs (F := F)) adm (family m) () cellOf_inj emb₁ defs₀ Variants.none L lv m ρ main
    (segs m (outs m) Variants.none L lv E () (family m) (R0 m) (R1 m) (R2 m))
    (fun c Q => by
      rewrite [main_chain c, Seg.run_eq_chain,
        show (segs m (outs m) Variants.none L lv E () (family m) (R0 m) (R1 m) (R2 m) c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()), StableHlo.seq hostOps1, Prog.lift (.customCall (Pipeline.entry 1) ()),
          StableHlo.seq hostOps2, Prog.lift (.customCall (Pipeline.entry 2) ()) ] from rfl]
      dsimp (config := { failIfUnchanged := false }) only
      exact .rfl)
    (fun c => by simp only [segs, Seg.pipes_host, Seg.pipes_region, Seg.pipes_nil]; decide) (fun _ => 0) L_off (fun _ => iprop(emp)) _ launch_owned
    (T₀ := fun c => iprop(StableHlo.held (c : Thread nD τ) (Pipeline.ucRefs τ sig) (V0 m c) ∗ E 0 c))
    (Tₙ := fun c => StableHlo.held (c : Thread nD τ) (Pipeline.ucRefs τ sig) (V14 m (outs m) c))
    (hch := fun c => ⟨.rfl, .rfl, .rfl, .rfl, .rfl, .rfl, .rfl, .rfl, .rfl, hpre0 m c, hpost0 m c,
      Own.hpre1D m (outs m) Variants.none L lv () (dats m) _ _ _ (cut 1) E (fun _ => iprop(emp)) (E_in 1) (attended_eq m) c,
      Own.hpost1D m (outs m) Variants.none L lv () (dats m) _ _ _ (cut 1) E (fun _ => iprop(emp)) (E_out 2) (attended_eq m) c,
      Own.hpre2D m (outs m) Variants.none L lv () (dats m) _ _ _ (cut 2) E (fun _ => iprop(emp)) (E_in 2) (projected_eq m) c,
      (Own.hpost2D m (outs m) Variants.none L lv () (dats m) _ _ _ (cut 2) E (fun _ => iprop(emp)) (E_out 3) (projected_eq m) c).trans
        (sep_mono .rfl (by unfold E; iintro ⟨-, HO⟩; iexact HO))⟩)
    (hinit := starts_held m ρ) (QY := Ends m)
    (hfin := ends_read m) (hQ := fun _ h hz => ⟨h, funext fun g => hz g (.inr (regions_no_unscoped g.2))⟩)

/-- THE FRAME: its first half. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run_main m ρ)

end Cert.LayerAIdeal.Body

end
-- ==== Proof.LayerAProj.lean ====
/-
  What the in-projection leaves in its four arrays when it is the first of a layer's three calls, from what it finds.
-/
module

public import proofs.«01_k».proof.Proof.LayerAFrame
public import proofs.«01_k».proof.Proof.ProjAValue

@[expose] public section

set_option maxRecDepth 16384

noncomputable section

namespace Cert.LayerAIdeal.Body

open Cert.LayerAIdeal Cert.LayerAIdeal.Gen Idealize.ShloMosaic Idealize.ShloMosaic.TcCoe Idealize.SL.Sem
open Cert.ProjAIdeal.Body (tableOf rows head_block)

/-- What the in-projection finds: the tokens, their gain, the weights, and the tables of the queries' and the keys' gains. -/
structure Found (V : (c : Dev nD) → (b : Ref sig .tc) → Buf (Elt Ideal) ((c : Thread nD τ).loc b)) (c : Dev nD)
    (x : FVec Ideal S32768x2048 .f32) (g : FVec Ideal S2048 .f32) (w : FVec Ideal S2048x5120 .bf16) (Gq Gk : FVec Ideal S128 .f32) : Prop where
  tokens : (V c main_arg0 : FVec Ideal S32768x2048 .f32) = x
  gain : (V c main_v132 : FVec Ideal S1x2048 .f32) = shapeCast S1x2048 g shapeCasts_S2048_S1x2048
  weights : (V c main_arg2 : FVec Ideal S2048x5120 .bf16) = w
  queryTable : (V c main_v65 : FVec Ideal S3x4096x128 .f32) = tableOf Gq 0x3DB504F3#32
  keyTable : (V c main_v131 : FVec Ideal S3x4096x128 .f32) = tableOf Gk 0x3F800000#32

variable {V : (c : Dev nD) → (b : Ref sig .tc) → Buf (Elt Ideal) ((c : Thread nD τ).loc b)} {c : Dev nD}
  {x : FVec Ideal S32768x2048 .f32} {g : FVec Ideal S2048 .f32} {w : FVec Ideal S2048x5120 .bf16} {Gq Gk : FVec Ideal S128 .f32}

/-! ## The blocks a point reads -/

theorem places : ∀ t : Fin cfg0.N, win0_0.index t = ![t.val / 10, 0] ∧ win0_1.index t = ![0, 0] ∧ win0_2.index t = ![0, t.val % 10]
    ∧ win0_3.index t = ![0, t.val / 10 % 4, 0] ∧ win0_4.index t = ![0, t.val / 10 % 4, 0] := by
  decide +kernel

theorem lt_points (t : Fin cfg0.N) : t.val < 320 := lt_of_lt_of_eq t.isLt N_0

theorem row_block (h : Found V c x g w Gq Gk) (t : Fin cfg0.N) (i : Fin 1024) (r : Fin 2048) : iblk V c 0 (rowStart t.val) (ix2 i r)
    = x (ix2 (⟨t.val / 10 * 1024 + i.val, by have := lt_points t; omega⟩ : Fin 32768) r) := by
  have p : win0_0.index (rowStart t.val) = ![t.val / 10, 0] := by
    rw [(places _).1]
    have : (rowStart t.val).val / 10 = t.val / 10 := by have := lt_points t; show t.val / 10 * 10 % 320 / 10 = _; omega
    rw [this]
  rw [← h.tokens]
  blk_ext [iblk, p]

theorem gain_block (h : Found V c x g w Gq Gk) (t : Fin cfg0.N) (r : Fin 2048) : iblk V c 1 t (ix2 (0 : Fin 1) r) = g (ix1 r) := by
  refine Eq.trans ?_ (Cert.ProjAIdeal.Body.gain_row g r)
  refine Eq.trans ?_ (congrFun h.gain _)
  have p := (places t).2.1
  blk_ext [iblk, p]

theorem weight_block (h : Found V c x g w Gq Gk) (t : Fin cfg0.N) (r : Fin 2048) (j : Fin 512) : iblk V c 2 t (ix2 r j)
    = w (ix2 r (⟨t.val % 10 * 512 + j.val, by omega⟩ : Fin 5120)) := by
  have p := (places t).2.2.1
  rw [← h.weights]
  blk_ext [iblk, p]

theorem query_table (h : Found V c x g w Gq Gk) (t : Fin cfg0.N) (a : Fin 3) (i : Fin 1024) (e : Fin 128) : iblk V c 3 t (ix3 a i e)
    = tableOf Gq 0x3DB504F3#32 (ix3 a (⟨t.val / 10 % 4 * 1024 + i.val, by omega⟩ : Fin 4096) e) := by
  refine Eq.trans ?_ (congrFun h.queryTable _)
  have p := (places t).2.2.2.1
  blk_ext [iblk, p]

theorem key_table (h : Found V c x g w Gq Gk) (t : Fin cfg0.N) (a : Fin 3) (i : Fin 1024) (e : Fin 128) : iblk V c 4 t (ix3 a i e)
    = tableOf Gk 0x3F800000#32 (ix3 a (⟨t.val / 10 % 4 * 1024 + i.val, by omega⟩ : Fin 4096) e) := by
  refine Eq.trans ?_ (congrFun h.keyTable _)
  have p := (places t).2.2.2.2
  blk_ext [iblk, p]

/-- A column of the product. -/
theorem product_apply (x : Vec Ideal S1024x2048 .f32) (g : Vec Ideal S1x2048 .f32) (w : Vec Ideal S2048x512 .bf16) (i : Fin 1024) (j : Fin 512) :
    k0_pay2 (k0_pay1 x g) w (ix2 i j) = Rope.column (fun r => x (ix2 i r)) (fun r => g (ix2 0 r)) (fun r => w (ix2 r j)) :=
  Cert.ProjAIdeal.Body.product_apply x g w i j

theorem narrowed_apply (h : Vec Ideal S1024x2048 .bf16) (w : Vec Ideal S2048x512 .bf16) (i : Fin 1024) (j : Fin 512) :
    k0_pay5 h w (ix2 i j) = k0_pay2 h w (ix2 i j) := Cert.ProjAIdeal.Body.narrowed_apply h w i j

/-- The product a point forms: its tokens' columns from its column block on. -/
theorem point_columns (h : Found V c x g w Gq Gk) (t : Fin cfg0.N) (i : Fin 1024) (j : Fin 512) : k0_pay2 (normed V c t.val) (iblk V c 2 t) (ix2 i j)
    = rows x g w ⟨t.val / 10 * 1024 + i.val, by have := lt_points t; omega⟩ ⟨t.val % 10 * 512 + j.val, by omega⟩ := by
  unfold normed rows Rope.row
  rw [product_apply]
  simp only [row_block h, gain_block h, weight_block h]

/-! ## The arrays -/

/-- Where the results' blocks lie: the block of the point whose column block is the nearest of theirs. -/
theorem result_places : ∀ t : Fin cfg0.N,
    win0_5.index t = ![t.val / 10, (column 0 3 (by decide) (by decide) t).val % 10] ∧ win0_6.index t = ![t.val / 10, (column 4 4 (by decide) (by decide) t).val % 10 - 4]
    ∧ win0_7.index t = ![t.val / 10, (column 5 5 (by decide) (by decide) t).val % 10 - 5] ∧ win0_8.index t = ![t.val / 10, (column 6 9 (by decide) (by decide) t).val % 10 - 6] := by
  decide +kernel

theorem column_row (lo hi : ℕ) (h : lo ≤ hi) (hh : hi < 10) (t : Fin cfg0.N) : (column lo hi h hh t).val / 10 = t.val / 10 := by
  show (t.val / 10 * 10 + max lo (min hi (t.val % 10))) / 10 = t.val / 10
  omega

theorem column_bounds (lo hi : ℕ) (h : lo ≤ hi) (hh : hi < 10) (t : Fin cfg0.N) : lo ≤ (column lo hi h hh t).val % 10 ∧ (column lo hi h hh t).val % 10 ≤ hi := by
  show lo ≤ (t.val / 10 * 10 + max lo (min hi (t.val % 10))) % 10 ∧ (t.val / 10 * 10 + max lo (min hi (t.val % 10))) % 10 ≤ hi
  omega

/-- The point of a row of tokens and a column block. -/
def pointAt (a b : ℕ) (ha : a < 32) (hb : b < 10) : Fin cfg0.N := ⟨a * 10 + b, lt_of_lt_of_eq (by omega : _ < 320) N_0.symm⟩

theorem column_pointAt (lo hi : ℕ) (h : lo ≤ hi) (hh : hi < 10) (a b : ℕ) (ha : a < 32) (hb : lo + b ≤ hi) :
    (column lo hi h hh (pointAt a (lo + b) ha (by omega))).val = a * 10 + (lo + b) ∧ (pointAt a (lo + b) ha (by omega)).val / 10 = a :=
  ⟨congrArg Fin.val (column_self lo hi h hh _ (by show lo ≤ (a * 10 + (lo + b)) % 10; omega) (by show (a * 10 + (lo + b)) % 10 ≤ hi; omega)),
    by show (a * 10 + (lo + b)) / 10 = a; omega⟩

/-- The queries' blocks cover their array. -/
theorem covers5 : (cfg0.win 5).Covers := by
  refine (cfg0.win 5).covers_of_index_surj rfl (by decide) fun β => ?_
  have h0 : (β 0).val < 32 := (β 0).isLt
  have h1 : (β 1).val < 4 := (β 1).isLt
  obtain ⟨e1, e2⟩ := column_pointAt 0 3 (by decide) (by decide) (β 0).val (β 1).val h0 (by omega)
  refine ⟨pointAt (β 0).val (0 + (β 1).val) h0 (by omega), fun a => ?_⟩
  refine (congrFun (result_places _).1 a).trans ?_
  fin_cases a
  · exact e2
  · show (column 0 3 _ _ _).val % 10 = (β 1).val
    rw [e1]; omega

/-- The keys' blocks cover their array. -/
theorem covers6 : (cfg0.win 6).Covers := by
  refine (cfg0.win 6).covers_of_index_surj rfl (by decide) fun β => ?_
  have h0 : (β 0).val < 32 := (β 0).isLt
  have h1 : (β 1).val < 1 := (β 1).isLt
  obtain ⟨e1, e2⟩ := column_pointAt 4 4 (by decide) (by decide) (β 0).val (β 1).val h0 (by omega)
  refine ⟨pointAt (β 0).val (4 + (β 1).val) h0 (by omega), fun a => ?_⟩
  refine (congrFun (result_places _).2.1 a).trans ?_
  fin_cases a
  · exact e2
  · show (column 4 4 _ _ _).val % 10 - 4 = (β 1).val
    rw [e1]; omega

/-- The values' blocks cover their array. -/
theorem covers7 : (cfg0.win 7).Covers := by
  refine (cfg0.win 7).covers_of_index_surj rfl (by decide) fun β => ?_
  have h0 : (β 0).val < 32 := (β 0).isLt
  have h1 : (β 1).val < 1 := (β 1).isLt
  obtain ⟨e1, e2⟩ := column_pointAt 5 5 (by decide) (by decide) (β 0).val (β 1).val h0 (by omega)
  refine ⟨pointAt (β 0).val (5 + (β 1).val) h0 (by omega), fun a => ?_⟩
  refine (congrFun (result_places _).2.2.1 a).trans ?_
  fin_cases a
  · exact e2
  · show (column 5 5 _ _ _).val % 10 - 5 = (β 1).val
    rw [e1]; omega

/-- The gates' blocks cover their array. -/
theorem covers8 : (cfg0.win 8).Covers := by
  refine (cfg0.win 8).covers_of_index_surj rfl (by decide) fun β => ?_
  have h0 : (β 0).val < 32 := (β 0).isLt
  have h1 : (β 1).val < 4 := (β 1).isLt
  obtain ⟨e1, e2⟩ := column_pointAt 6 9 (by decide) (by decide) (β 0).val (β 1).val h0 (by omega)
  refine ⟨pointAt (β 0).val (6 + (β 1).val) h0 (by omega), fun a => ?_⟩
  refine (congrFun (result_places _).2.2.2 a).trans ?_
  fin_cases a
  · exact e2
  · show (column 6 9 _ _ _).val % 10 - 6 = (β 1).val
    rw [e1]; omega

/-- The queries at a token and a column. -/
def query (x : FVec Ideal S32768x2048 .f32) (g : FVec Ideal S2048 .f32) (w : FVec Ideal S2048x5120 .bf16) (G : FVec Ideal S128 .f32) (t : Fin 32768) (j : Fin 2048) : EReal :=
  Rope.roped2 (rows x g w) (fun e => G (ix1 e)) 0 2048 (by decide) (by decide) t j * Ideal.ofBits .f32 0x3DB504F3#32

/-- The keys at a token and a column. -/
def key (x : FVec Ideal S32768x2048 .f32) (g : FVec Ideal S2048 .f32) (w : FVec Ideal S2048x5120 .bf16) (G : FVec Ideal S128 .f32) (t : Fin 32768) (j : Fin 512) : EReal :=
  Rope.roped2 (rows x g w) (fun e => G (ix1 e)) 2048 512 (by decide) (by decide) t j

/-- The values and the gates: `W` columns from `o` on. -/
def plainColumn (x : FVec Ideal S32768x2048 .f32) (g : FVec Ideal S2048 .f32) (w : FVec Ideal S2048x5120 .bf16) (o W : ℕ) (ho : o + W ≤ 5120) (t : Fin 32768) (j : Fin W) : EReal :=
  rows x g w t ⟨o + j.val, by omega⟩

theorem query_block (h : Found V c x g w Gq Gk) (u : Fin cfg0.N) (hu : u.val % 10 ≤ 3) (i : Fin 1024) (e : Fin 512) :
    qblock V c u (ix2 i e) = query x g w Gq ⟨u.val / 10 * 1024 + i.val, by have := lt_points u; omega⟩ ⟨u.val % 10 * 512 + e.val, by omega⟩ :=
  head_block (rows x g w) Gq 0x3DB504F3#32 Rope.scale_bounds _ _ (u.val / 10) (u.val % 10) 0 2048 (by decide) (by decide) (by have := lt_points u; omega)
    (by omega) (fun i j => (point_columns h u i j).trans (congrArg _ (Fin.ext (by show u.val % 10 * 512 + j.val = 0 + (u.val % 10 * 512 + j.val); omega))))
    (fun b i e => query_table h u b i e) i e

theorem key_block (h : Found V c x g w Gq Gk) (u : Fin cfg0.N) (hu : 4 ≤ u.val % 10 ∧ u.val % 10 ≤ 4) (i : Fin 1024) (e : Fin 512) :
    kblock V c u (ix2 i e) = key x g w Gk ⟨u.val / 10 * 1024 + i.val, by have := lt_points u; omega⟩ ⟨(u.val % 10 - 4) * 512 + e.val, by omega⟩ := by
  refine (head_block (rows x g w) Gk 0x3F800000#32 ?_ _ _ (u.val / 10) (u.val % 10 - 4) 2048 512 (by decide) (by decide) (by have := lt_points u; omega)
    (by omega) (fun i j => (point_columns h u i j).trans (congrArg _ (Fin.ext (by show u.val % 10 * 512 + j.val = 2048 + ((u.val % 10 - 4) * 512 + j.val); omega))))
    (fun b i e => key_table h u b i e) i e).trans ?_
  · rw [Ideal.ofBits_one_f32]; exact Rope.one_bounds
  · rw [Ideal.ofBits_one_f32, mul_one]; rfl

theorem plain_block (h : Found V c x g w Gq Gk) (o W lo n : ℕ) (ho : o + W ≤ 5120) (hl : o = lo * 512) (hn : W = n * 512 + 512) (u : Fin cfg0.N) (hu : lo ≤ u.val % 10 ∧ u.val % 10 ≤ lo + n) (i : Fin 1024) (e : Fin 512) :
    vblock V c u (ix2 i e) = plainColumn x g w o W ho ⟨u.val / 10 * 1024 + i.val, by have := lt_points u; omega⟩ ⟨(u.val % 10 - lo) * 512 + e.val, by omega⟩ := by
  unfold vblock
  rw [narrowed_apply, point_columns h]
  unfold plainColumn
  exact congrArg _ (Fin.ext (by show u.val % 10 * 512 + e.val = o + ((u.val % 10 - lo) * 512 + e.val); omega))

/-- THE QUERIES' ARRAY. -/
theorem queries_array (h : Found V c x g w Gq Gk) : (dat0 V c).arrAt 5 cfg0.N = fun j => query x g w Gq (j 0) (j 1) := by
  refine (dat0 V c).arrAt_eq_of_covers 5 _ covers5 fun t hf y => ?_
  blk_simp
  rw [after0_5]
  obtain ⟨i, e, rfl⟩ : ∃ (i : Fin 1024) (e : Fin 512), y = ix2 i e := ⟨y 0, y 1, by funext a; fin_cases a <;> rfl⟩
  refine (query_block h _ (column_bounds 0 3 _ _ t).2 i e).trans (congrArg₂ (query x g w Gq) (Fin.ext ?_) (Fin.ext ?_))
  · show (column 0 3 _ _ t).val / 10 * 1024 + i.val = win0_5.index t 0 * 1024 + 1 * i.val
    rw [congrFun (result_places t).1 0, column_row]
    show _ = t.val / 10 * 1024 + _
    omega
  · show (column 0 3 _ _ t).val % 10 * 512 + e.val = win0_5.index t 1 * 512 + 1 * e.val
    rw [congrFun (result_places t).1 1]
    show _ = (column 0 3 _ _ t).val % 10 * 512 + _
    omega

/-- THE KEYS' ARRAY. -/
theorem keys_array (h : Found V c x g w Gq Gk) : (dat0 V c).arrAt 6 cfg0.N = fun j => key x g w Gk (j 0) (j 1) := by
  refine (dat0 V c).arrAt_eq_of_covers 6 _ covers6 fun t hf y => ?_
  blk_simp
  rw [after0_6]
  obtain ⟨i, e, rfl⟩ : ∃ (i : Fin 1024) (e : Fin 512), y = ix2 i e := ⟨y 0, y 1, by funext a; fin_cases a <;> rfl⟩
  refine (key_block h _ (column_bounds 4 4 _ _ t) i e).trans (congrArg₂ (key x g w Gk) (Fin.ext ?_) (Fin.ext ?_))
  · show (column 4 4 _ _ t).val / 10 * 1024 + i.val = win0_6.index t 0 * 1024 + 1 * i.val
    rw [congrFun (result_places t).2.1 0, column_row]
    show _ = t.val / 10 * 1024 + _
    omega
  · show ((column 4 4 _ _ t).val % 10 - 4) * 512 + e.val = win0_6.index t 1 * 512 + 1 * e.val
    rw [congrFun (result_places t).2.1 1]
    show _ = ((column 4 4 _ _ t).val % 10 - 4) * 512 + _
    omega

/-- THE VALUES' ARRAY. -/
theorem values_array (h : Found V c x g w Gq Gk) : (dat0 V c).arrAt 7 cfg0.N = fun j => plainColumn x g w 2560 512 (by decide) (j 0) (j 1) := by
  refine (dat0 V c).arrAt_eq_of_covers 7 _ covers7 fun t hf y => ?_
  blk_simp
  rw [after0_7]
  obtain ⟨i, e, rfl⟩ : ∃ (i : Fin 1024) (e : Fin 512), y = ix2 i e := ⟨y 0, y 1, by funext a; fin_cases a <;> rfl⟩
  refine (plain_block h 2560 512 5 0 (by decide) rfl rfl _ (column_bounds 5 5 _ _ t) i e).trans (congrArg₂ (plainColumn x g w 2560 512 _) (Fin.ext ?_) (Fin.ext ?_))
  · show (column 5 5 _ _ t).val / 10 * 1024 + i.val = win0_7.index t 0 * 1024 + 1 * i.val
    rw [congrFun (result_places t).2.2.1 0, column_row]
    show _ = t.val / 10 * 1024 + _
    omega
  · show ((column 5 5 _ _ t).val % 10 - 5) * 512 + e.val = win0_7.index t 1 * 512 + 1 * e.val
    rw [congrFun (result_places t).2.2.1 1]
    show _ = ((column 5 5 _ _ t).val % 10 - 5) * 512 + _
    omega

/-- THE GATES' ARRAY. -/
theorem gates_array (h : Found V c x g w Gq Gk) : (dat0 V c).arrAt 8 cfg0.N = fun j => plainColumn x g w 3072 2048 (by decide) (j 0) (j 1) := by
  refine (dat0 V c).arrAt_eq_of_covers 8 _ covers8 fun t hf y => ?_
  blk_simp
  rw [after0_8]
  obtain ⟨i, e, rfl⟩ : ∃ (i : Fin 1024) (e : Fin 512), y = ix2 i e := ⟨y 0, y 1, by funext a; fin_cases a <;> rfl⟩
  refine (plain_block h 3072 2048 6 3 (by decide) rfl rfl _ (column_bounds 6 9 _ _ t) i e).trans (congrArg₂ (plainColumn x g w 3072 2048 _) (Fin.ext ?_) (Fin.ext ?_))
  · show (column 6 9 _ _ t).val / 10 * 1024 + i.val = win0_8.index t 0 * 1024 + 1 * i.val
    rw [congrFun (result_places t).2.2.2 0, column_row]
    show _ = t.val / 10 * 1024 + _
    omega
  · show ((column 6 9 _ _ t).val % 10 - 6) * 512 + e.val = win0_8.index t 1 * 512 + 1 * e.val
    rw [congrFun (result_places t).2.2.2 1]
    show _ = ((column 6 9 _ _ t).val % 10 - 6) * 512 + _
    omega

end Cert.LayerAIdeal.Body

end
-- ==== Proof.LayerAAttn.lean ====
/-
  The attention as the second of a layer's three calls: the loop at one grid point and the output array, from the queries, keys and
  values the call finds.
-/
module

public import proofs.«01_k».proof.Proof.LayerACalls
public import proofs.«01_k».proof.Proof.AttnAValue
public import Idealize.ShloMosaic.Lib.Pipeline.ReadBack

@[expose] public section

set_option maxRecDepth 16384

noncomputable section

namespace Cert.LayerAIdeal.Attend

open Cert.LayerAIdeal Cert.LayerAIdeal.Gen Cert.LayerAIdeal.Own.K1 Idealize.ShloMosaic Idealize.ShloMosaic.TcCoe Idealize.SL.Sem
open Cert.AttnAIdeal.Block (chunk running attention block_value zero2)

section Loop

variable {F : FTy → Type} [FloatOps F]

/-- A whole-buffer store leaves its payload. -/
theorem read_store {sp : Space} (a : Memref sig .tc sp S1024x128 .f32) (f : BufTy.Contents (Elt F) a.view.ty)
    (w : Vec F S1024x128 .f32) (L : List (View.Piece (Elt F) S1024x128 .f32)) :
    View.read (Elt F) a.view (a.view.writes (Elt F) f
      (⟨Rect.unit (s := S1024x128) ![0, 0] S1024x128.size inb_S1024x128_S1024x128_0_0, w⟩ :: L)) = w := by
  funext y
  have e := View.read_writes_cons_emb a.view f (Rect.unit (s := S1024x128) ![0, 0] S1024x128.size inb_S1024x128_S1024x128_0_0) w L y
  have h : (Rect.unit (s := S1024x128) ![0, 0] S1024x128.size inb_S1024x128_S1024x128_0_0).emb y = y := by
    funext a; fin_cases a <;> exact Fin.ext (by simp)
  rw [h] at e; exact e

variable (c : Dev nD) (i : grid1.Coords) (arg3 : Memref sig .tc .vmem S1x256x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x512 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (x0 : Vec F S1x256x512 .bf16) (x1 x2 : Vec F S1x4096x128 .bf16)

/-- The stores of one trip, one to each running buffer, of what the trip computes from the chunk and the buffers as it finds them. -/
theorem trip_lists (v0 : Vec F S1x256x512 .bf16) (X4 : BufTy.Contents (Elt F) arg4.view.ty) (X5 : BufTy.Contents (Elt F) arg5.view.ty) (k : Fin k1_t1_loop.trips)
    (f7 : BufTy.Contents (Elt F) arg7.view.ty) (f8 : BufTy.Contents (Elt F) arg8.view.ty) (f9 : BufTy.Contents (Elt F) arg9.view.ty) :
    Own.K1.tripL_k1_t1 (F := F) (Ix := Unit) (U := UR sig nD τ) (Lvl := ℕ) Variants.none c none i arg3 harg3 arg4 harg4 arg5 harg5 arg6 harg6 arg7 harg7 arg8 harg8 arg9 harg9 v0 X4 X5 k f7 f8 f9
      = ([⟨Rect.unit (s := S1024x128) ![0, 0] S1024x128.size inb_S1024x128_S1024x128_0_0,
            k1_pay12 (k1_pay3 (k1_pay8 v0) (chunk (View.read (Elt F) arg4.view X4) k) (View.read (Elt F) arg7.view f7))⟩],
         [⟨Rect.unit (s := S1024x128) ![0, 0] S1024x128.size inb_S1024x128_S1024x128_0_0,
            k1_pay6 (k1_pay8 v0) (chunk (View.read (Elt F) arg4.view X4) k) (View.read (Elt F) arg7.view f7) (View.read (Elt F) arg8.view f8)⟩],
         [⟨Rect.unit (s := S1024x128) ![0, 0] S1024x128.size inb_S1024x128_S1024x128_0_0,
            k1_pay7 (k1_pay8 v0) (chunk (View.read (Elt F) arg4.view X4) k) (chunk (View.read (Elt F) arg5.view X5) k)
              (View.read (Elt F) arg7.view f7) (View.read (Elt F) arg9.view f9)⟩]) := by
  rw [← View.ld_unit_zero zero2 inb_S1024x128_S1024x128_0_0 (View.read (Elt F) arg7.view f7),
    ← View.ld_unit_zero zero2 inb_S1024x128_S1024x128_0_0 (View.read (Elt F) arg8.view f8),
    ← View.ld_unit_zero zero2 inb_S1024x128_S1024x128_0_0 (View.read (Elt F) arg9.view f9)]
  unfold Own.K1.tripL_k1_t1 Own.K1.trip_k1_t1
  rfl

/-- Before trip `k` the three buffers read the recursion's `k`-th state. -/
theorem read_trips (G7 : BufTy.Contents (Elt F) arg7.view.ty) (G8 : BufTy.Contents (Elt F) arg8.view.ty) (G9 : BufTy.Contents (Elt F) arg9.view.ty)
    (h7 : View.read (Elt F) arg7.view G7 = k1_pay9) (h8 : View.read (Elt F) arg8.view G8 = k1_pay10) (h9 : View.read (Elt F) arg9.view G9 = k1_pay11)
    (k : ℕ) (hk : k ≤ k1_t1_loop.trips) :
    let p := Own.K1.pb_k1_t1 (F := F) (Ix := Unit) (U := UR sig nD τ) (Lvl := ℕ) Variants.none c none i arg3 harg3 arg4 harg4 arg5 harg5 arg6 harg6 arg7 harg7 arg8 harg8 arg9 harg9 x0 (harg4.unread x1) (harg5.unread x2) G7 G8 G9 k
    View.read (Elt F) arg7.view (arg7.view.writes (Elt F) G7 p.1) = (running x0 x1 x2 k).1
      ∧ View.read (Elt F) arg8.view (arg8.view.writes (Elt F) G8 p.2.1) = (running x0 x1 x2 k).2.1
      ∧ View.read (Elt F) arg9.view (arg9.view.writes (Elt F) G9 p.2.2) = (running x0 x1 x2 k).2.2 := by
  induction k with
  | zero => exact ⟨h7, h8, h9⟩
  | succ k ih =>
    obtain ⟨e7, e8, e9⟩ := ih (Nat.le_of_succ_le hk)
    have hs := Own.K1.pb_k1_t1_succ (F := F) (Ix := Unit) (U := UR sig nD τ) (Lvl := ℕ) Variants.none c none i arg3 harg3 arg4 harg4 arg5 harg5 arg6 harg6 arg7 harg7 arg8 harg8 arg9 harg9 x0 (harg4.unread x1) (harg5.unread x2) G7 G8 G9 ⟨k, hk⟩
    rw [trip_lists, e7, e8, e9, harg4.read_unread, harg5.read_unread] at hs
    dsimp only at hs ⊢
    rw [hs, running, dif_pos (show k < k1_t1_loop.trips from hk)]
    exact ⟨read_store _ _ _ _, read_store _ _ _ _, read_store _ _ _ _⟩

/-- THE OUTPUT BLOCK of a grid point: the quotient of the last weighted sum by the last sum, the heads side by side. -/
theorem out_eq : out1_A_3 (F := F) (Ix := Unit) (U := UR sig nD τ) (Lvl := ℕ) Variants.none c i arg3 harg3 arg4 harg4 arg5 harg5 arg6 harg6 arg7 harg7 arg8 harg8 arg9 harg9 x0 x1 x2
    = k1_pay1 (k1_pay13 (running x0 x1 x2 8).2.2 (running x0 x1 x2 8).2.1) := by
  frame_out
  have h := read_trips c i arg3 harg3 arg4 harg4 arg5 harg5 arg6 harg6 arg7 harg7 arg8 harg8 arg9 harg9 x0 x1 x2 _ _ _
    (read_store arg7 arg7.view.junk k1_pay9 []) (read_store arg8 arg8.view.junk k1_pay10 []) (read_store arg9 arg9.view.junk k1_pay11 []) 8 (by decide)
  dsimp only at h
  rw [← h.2.1, ← h.2.2]
  unfold View.readCov
  simp only [View.writes_append, View.readAt_eq_ld]
  rw [View.ld_unit_zero zero2, View.ld_unit_zero zero2]
  rfl

end Loop

/-- What the attention finds: the queries, the keys and the values. -/
structure Found (V : (c : Dev nD) → (b : Ref sig .tc) → Buf (Elt Ideal) ((c : Thread nD τ).loc b)) (c : Dev nD)
    (Q : FVec Ideal S8x4096x2048 .bf16) (K W : FVec Ideal S8x4096x512 .bf16) : Prop where
  queries : (V c main_v134 : FVec Ideal S8x4096x2048 .bf16) = Q
  keys : (V c main_v135 : FVec Ideal S8x4096x512 .bf16) = K
  values : (V c main_v136 : FVec Ideal S8x4096x512 .bf16) = W

variable {V : (c : Dev nD) → (b : Ref sig .tc) → Buf (Elt Ideal) ((c : Thread nD τ).loc b)} {c : Dev nD}
  {Q : FVec Ideal S8x4096x2048 .bf16} {K W : FVec Ideal S8x4096x512 .bf16}

theorem bound0 (t : Fin cfg1.N) : (grid1.coords t 0).val < 8 := (grid1.coords t 0).isLt
theorem bound1 (t : Fin cfg1.N) : (grid1.coords t 1).val < 4 := (grid1.coords t 1).isLt
theorem bound2 (t : Fin cfg1.N) : (grid1.coords t 2).val < 16 := (grid1.coords t 2).isLt

/-- Where each window's block lies, from the grid's coordinates. -/
theorem map0 (i : grid1.Coords) : cc1_transform_0 i = ![(i 0).val, (i 2).val, (i 1).val] := by
  have h0 : (i 0).val < 8 := (i 0).isLt
  have h1 : (i 1).val < 4 := (i 1).isLt
  have h2 : (i 2).val < 16 := (i 2).isLt
  unfold cc1_transform_0
  funext a
  fin_cases a <;> simp [BitVec.toNat_ofNat] <;> omega

theorem map1 (i : grid1.Coords) : cc1_transform_1 i = ![(i 0).val, 0, (i 1).val] := by
  have h0 : (i 0).val < 8 := (i 0).isLt
  have h1 : (i 1).val < 4 := (i 1).isLt
  unfold cc1_transform_1
  funext a
  fin_cases a <;> simp [BitVec.toNat_ofNat] <;> omega

theorem place0 (t : Fin cfg1.N) : win1_0.index t = ![(grid1.coords t 0).val, (grid1.coords t 2).val, (grid1.coords t 1).val] := map0 _
theorem place1 (t : Fin cfg1.N) : win1_1.index t = ![(grid1.coords t 0).val, 0, (grid1.coords t 1).val] := map1 _
theorem place2 (t : Fin cfg1.N) : win1_2.index t = ![(grid1.coords t 0).val, 0, (grid1.coords t 1).val] := map1 _
theorem place3 (t : Fin cfg1.N) : win1_3.index t = ![(grid1.coords t 0).val, (grid1.coords t 2).val, (grid1.coords t 1).val] := map0 _

theorem queries (h : Found V c Q K W) (t : Fin cfg1.N) (i : Fin 256) (e : Fin 512) :
    iblk V c 0 t (ix3 (0 : Fin 1) i e) = Q
      (ix3 (⟨(grid1.coords t 0).val, bound0 t⟩ : Fin 8) (⟨256 * (grid1.coords t 2).val + i.val, by have := bound2 t; omega⟩ : Fin 4096)
        (⟨512 * (grid1.coords t 1).val + e.val, by have := bound1 t; omega⟩ : Fin 2048)) := by
  rw [← h.queries]
  blk_ext [iblk, place0 t]

theorem keys (h : Found V c Q K W) (t : Fin cfg1.N) (i : Fin 4096) (e : Fin 128) :
    iblk V c 1 t (ix3 (0 : Fin 1) i e) = K
      (ix3 (⟨(grid1.coords t 0).val, bound0 t⟩ : Fin 8) i (⟨128 * (grid1.coords t 1).val + e.val, by have := bound1 t; omega⟩ : Fin 512)) := by
  rw [← h.keys]
  blk_ext [iblk, place1 t]

theorem values (h : Found V c Q K W) (t : Fin cfg1.N) (i : Fin 4096) (e : Fin 128) :
    iblk V c 2 t (ix3 (0 : Fin 1) i e) = W
      (ix3 (⟨(grid1.coords t 0).val, bound0 t⟩ : Fin 8) i (⟨128 * (grid1.coords t 1).val + e.val, by have := bound1 t; omega⟩ : Fin 512)) := by
  rw [← h.values]
  blk_ext [iblk, place2 t]

/-- Every block of the output array is some point's. -/
theorem covers : (cfg1.win 3).Covers := by
  refine Pipeline.Window.covers_of_indexMap_surj _ rfl (fun a => by fin_cases a <;> decide) fun β => ?_
  have b0 : (β (0 : Fin 3)).val < 8 := lt_of_lt_of_eq (β (0 : Fin 3)).isLt (by decide +kernel)
  have b1 : (β (1 : Fin 3)).val < 16 := lt_of_lt_of_eq (β (1 : Fin 3)).isLt (by decide +kernel)
  have b2 : (β (2 : Fin 3)).val < 4 := lt_of_lt_of_eq (β (2 : Fin 3)).isLt (by decide +kernel)
  let i : grid1.Coords := Fin.cons ⟨_, b0⟩ (Fin.cons ⟨_, b2⟩ (Fin.cons ⟨_, b1⟩ finZeroElim))
  refine ⟨i, fun a => ?_⟩
  show cc1_transform_0 i a = _
  rw [map0]
  fin_cases a <;> rfl

set_option maxHeartbeats 2000000 in
/-- THE ATTENTION'S OUTPUT ARRAY, for real queries and keys. -/
theorem array (h : Found V c Q K W) (hq : ∀ i, ∃ y : ℝ, Q i = (y : EReal)) (hK : ∀ i, ∃ y : ℝ, K i = (y : EReal)) :
    (Own.K1.dat (F := Ideal) (Ix := Unit) (U := UR sig nD τ) (Lvl := ℕ) Variants.none V (fun _ => 0) c).arrAt 3 cfg1.N
      = fun j => attention Q K W (j 0) (j 1) (j 2) := by
  refine (Own.K1.dat (F := Ideal) (Ix := Unit) (U := UR sig nD τ) (Lvl := ℕ) Variants.none V (fun _ => 0) c).arrAt_eq_of_covers 3 _ covers fun t hf y => ?_
  blk_simp
  rw [after1_3]
  unfold outsAt1
  rw [out_eq]
  have h0 := bound0 t; have h1 := bound1 t; have h2 := bound2 t
  obtain ⟨z, i, e, rfl⟩ : ∃ (z : Fin 1) (i : Fin 256) (e : Fin 512), y = ix3 z i e := ⟨y 0, y 1, y 2, by funext a; fin_cases a <;> rfl⟩
  obtain rfl : z = 0 := Subsingleton.elim _ _
  obtain ⟨q, hQ⟩ : ∃ q : Vec Ideal Cert.AttnAIdeal.S1x256x512 .bf16, q = iblk V c 0 t := ⟨_, rfl⟩
  obtain ⟨k, hk⟩ : ∃ k : Vec Ideal Cert.AttnAIdeal.S1x4096x128 .bf16, k = iblk V c 1 t := ⟨_, rfl⟩
  obtain ⟨v, hv⟩ : ∃ v : Vec Ideal Cert.AttnAIdeal.S1x4096x128 .bf16, v = iblk V c 2 t := ⟨_, rfl⟩
  have eQ (i e) := (congrFun hQ (ix3 0 i e)).trans (queries h t i e)
  have eK (i e) := (congrFun hk (ix3 0 i e)).trans (keys h t i e)
  have eV (i e) := (congrFun hv (ix3 0 i e)).trans (values h t i e)
  rw [← hQ, ← hk, ← hv]
  refine (block_value q k v (fun i e => by rw [eQ]; exact hq _) (fun i e => by rw [eK]; exact hK _) i e).trans ?_
  have he := e.isLt
  simp only [eQ, eK, eV, attention]
  refine Finset.sum_congr rfl fun k _ => ?_
  congr 1
  · congr 1
    funext k'
    refine Finset.sum_congr rfl fun x _ => ?_
    congr 1 <;> blk_ext [place3 t]
  · blk_ext [place3 t]

end Cert.LayerAIdeal.Attend

end
-- ==== Proof.LayerAOut.lean ====
/-
  The out-projection as the third of a layer's three calls: its array, from what it finds.
-/
module

public import proofs.«01_k».proof.Proof.LayerACalls
public import proofs.«01_k».proof.Proof.OutProj

@[expose] public section

set_option maxRecDepth 16384

noncomputable section

namespace Cert.LayerAIdeal.Project

open Cert.LayerAIdeal Cert.LayerAIdeal.Gen Cert.LayerAIdeal.Own.K2 Idealize.ShloMosaic Idealize.ShloMosaic.TcCoe Idealize.SL.Sem
open Cert.OutProjIdeal.Block (silu projected)

/-- What the out-projection finds: the attention's result, the gates, the weights and the tokens. -/
structure Found (V : (c : Dev nD) → (b : Ref sig .tc) → Buf (Elt Ideal) ((c : Thread nD τ).loc b)) (c : Dev nD)
    (O Z : FVec Ideal S32768x2048 .bf16) (W : FVec Ideal S2048x2048 .bf16) (X : FVec Ideal S32768x2048 .f32) : Prop where
  attended : (V c main_v138 : FVec Ideal S32768x2048 .bf16) = O
  gates : (V c main_v133_3 : FVec Ideal S32768x2048 .bf16) = Z
  weights : (V c main_arg5 : FVec Ideal S2048x2048 .bf16) = W
  tokens : (V c main_arg0 : FVec Ideal S32768x2048 .f32) = X

variable {V : (c : Dev nD) → (b : Ref sig .tc) → Buf (Elt Ideal) ((c : Thread nD τ).loc b)} {c : Dev nD}
  {O Z : FVec Ideal S32768x2048 .bf16} {W : FVec Ideal S2048x2048 .bf16} {X : FVec Ideal S32768x2048 .f32}

theorem body (o z : Vec Ideal S512x2048 .bf16) (w : Vec Ideal S2048x2048 .bf16) (x : Vec Ideal S512x2048 .f32) (t : Fin 512) (j : Fin 2048) :
    k2_pay1 z o x w (ix2 t j) = x (ix2 t j) + ∑ k : Fin 2048, o (ix2 t k) * silu (z (ix2 t k)) * w (ix2 k j) := by
  pointwise [k2_pay1]
  rfl

theorem places : ∀ t : Fin cfg2.N, win2_0.index t = ![t.val, 0] ∧ win2_1.index t = ![t.val, 0] ∧ win2_2.index t = ![0, 0] ∧ win2_3.index t = ![t.val, 0] ∧ win2_4.index t = ![t.val, 0] := by
  decide +kernel

/-- The block a point stores. -/
theorem out_eq (t : Fin cfg2.N) (i : Fin 512) (e : Fin 2048) :
    outsAt2 (F := Ideal) (Ix := Unit) (U := UR sig nD τ) (Lvl := ℕ) Variants.none V c t (ix2 i e)
      = k2_pay1 (iblk V c 1 t) (iblk V c 0 t) (iblk V c 3 t) (iblk V c 2 t) (ix2 i e) := by
  unfold outsAt2
  frame_out

set_option maxHeartbeats 2000000 in
/-- THE OUT-PROJECTION'S ARRAY. -/
theorem array (h : Found V c O Z W X) :
    (Own.K2.dat (F := Ideal) (Ix := Unit) (U := UR sig nD τ) (Lvl := ℕ) Variants.none V (fun _ => 0) c).arrAt 4 cfg2.N
      = fun j => projected O Z W X (j 0) (j 1) := by
  refine (Own.K2.dat (F := Ideal) (Ix := Unit) (U := UR sig nD τ) (Lvl := ℕ) Variants.none V (fun _ => 0) c).arrAt_eq_of_covers 4 _ (by decide +kernel) fun t hf y => ?_
  blk_simp
  rw [after2_4]
  obtain ⟨i, e, rfl⟩ : ∃ (i : Fin 512) (e : Fin 2048), y = ix2 i e := ⟨y 0, y 1, by funext a; fin_cases a <;> rfl⟩
  obtain ⟨p0, p1, p2, p3, p4⟩ := places t
  refine (out_eq t i e).trans ((body _ _ _ _ i e).trans ?_)
  unfold projected
  rw [← h.attended, ← h.gates, ← h.weights, ← h.tokens]
  congr 1
  · blk_ext [iblk, p3, p4]
  · refine Finset.sum_congr rfl fun k _ => ?_
    congr 1
    · congr 1
      · blk_ext [iblk, p0, p4]
      · congr 1
        blk_ext [iblk, p1, p4]
    · blk_ext [iblk, p2, p4]

end Cert.LayerAIdeal.Project

end
-- ==== Proof.RopeReal.lean ====
/-
  A head normalized and rotated is real wherever its gain is, whatever the head: a head with an infinite entry has an infinite mean
  square, whose inverse root is zero.
-/
module

public import proofs.«01_k».proof.Proof.Rope

@[expose] public section

noncomputable section

namespace Cert.Rope

open Idealize.ShloMosaic

/-- A real number among the extended ones. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.div {x y : EReal} (hx : IsReal x) (hy : IsReal y) (h : y ≠ 0) : IsReal (Ideal.div x y) := by
  obtain ⟨a, rfl⟩ := hx; obtain ⟨b, rfl⟩ := hy
  unfold Ideal.div
  rw [if_neg h]
  exact ⟨a * b⁻¹, by rw [EReal.coe_mul, EReal.coe_inv]⟩
theorem IsReal.cos {x : EReal} (hx : IsReal x) : IsReal (Ideal.cos x) := by obtain ⟨a, rfl⟩ := hx; exact ⟨Real.cos a, rfl⟩
theorem IsReal.sin {x : EReal} (hx : IsReal x) : IsReal (Ideal.sin x) := by obtain ⟨a, rfl⟩ := hx; exact ⟨Real.sin a, rfl⟩

/-- An angle is real, `N` a word of a positive number. -/
theorem angle_real (N : BitVec 32) (hN : ∃ k : ℝ, 0 < k ∧ Ideal.ofBits .f32 N = (k : EReal)) (p f : Nat) : IsReal (angle N p f) := by
  obtain ⟨n, hn, hN⟩ := hN
  obtain ⟨a, ha, hA⟩ := word_pos 0x461C4000#32 (by decide) (by decide) (by decide)
  obtain ⟨b, hb, hB⟩ := word_pos 0x40000000#32 (by decide) (by decide) (by decide)
  unfold angle
  rw [hN, hA, hB]
  refine IsReal.mul ⟨_, rfl⟩ ?_
  obtain ⟨e, he⟩ : IsReal (Ideal.div ((b : EReal) * FloatOps.sitofp (F := Ideal) .f32 (BitVec.ofNat 32 f)) (n : EReal)) :=
    IsReal.div (IsReal.mul ⟨b, rfl⟩ ⟨_, rfl⟩) ⟨n, rfl⟩ (EReal.coe_ne_zero.2 hn.ne')
  rw [he]
  refine IsReal.div ⟨1, rfl⟩ ⟨Real.rpow a e, rfl⟩ ?_
  exact EReal.coe_ne_zero.2 (Real.rpow_pos_of_pos ha e).ne'

/-- A number whose square is not infinite is real. -/
theorem real_of_square {x : EReal} (h : x * x ≠ ⊤) : IsReal x := by
  induction x using EReal.rec with
  | bot => exact absurd (by simp) h
  | coe y => exact ⟨y, rfl⟩
  | top => exact absurd (by simp) h

/-- An inverse root of a positive number is real. -/
theorem rsqrt_real {z : EReal} (hz : 0 < z) : IsReal (Ideal.rsqrt z) := by
  obtain ⟨h0, h1⟩ := rsqrt_bounds hz
  exact ⟨_, (EReal.coe_toReal h1 (ne_bot_of_le_ne_bot (by simp) h0)).symm⟩

/-- A head's entry times the head's inverse root mean square is real. -/
theorem normalized_real (y : Fin 128 → EReal) (e : Fin 128) : IsReal (y e * invRms 0x43000000#32 y) := by
  obtain ⟨a, ha, hA⟩ := word_pos 0x43000000#32 (by decide) (by decide) (by decide)
  obtain ⟨b, hb, hB⟩ := word_pos 0x358637BD#32 (by decide) (by decide) (by decide)
  by_cases h : y e * y e = ⊤
  · have hs : (∑ e, y e * y e) = ⊤ := top_le_iff.1 (h ▸ Finset.single_le_sum (f := fun e => y e * y e) (fun e _ => square_nonneg (y e)) (Finset.mem_univ e))
    have hr : invRms 0x43000000#32 y = 0 := by
      unfold invRms Ideal.div
      rw [hs, hA, hB, if_neg (EReal.coe_ne_zero.2 ha.ne'), ← EReal.coe_inv, EReal.top_mul_coe_of_pos (inv_pos.2 ha), EReal.top_add_coe]
      rfl
    rw [hr, mul_zero]; exact ⟨0, rfl⟩
  · refine IsReal.mul (real_of_square h) ?_
    obtain ⟨h0, h1⟩ := invRms_bounds y
    exact ⟨_, (EReal.coe_toReal h1 (ne_bot_of_le_ne_bot (by simp) h0)).symm⟩

theorem unit_real (y g : Fin 128 → EReal) (hg : ∀ e, IsReal (g e)) (e : Fin 128) : IsReal (unit y g e) := (normalized_real y e).mul (hg e)

theorem half_real (u : Fin 64 → EReal) (c s : Fin 32 → EReal) (hu : ∀ i, IsReal (u i)) (hc : ∀ f, IsReal (c f)) (hs : ∀ f, IsReal (s f)) (i : Fin 64) :
    IsReal (half u c s i) := by
  unfold half
  split
  · exact ((hu _).mul (hc _)).sub ((hu _).mul (hs _))
  · exact ((hu _).mul (hc _)).add ((hu _).mul (hs _))

/-- THE ROTATED HEADS ARE REAL wherever the gain is. -/
theorem roped2_real {N : Nat} (Y : Fin 32768 → Fin N → EReal) (G : Fin 128 → EReal) (hG : ∀ e, IsReal (G e)) (o W : Nat) (ho : o + W ≤ N) (hW : 128 ∣ W)
    (t : Fin 32768) (j : Fin W) : IsReal (roped2 Y G o W ho hW t j) := by
  have hN := word_pos 0x42800000#32 (by decide) (by decide) (by decide)
  unfold roped2 plain2
  split
  · exact half_real _ _ _ (fun _ => unit_real _ _ hG _) (fun _ => (angle_real _ hN _ _).cos) (fun _ => (angle_real _ hN _ _).sin) _
  · exact half_real _ _ _ (fun _ => unit_real _ _ hG _) (fun _ => (angle_real _ hN _ _).cos) (fun _ => (angle_real _ hN _ _).sin) _

/-- The queries' scale is real. -/
theorem scale_real : IsReal (Ideal.ofBits .f32 0x3DB504F3#32) := by
  obtain ⟨a, _, hA⟩ := word_pos 0x3DB504F3#32 (by decide) (by decide) (by decide)
  exact ⟨a, hA⟩

end Cert.Rope

end
-- ==== Proof.LayerASpec.lean ====
/-
  The layer of the first kind at an index: its in-projection, the attention of the reshaped queries, keys and values, and its
  out-projection, in the terms the three calls' values are stated in.
-/
module

public import proofs.«01_k».proof.Proof.ProjAValue
public import proofs.«01_k».proof.Proof.RopeReal
public import proofs.«01_k».proof.Proof.AttnAValue
public import proofs.«01_k».proof.Proof.OutProj

@[expose] public section

set_option maxRecDepth 16384

noncomputable section

namespace Cert.LayerASpec

open Idealize.ShloMosaic
open Cert.ProjAIdeal.Body (rows)

/-- The shapes of the arrays between the calls: tokens in one list or apart by prompt, and the columns of all heads or of the keys'. -/
abbrev flat : Shape := ⟨2, ![32768, 2048]⟩
abbrev flatKeys : Shape := ⟨2, ![32768, 512]⟩
abbrev apart : Shape := ⟨3, ![8, 4096, 2048]⟩
abbrev apartKeys : Shape := ⟨3, ![8, 4096, 512]⟩

theorem flat_apart : flat.ShapeCasts apart := by decide
theorem flat_apartKeys : flatKeys.ShapeCasts apartKeys := by decide
theorem apart_flat : apart.ShapeCasts flat := by decide

variable (x : FVec Ideal flat .f32) (g : FVec Ideal ⟨1, ![2048]⟩ .f32) (w : FVec Ideal ⟨2, ![2048, 5120]⟩ .bf16)
  (Gq Gk : FVec Ideal ⟨1, ![128]⟩ .f32) (wo : FVec Ideal ⟨2, ![2048, 2048]⟩ .bf16)

/-- The queries, -/
def queries : FVec Ideal flat .bf16 := fun j =>
  Rope.roped2 (rows x g w) (fun e => Gq (ix1 e)) 0 2048 (by decide) (by decide) (j 0) (j 1) * Ideal.ofBits .f32 0x3DB504F3#32

/-- the keys, -/
def keys : FVec Ideal flatKeys .bf16 := fun j => Rope.roped2 (rows x g w) (fun e => Gk (ix1 e)) 2048 512 (by decide) (by decide) (j 0) (j 1)

/-- the values -/
def values : FVec Ideal flatKeys .bf16 := fun j => rows x g w (j 0) ⟨2560 + (j 1).val, by have : (j 1).val < 512 := (j 1).isLt; omega⟩

/-- and the gates. -/
def gates : FVec Ideal flat .bf16 := fun j => rows x g w (j 0) ⟨3072 + (j 1).val, by have : (j 1).val < 2048 := (j 1).isLt; omega⟩

/-- The attention's result. -/
def attended : FVec Ideal apart .bf16 := fun j => Cert.AttnAIdeal.Block.attention (shapeCast apart (queries x g w Gq) flat_apart)
  (shapeCast apartKeys (keys x g w Gk) flat_apartKeys) (shapeCast apartKeys (values x g w) flat_apartKeys) (j 0) (j 1) (j 2)

/-- THE LAYER. -/
def layer : FVec Ideal flat .f32 := fun j =>
  Cert.OutProjIdeal.Block.projected (shapeCast flat (attended x g w Gq Gk) apart_flat) (gates x g w) wo x (j 0) (j 1)

/-- The queries are real wherever their gain is. -/
theorem queries_real (h : ∀ e, ∃ r : ℝ, Gq e = (r : EReal)) (j) : ∃ r : ℝ, shapeCast apart (queries x g w Gq) flat_apart j = (r : EReal) := by
  unfold shapeCast queries
  exact Rope.IsReal.mul (Rope.roped2_real _ _ (fun e => h _) _ _ _ _ _ _) Rope.scale_real

/-- The keys are real wherever their gain is. -/
theorem keys_real (h : ∀ e, ∃ r : ℝ, Gk e = (r : EReal)) (j) : ∃ r : ℝ, shapeCast apartKeys (keys x g w Gk) flat_apartKeys j = (r : EReal) := by
  unfold shapeCast keys
  exact Rope.roped2_real _ _ (fun e => h _) _ _ _ _ _ _

end Cert.LayerASpec

end
-- ==== Proof.LayerAValue.lean ====
/-
  The kernel of the first kind's layer over the extended reals: the array its three calls leave is the layer of the arguments.
-/
module

public import proofs.«01_k».proof.Proof.LayerARun
public import proofs.«01_k».proof.Proof.LayerAProj
public import proofs.«01_k».proof.Proof.LayerAAttn
public import proofs.«01_k».proof.Proof.LayerAOut
public import proofs.«01_k».proof.Proof.LayerASpec

@[expose] public section

set_option maxRecDepth 16384

noncomputable section

namespace Cert.LayerAIdeal.Body

open Cert.LayerAIdeal Cert.LayerAIdeal.Gen Idealize.ShloMosaic Idealize.ShloMosaic.TcCoe Idealize.SL.Sem
open Cert.ProjAIdeal.Body (tableOf)
open Cert.LayerASpec (flat flatKeys apartKeys flat_apart flat_apartKeys apart_flat layer attended)

variable (m : (ℓ : Loc nD τ sig) → Buf (Elt Ideal) ℓ) (c : Dev nD)

/-! ## What the in-projection finds -/

/-- A buffer no host stretch before the in-projection writes is as the launch found it. -/
theorem entry_kept (r : Ref sig .tc) (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) : entry m c r = m ((c : Thread nD τ).loc r) :=
  (V9_of m c r h8).trans ((V8_of m c r h7).trans ((V7_of m c r h6).trans ((V6_of m c r h5).trans ((V5_of m c r h4).trans ((V4_of m c r h3).trans
    ((V3_of m c r h2).trans ((V2_of m c r h1).trans (V1_of m c r h0))))))))

theorem entry_queryTable : (entry m c main_v65 : FVec Ideal S3x4096x128 .f32) = tableOf (m ((c : Thread nD τ).loc main_arg3)) 0x3DB504F3#32 := by
  simp only [entry, V9, V8, V7, V6, V5, V4, V3, V2, V1, ← StableHlo.after_append]
  simp only [hostOps0, hostOps0_1, hostOps0_2, hostOps0_3, hostOps0_4, hostOps0_5, hostOps0_6, hostOps0_7, hostOps0_8, List.cons_append, List.nil_append]
  after_results_simp <;> rfl

theorem entry_keyTable : (entry m c main_v131 : FVec Ideal S3x4096x128 .f32) = tableOf (m ((c : Thread nD τ).loc main_arg4)) 0x3F800000#32 := by
  simp only [entry, V9, V8, V7, V6, V5, V4, V3, V2, V1, ← StableHlo.after_append]
  simp only [hostOps0, hostOps0_1, hostOps0_2, hostOps0_3, hostOps0_4, hostOps0_5, hostOps0_6, hostOps0_7, hostOps0_8, List.cons_append, List.nil_append]
  after_results_simp <;> rfl

theorem entry_gain : (entry m c main_v132 : FVec Ideal S1x2048 .f32) = shapeCast S1x2048 (m ((c : Thread nD τ).loc main_arg1) : FVec Ideal S2048 .f32) shapeCasts_S2048_S1x2048 := by
  simp only [entry, V9, V8, V7, V6, V5, V4, V3, V2, V1, ← StableHlo.after_append]
  simp only [hostOps0, hostOps0_1, hostOps0_2, hostOps0_3, hostOps0_4, hostOps0_5, hostOps0_6, hostOps0_7, hostOps0_8, List.cons_append, List.nil_append]
  after_results_simp <;> rfl

/-- The arguments. -/
abbrev argX : FVec Ideal S32768x2048 .f32 := m ((c : Thread nD τ).loc main_arg0)
abbrev argG : FVec Ideal S2048 .f32 := m ((c : Thread nD τ).loc main_arg1)
abbrev argW : FVec Ideal S2048x5120 .bf16 := m ((c : Thread nD τ).loc main_arg2)
abbrev argQ : FVec Ideal S128 .f32 := m ((c : Thread nD τ).loc main_arg3)
abbrev argK : FVec Ideal S128 .f32 := m ((c : Thread nD τ).loc main_arg4)
abbrev argO : FVec Ideal S2048x2048 .bf16 := m ((c : Thread nD τ).loc main_arg5)

theorem found0 : Found (entry m) c (argX m c) (argG m c) (argW m c) (argQ m c) (argK m c) where
  tokens := entry_kept m c main_arg0 (by decide) (by decide) (by decide) (by decide) (by decide) (by decide) (by decide) (by decide) (by decide)
  gain := entry_gain m c
  weights := entry_kept m c main_arg2 (by decide) (by decide) (by decide) (by decide) (by decide) (by decide) (by decide) (by decide) (by decide)
  queryTable := entry_queryTable m c
  keyTable := entry_keyTable m c

/-! ## What the attention finds -/

theorem left0_kept (r : Ref sig .tc) (h0 : r ≠ main_v133_0) (h1 : r ≠ main_v133_1) (h2 : r ≠ main_v133_2) (h3 : r ≠ main_v133_3) :
    left0 m c (Proc.devRef .tc r) = entry m c r := by
  rw [left0, Function.update_of_ne (Body.apart h3), Function.update_of_ne (Body.apart h2), Function.update_of_ne (Body.apart h1), Function.update_of_ne (Body.apart h0)]

theorem reshaped_queries : (found1 m c (Proc.devRef .tc main_v134) : FVec Ideal S8x4096x2048 .bf16)
    = shapeCast S8x4096x2048 (left0 m c (Proc.devRef .tc main_v133_0) : FVec Ideal S32768x2048 .bf16) shapeCasts_S32768x2048_S8x4096x2048 := by
  unfold found1
  simp only [hostOps1]
  after_results_simp <;> rfl

theorem reshaped_keys : (found1 m c (Proc.devRef .tc main_v135) : FVec Ideal S8x4096x512 .bf16)
    = shapeCast S8x4096x512 (left0 m c (Proc.devRef .tc main_v133_1) : FVec Ideal S32768x512 .bf16) shapeCasts_S32768x512_S8x4096x512 := by
  unfold found1
  simp only [hostOps1]
  after_results_simp <;> rfl

theorem reshaped_values : (found1 m c (Proc.devRef .tc main_v136) : FVec Ideal S8x4096x512 .bf16)
    = shapeCast S8x4096x512 (left0 m c (Proc.devRef .tc main_v133_2) : FVec Ideal S32768x512 .bf16) shapeCasts_S32768x512_S8x4096x512 := by
  unfold found1
  simp only [hostOps1]
  after_results_simp <;> rfl

theorem found1_kept (r : Ref sig .tc) (h : r ∉ hostOps1_W) : found1 m c (Proc.devRef .tc r) = left0 m c (Proc.devRef .tc r) :=
  StableHlo.after_of_writes_sub hostOps1 (left0 m c) hostOps1_writes h

theorem found_attention : Attend.Found (fun c b => found1 m c (Proc.devRef .tc b)) c
    (shapeCast Cert.LayerASpec.apart (Cert.LayerASpec.queries (argX m c) (argG m c) (argW m c) (argQ m c)) flat_apart)
    (shapeCast apartKeys (Cert.LayerASpec.keys (argX m c) (argG m c) (argW m c) (argK m c)) flat_apartKeys)
    (shapeCast apartKeys (Cert.LayerASpec.values (argX m c) (argG m c) (argW m c)) flat_apartKeys) where
  queries := (reshaped_queries m c).trans (congrArg (fun z => shapeCast S8x4096x2048 z shapeCasts_S32768x2048_S8x4096x2048) ((left0_queries m c).trans (queries_array (found0 m c))))
  keys := (reshaped_keys m c).trans (congrArg (fun z => shapeCast S8x4096x512 z shapeCasts_S32768x512_S8x4096x512) ((left0_keys m c).trans (keys_array (found0 m c))))
  values := (reshaped_values m c).trans (congrArg (fun z => shapeCast S8x4096x512 z shapeCasts_S32768x512_S8x4096x512) ((left0_values m c).trans (values_array (found0 m c))))

/-! ## What the out-projection finds -/

theorem left1_attended : left1 m c (Proc.devRef .tc main_v137) = (dat1 m c).arrAt 3 cfg1.N := by rw [left1, Function.update_self]

theorem left1_kept (r : Ref sig .tc) (h : r ≠ main_v137) : left1 m c (Proc.devRef .tc r) = found1 m c (Proc.devRef .tc r) := by
  rw [left1, Function.update_of_ne (Body.apart h)]

theorem reshaped_attended : (found2 m c (Proc.devRef .tc main_v138) : FVec Ideal S32768x2048 .bf16)
    = shapeCast S32768x2048 (left1 m c (Proc.devRef .tc main_v137) : FVec Ideal S8x4096x2048 .bf16) shapeCasts_S8x4096x2048_S32768x2048 := by
  unfold found2
  simp only [hostOps2]
  after_results_simp <;> rfl

theorem found2_kept (r : Ref sig .tc) (h : r ∉ hostOps2_W) (h' : r ≠ main_v137) (h'' : r ∉ hostOps1_W) :
    found2 m c (Proc.devRef .tc r) = left0 m c (Proc.devRef .tc r) :=
  (StableHlo.after_of_writes_sub hostOps2 (left1 m c) hostOps2_writes h).trans ((left1_kept m c r h').trans (found1_kept m c r h''))

variable (hq : ∀ e, ∃ r : ℝ, argQ m c e = (r : EReal)) (hk : ∀ e, ∃ r : ℝ, argK m c e = (r : EReal))
include hq hk

/-- The attention's array, for real gains. -/
theorem attended_array : (dat1 m c).arrAt 3 cfg1.N = attended (argX m c) (argG m c) (argW m c) (argQ m c) (argK m c) :=
  Attend.array (found_attention m c) (Cert.LayerASpec.queries_real _ _ _ _ hq) (Cert.LayerASpec.keys_real _ _ _ _ hk)

theorem found_projection : Project.Found (fun c b => found2 m c (Proc.devRef .tc b)) c
    (shapeCast flat (attended (argX m c) (argG m c) (argW m c) (argQ m c) (argK m c)) apart_flat)
    (Cert.LayerASpec.gates (argX m c) (argG m c) (argW m c)) (argO m c) (argX m c) where
  attended := (reshaped_attended m c).trans (congrArg (fun z => shapeCast S32768x2048 z shapeCasts_S8x4096x2048_S32768x2048) ((left1_attended m c).trans (attended_array m c hq hk)))
  gates := (found2_kept m c main_v133_3 (by decide) (by decide) (by decide)).trans ((left0_gates m c).trans (gates_array (found0 m c)))
  weights := (found2_kept m c main_arg5 (by decide) (by decide) (by decide)).trans ((left0_kept m c main_arg5 (by decide) (by decide) (by decide) (by decide)).trans
    (entry_kept m c main_arg5 (by decide) (by decide) (by decide) (by decide) (by decide) (by decide) (by decide) (by decide) (by decide)))
  tokens := (found2_kept m c main_arg0 (by decide) (by decide) (by decide)).trans ((left0_kept m c main_arg0 (by decide) (by decide) (by decide) (by decide)).trans
    (entry_kept m c main_arg0 (by decide) (by decide) (by decide) (by decide) (by decide) (by decide) (by decide) (by decide) (by decide)))

/-- THE KERNEL'S RESULT is the layer, for real gains. -/
theorem layer_array : (dat2 m c).arrAt 4 cfg2.N = layer (argX m c) (argG m c) (argW m c) (argQ m c) (argK m c) (argO m c) :=
  Project.array (found_projection m c hq hk)

end Cert.LayerAIdeal.Body

end
-- ==== Proof.LayerARef.lean ====
/-
  The layer's reference: its result is the layer.
-/
module

public import proofs.«01_k».proof.Proof.LayerASpec
public import proofs.«01_k».proof.Proof.ProjARef
public import proofs.«01_k».proof.Proof.AttnARef
public import proofs.«01_k».proof.Proof.Gen.LayerARefIdeal.Run

@[expose] public section

set_option maxRecDepth 16384

noncomputable section

namespace Cert.LayerARefIdeal.Block

open Cert.LayerARefIdeal Cert.LayerARefIdeal.Gen Cert.LayerARefIdeal.Value Idealize.ShloMosaic Idealize.ShloMosaic.TcCoe Idealize.SL.Sem
open Cert.ProjARefIdeal.Block (normed product queries_apply keys_apply values_apply gates_apply)
open Cert.AttnARefIdeal.Block (scores maxima exps quotients mix)
open Idealize.ShloMosaic.StableHlo (launchContents)
open Cert.LayerASpec (flat flatKeys apart apartKeys flat_apart flat_apartKeys apart_flat layer attended)

variable (V0 : Valuation τ sig (Elt Ideal))

/-- The arguments. -/
abbrev argX : FVec Ideal S32768x2048 .f32 := V0 (Proc.devRef .tc main_arg0)
abbrev argG : FVec Ideal S2048 .f32 := V0 (Proc.devRef .tc main_arg1)
abbrev argW : FVec Ideal S2048x5120 .bf16 := V0 (Proc.devRef .tc main_arg2)
abbrev argQ : FVec Ideal S128 .f32 := V0 (Proc.devRef .tc main_arg3)
abbrev argK : FVec Ideal S128 .f32 := V0 (Proc.devRef .tc main_arg4)
abbrev argO : FVec Ideal S2048x2048 .bf16 := V0 (Proc.devRef .tc main_arg5)

/-- The values and the gates as the reference writes them. -/
def valuesOf (y : FVec Ideal S8x4096x5120 .f32) : FVec Ideal S32768x512 .bf16 :=
  truncf .bf16 (shapeCast S32768x512 (extractStridedSlice S8x4096x512 ![0, 0, 2560] y slices_S8x4096x5120_S8x4096x512_0_0_2560) shapeCasts_S8x4096x512_S32768x512) bitsLt_bf16_f32
def gatesOf (y : FVec Ideal S8x4096x5120 .f32) : FVec Ideal S32768x2048 .bf16 :=
  truncf .bf16 (shapeCast S32768x2048 (extractStridedSlice S8x4096x2048 ![0, 0, 3072] y slices_S8x4096x5120_S8x4096x2048_0_0_3072) shapeCasts_S8x4096x2048_S32768x2048) bitsLt_bf16_f32

theorem product_eq : res_main_v15 V0 = product (normed (argX V0) (argG V0)) (argW V0) := rfl

set_option maxHeartbeats 1000000 in
theorem scores_eq : res_main_v213 V0 = scores (shapeCast apart (Cert.ProjARefIdeal.Block.queries (argX V0) (argG V0) (argW V0) (argQ V0)) flat_apart)
    (shapeCast apartKeys (Cert.ProjARefIdeal.Block.keys (argX V0) (argG V0) (argW V0) (argK V0)) flat_apartKeys) := rfl

theorem exps_eq : res_main_v220 V0 = exps (res_main_v213 V0) (maxima (res_main_v213 V0)) := rfl

theorem gates_eq : res_main_v231 V0 = extf .f32 (gatesOf (res_main_v15 V0)) bitsLt_bf16_f32 := rfl

/-- An array is known by its entries. -/
theorem entries {N : ℕ} {s : Fin 32768 → Fin N → EReal} (x : FVec Ideal ⟨2, ![32768, N]⟩ .bf16) (h : ∀ t j, x (ix2 t j) = s t j) : x = fun j => s (j 0) (j 1) := by
  funext j
  obtain ⟨t, e, rfl⟩ : ∃ (t : Fin 32768) (e : Fin N), j = ix2 t e := ⟨j 0, j 1, by funext a; fin_cases a <;> rfl⟩
  exact h t e

section Parts

variable (x : FVec Ideal S32768x2048 .f32) (g : FVec Ideal S2048 .f32) (w : FVec Ideal S2048x5120 .bf16) (G : FVec Ideal S128 .f32)

theorem queries_eq : Cert.ProjARefIdeal.Block.queries x g w G = Cert.LayerASpec.queries x g w G := entries _ (queries_apply _ _ _ _)
theorem keys_eq : Cert.ProjARefIdeal.Block.keys x g w G = Cert.LayerASpec.keys x g w G := entries _ (keys_apply _ _ _ _)
theorem values_eq : valuesOf (product (normed x g) w) = Cert.LayerASpec.values x g w :=
  entries (s := fun t j => Cert.ProjARefIdeal.Block.rows x g w t ⟨2560 + j.val, by omega⟩) _ (values_apply _ _ _)
theorem gatesOf_eq : gatesOf (product (normed x g) w) = Cert.LayerASpec.gates x g w :=
  entries (s := fun t j => Cert.ProjARefIdeal.Block.rows x g w t ⟨3072 + j.val, by omega⟩) _ (gates_apply _ _ _)

/-- The attention of the reference's queries, keys and values. -/
theorem attended_eq (Gq Gk : FVec Ideal S128 .f32) (S : FVec Ideal S8x4x4x4096x4096 .f32)
    (hS : S = scores (shapeCast apart (Cert.ProjARefIdeal.Block.queries x g w Gq) flat_apart) (shapeCast apartKeys (Cert.ProjARefIdeal.Block.keys x g w Gk) flat_apartKeys)) :
    mix (quotients (exps S (maxima S))) (shapeCast apartKeys (valuesOf (product (normed x g) w)) flat_apartKeys) = attended x g w Gq Gk := by
  subst hS
  rw [queries_eq, keys_eq, values_eq]
  exact Cert.AttnARefIdeal.Block.value _ _ _

end Parts

variable (m : (ℓ : Loc nD τ sig) → Buf (Elt Ideal) ℓ) (ρ : Dev nD → PrngReg)

set_option maxHeartbeats 1000000 in
/-- THE REFERENCE'S RESULT is the layer of its arguments. -/
theorem run : θ_run defs (onTc (τ := τ) (main (F := Ideal))) ⟨m, fun _ => 0, ρ⟩ fun r => ∀ c : Dev nD,
      r.2.mem ((c.tc : Thread nD τ).loc main_v236) = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  rw [gates_eq, product_eq, exps_eq]
  have hA := attended_eq (argX (launchContents m c)) (argG (launchContents m c)) (argW (launchContents m c)) (argQ (launchContents m c)) (argK (launchContents m c))
    (res_main_v213 (launchContents m c)) (scores_eq (launchContents m c))
  have hZ := gatesOf_eq (argX (launchContents m c)) (argG (launchContents m c)) (argW (launchContents m c))
  rw [hZ]
  refine Eq.trans ?_ ((Cert.OutProjRefIdeal.Block.value (shapeCast flat (attended (argX (launchContents m c)) (argG (launchContents m c)) (argW (launchContents m c))
    (argQ (launchContents m c)) (argK (launchContents m c))) apart_flat) (Cert.LayerASpec.gates (argX (launchContents m c)) (argG (launchContents m c)) (argW (launchContents m c)))
    (argO (launchContents m c)) (argX (launchContents m c))).trans rfl)
  rw [← hA]
  rfl

end Cert.LayerARefIdeal.Block

end
-- ==== Proof.LayerASame.lean ====
/-
  The layer's first kind: the kernel over the machine's bits, by its being the same program as its reading over the extended reals.
-/
module

public import proofs.«01_k».proof.Defs
public import proofs.«01_k».proof.Proof.LayerARun
public import proofs.«01_k».proof.Proof.Gen.LayerA.Launch
public import proofs.«01_k».proof.Proof.Same

@[expose] public section

set_option maxRecDepth 16384

noncomputable section

namespace Cert.LayerAProof

open Idealize.ShloMosaic Idealize.SL.Sem

variable {F : FTy → Type} [FloatOps F]

/-- The two printings have the same host operations, -/
theorem ops0 : Cert.LayerA.Gen.hostOps0 (F := F) = Cert.LayerAIdeal.Gen.hostOps0 (F := F) := rfl
theorem ops1 : Cert.LayerA.Gen.hostOps0_1 (F := F) = Cert.LayerAIdeal.Gen.hostOps0_1 (F := F) := rfl
theorem ops2 : Cert.LayerA.Gen.hostOps0_2 (F := F) = Cert.LayerAIdeal.Gen.hostOps0_2 (F := F) := rfl
theorem ops3 : Cert.LayerA.Gen.hostOps0_3 (F := F) = Cert.LayerAIdeal.Gen.hostOps0_3 (F := F) := rfl
theorem ops4 : Cert.LayerA.Gen.hostOps0_4 (F := F) = Cert.LayerAIdeal.Gen.hostOps0_4 (F := F) := rfl
theorem ops5 : Cert.LayerA.Gen.hostOps0_5 (F := F) = Cert.LayerAIdeal.Gen.hostOps0_5 (F := F) := rfl
theorem ops6 : Cert.LayerA.Gen.hostOps0_6 (F := F) = Cert.LayerAIdeal.Gen.hostOps0_6 (F := F) := rfl
theorem ops7 : Cert.LayerA.Gen.hostOps0_7 (F := F) = Cert.LayerAIdeal.Gen.hostOps0_7 (F := F) := rfl
theorem ops8 : Cert.LayerA.Gen.hostOps0_8 (F := F) = Cert.LayerAIdeal.Gen.hostOps0_8 (F := F) := rfl
theorem ops_between : Cert.LayerA.Gen.hostOps1 (F := F) = Cert.LayerAIdeal.Gen.hostOps1 (F := F) := rfl
theorem ops_last : Cert.LayerA.Gen.hostOps2 (F := F) = Cert.LayerAIdeal.Gen.hostOps2 (F := F) := rfl

set_option maxHeartbeats 2000000 in
/-- the same kernel bodies, -/
theorem bodies : Cert.LayerA.defs₀ (F := F) = Cert.LayerAIdeal.defs₀ (F := F) := by
  unfold Cert.LayerA.defs₀ Cert.LayerAIdeal.defs₀
  refine congrArg Defs.onTc ?_
  funext l x
  match l, x with
  | 0, (t, s) => rfl
  | 1, (t, s) => rfl
  | 2, (t, s) => rfl

set_option maxHeartbeats 4000000 in
/-- the same pipelines, -/
theorem pipeline0 : Cert.LayerA.cfg0 = Cert.LayerAIdeal.cfg0 := rfl
set_option maxHeartbeats 4000000 in
theorem pipeline1 : Cert.LayerA.cfg1 = Cert.LayerAIdeal.cfg1 := rfl
set_option maxHeartbeats 4000000 in
theorem pipeline2 : Cert.LayerA.cfg2 = Cert.LayerAIdeal.cfg2 := rfl

set_option maxHeartbeats 2000000 in
theorem pipelines : Cert.LayerA.cfgs = Cert.LayerAIdeal.cfgs := by
  funext p
  match p with
  | 0 => exact pipeline0
  | 1 => exact pipeline1
  | 2 => exact pipeline2

/-- Equal pipelines with equal bodies have equal body tables. -/
theorem defs_of {C C' : Fin 3 → Pipeline.Cfg Cert.LayerA.sig Cert.LayerA.Λ₀} (hC : C = C') {D D' : Defs Cert.LayerA.nD Cert.LayerA.τ Cert.LayerA.sig (Elt F) Cert.LayerA.Λ₀}
    (hD : D = D') : HEq (Pipeline.defs (fun p => (C p).toPCfg) D) (Pipeline.defs (fun p => (C' p).toPCfg) D') := by subst hC hD; rfl

set_option maxHeartbeats 2000000 in
/-- the same body table -/
theorem tables : Cert.LayerA.defs (F := F) = Cert.LayerAIdeal.defs (F := F) := by
  unfold Cert.LayerA.defs Cert.LayerAIdeal.defs
  exact eq_of_heq (defs_of pipelines bodies)

/-- Chains of nine equal pieces, then three calls with an equal piece before each of the last two, are equal. -/
theorem chain_calls {α β γ : Type*} (f : List α → γ) (g : β → α) (r r' r'' : α) {a a' b b' c c' d d' e e' i i' j j' k k' l l' p p' q q' : β}
    (ha : a = a') (hb : b = b') (hc : c = c') (hd : d = d') (he : e = e') (hi : i = i') (hj : j = j') (hk : k = k') (hl : l = l')
    (hp : p = p') (hq : q = q') :
    f [g a, g b, g c, g d, g e, g i, g j, g k, g l, r, g p, r', g q, r''] = f [g a', g b', g c', g d', g e', g i', g j', g k', g l', r, g p', r', g q', r''] := by
  subst ha hb hc hd he hi hj hk hl hp hq; rfl

set_option maxHeartbeats 1000000 in
/-- and the same main program. -/
theorem mains : Cert.LayerA.main (F := F) = Cert.LayerAIdeal.main (F := F) := by
  funext c
  refine (Cert.LayerA.Gen.main_chain c).trans (Eq.trans ?_ (Cert.LayerAIdeal.Gen.main_chain c).symm)
  exact chain_calls Pipeline.chain StableHlo.seq _ _ _ ops0 ops1 ops2 ops3 ops4 ops5 ops6 ops7 ops8 ops_between ops_last

set_option maxHeartbeats 1000000 in
/-- The kernel runs, keeps its arguments and leaves every semaphore at zero. -/
theorem kernel_frame : Cert.quiescent_LayerA := fun m ρ _ => Cert.Same.run tables mains _ _ (Cert.LayerAIdeal.Body.frame (F := Bits) m ρ)

end Cert.LayerAProof
end
-- ==== Proof.FiniteGains.lean ====
/-
  The precondition on the heads' gains read back: every entry is a real number.
-/
module

public import proofs.«01_k».proof.Pre_finite_gains
public import proofs.«01_k».proof.Proof.Finite

@[expose] public section

noncomputable section

namespace Cert.Finite

open Idealize.ShloMosaic

theorem gainsFacts : Cert.Pre_finite_gains.Facts where
  bcast_S_S128 := by decide

theorem gains [Cert.Pre_finite_gains.Facts] (x : FVec Ideal Cert.Pre_finite_gains.S32768x2048 .f32) (g : FVec Ideal Cert.Pre_finite_gains.S2048 .f32)
    (w : FVec Ideal Cert.Pre_finite_gains.S2048x5120 .bf16) (Gq Gk : FVec Ideal Cert.Pre_finite_gains.S128 .f32) (wo : FVec Ideal Cert.Pre_finite_gains.S2048x2048 .bf16)
    (h : (Cert.Pre_finite_gains.fn x g w Gq Gk wo).1 = (fun _ => 1#1) ∧ (Cert.Pre_finite_gains.fn x g w Gq Gk wo).2 = fun _ => 1#1) :
    (∀ i, ∃ y : ℝ, Gq i = (y : EReal)) ∧ ∀ i, ∃ y : ℝ, Gk i = (y : EReal) :=
  ⟨real_of_test Gq _ _ inf32 h.1, real_of_test Gk _ _ inf32 h.2⟩

end Cert.Finite

end
-- ==== Proof.LayerA.lean ====
/-
  The grouped-query layer's claims: the frames of its three programs and the kernel's equality with its reference.
-/
module

public import proofs.«01_k».proof.Defs
public import proofs.«01_k».proof.Proof.LayerAValue
public import proofs.«01_k».proof.Proof.LayerARef
public import proofs.«01_k».proof.Proof.LayerASame
public import proofs.«01_k».proof.Proof.FiniteGains
public import Idealize.ShloMosaic.Lib.Quiescent

@[expose] public section

noncomputable section

namespace Cert.LayerAProof

open Idealize.ShloMosaic Idealize.SL.Sem

/-- The kernel's reading over the extended reals runs, keeps its arguments and leaves every semaphore at zero. -/
theorem ideal_frame : Cert.quiescent_LayerAIdeal (hLayerAIdeal := Cert.LayerAIdeal.Gen.facts) := fun m ρ _ => Cert.LayerAIdeal.Body.frame m ρ

theorem ideal_frame_pre : Cert.quiescent_LayerAIdeal_pre_finite_gains (hLayerAIdeal := Cert.LayerAIdeal.Gen.facts) (hPre_finite_gains := Cert.Finite.gainsFacts) :=
  fun m ρ _ => Cert.LayerAIdeal.Body.frame m ρ

/-- So does the reference. -/
theorem reference_frame : Cert.quiescent_LayerARefIdeal (hLayerARefIdeal := Cert.LayerARefIdeal.Gen.facts) :=
  fun m ρ _ => (θ_run _ _ _).mono (fun r h => ⟨fun c => (h c).2, sem_eq_zero_of_no_sems (by decide) r.2⟩) (Cert.LayerARefIdeal.Block.run m ρ)

theorem reference_frame_pre : Cert.quiescent_LayerARefIdeal_pre_finite_gains (hLayerARefIdeal := Cert.LayerARefIdeal.Gen.facts) (hPre_finite_gains := Cert.Finite.gainsFacts) :=
  fun m ρ _ => (θ_run _ _ _).mono (fun r h => ⟨fun c => (h c).2, sem_eq_zero_of_no_sems (by decide) r.2⟩) (Cert.LayerARefIdeal.Block.run m ρ)

set_option maxHeartbeats 1000000 in
/-- Over the extended reals, for real gains of the heads, the kernel and the reference give the same tokens. -/
theorem algebraic : Cert.algebraic_LayerAIdeal_LayerARefIdeal_pre_finite_gains (hLayerAIdeal := Cert.LayerAIdeal.Gen.facts)
    (hLayerARefIdeal := Cert.LayerARefIdeal.Gen.facts) (hPre_finite_gains := Cert.Finite.gainsFacts) := by
  intro m ρ m' ρ' hpre hag
  letI := Cert.Finite.gainsFacts
  have hfin (c) := Cert.Finite.gains _ _ _ _ _ _ (hpre c)
  refine ⟨_, (θ_run _ _ _).mono (fun r h c => ⟨(h.1 c).2.trans (Cert.LayerAIdeal.Body.layer_array m c (hfin c).1 (hfin c).2), (h.1 c).1⟩)
    (Cert.LayerAIdeal.Body.run_main m ρ), (θ_run _ _ _).mono (fun r h c => ⟨(h c).1.trans ?_, (h c).2⟩) (Cert.LayerARefIdeal.Block.run m' ρ')⟩
  rw [(hag c).1, (hag c).2.1, (hag c).2.2.1, (hag c).2.2.2.1, (hag c).2.2.2.2.1, (hag c).2.2.2.2.2]

end Cert.LayerAProof

end
-- ==== Proof.lean ====
/-
  The certificate: every claim of `Cert.Claim`, from the modules that prove them.
-/
module

public import proofs.«01_k».proof.Defs
public import proofs.«01_k».proof.Proof.AttnA
public import proofs.«01_k».proof.Proof.OutProj
public import proofs.«01_k».proof.Proof.AttnB
public import proofs.«01_k».proof.Proof.ProjB
public import proofs.«01_k».proof.Proof.ProjA
public import proofs.«01_k».proof.Proof.LayerA

@[expose] public section

noncomputable section

namespace Cert.Proof

open Idealize.ShloMosaic Idealize.SL.Sem

theorem claim : Cert.Claim :=
  ⟨Cert.AttnA.Gen.facts, Cert.AttnAIdeal.Gen.facts, Cert.AttnARefIdeal.Gen.facts, Cert.AttnB.Gen.facts, Cert.AttnBIdeal.Gen.facts, Cert.AttnBRefIdeal.Gen.facts,
    Cert.ProjA.Gen.facts, Cert.ProjAIdeal.Gen.facts, Cert.ProjARefIdeal.Gen.facts, Cert.ProjB.Gen.facts, Cert.ProjBIdeal.Gen.facts, Cert.ProjBRefIdeal.Gen.facts,
    Cert.OutProj.Gen.facts, Cert.OutProjIdeal.Gen.facts, Cert.OutProjRefIdeal.Gen.facts,
    Cert.LayerA.Gen.facts, Cert.LayerAIdeal.Gen.facts, Cert.LayerARefIdeal.Gen.facts,
    Cert.Finite.scoresFacts, Cert.Finite.operandsFacts, Cert.Finite.gainsFacts,
    AttnAProof.kernel_frame, AttnAProof.ideal_frame, AttnAProof.ideal_frame_pre, AttnAProof.reference_frame, AttnAProof.reference_frame_pre,
    AttnBProof.kernel_frame, AttnBProof.ideal_frame, AttnBProof.ideal_frame_pre, AttnBProof.reference_frame, AttnBProof.reference_frame_pre,
    ProjAProof.kernel_frame, ProjAProof.ideal_frame, ProjAProof.reference_frame,
    ProjBProof.kernel_frame, ProjBProof.ideal_frame, ProjBProof.reference_frame,
    OutProjProof.kernel_frame, OutProjProof.ideal_frame, OutProjProof.reference_frame,
    LayerAProof.kernel_frame, LayerAProof.ideal_frame, LayerAProof.ideal_frame_pre, LayerAProof.reference_frame, LayerAProof.reference_frame_pre,
    trivial, AttnAProof.algebraic, trivial, AttnBProof.algebraic, trivial, ProjAProof.algebraic, trivial, ProjBProof.algebraic, trivial, OutProjProof.algebraic, trivial, LayerAProof.algebraic⟩

end Cert.Proof

end
